-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v9) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v6) = v2 c
          ∧ r.2.mem ((c.tc : Thread Cert.Reference35Ideal.nD Cert.Reference35Ideal.τ).loc Cert.Reference35Ideal.main_v12) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v6) = v2 c
          ∧ r.2.mem ((c.tc : Thread Cert.Reference36Ideal.nD Cert.Reference36Ideal.τ).loc Cert.Reference36Ideal.main_v12) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v6) = v2 c
          ∧ r.2.mem ((c.tc : Thread Cert.Reference37Ideal.nD Cert.Reference37Ideal.τ).loc Cert.Reference37Ideal.main_v12) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v6) = v2 c
          ∧ r.2.mem ((c.tc : Thread Cert.Reference38Ideal.nD Cert.Reference38Ideal.τ).loc Cert.Reference38Ideal.main_v12) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v1) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v6) = v2 c
          ∧ r.2.mem ((c.tc : Thread Cert.Reference39Ideal.nD Cert.Reference39Ideal.τ).loc Cert.Reference39Ideal.main_v12) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v6) = v2 c
          ∧ r.2.mem ((c.tc : Thread Cert.Reference40Ideal.nD Cert.Reference40Ideal.τ).loc Cert.Reference40Ideal.main_v12) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v0) = v0 c
          ∧ r.2.mem ((c.tc : Thread Cert.Reference41Ideal.nD Cert.Reference41Ideal.τ).loc Cert.Reference41Ideal.main_v24) = v1 c
          ∧ r.2.mem ((c.tc : Thread Cert.Reference41Ideal.nD Cert.Reference41Ideal.τ).loc Cert.Reference41Ideal.main_v5) = v2 c
          ∧ r.2.mem ((c.tc : Thread Cert.Reference41Ideal.nD Cert.Reference41Ideal.τ).loc Cert.Reference41Ideal.main_v11) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== Kernel.lean ====
abbrev S2304x2048 : Shape := ⟨2, ![2304, 2048]⟩
abbrev S2304x4096 : Shape := ⟨2, ![2304, 4096]⟩
abbrev S8x2304x1 : Shape := ⟨3, ![8, 2304, 1]⟩
abbrev S8x36x256x512 : Shape := ⟨4, ![8, 36, 256, 512]⟩
abbrev S64x512 : Shape := ⟨2, ![64, 512]⟩
abbrev S64x1024 : Shape := ⟨2, ![64, 1024]⟩
abbrev S2x64x1 : Shape := ⟨3, ![2, 64, 1]⟩
abbrev S2x1x256x512 : Shape := ⟨4, ![2, 1, 256, 512]⟩
abbrev S2x256x512 : Shape := ⟨3, ![2, 256, 512]⟩
abbrev S1x256x512 : Shape := ⟨3, ![1, 256, 512]⟩
abbrev S256x512 : Shape := ⟨2, ![256, 512]⟩
abbrev S64x256 : Shape := ⟨2, ![64, 256]⟩
abbrev S1x64x1 : Shape := ⟨3, ![1, 64, 1]⟩
abbrev S64x1 : Shape := ⟨2, ![64, 1]⟩
abbrev S64x64 : Shape := ⟨2, ![64, 64]⟩
abbrev S1x64 : Shape := ⟨2, ![1, 64]⟩
abbrev S1x1 : Shape := ⟨2, ![1, 1]⟩
abbrev S64 : Shape := ⟨1, ![64]⟩
abbrev S1 : Shape := ⟨1, ![1]⟩
abbrev S1x1x1 : Shape := ⟨3, ![1, 1, 1]⟩
abbrev S63x1 : Shape := ⟨2, ![63, 1]⟩

abbrev nBuf : Space → Nat
  | .hbm => 11
  | .vmem => 34
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S8x2304x1, .f32⟩
  | .hbm, ⟨4, _⟩ => ⟨S2304x4096, .f32⟩
  | .hbm, ⟨5, _⟩ => ⟨S2304x4096, .f32⟩
  | .hbm, ⟨6, _⟩ => ⟨S8x36x256x512, .f32⟩
  | .hbm, ⟨7, _⟩ => ⟨S2304x2048, .f32⟩
  | .hbm, ⟨8, _⟩ => ⟨S2304x2048, .f32⟩
  | .hbm, ⟨9, _⟩ => ⟨S2304x4096, .f32⟩
  | .hbm, ⟨10, _⟩ => ⟨S8x2304x1, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S2x64x1, .f32⟩
  | .local _ .vmem, ⟨7, _⟩ => ⟨S2x64x1, .f32⟩
  | .local _ .vmem, ⟨8, _⟩ => ⟨S64x1024, .f32⟩
  | .local _ .vmem, ⟨9, _⟩ => ⟨S64x1024, .f32⟩
  | .local _ .vmem, ⟨10, _⟩ => ⟨S2x1x256x512, .f32⟩
  | .local _ .vmem, ⟨11, _⟩ => ⟨S2x1x256x512, .f32⟩
  | .local _ .vmem, ⟨12, _⟩ => ⟨S2x256x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x1024, .f32⟩
  | .local _ .vmem, ⟨18, _⟩ => ⟨S64x1024, .f32⟩
  | .local _ .vmem, ⟨19, _⟩ => ⟨S2x64x1, .f32⟩
  | .local _ .vmem, ⟨20, _⟩ => ⟨S2x64x1, .f32⟩
  | .local _ .vmem, ⟨21, _⟩ => ⟨S2x1x256x512, .f32⟩
  | .local _ .vmem, ⟨22, _⟩ => ⟨S2x1x256x512, .f32⟩
  | .local _ .vmem, ⟨23, _⟩ => ⟨S64x1024, .f32⟩
  | .local _ .vmem, ⟨24, _⟩ => ⟨S64x1024, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x1024, .f32⟩
  | .local _ .vmem, ⟨30, _⟩ => ⟨S64x1024, .f32⟩
  | .local _ .vmem, ⟨31, _⟩ => ⟨S2x64x1, .f32⟩
  | .local _ .vmem, ⟨32, _⟩ => ⟨S2x64x1, .f32⟩
  | .local _ .vmem, ⟨33, _⟩ => ⟨S2x256x512, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 36], ![false, false]⟩

def cc1_transform_0 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_3 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc1_transform_4 (i : grid1.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_9 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
abbrev S2304x2048 : Shape := ⟨2, ![2304, 2048]⟩
abbrev S2304x4096 : Shape := ⟨2, ![2304, 4096]⟩
abbrev S8x2304x1 : Shape := ⟨3, ![8, 2304, 1]⟩
abbrev S8x36x256x512 : Shape := ⟨4, ![8, 36, 256, 512]⟩
abbrev S64x512 : Shape := ⟨2, ![64, 512]⟩
abbrev S64x1024 : Shape := ⟨2, ![64, 1024]⟩
abbrev S2x64x1 : Shape := ⟨3, ![2, 64, 1]⟩
abbrev S2x1x256x512 : Shape := ⟨4, ![2, 1, 256, 512]⟩
abbrev S2x256x512 : Shape := ⟨3, ![2, 256, 512]⟩
abbrev S1x256x512 : Shape := ⟨3, ![1, 256, 512]⟩
abbrev S256x512 : Shape := ⟨2, ![256, 512]⟩
abbrev S64x256 : Shape := ⟨2, ![64, 256]⟩
abbrev S1x64x1 : Shape := ⟨3, ![1, 64, 1]⟩
abbrev S64x1 : Shape := ⟨2, ![64, 1]⟩
abbrev S64x64 : Shape := ⟨2, ![64, 64]⟩
abbrev S1x64 : Shape := ⟨2, ![1, 64]⟩
abbrev S1x1 : Shape := ⟨2, ![1, 1]⟩
abbrev S64 : Shape := ⟨1, ![64]⟩
abbrev S1 : Shape := ⟨1, ![1]⟩
abbrev S1x1x1 : Shape := ⟨3, ![1, 1, 1]⟩
abbrev S63x1 : Shape := ⟨2, ![63, 1]⟩

abbrev nBuf : Space → Nat
  | .hbm => 11
  | .vmem => 34
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S8x2304x1, .f32⟩
  | .hbm, ⟨4, _⟩ => ⟨S2304x4096, .f32⟩
  | .hbm, ⟨5, _⟩ => ⟨S2304x4096, .f32⟩
  | .hbm, ⟨6, _⟩ => ⟨S8x36x256x512, .f32⟩
  | .hbm, ⟨7, _⟩ => ⟨S2304x2048, .f32⟩
  | .hbm, ⟨8, _⟩ => ⟨S2304x2048, .f32⟩
  | .hbm, ⟨9, _⟩ => ⟨S2304x4096, .f32⟩
  | .hbm, ⟨10, _⟩ => ⟨S8x2304x1, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S2x64x1, .f32⟩
  | .local _ .vmem, ⟨7, _⟩ => ⟨S2x64x1, .f32⟩
  | .local _ .vmem, ⟨8, _⟩ => ⟨S64x1024, .f32⟩
  | .local _ .vmem, ⟨9, _⟩ => ⟨S64x1024, .f32⟩
  | .local _ .vmem, ⟨10, _⟩ => ⟨S2x1x256x512, .f32⟩
  | .local _ .vmem, ⟨11, _⟩ => ⟨S2x1x256x512, .f32⟩
  | .local _ .vmem, ⟨12, _⟩ => ⟨S2x256x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x1024, .f32⟩
  | .local _ .vmem, ⟨18, _⟩ => ⟨S64x1024, .f32⟩
  | .local _ .vmem, ⟨19, _⟩ => ⟨S2x64x1, .f32⟩
  | .local _ .vmem, ⟨20, _⟩ => ⟨S2x64x1, .f32⟩
  | .local _ .vmem, ⟨21, _⟩ => ⟨S2x1x256x512, .f32⟩
  | .local _ .vmem, ⟨22, _⟩ => ⟨S2x1x256x512, .f32⟩
  | .local _ .vmem, ⟨23, _⟩ => ⟨S64x1024, .f32⟩
  | .local _ .vmem, ⟨24, _⟩ => ⟨S64x1024, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x1024, .f32⟩
  | .local _ .vmem, ⟨30, _⟩ => ⟨S64x1024, .f32⟩
  | .local _ .vmem, ⟨31, _⟩ => ⟨S2x64x1, .f32⟩
  | .local _ .vmem, ⟨32, _⟩ => ⟨S2x64x1, .f32⟩
  | .local _ .vmem, ⟨33, _⟩ => ⟨S2x256x512, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 36], ![false, false]⟩

def cc1_transform_0 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_3 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc1_transform_4 (i : grid1.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_9 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S2304x2048 : Shape := ⟨2, ![2304, 2048]⟩
abbrev S2304x4096 : Shape := ⟨2, ![2304, 4096]⟩
abbrev S8x2304x1 : Shape := ⟨3, ![8, 2304, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S8x256x512 : Shape := ⟨3, ![8, 256, 512]⟩
abbrev S36x64x8x256 : Shape := ⟨4, ![36, 64, 8, 256]⟩
abbrev S36x8x64x256 : Shape := ⟨4, ![36, 8, 64, 256]⟩
abbrev S36x64x8x512 : Shape := ⟨4, ![36, 64, 8, 512]⟩
abbrev S36x8x64x512 : Shape := ⟨4, ![36, 8, 64, 512]⟩
abbrev S8x36x64 : Shape := ⟨3, ![8, 36, 64]⟩
abbrev S36x8x64 : Shape := ⟨3, ![36, 8, 64]⟩
abbrev S8x64x64 : Shape := ⟨3, ![8, 64, 64]⟩
abbrev S36x8x256x512 : Shape := ⟨4, ![36, 8, 256, 512]⟩
abbrev S1x8x64x256 : Shape := ⟨4, ![1, 8, 64, 256]⟩
abbrev S8x64x256 : Shape := ⟨3, ![8, 64, 256]⟩
abbrev S1x8x64x512 : Shape := ⟨4, ![1, 8, 64, 512]⟩
abbrev S8x64x512 : Shape := ⟨3, ![8, 64, 512]⟩
abbrev S1x8x64 : Shape := ⟨3, ![1, 8, 64]⟩
abbrev S8x64 : Shape := ⟨2, ![8, 64]⟩
abbrev S8x1x64 : Shape := ⟨3, ![8, 1, 64]⟩
abbrev S8x64x1 : Shape := ⟨3, ![8, 64, 1]⟩
abbrev S8x1 : Shape := ⟨2, ![8, 1]⟩
abbrev S8x1x1 : Shape := ⟨3, ![8, 1, 1]⟩
abbrev S1x8x256x512 : Shape := ⟨4, ![1, 8, 256, 512]⟩
abbrev S8x512x64 : Shape := ⟨3, ![8, 512, 64]⟩
abbrev S8x256x64 : Shape := ⟨3, ![8, 256, 64]⟩
abbrev S8 : Shape := ⟨1, ![8]⟩
abbrev S8x512x256 : Shape := ⟨3, ![8, 512, 256]⟩

abbrev nBuf : Space → Nat
  | .hbm => 326
  | .vmem => 0
  | .smem => 0
  | _ => 0

abbrev hbmTy0_0 (i : Nat) : BufTy := match i % 128 with
  | 0 => ⟨S2304x2048, .f32⟩
  | 1 => ⟨S2304x2048, .f32⟩
  | 2 => ⟨S2304x4096, .f32⟩
  | 3 => ⟨S8x2304x1, .f32⟩
  | 4 => ⟨S2304x4096, .f32⟩
  | 5 => ⟨S64, .i32⟩
  | 6 => ⟨S64x1, .i32⟩
  | 7 => ⟨S1x64, .i32⟩
  | 8 => ⟨S64x64, .i32⟩
  | 9 => ⟨S64x64, .i32⟩
  | 10 => ⟨S64x64, .i1⟩
  | 11 => ⟨S_, .f32⟩
  | 12 => ⟨S8x256x512, .f32⟩
  | 13 => ⟨S36x64x8x256, .f32⟩
  | 14 => ⟨S36x8x64x256, .f32⟩
  | 15 => ⟨S36x64x8x256, .f32⟩
  | 16 => ⟨S36x8x64x256, .f32⟩
  | 17 => ⟨S36x64x8x512, .f32⟩
  | 18 => ⟨S36x8x64x512, .f32⟩
  | 19 => ⟨S8x36x64, .f32⟩
  | 20 => ⟨S36x8x64, .f32⟩
  | 21 => ⟨S_, .f32⟩
  | 22 => ⟨S_, .f32⟩
  | 23 => ⟨S8x64x64, .i1⟩
  | 24 => ⟨S8x64x64, .f32⟩
  | 25 => ⟨S_, .f32⟩
  | 26 => ⟨S_, .f32⟩
  | 27 => ⟨S8x64x64, .i1⟩
  | 28 => ⟨S8x64x64, .f32⟩
  | 29 => ⟨S_, .f32⟩
  | 30 => ⟨S36x8x64x512, .f32⟩
  | 31 => ⟨S_, .f32⟩
  | 32 => ⟨S36x8x256x512, .f32⟩
  | 33 => ⟨S_, .i32⟩
  | 34 => ⟨S36x8x64x256, .f32⟩
  | 35 => ⟨S36x8x64x256, .f32⟩
  | 36 => ⟨S36x8x64x512, .f32⟩
  | 37 => ⟨S36x8x64, .f32⟩
  | 38 => ⟨S8x64x64, .i1⟩
  | 39 => ⟨S8x64x64, .f32⟩
  | 40 => ⟨S8x64x64, .i1⟩
  | 41 => ⟨S8x64x64, .f32⟩
  | 42 => ⟨S_, .i32⟩
  | 43 => ⟨S8x256x512, .f32⟩
  | 44 => ⟨S36x8x64x512, .f32⟩
  | 45 => ⟨S36x8x256x512, .f32⟩
  | 46 => ⟨S_, .i32⟩
  | 47 => ⟨S_, .i1⟩
  | 48 => ⟨S_, .i32⟩
  | 49 => ⟨S_, .i32⟩
  | 50 => ⟨S_, .i32⟩
  | 51 => ⟨S1x8x64x256, .f32⟩
  | 52 => ⟨S8x64x256, .f32⟩
  | 53 => ⟨S_, .i32⟩
  | 54 => ⟨S_, .i32⟩
  | 55 => ⟨S_, .i32⟩
  | 56 => ⟨S1x8x64x256, .f32⟩
  | 57 => ⟨S8x64x256, .f32⟩
  | 58 => ⟨S_, .i32⟩
  | 59 => ⟨S_, .i32⟩
  | 60 => ⟨S_, .i32⟩
  | 61 => ⟨S1x8x64x512, .f32⟩
  | 62 => ⟨S8x64x512, .f32⟩
  | 63 => ⟨S_, .i32⟩
  | 64 => ⟨S_, .i32⟩
  | 65 => ⟨S1x8x64, .f32⟩
  | 66 => ⟨S8x64, .f32⟩
  | 67 => ⟨S8x1x64, .f32⟩
  | 68 => ⟨S8x64x64, .f32⟩
  | 69 => ⟨S8x64x64, .f32⟩
  | 70 => ⟨S_, .f32⟩
  | 71 => ⟨S8x64, .f32⟩
  | 72 => ⟨S8x64x1, .f32⟩
  | 73 => ⟨S8x1x64, .f32⟩
  | 74 => ⟨S8x64x64, .f32⟩
  | 75 => ⟨S8x64x64, .f32⟩
  | 76 => ⟨S8x64x64, .f32⟩
  | 77 => ⟨S8x64x64, .f32⟩
  | 78 => ⟨S8x64x64, .f32⟩
  | 79 => ⟨S8x64x64, .f32⟩
  | 80 => ⟨S8x64x64, .f32⟩
  | 81 => ⟨S8x64x512, .f32⟩
  | 82 => ⟨S8x64x512, .f32⟩
  | 83 => ⟨S8x64, .f32⟩
  | 84 => ⟨S8x64x1, .f32⟩
  | 85 => ⟨S8x64x512, .f32⟩
  | 86 => ⟨S8x64x512, .f32⟩
  | 87 => ⟨S8x64x512, .f32⟩
  | 88 => ⟨S8x1, .f32⟩
  | 89 => ⟨S8x1, .f32⟩
  | 90 => ⟨S8x1x1, .f32⟩
  | 91 => ⟨S8x256x512, .f32⟩
  | 92 => ⟨S8x256x512, .f32⟩
  | 93 => ⟨S8x64, .f32⟩
  | 94 => ⟨S8x64, .f32⟩
  | 95 => ⟨S8x64, .f32⟩
  | 96 => ⟨S8x64x1, .f32⟩
  | 97 => ⟨S8x64x512, .f32⟩
  | 98 => ⟨S8x64x512, .f32⟩
  | 99 => ⟨S8x256x512, .f32⟩
  | 100 => ⟨S8x256x512, .f32⟩
  | 101 => ⟨S1x8x64x512, .f32⟩
  | 102 => ⟨S_, .i32⟩
  | 103 => ⟨S_, .i32⟩
  | 104 => ⟨S_, .i32⟩
  | 105 => ⟨S36x8x64x512, .f32⟩
  | 106 => ⟨S1x8x256x512, .f32⟩
  | 107 => ⟨S_, .i32⟩
  | 108 => ⟨S_, .i32⟩
  | 109 => ⟨S_, .i32⟩
  | 110 => ⟨S36x8x256x512, .f32⟩
  | 111 => ⟨S_, .i32⟩
  | 112 => ⟨S_, .i32⟩
  | 113 => ⟨S36x64x8x512, .f32⟩
  | 114 => ⟨S2304x4096, .f32⟩
  | 115 => ⟨S_, .f32⟩
  | 116 => ⟨S8x256x512, .f32⟩
  | 117 => ⟨S36x64x8x512, .f32⟩
  | 118 => ⟨S36x8x64x512, .f32⟩
  | 119 => ⟨S_, .f32⟩
  | 120 => ⟨S8x256x512, .f32⟩
  | 121 => ⟨S_, .f32⟩
  | 122 => ⟨S36x8x64x256, .f32⟩
  | 123 => ⟨S_, .f32⟩
  | 124 => ⟨S36x8x64x256, .f32⟩
  | 125 => ⟨S_, .f32⟩
  | 126 => ⟨S36x8x64x512, .f32⟩
  | 127 => ⟨S_, .f32⟩
  | _ => ⟨S2304x2048, .f32⟩

abbrev hbmTy0_1 (i : Nat) : BufTy := match i % 128 with
  | 0 => ⟨S36x8x64, .f32⟩
  | 1 => ⟨S_, .i32⟩
  | 2 => ⟨S36x8x64x512, .f32⟩
  | 3 => ⟨S36x8x256x512, .f32⟩
  | 4 => ⟨S36x8x64x256, .f32⟩
  | 5 => ⟨S36x8x64x256, .f32⟩
  | 6 => ⟨S36x8x64x512, .f32⟩
  | 7 => ⟨S36x8x64, .f32⟩
  | 8 => ⟨S64x64, .i1⟩
  | 9 => ⟨S_, .i32⟩
  | 10 => ⟨S8x256x512, .f32⟩
  | 11 => ⟨S36x8x64x256, .f32⟩
  | 12 => ⟨S36x8x64x256, .f32⟩
  | 13 => ⟨S36x8x64x512, .f32⟩
  | 14 => ⟨S36x8x64, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x8x64x512, .f32⟩
  | 25 => ⟨S8x64x512, .f32⟩
  | 26 => ⟨S_, .i32⟩
  | 27 => ⟨S_, .i32⟩
  | 28 => ⟨S_, .i32⟩
  | 29 => ⟨S1x8x256x512, .f32⟩
  | 30 => ⟨S8x256x512, .f32⟩
  | 31 => ⟨S_, .i32⟩
  | 32 => ⟨S_, .i32⟩
  | 33 => ⟨S_, .i32⟩
  | 34 => ⟨S1x8x64x256, .f32⟩
  | 35 => ⟨S8x64x256, .f32⟩
  | 36 => ⟨S_, .i32⟩
  | 37 => ⟨S_, .i32⟩
  | 38 => ⟨S_, .i32⟩
  | 39 => ⟨S1x8x64x256, .f32⟩
  | 40 => ⟨S8x64x256, .f32⟩
  | 41 => ⟨S_, .i32⟩
  | 42 => ⟨S_, .i32⟩
  | 43 => ⟨S_, .i32⟩
  | 44 => ⟨S1x8x64x512, .f32⟩
  | 45 => ⟨S8x64x512, .f32⟩
  | 46 => ⟨S_, .i32⟩
  | 47 => ⟨S_, .i32⟩
  | 48 => ⟨S1x8x64, .f32⟩
  | 49 => ⟨S8x64, .f32⟩
  | 50 => ⟨S8x1x64, .f32⟩
  | 51 => ⟨S_, .f32⟩
  | 52 => ⟨S_, .f32⟩
  | 53 => ⟨S8x64x64, .i1⟩
  | 54 => ⟨S8x64x64, .f32⟩
  | 55 => ⟨S8x64x64, .f32⟩
  | 56 => ⟨S8x64x64, .f32⟩
  | 57 => ⟨S_, .f32⟩
  | 58 => ⟨S8x64x64, .f32⟩
  | 59 => ⟨S_, .f32⟩
  | 60 => ⟨S8x64, .f32⟩
  | 61 => ⟨S8x64x1, .f32⟩
  | 62 => ⟨S8x1x64, .f32⟩
  | 63 => ⟨S8x64x64, .f32⟩
  | 64 => ⟨S8x64x64, .f32⟩
  | 65 => ⟨S8x64x64, .f32⟩
  | 66 => ⟨S8x64x64, .f32⟩
  | 67 => ⟨S_, .f32⟩
  | 68 => ⟨S_, .f32⟩
  | 69 => ⟨S8x64x64, .i1⟩
  | 70 => ⟨S8x64x64, .f32⟩
  | 71 => ⟨S8x64x64, .f32⟩
  | 72 => ⟨S_, .f32⟩
  | 73 => ⟨S8x64x64, .f32⟩
  | 74 => ⟨S8x64x64, .f32⟩
  | 75 => ⟨S8x64x64, .f32⟩
  | 76 => ⟨S8x64x512, .f32⟩
  | 77 => ⟨S8x64, .f32⟩
  | 78 => ⟨S8x64x1, .f32⟩
  | 79 => ⟨S8x1, .f32⟩
  | 80 => ⟨S8x1, .f32⟩
  | 81 => ⟨S8x1x1, .f32⟩
  | 82 => ⟨S8x64, .f32⟩
  | 83 => ⟨S8x64, .f32⟩
  | 84 => ⟨S8x64, .f32⟩
  | 85 => ⟨S8x64x1, .f32⟩
  | 86 => ⟨S8x64x512, .f32⟩
  | 87 => ⟨S8x64x512, .f32⟩
  | 88 => ⟨S8x512x64, .f32⟩
  | 89 => ⟨S8x64x512, .f32⟩
  | 90 => ⟨S8x256x64, .f32⟩
  | 91 => ⟨S8x64x256, .f32⟩
  | 92 => ⟨S8x64x512, .f32⟩
  | 93 => ⟨S8x64x512, .f32⟩
  | 94 => ⟨S8x64x512, .f32⟩
  | 95 => ⟨S_, .f32⟩
  | 96 => ⟨S8x64, .f32⟩
  | 97 => ⟨S8x64x1, .f32⟩
  | 98 => ⟨S_, .f32⟩
  | 99 => ⟨S8x64, .f32⟩
  | 100 => ⟨S8x64, .f32⟩
  | 101 => ⟨S_, .f32⟩
  | 102 => ⟨S8, .f32⟩
  | 103 => ⟨S8x1, .f32⟩
  | 104 => ⟨S8x64, .f32⟩
  | 105 => ⟨S8x256x512, .f32⟩
  | 106 => ⟨S8x256x512, .f32⟩
  | 107 => ⟨S8x256x512, .f32⟩
  | 108 => ⟨S_, .f32⟩
  | 109 => ⟨S8, .f32⟩
  | 110 => ⟨S8x1x1, .f32⟩
  | 111 => ⟨S_, .f32⟩
  | 112 => ⟨S8, .f32⟩
  | 113 => ⟨S8x1, .f32⟩
  | 114 => ⟨S8x1, .f32⟩
  | 115 => ⟨S8x1, .f32⟩
  | 116 => ⟨S_, .f32⟩
  | 117 => ⟨S8x64, .f32⟩
  | 118 => ⟨S8x64, .f32⟩
  | 119 => ⟨S8x64x512, .f32⟩
  | 120 => ⟨S_, .f32⟩
  | 121 => ⟨S8x64, .f32⟩
  | 122 => ⟨S8x64x1, .f32⟩
  | 123 => ⟨S8x64x512, .f32⟩
  | 124 => ⟨S8x64x512, .f32⟩
  | 125 => ⟨S_, .f32⟩
  | 126 => ⟨S8x64, .f32⟩
  | 127 => ⟨S8x64, .f32⟩
  | _ => ⟨S2304x2048, .f32⟩

abbrev hbmTy0_2 (i : Nat) : BufTy := match i % 128 with
  | 0 => ⟨S8x64, .f32⟩
  | 1 => ⟨S8x512x256, .f32⟩
  | 2 => ⟨S8x256x512, .f32⟩
  | 3 => ⟨S8x256x512, .f32⟩
  | 4 => ⟨S8x64x256, .f32⟩
  | 5 => ⟨S8x512x64, .f32⟩
  | 6 => ⟨S8x64x512, .f32⟩
  | 7 => ⟨S8x64x512, .f32⟩
  | 8 => ⟨S8x64x64, .f32⟩
  | 9 => ⟨S8x64x64, .f32⟩
  | 10 => ⟨S8x64x64, .f32⟩
  | 11 => ⟨S8x64x64, .f32⟩
  | 12 => ⟨S_, .f32⟩
  | 13 => ⟨S8x64x64, .f32⟩
  | 14 => ⟨S8x64x64, .f32⟩
  | 15 => ⟨S8x64x256, .f32⟩
  | 16 => ⟨S8x64x256, .f32⟩
  | 17 => ⟨S8x64x256, .f32⟩
  | 18 => ⟨S8x64x256, .f32⟩
  | 19 => ⟨S_, .f32⟩
  | 20 => ⟨S8x64, .f32⟩
  | 21 => ⟨S8x64x1, .f32⟩
  | 22 => ⟨S8x64x64, .f32⟩
  | 23 => ⟨S_, .f32⟩
  | 24 => ⟨S8x64, .f32⟩
  | 25 => ⟨S8x1x64, .f32⟩
  | 26 => ⟨S_, .f32⟩
  | 27 => ⟨S8x64, .f32⟩
  | 28 => ⟨S8x64, .f32⟩
  | 29 => ⟨S_, .f32⟩
  | 30 => ⟨S8x64, .f32⟩
  | 31 => ⟨S8x64, .f32⟩
  | 32 => ⟨S8x64x64, .f32⟩
  | 33 => ⟨S_, .f32⟩
  | 34 => ⟨S8x64x64, .f32⟩
  | 35 => ⟨S8x64x64, .f32⟩
  | 36 => ⟨S_, .f32⟩
  | 37 => ⟨S8x64, .f32⟩
  | 38 => ⟨S8x1x64, .f32⟩
  | 39 => ⟨S_, .f32⟩
  | 40 => ⟨S8x64, .f32⟩
  | 41 => ⟨S1x8x64x256, .f32⟩
  | 42 => ⟨S_, .i32⟩
  | 43 => ⟨S_, .i32⟩
  | 44 => ⟨S_, .i32⟩
  | 45 => ⟨S36x8x64x256, .f32⟩
  | 46 => ⟨S1x8x64x256, .f32⟩
  | 47 => ⟨S_, .i32⟩
  | 48 => ⟨S_, .i32⟩
  | 49 => ⟨S_, .i32⟩
  | 50 => ⟨S36x8x64x256, .f32⟩
  | 51 => ⟨S1x8x64x512, .f32⟩
  | 52 => ⟨S_, .i32⟩
  | 53 => ⟨S_, .i32⟩
  | 54 => ⟨S_, .i32⟩
  | 55 => ⟨S36x8x64x512, .f32⟩
  | 56 => ⟨S1x8x64, .f32⟩
  | 57 => ⟨S_, .i32⟩
  | 58 => ⟨S_, .i32⟩
  | 59 => ⟨S36x8x64, .f32⟩
  | 60 => ⟨S_, .i32⟩
  | 61 => ⟨S_, .i32⟩
  | 62 => ⟨S8x36x64, .f32⟩
  | 63 => ⟨S8x2304x1, .f32⟩
  | 64 => ⟨S36x64x8x512, .f32⟩
  | 65 => ⟨S2304x4096, .f32⟩
  | 66 => ⟨S36x64x8x256, .f32⟩
  | 67 => ⟨S2304x2048, .f32⟩
  | 68 => ⟨S36x64x8x256, .f32⟩
  | 69 => ⟨S2304x2048, .f32⟩
  | _ => ⟨S2304x2048, .f32⟩

abbrev hbmTy (i : Nat) : BufTy := match i / 128 with
  | 0 => hbmTy0_0 i
  | 1 => hbmTy0_1 i
  | 2 => hbmTy0_2 i
  | _ => ⟨S2304x2048, .f32⟩

abbrev bufTy : (tb : Table) → Fin (tcTables nBuf tb) → BufTy
  | .hbm, ⟨i, _⟩ => hbmTy i
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_0 : Ref sig .tc := ⟨.hbm, 23, rfl⟩
abbrev main_v15_1 : Ref sig .tc := ⟨.hbm, 24, rfl⟩
abbrev main_cst_1 : Ref sig .tc := ⟨.hbm, 25, rfl⟩
abbrev main_call1_v0 : Ref sig .tc := ⟨.hbm, 26, rfl⟩
abbrev main_v16_0 : Ref sig .tc := ⟨.hbm, 27, rfl⟩
abbrev main_v16_1 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_c : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev main_v19_6 : Ref sig .tc := ⟨.hbm, 40, rfl⟩
abbrev main_v19_7 : Ref sig .tc := ⟨.hbm, 41, rfl⟩
abbrev main_v19_8 : Ref sig .tc := ⟨.hbm, 42, rfl⟩
abbrev main_v19_9 : Ref sig .tc := ⟨.hbm, 43, rfl⟩
abbrev main_v19_10 : Ref sig .tc := ⟨.hbm, 44, rfl⟩
abbrev main_v19_11 : Ref sig .tc := ⟨.hbm, 45, rfl⟩
abbrev main_while0c_c_22 : Ref sig .tc := ⟨.hbm, 46, rfl⟩
abbrev main_while0c_v39 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v39 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_v0 : Ref sig .tc := ⟨.hbm, 56, rfl⟩
abbrev main_while0b_v40 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_v0 : Ref sig .tc := ⟨.hbm, 61, rfl⟩
abbrev main_while0b_v41 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_v0 : Ref sig .tc := ⟨.hbm, 65, rfl⟩
abbrev main_while0b_v42 : Ref sig .tc := ⟨.hbm, 66, rfl⟩
abbrev main_while0b_v43 : Ref sig .tc := ⟨.hbm, 67, rfl⟩
abbrev main_while0b_call6_v0 : Ref sig .tc := ⟨.hbm, 68, rfl⟩
abbrev main_while0b_v44 : Ref sig .tc := ⟨.hbm, 69, rfl⟩
abbrev main_while0b_cst_22 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_v60 : Ref sig .tc := ⟨.hbm, 86, rfl⟩
abbrev main_while0b_v61 : Ref sig .tc := ⟨.hbm, 87, rfl⟩
abbrev main_while0b_v62 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_v74 : Ref sig .tc := ⟨.hbm, 100, rfl⟩
abbrev main_while0b_call8_v0 : Ref sig .tc := ⟨.hbm, 101, rfl⟩
abbrev main_while0b_call8_c : Ref sig .tc := ⟨.hbm, 102, rfl⟩
abbrev main_while0b_call8_c_0 : Ref sig .tc := ⟨.hbm, 103, rfl⟩
abbrev main_while0b_call8_c_1 : Ref sig .tc := ⟨.hbm, 104, rfl⟩
abbrev main_while0b_v75 : Ref sig .tc := ⟨.hbm, 105, rfl⟩
abbrev main_while0b_call9_v0 : Ref sig .tc := ⟨.hbm, 106, rfl⟩
abbrev main_while0b_call9_c : Ref sig .tc := ⟨.hbm, 107, rfl⟩
abbrev main_while0b_call9_c_0 : Ref sig .tc := ⟨.hbm, 108, rfl⟩
abbrev main_while0b_call9_c_1 : Ref sig .tc := ⟨.hbm, 109, rfl⟩
abbrev main_while0b_v76 : Ref sig .tc := ⟨.hbm, 110, rfl⟩
abbrev main_while0b_c_23 : Ref sig .tc := ⟨.hbm, 111, rfl⟩
abbrev main_while0b_v77 : Ref sig .tc := ⟨.hbm, 112, rfl⟩
abbrev main_v20 : Ref sig .tc := ⟨.hbm, 113, rfl⟩
abbrev main_v21 : Ref sig .tc := ⟨.hbm, 114, rfl⟩
abbrev main_cst_4 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_cst_5 : Ref sig .tc := ⟨.hbm, 119, rfl⟩
abbrev main_v25 : Ref sig .tc := ⟨.hbm, 120, rfl⟩
abbrev main_cst_6 : Ref sig .tc := ⟨.hbm, 121, rfl⟩
abbrev main_v26 : Ref sig .tc := ⟨.hbm, 122, rfl⟩
abbrev main_cst_7 : Ref sig .tc := ⟨.hbm, 123, rfl⟩
abbrev main_v27 : Ref sig .tc := ⟨.hbm, 124, rfl⟩
abbrev main_cst_8 : Ref sig .tc := ⟨.hbm, 125, rfl⟩
abbrev main_v28 : Ref sig .tc := ⟨.hbm, 126, rfl⟩
abbrev main_cst_9 : Ref sig .tc := ⟨.hbm, 127, rfl⟩
abbrev main_v29 : Ref sig .tc := ⟨.hbm, 128, rfl⟩
abbrev main_c_10 : Ref sig .tc := ⟨.hbm, 129, rfl⟩
abbrev main_v30_0 : Ref sig .tc := ⟨.hbm, 130, rfl⟩
abbrev main_v30_1 : Ref sig .tc := ⟨.hbm, 131, rfl⟩
abbrev main_v30_2 : Ref sig .tc := ⟨.hbm, 132, rfl⟩
abbrev main_v30_3 : Ref sig .tc := ⟨.hbm, 133, rfl⟩
abbrev main_v30_4 : Ref sig .tc := ⟨.hbm, 134, rfl⟩
abbrev main_v30_5 : Ref sig .tc := ⟨.hbm, 135, rfl⟩
abbrev main_v30_6 : Ref sig .tc := ⟨.hbm, 136, rfl⟩
abbrev main_v30_7 : Ref sig .tc := ⟨.hbm, 137, rfl⟩
abbrev main_v30_8 : Ref sig .tc := ⟨.hbm, 138, rfl⟩
abbrev main_v30_9 : Ref sig .tc := ⟨.hbm, 139, rfl⟩
abbrev main_v30_10 : Ref sig .tc := ⟨.hbm, 140, rfl⟩
abbrev main_v30_11 : Ref sig .tc := ⟨.hbm, 141, rfl⟩
abbrev main_v30_12 : Ref sig .tc := ⟨.hbm, 142, rfl⟩
abbrev main_while1c_c_23 : Ref sig .tc := ⟨.hbm, 143, rfl⟩
abbrev main_while1c_v39 : Ref sig .tc := ⟨.hbm, 144, rfl⟩
abbrev main_while1b_c_23 : Ref sig .tc := ⟨.hbm, 145, rfl⟩
abbrev main_while1b_v39 : Ref sig .tc := ⟨.hbm, 146, rfl⟩
abbrev main_while1b_c_24 : Ref sig .tc := ⟨.hbm, 147, rfl⟩
abbrev main_while1b_v40 : Ref sig .tc := ⟨.hbm, 148, rfl⟩
abbrev main_while1b_call10_c : Ref sig .tc := ⟨.hbm, 149, rfl⟩
abbrev main_while1b_call10_c_0 : Ref sig .tc := ⟨.hbm, 150, rfl⟩
abbrev main_while1b_call10_c_1 : Ref sig .tc := ⟨.hbm, 151, rfl⟩
abbrev main_while1b_call10_v0 : Ref sig .tc := ⟨.hbm, 152, rfl⟩
abbrev main_while1b_v41 : Ref sig .tc := ⟨.hbm, 153, rfl⟩
abbrev main_while1b_call11_c : Ref sig .tc := ⟨.hbm, 154, rfl⟩
abbrev main_while1b_call11_c_0 : Ref sig .tc := ⟨.hbm, 155, rfl⟩
abbrev main_while1b_call11_c_1 : Ref sig .tc := ⟨.hbm, 156, rfl⟩
abbrev main_while1b_call11_v0 : Ref sig .tc := ⟨.hbm, 157, rfl⟩
abbrev main_while1b_v42 : Ref sig .tc := ⟨.hbm, 158, rfl⟩
abbrev main_while1b_call12_c : Ref sig .tc := ⟨.hbm, 159, rfl⟩
abbrev main_while1b_call12_c_0 : Ref sig .tc := ⟨.hbm, 160, rfl⟩
abbrev main_while1b_call12_c_1 : Ref sig .tc := ⟨.hbm, 161, rfl⟩
abbrev main_while1b_call12_v0 : Ref sig .tc := ⟨.hbm, 162, rfl⟩
abbrev main_while1b_v43 : Ref sig .tc := ⟨.hbm, 163, rfl⟩
abbrev main_while1b_call13_c : Ref sig .tc := ⟨.hbm, 164, rfl⟩
abbrev main_while1b_call13_c_0 : Ref sig .tc := ⟨.hbm, 165, rfl⟩
abbrev main_while1b_call13_c_1 : Ref sig .tc := ⟨.hbm, 166, rfl⟩
abbrev main_while1b_call13_v0 : Ref sig .tc := ⟨.hbm, 167, rfl⟩
abbrev main_while1b_v44 : Ref sig .tc := ⟨.hbm, 168, rfl⟩
abbrev main_while1b_call14_c : Ref sig .tc := ⟨.hbm, 169, rfl⟩
abbrev main_while1b_call14_c_0 : Ref sig .tc := ⟨.hbm, 170, rfl⟩
abbrev main_while1b_call14_c_1 : Ref sig .tc := ⟨.hbm, 171, rfl⟩
abbrev main_while1b_call14_v0 : Ref sig .tc := ⟨.hbm, 172, rfl⟩
abbrev main_while1b_v45 : Ref sig .tc := ⟨.hbm, 173, rfl⟩
abbrev main_while1b_call15_c : Ref sig .tc := ⟨.hbm, 174, rfl⟩
abbrev main_while1b_call15_c_0 : Ref sig .tc := ⟨.hbm, 175, rfl⟩
abbrev main_while1b_call15_v0 : Ref sig .tc := ⟨.hbm, 176, rfl⟩
abbrev main_while1b_v46 : Ref sig .tc := ⟨.hbm, 177, rfl⟩
abbrev main_while1b_v47 : Ref sig .tc := ⟨.hbm, 178, rfl⟩
abbrev main_while1b_cst_25 : Ref sig .tc := ⟨.hbm, 179, rfl⟩
abbrev main_while1b_call16_v0 : Ref sig .tc := ⟨.hbm, 180, rfl⟩
abbrev main_while1b_v48_1 : Ref sig .tc := ⟨.hbm, 181, rfl⟩
abbrev main_while1b_call16_v2 : Ref sig .tc := ⟨.hbm, 182, rfl⟩
abbrev main_while1b_call16_v3 : Ref sig .tc := ⟨.hbm, 183, rfl⟩
abbrev main_while1b_v48_0 : Ref sig .tc := ⟨.hbm, 184, rfl⟩
abbrev main_while1b_call16_cst : Ref sig .tc := ⟨.hbm, 185, rfl⟩
abbrev main_while1b_v48_2 : Ref sig .tc := ⟨.hbm, 186, rfl⟩
abbrev main_while1b_cst_26 : Ref sig .tc := ⟨.hbm, 187, rfl⟩
abbrev main_while1b_v49 : Ref sig .tc := ⟨.hbm, 188, rfl⟩
abbrev main_while1b_v50 : Ref sig .tc := ⟨.hbm, 189, rfl⟩
abbrev main_while1b_v51 : Ref sig .tc := ⟨.hbm, 190, rfl⟩
abbrev main_while1b_v52 : Ref sig .tc := ⟨.hbm, 191, rfl⟩
abbrev main_while1b_v53 : Ref sig .tc := ⟨.hbm, 192, rfl⟩
abbrev main_while1b_v54 : Ref sig .tc := ⟨.hbm, 193, rfl⟩
abbrev main_while1b_v55 : Ref sig .tc := ⟨.hbm, 194, rfl⟩
abbrev main_while1b_cst_27 : Ref sig .tc := ⟨.hbm, 195, rfl⟩
abbrev main_while1b_call17_v0 : Ref sig .tc := ⟨.hbm, 196, rfl⟩
abbrev main_while1b_v56_1 : Ref sig .tc := ⟨.hbm, 197, rfl⟩
abbrev main_while1b_call17_v2 : Ref sig .tc := ⟨.hbm, 198, rfl⟩
abbrev main_while1b_v56_0 : Ref sig .tc := ⟨.hbm, 199, rfl⟩
abbrev main_while1b_call17_cst : Ref sig .tc := ⟨.hbm, 200, rfl⟩
abbrev main_while1b_v56_2 : Ref sig .tc := ⟨.hbm, 201, rfl⟩
abbrev main_while1b_v57 : Ref sig .tc := ⟨.hbm, 202, rfl⟩
abbrev main_while1b_v58 : Ref sig .tc := ⟨.hbm, 203, rfl⟩
abbrev main_while1b_v59 : Ref sig .tc := ⟨.hbm, 204, rfl⟩
abbrev main_while1b_v60 : Ref sig .tc := ⟨.hbm, 205, rfl⟩
abbrev main_while1b_v61 : Ref sig .tc := ⟨.hbm, 206, rfl⟩
abbrev main_while1b_v62 : Ref sig .tc := ⟨.hbm, 207, rfl⟩
abbrev main_while1b_v63 : Ref sig .tc := ⟨.hbm, 208, rfl⟩
abbrev main_while1b_v64 : Ref sig .tc := ⟨.hbm, 209, rfl⟩
abbrev main_while1b_v65 : Ref sig .tc := ⟨.hbm, 210, rfl⟩
abbrev main_while1b_v66 : Ref sig .tc := ⟨.hbm, 211, rfl⟩
abbrev main_while1b_v67 : Ref sig .tc := ⟨.hbm, 212, rfl⟩
abbrev main_while1b_v68 : Ref sig .tc := ⟨.hbm, 213, rfl⟩
abbrev main_while1b_v69 : Ref sig .tc := ⟨.hbm, 214, rfl⟩
abbrev main_while1b_v70 : Ref sig .tc := ⟨.hbm, 215, rfl⟩
abbrev main_while1b_v71 : Ref sig .tc := ⟨.hbm, 216, rfl⟩
abbrev main_while1b_v72 : Ref sig .tc := ⟨.hbm, 217, rfl⟩
abbrev main_while1b_v73 : Ref sig .tc := ⟨.hbm, 218, rfl⟩
abbrev main_while1b_v74 : Ref sig .tc := ⟨.hbm, 219, rfl⟩
abbrev main_while1b_v75 : Ref sig .tc := ⟨.hbm, 220, rfl⟩
abbrev main_while1b_v76 : Ref sig .tc := ⟨.hbm, 221, rfl⟩
abbrev main_while1b_v77 : Ref sig .tc := ⟨.hbm, 222, rfl⟩
abbrev main_while1b_cst_28 : Ref sig .tc := ⟨.hbm, 223, rfl⟩
abbrev main_while1b_v78 : Ref sig .tc := ⟨.hbm, 224, rfl⟩
abbrev main_while1b_v79 : Ref sig .tc := ⟨.hbm, 225, rfl⟩
abbrev main_while1b_cst_29 : Ref sig .tc := ⟨.hbm, 226, rfl⟩
abbrev main_while1b_v80 : Ref sig .tc := ⟨.hbm, 227, rfl⟩
abbrev main_while1b_v81 : Ref sig .tc := ⟨.hbm, 228, rfl⟩
abbrev main_while1b_cst_30 : Ref sig .tc := ⟨.hbm, 229, rfl⟩
abbrev main_while1b_v82 : Ref sig .tc := ⟨.hbm, 230, rfl⟩
abbrev main_while1b_v83 : Ref sig .tc := ⟨.hbm, 231, rfl⟩
abbrev main_while1b_v84 : Ref sig .tc := ⟨.hbm, 232, rfl⟩
abbrev main_while1b_v85 : Ref sig .tc := ⟨.hbm, 233, rfl⟩
abbrev main_while1b_v86 : Ref sig .tc := ⟨.hbm, 234, rfl⟩
abbrev main_while1b_v87 : Ref sig .tc := ⟨.hbm, 235, rfl⟩
abbrev main_while1b_cst_31 : Ref sig .tc := ⟨.hbm, 236, rfl⟩
abbrev main_while1b_v88 : Ref sig .tc := ⟨.hbm, 237, rfl⟩
abbrev main_while1b_v89 : Ref sig .tc := ⟨.hbm, 238, rfl⟩
abbrev main_while1b_cst_32 : Ref sig .tc := ⟨.hbm, 239, rfl⟩
abbrev main_while1b_v90 : Ref sig .tc := ⟨.hbm, 240, rfl⟩
abbrev main_while1b_v91 : Ref sig .tc := ⟨.hbm, 241, rfl⟩
abbrev main_while1b_v92 : Ref sig .tc := ⟨.hbm, 242, rfl⟩
abbrev main_while1b_v93 : Ref sig .tc := ⟨.hbm, 243, rfl⟩
abbrev main_while1b_cst_33 : Ref sig .tc := ⟨.hbm, 244, rfl⟩
abbrev main_while1b_v94 : Ref sig .tc := ⟨.hbm, 245, rfl⟩
abbrev main_while1b_v95 : Ref sig .tc := ⟨.hbm, 246, rfl⟩
abbrev main_while1b_v96 : Ref sig .tc := ⟨.hbm, 247, rfl⟩
abbrev main_while1b_cst_34 : Ref sig .tc := ⟨.hbm, 248, rfl⟩
abbrev main_while1b_v97 : Ref sig .tc := ⟨.hbm, 249, rfl⟩
abbrev main_while1b_v98 : Ref sig .tc := ⟨.hbm, 250, rfl⟩
abbrev main_while1b_v99 : Ref sig .tc := ⟨.hbm, 251, rfl⟩
abbrev main_while1b_v100 : Ref sig .tc := ⟨.hbm, 252, rfl⟩
abbrev main_while1b_cst_35 : Ref sig .tc := ⟨.hbm, 253, rfl⟩
abbrev main_while1b_v101 : Ref sig .tc := ⟨.hbm, 254, rfl⟩
abbrev main_while1b_v102 : Ref sig .tc := ⟨.hbm, 255, rfl⟩
abbrev main_while1b_v103 : Ref sig .tc := ⟨.hbm, 256, rfl⟩
abbrev main_while1b_v104 : Ref sig .tc := ⟨.hbm, 257, rfl⟩
abbrev main_while1b_v105 : Ref sig .tc := ⟨.hbm, 258, rfl⟩
abbrev main_while1b_v106 : Ref sig .tc := ⟨.hbm, 259, rfl⟩
abbrev main_while1b_v107 : Ref sig .tc := ⟨.hbm, 260, rfl⟩
abbrev main_while1b_v108 : Ref sig .tc := ⟨.hbm, 261, rfl⟩
abbrev main_while1b_v109 : Ref sig .tc := ⟨.hbm, 262, rfl⟩
abbrev main_while1b_v110 : Ref sig .tc := ⟨.hbm, 263, rfl⟩
abbrev main_while1b_v111 : Ref sig .tc := ⟨.hbm, 264, rfl⟩
abbrev main_while1b_v112 : Ref sig .tc := ⟨.hbm, 265, rfl⟩
abbrev main_while1b_v113 : Ref sig .tc := ⟨.hbm, 266, rfl⟩
abbrev main_while1b_v114 : Ref sig .tc := ⟨.hbm, 267, rfl⟩
abbrev main_while1b_call18_cst : Ref sig .tc := ⟨.hbm, 268, rfl⟩
abbrev main_while1b_call18_v0 : Ref sig .tc := ⟨.hbm, 269, rfl⟩
abbrev main_while1b_v115 : Ref sig .tc := ⟨.hbm, 270, rfl⟩
abbrev main_while1b_v116 : Ref sig .tc := ⟨.hbm, 271, rfl⟩
abbrev main_while1b_v117 : Ref sig .tc := ⟨.hbm, 272, rfl⟩
abbrev main_while1b_v118 : Ref sig .tc := ⟨.hbm, 273, rfl⟩
abbrev main_while1b_v119 : Ref sig .tc := ⟨.hbm, 274, rfl⟩
abbrev main_while1b_cst_36 : Ref sig .tc := ⟨.hbm, 275, rfl⟩
abbrev main_while1b_v120 : Ref sig .tc := ⟨.hbm, 276, rfl⟩
abbrev main_while1b_v121 : Ref sig .tc := ⟨.hbm, 277, rfl⟩
abbrev main_while1b_v122 : Ref sig .tc := ⟨.hbm, 278, rfl⟩
abbrev main_while1b_cst_37 : Ref sig .tc := ⟨.hbm, 279, rfl⟩
abbrev main_while1b_v123 : Ref sig .tc := ⟨.hbm, 280, rfl⟩
abbrev main_while1b_v124 : Ref sig .tc := ⟨.hbm, 281, rfl⟩
abbrev main_while1b_cst_38 : Ref sig .tc := ⟨.hbm, 282, rfl⟩
abbrev main_while1b_v125 : Ref sig .tc := ⟨.hbm, 283, rfl⟩
abbrev main_while1b_v126 : Ref sig .tc := ⟨.hbm, 284, rfl⟩
abbrev main_while1b_cst_39 : Ref sig .tc := ⟨.hbm, 285, rfl⟩
abbrev main_while1b_v127 : Ref sig .tc := ⟨.hbm, 286, rfl⟩
abbrev main_while1b_v128 : Ref sig .tc := ⟨.hbm, 287, rfl⟩
abbrev main_while1b_v129 : Ref sig .tc := ⟨.hbm, 288, rfl⟩
abbrev main_while1b_call19_cst : Ref sig .tc := ⟨.hbm, 289, rfl⟩
abbrev main_while1b_call19_v0 : Ref sig .tc := ⟨.hbm, 290, rfl⟩
abbrev main_while1b_call19_v1 : Ref sig .tc := ⟨.hbm, 291, rfl⟩
abbrev main_while1b_call19_cst_0 : Ref sig .tc := ⟨.hbm, 292, rfl⟩
abbrev main_while1b_call19_v2 : Ref sig .tc := ⟨.hbm, 293, rfl⟩
abbrev main_while1b_v130 : Ref sig .tc := ⟨.hbm, 294, rfl⟩
abbrev main_while1b_cst_40 : Ref sig .tc := ⟨.hbm, 295, rfl⟩
abbrev main_while1b_v131 : Ref sig .tc := ⟨.hbm, 296, rfl⟩
abbrev main_while1b_call20_v0 : Ref sig .tc := ⟨.hbm, 297, rfl⟩
abbrev main_while1b_call20_c : Ref sig .tc := ⟨.hbm, 298, rfl⟩
abbrev main_while1b_call20_c_0 : Ref sig .tc := ⟨.hbm, 299, rfl⟩
abbrev main_while1b_call20_c_1 : Ref sig .tc := ⟨.hbm, 300, rfl⟩
abbrev main_while1b_v132 : Ref sig .tc := ⟨.hbm, 301, rfl⟩
abbrev main_while1b_call21_v0 : Ref sig .tc := ⟨.hbm, 302, rfl⟩
abbrev main_while1b_call21_c : Ref sig .tc := ⟨.hbm, 303, rfl⟩
abbrev main_while1b_call21_c_0 : Ref sig .tc := ⟨.hbm, 304, rfl⟩
abbrev main_while1b_call21_c_1 : Ref sig .tc := ⟨.hbm, 305, rfl⟩
abbrev main_while1b_v133 : Ref sig .tc := ⟨.hbm, 306, rfl⟩
abbrev main_while1b_call22_v0 : Ref sig .tc := ⟨.hbm, 307, rfl⟩
abbrev main_while1b_call22_c : Ref sig .tc := ⟨.hbm, 308, rfl⟩
abbrev main_while1b_call22_c_0 : Ref sig .tc := ⟨.hbm, 309, rfl⟩
abbrev main_while1b_call22_c_1 : Ref sig .tc := ⟨.hbm, 310, rfl⟩
abbrev main_while1b_v134 : Ref sig .tc := ⟨.hbm, 311, rfl⟩
abbrev main_while1b_call23_v0 : Ref sig .tc := ⟨.hbm, 312, rfl⟩
abbrev main_while1b_call23_c : Ref sig .tc := ⟨.hbm, 313, rfl⟩
abbrev main_while1b_call23_c_0 : Ref sig .tc := ⟨.hbm, 314, rfl⟩
abbrev main_while1b_v135 : Ref sig .tc := ⟨.hbm, 315, rfl⟩
abbrev main_while1b_c_41 : Ref sig .tc := ⟨.hbm, 316, rfl⟩
abbrev main_while1b_v136 : Ref sig .tc := ⟨.hbm, 317, rfl⟩
abbrev main_v31 : Ref sig .tc := ⟨.hbm, 318, rfl⟩
abbrev main_v32 : Ref sig .tc := ⟨.hbm, 319, rfl⟩
abbrev main_v33 : Ref sig .tc := ⟨.hbm, 320, rfl⟩
abbrev main_v34 : Ref sig .tc := ⟨.hbm, 321, rfl⟩
abbrev main_v35 : Ref sig .tc := ⟨.hbm, 322, rfl⟩
abbrev main_v36 : Ref sig .tc := ⟨.hbm, 323, rfl⟩
abbrev main_v37 : Ref sig .tc := ⟨.hbm, 324, rfl⟩
abbrev main_v38 : Ref sig .tc := ⟨.hbm, 325, rfl⟩

abbrev nD : Nat := 1
abbrev τ : Topo := Topo.v7x

variable {F : FTy → Type} [FloatOps F]

abbrev main_while0_count : Scf.Loop 32 := ⟨0#32, 36#32, 1#32⟩

abbrev main_while1_count : Scf.Loop 32 := ⟨0#32, 36#32, 1#32⟩
-- ==== Kernel2.lean ====
abbrev S2304x2048 : Shape := ⟨2, ![2304, 2048]⟩
abbrev S2048x8192 : Shape := ⟨2, ![2048, 8192]⟩
abbrev S2304x8192 : Shape := ⟨2, ![2304, 8192]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x8192, .bf16⟩
  | .hbm, ⟨2, _⟩ => ⟨S2304x8192, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2304x2048 : Shape := ⟨2, ![2304, 2048]⟩
abbrev S2048x8192 : Shape := ⟨2, ![2048, 8192]⟩
abbrev S2304x8192 : Shape := ⟨2, ![2304, 8192]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x8192, .bf16⟩
  | .hbm, ⟨2, _⟩ => ⟨S2304x8192, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2304x2048 : Shape := ⟨2, ![2304, 2048]⟩
abbrev S2048x8192 : Shape := ⟨2, ![2048, 8192]⟩
abbrev S2304x8192 : Shape := ⟨2, ![2304, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x8192, .bf16⟩
  | .hbm, ⟨2, _⟩ => ⟨S2048x8192, .f32⟩
  | .hbm, ⟨3, _⟩ => ⟨S2304x8192, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S2304x8192 : Shape := ⟨2, ![2304, 8192]⟩
abbrev S2048x8192 : Shape := ⟨2, ![2048, 8192]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S2048x8192, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S2304x8192 : Shape := ⟨2, ![2304, 8192]⟩
abbrev S2048x8192 : Shape := ⟨2, ![2048, 8192]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S2048x8192, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2304x8192 : Shape := ⟨2, ![2304, 8192]⟩
abbrev S2048x8192 : Shape := ⟨2, ![2048, 8192]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S2048x8192, .bf16⟩
  | .hbm, ⟨2, _⟩ => ⟨S_, .f32⟩
  | .hbm, ⟨3, _⟩ => ⟨S2304x2048, .f32⟩
  | .hbm, ⟨4, _⟩ => ⟨S2048x8192, .f32⟩
  | .hbm, ⟨5, _⟩ => ⟨S2304x8192, .f32⟩
  | .hbm, ⟨6, _⟩ => ⟨S2304x2048, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2304x2048 : Shape := ⟨2, ![2304, 2048]⟩
abbrev S2304x8192 : Shape := ⟨2, ![2304, 8192]⟩
abbrev S2048x8192 : Shape := ⟨2, ![2048, 8192]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x8192, .f32⟩
  | .hbm, ⟨2, _⟩ => ⟨S2048x8192, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S2304x2048 : Shape := ⟨2, ![2304, 2048]⟩
abbrev S2304x8192 : Shape := ⟨2, ![2304, 8192]⟩
abbrev S2048x8192 : Shape := ⟨2, ![2048, 8192]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x8192, .f32⟩
  | .hbm, ⟨2, _⟩ => ⟨S2048x8192, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2304x2048 : Shape := ⟨2, ![2304, 2048]⟩
abbrev S2304x8192 : Shape := ⟨2, ![2304, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x8192, .f32⟩
  | .hbm, ⟨2, _⟩ => ⟨S_, .bf16⟩
  | .hbm, ⟨3, _⟩ => ⟨S2048x8192, .bf16⟩
  | .hbm, ⟨4, _⟩ => ⟨S2048x8192, .f32⟩
  | .hbm, ⟨5, _⟩ => ⟨S2304x8192, .f32⟩
  | .hbm, ⟨6, _⟩ => ⟨S8192x2048, .f32⟩
  | .hbm, ⟨7, _⟩ => ⟨S2048x8192, .f32⟩
  | .hbm, ⟨8, _⟩ => ⟨S2048x8192, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2304x8192 : Shape := ⟨2, ![2304, 8192]⟩
abbrev S8192x2048 : Shape := ⟨2, ![8192, 2048]⟩
abbrev S2304x2048 : Shape := ⟨2, ![2304, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S8192x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S2304x8192 : Shape := ⟨2, ![2304, 8192]⟩
abbrev S8192x2048 : Shape := ⟨2, ![8192, 2048]⟩
abbrev S2304x2048 : Shape := ⟨2, ![2304, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S8192x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x8192 : Shape := ⟨2, ![2304, 8192]⟩
abbrev S8192x2048 : Shape := ⟨2, ![8192, 2048]⟩
abbrev S2304x2048 : Shape := ⟨2, ![2304, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S8192x2048, .bf16⟩
  | .hbm, ⟨2, _⟩ => ⟨S8192x2048, .f32⟩
  | .hbm, ⟨3, _⟩ => ⟨S2304x2048, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2304x2048 : Shape := ⟨2, ![2304, 2048]⟩
abbrev S8192x2048 : Shape := ⟨2, ![8192, 2048]⟩
abbrev S2304x8192 : Shape := ⟨2, ![2304, 8192]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S8192x2048, .bf16⟩
  | .hbm, ⟨2, _⟩ => ⟨S2304x8192, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S2304x2048 : Shape := ⟨2, ![2304, 2048]⟩
abbrev S8192x2048 : Shape := ⟨2, ![8192, 2048]⟩
abbrev S2304x8192 : Shape := ⟨2, ![2304, 8192]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S8192x2048, .bf16⟩
  | .hbm, ⟨2, _⟩ => ⟨S2304x8192, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x2048 : Shape := ⟨2, ![2304, 2048]⟩
abbrev S8192x2048 : Shape := ⟨2, ![8192, 2048]⟩
abbrev S_ : Shape := ⟨0, ![]⟩
abbrev S2304x8192 : Shape := ⟨2, ![2304, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S8192x2048, .bf16⟩
  | .hbm, ⟨2, _⟩ => ⟨S_, .f32⟩
  | .hbm, ⟨3, _⟩ => ⟨S2304x8192, .f32⟩
  | .hbm, ⟨4, _⟩ => ⟨S8192x2048, .f32⟩
  | .hbm, ⟨5, _⟩ => ⟨S2304x2048, .f32⟩
  | .hbm, ⟨6, _⟩ => ⟨S2304x8192, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2304x8192 : Shape := ⟨2, ![2304, 8192]⟩
abbrev S2304x2048 : Shape := ⟨2, ![2304, 2048]⟩
abbrev S8192x2048 : Shape := ⟨2, ![8192, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S2304x2048, .f32⟩
  | .hbm, ⟨2, _⟩ => ⟨S8192x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S2304x8192 : Shape := ⟨2, ![2304, 8192]⟩
abbrev S2304x2048 : Shape := ⟨2, ![2304, 2048]⟩
abbrev S8192x2048 : Shape := ⟨2, ![8192, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S2304x2048, .f32⟩
  | .hbm, ⟨2, _⟩ => ⟨S8192x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x8192 : Shape := ⟨2, ![2304, 8192]⟩
abbrev S2304x2048 : Shape := ⟨2, ![2304, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S2304x2048, .f32⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2304x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S2048x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S2048x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S2048x8192, .f32⟩
  | .hbm, ⟨3, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .bf16⟩
  | .hbm, ⟨3, _⟩ => ⟨S2048x8192, .bf16⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S8192x2048, .f32⟩
  | .hbm, ⟨3, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S8192x2048 : Shape := ⟨2, ![8192, 2048]⟩
abbrev S_ : Shape := ⟨0, ![]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S8192x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S8192x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2304x2048 : Shape := ⟨2, ![2304, 2048]⟩
abbrev S2048x4096 : Shape := ⟨2, ![2048, 4096]⟩
abbrev S2304x4096 : Shape := ⟨2, ![2304, 4096]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x4096, .bf16⟩
  | .hbm, ⟨2, _⟩ => ⟨S2304x4096, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S2304x2048 : Shape := ⟨2, ![2304, 2048]⟩
abbrev S2048x4096 : Shape := ⟨2, ![2048, 4096]⟩
abbrev S2304x4096 : Shape := ⟨2, ![2304, 4096]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x4096, .bf16⟩
  | .hbm, ⟨2, _⟩ => ⟨S2304x4096, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2304x2048 : Shape := ⟨2, ![2304, 2048]⟩
abbrev S2048x4096 : Shape := ⟨2, ![2048, 4096]⟩
abbrev S2304x4096 : Shape := ⟨2, ![2304, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x4096, .bf16⟩
  | .hbm, ⟨2, _⟩ => ⟨S2048x4096, .f32⟩
  | .hbm, ⟨3, _⟩ => ⟨S2304x4096, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S2304x4096 : Shape := ⟨2, ![2304, 4096]⟩
abbrev S2048x4096 : Shape := ⟨2, ![2048, 4096]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S2048x4096, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S2304x4096 : Shape := ⟨2, ![2304, 4096]⟩
abbrev S2048x4096 : Shape := ⟨2, ![2048, 4096]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S2048x4096, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2304x4096 : Shape := ⟨2, ![2304, 4096]⟩
abbrev S2048x4096 : Shape := ⟨2, ![2048, 4096]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S2048x4096, .bf16⟩
  | .hbm, ⟨2, _⟩ => ⟨S_, .f32⟩
  | .hbm, ⟨3, _⟩ => ⟨S2304x2048, .f32⟩
  | .hbm, ⟨4, _⟩ => ⟨S2048x4096, .f32⟩
  | .hbm, ⟨5, _⟩ => ⟨S2304x4096, .f32⟩
  | .hbm, ⟨6, _⟩ => ⟨S2304x2048, .f32⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2304x2048 : Shape := ⟨2, ![2304, 2048]⟩
abbrev S2304x4096 : Shape := ⟨2, ![2304, 4096]⟩
abbrev S2048x4096 : Shape := ⟨2, ![2048, 4096]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x4096, .f32⟩
  | .hbm, ⟨2, _⟩ => ⟨S2048x4096, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S2304x2048 : Shape := ⟨2, ![2304, 2048]⟩
abbrev S2304x4096 : Shape := ⟨2, ![2304, 4096]⟩
abbrev S2048x4096 : Shape := ⟨2, ![2048, 4096]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x4096, .f32⟩
  | .hbm, ⟨2, _⟩ => ⟨S2048x4096, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2304x2048 : Shape := ⟨2, ![2304, 2048]⟩
abbrev S2304x4096 : Shape := ⟨2, ![2304, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x4096, .f32⟩
  | .hbm, ⟨2, _⟩ => ⟨S_, .bf16⟩
  | .hbm, ⟨3, _⟩ => ⟨S2048x4096, .bf16⟩
  | .hbm, ⟨4, _⟩ => ⟨S2048x4096, .f32⟩
  | .hbm, ⟨5, _⟩ => ⟨S2304x4096, .f32⟩
  | .hbm, ⟨6, _⟩ => ⟨S4096x2048, .f32⟩
  | .hbm, ⟨7, _⟩ => ⟨S2048x4096, .f32⟩
  | .hbm, ⟨8, _⟩ => ⟨S2048x4096, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2304x2048 : Shape := ⟨2, ![2304, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S2304x2048 : Shape := ⟨2, ![2304, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2304x2048 : Shape := ⟨2, ![2304, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2048x2048, .f32⟩
  | .hbm, ⟨3, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S2304x2048 : Shape := ⟨2, ![2304, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S2304x2048 : Shape := ⟨2, ![2304, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S_, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S2304x2048 : Shape := ⟨2, ![2304, 2048]⟩
abbrev S2048x2048 : Shape := ⟨2, ![2048, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2048x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S2304x2048 : Shape := ⟨2, ![2304, 2048]⟩
abbrev S2048x2048 : Shape := ⟨2, ![2048, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2048x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2304x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2304x4096 : Shape := ⟨2, ![2304, 4096]⟩
abbrev S4096x2048 : Shape := ⟨2, ![4096, 2048]⟩
abbrev S2304x2048 : Shape := ⟨2, ![2304, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S4096x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S2304x4096 : Shape := ⟨2, ![2304, 4096]⟩
abbrev S4096x2048 : Shape := ⟨2, ![4096, 2048]⟩
abbrev S2304x2048 : Shape := ⟨2, ![2304, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S4096x2048, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2304x4096 : Shape := ⟨2, ![2304, 4096]⟩
abbrev S4096x2048 : Shape := ⟨2, ![4096, 2048]⟩
abbrev S2304x2048 : Shape := ⟨2, ![2304, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S4096x2048, .bf16⟩
  | .hbm, ⟨2, _⟩ => ⟨S4096x2048, .f32⟩
  | .hbm, ⟨3, _⟩ => ⟨S2304x2048, .f32⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S2304x2048 : Shape := ⟨2, ![2304, 2048]⟩
abbrev S4096x2048 : Shape := ⟨2, ![4096, 2048]⟩
abbrev S2304x4096 : Shape := ⟨2, ![2304, 4096]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S4096x2048, .bf16⟩
  | .hbm, ⟨2, _⟩ => ⟨S2304x4096, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S2304x2048 : Shape := ⟨2, ![2304, 2048]⟩
abbrev S4096x2048 : Shape := ⟨2, ![4096, 2048]⟩
abbrev S2304x4096 : Shape := ⟨2, ![2304, 4096]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S4096x2048, .bf16⟩
  | .hbm, ⟨2, _⟩ => ⟨S2304x4096, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2304x2048 : Shape := ⟨2, ![2304, 2048]⟩
abbrev S4096x2048 : Shape := ⟨2, ![4096, 2048]⟩
abbrev S_ : Shape := ⟨0, ![]⟩
abbrev S2304x4096 : Shape := ⟨2, ![2304, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S4096x2048, .bf16⟩
  | .hbm, ⟨2, _⟩ => ⟨S_, .f32⟩
  | .hbm, ⟨3, _⟩ => ⟨S2304x4096, .f32⟩
  | .hbm, ⟨4, _⟩ => ⟨S4096x2048, .f32⟩
  | .hbm, ⟨5, _⟩ => ⟨S2304x2048, .f32⟩
  | .hbm, ⟨6, _⟩ => ⟨S2304x4096, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S2304x4096 : Shape := ⟨2, ![2304, 4096]⟩
abbrev S2304x2048 : Shape := ⟨2, ![2304, 2048]⟩
abbrev S4096x2048 : Shape := ⟨2, ![4096, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S2304x2048, .f32⟩
  | .hbm, ⟨2, _⟩ => ⟨S4096x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S2304x4096 : Shape := ⟨2, ![2304, 4096]⟩
abbrev S2304x2048 : Shape := ⟨2, ![2304, 2048]⟩
abbrev S4096x2048 : Shape := ⟨2, ![4096, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S2304x2048, .f32⟩
  | .hbm, ⟨2, _⟩ => ⟨S4096x2048, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2304x4096 : Shape := ⟨2, ![2304, 4096]⟩
abbrev S2304x2048 : Shape := ⟨2, ![2304, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S2304x2048, .f32⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2304x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S2304x2048 : Shape := ⟨2, ![2304, 2048]⟩
abbrev S2048x6144 : Shape := ⟨2, ![2048, 6144]⟩
abbrev S2304x6144 : Shape := ⟨2, ![2304, 6144]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x6144, .bf16⟩
  | .hbm, ⟨2, _⟩ => ⟨S2304x6144, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S2304x2048 : Shape := ⟨2, ![2304, 2048]⟩
abbrev S2048x6144 : Shape := ⟨2, ![2048, 6144]⟩
abbrev S2304x6144 : Shape := ⟨2, ![2304, 6144]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x6144, .bf16⟩
  | .hbm, ⟨2, _⟩ => ⟨S2304x6144, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2304x2048 : Shape := ⟨2, ![2304, 2048]⟩
abbrev S2048x6144 : Shape := ⟨2, ![2048, 6144]⟩
abbrev S2304x6144 : Shape := ⟨2, ![2304, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x6144, .bf16⟩
  | .hbm, ⟨2, _⟩ => ⟨S2048x6144, .f32⟩
  | .hbm, ⟨3, _⟩ => ⟨S2304x6144, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S2304x6144 : Shape := ⟨2, ![2304, 6144]⟩
abbrev S2048x6144 : Shape := ⟨2, ![2048, 6144]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x6144, .f32⟩
  | .hbm, ⟨1, _⟩ => ⟨S2048x6144, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S2304x6144 : Shape := ⟨2, ![2304, 6144]⟩
abbrev S2048x6144 : Shape := ⟨2, ![2048, 6144]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x6144, .f32⟩
  | .hbm, ⟨1, _⟩ => ⟨S2048x6144, .bf16⟩
  | .hbm, ⟨2, _⟩ => ⟨S2304x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2304x6144 : Shape := ⟨2, ![2304, 6144]⟩
abbrev S2048x6144 : Shape := ⟨2, ![2048, 6144]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2048x6144, .bf16⟩
  | .hbm, ⟨2, _⟩ => ⟨S_, .f32⟩
  | .hbm, ⟨3, _⟩ => ⟨S2304x2048, .f32⟩
  | .hbm, ⟨4, _⟩ => ⟨S2048x6144, .f32⟩
  | .hbm, ⟨5, _⟩ => ⟨S2304x6144, .f32⟩
  | .hbm, ⟨6, _⟩ => ⟨S2304x2048, .f32⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S2304x2048 : Shape := ⟨2, ![2304, 2048]⟩
abbrev S2304x6144 : Shape := ⟨2, ![2304, 6144]⟩
abbrev S2048x6144 : Shape := ⟨2, ![2048, 6144]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x6144, .f32⟩
  | .hbm, ⟨2, _⟩ => ⟨S2048x6144, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel25Ideal.lean ====
abbrev S2304x2048 : Shape := ⟨2, ![2304, 2048]⟩
abbrev S2304x6144 : Shape := ⟨2, ![2304, 6144]⟩
abbrev S2048x6144 : Shape := ⟨2, ![2048, 6144]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2304x6144, .f32⟩
  | .hbm, ⟨2, _⟩ => ⟨S2048x6144, .bf16⟩
  | .local _ .vmem, ⟨0, _⟩ => ⟨S1152x1024, .f32⟩
  | .local _ .vmem, ⟨1, _⟩ => ⟨S1152x1024, .f32⟩
  | .local _ .vmem, ⟨2, _⟩ => ⟨S1152x1024, .f32⟩
  | .local _ .vmem, ⟨3, _⟩ => ⟨S1152x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2304x2048 : Shape := ⟨2, ![2304, 2048]⟩
abbrev S2304x6144 : Shape := ⟨2, ![2304, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x6144, .f32⟩
  | .hbm, ⟨2, _⟩ => ⟨S_, .bf16⟩
  | .hbm, ⟨3, _⟩ => ⟨S2048x6144, .bf16⟩
  | .hbm, ⟨4, _⟩ => ⟨S2048x6144, .f32⟩
  | .hbm, ⟨5, _⟩ => ⟨S2304x6144, .f32⟩
  | .hbm, ⟨6, _⟩ => ⟨S6144x2048, .f32⟩
  | .hbm, ⟨7, _⟩ => ⟨S2048x6144, .f32⟩
  | .hbm, ⟨8, _⟩ => ⟨S2048x6144, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel26Ideal.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .bf16⟩
  | .hbm, ⟨2, _⟩ => ⟨S4096x2048, .f32⟩
  | .hbm, ⟨3, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S2048x2048 : Shape := ⟨2, ![2048, 2048]⟩
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .bf16⟩
  | .hbm, ⟨2, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S2048x2048 : Shape := ⟨2, ![2048, 2048]⟩
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .bf16⟩
  | .hbm, ⟨2, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S2048x2048 : Shape := ⟨2, ![2048, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S2048x4096 : Shape := ⟨2, ![2048, 4096]⟩
abbrev S2048x2048 : Shape := ⟨2, ![2048, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S4096x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S2048x4096 : Shape := ⟨2, ![2048, 4096]⟩
abbrev S2048x2048 : Shape := ⟨2, ![2048, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S4096x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S2304x8192 : Shape := ⟨2, ![2304, 8192]⟩
abbrev S64x8192 : Shape := ⟨2, ![64, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2304x8192, .f32⟩
  | .hbm, ⟨1, _⟩ => ⟨S2304x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel29Ideal.lean ====
abbrev S2304x8192 : Shape := ⟨2, ![2304, 8192]⟩
abbrev S64x8192 : Shape := ⟨2, ![64, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2304x8192, .f32⟩
  | .hbm, ⟨1, _⟩ => ⟨S2304x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S2304x8192 : Shape := ⟨2, ![2304, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S_, .f32⟩
  | .hbm, ⟨2, _⟩ => ⟨S2304x8192, .f32⟩
  | .hbm, ⟨3, _⟩ => ⟨S2304x8192, .f32⟩
  | .hbm, ⟨4, _⟩ => ⟨S2304x8192, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel30.lean ====
abbrev S2304x8192 : Shape := ⟨2, ![2304, 8192]⟩
abbrev S64x8192 : Shape := ⟨2, ![64, 8192]⟩

abbrev nBuf : Space → Nat
  | .hbm => 3
  | .vmem => 6
  | .smem => 0
  | _ => 0

abbrev bufTy : (tb : Table) → Fin (tcTables nBuf tb) → BufTy
  | .hbm, ⟨0, _⟩ => ⟨S2304x8192, .f32⟩
  | .hbm, ⟨1, _⟩ => ⟨S2304x8192, .f32⟩
  | .hbm, ⟨2, _⟩ => ⟨S2304x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel30Ideal.lean ====
abbrev S2304x8192 : Shape := ⟨2, ![2304, 8192]⟩
abbrev S64x8192 : Shape := ⟨2, ![64, 8192]⟩

abbrev nBuf : Space → Nat
  | .hbm => 3
  | .vmem => 6
  | .smem => 0
  | _ => 0

abbrev bufTy : (tb : Table) → Fin (tcTables nBuf tb) → BufTy
  | .hbm, ⟨0, _⟩ => ⟨S2304x8192, .f32⟩
  | .hbm, ⟨1, _⟩ => ⟨S2304x8192, .f32⟩
  | .hbm, ⟨2, _⟩ => ⟨S2304x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S2304x8192 : Shape := ⟨2, ![2304, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S2304x8192, .f32⟩
  | .hbm, ⟨2, _⟩ => ⟨S_, .f32⟩
  | .hbm, ⟨3, _⟩ => ⟨S2304x8192, .f32⟩
  | .hbm, ⟨4, _⟩ => ⟨S2304x8192, .f32⟩
  | .hbm, ⟨5, _⟩ => ⟨S_, .f32⟩
  | .hbm, ⟨6, _⟩ => ⟨S2304x8192, .f32⟩
  | .hbm, ⟨7, _⟩ => ⟨S2304x8192, .i1⟩
  | .hbm, ⟨8, _⟩ => ⟨S_, .f32⟩
  | .hbm, ⟨9, _⟩ => ⟨S2304x8192, .f32⟩
  | .hbm, ⟨10, _⟩ => ⟨S2304x8192, .f32⟩
  | .hbm, ⟨11, _⟩ => ⟨S_, .f32⟩
  | .hbm, ⟨12, _⟩ => ⟨S2304x8192, .f32⟩
  | .hbm, ⟨13, _⟩ => ⟨S2304x8192, .f32⟩
  | .hbm, ⟨14, _⟩ => ⟨S2304x8192, .f32⟩
  | .hbm, ⟨15, _⟩ => ⟨S_, .f32⟩
  | .hbm, ⟨16, _⟩ => ⟨S2304x8192, .f32⟩
  | .hbm, ⟨17, _⟩ => ⟨S2304x8192, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel31.lean ====
abbrev S2048x8192 : Shape := ⟨2, ![2048, 8192]⟩
abbrev S64x8192 : Shape := ⟨2, ![64, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel31Ideal.lean ====
abbrev S2048x8192 : Shape := ⟨2, ![2048, 8192]⟩
abbrev S64x8192 : Shape := ⟨2, ![64, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S2048x8192 : Shape := ⟨2, ![2048, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S_, .f32⟩
  | .hbm, ⟨2, _⟩ => ⟨S2048x8192, .f32⟩
  | .hbm, ⟨3, _⟩ => ⟨S2048x8192, .f32⟩
  | .hbm, ⟨4, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel32.lean ====
abbrev S2048x8192 : Shape := ⟨2, ![2048, 8192]⟩
abbrev S64x8192 : Shape := ⟨2, ![64, 8192]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel32Ideal.lean ====
abbrev S2048x8192 : Shape := ⟨2, ![2048, 8192]⟩
abbrev S64x8192 : Shape := ⟨2, ![64, 8192]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S2048x8192 : Shape := ⟨2, ![2048, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .i1⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S_, .f32⟩
  | .hbm, ⟨16, _⟩ => ⟨S2048x8192, .f32⟩
  | .hbm, ⟨17, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel33.lean ====
abbrev S8192x1024 : Shape := ⟨2, ![8192, 1024]⟩
abbrev S4x8192x1024 : Shape := ⟨3, ![4, 8192, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel33Ideal.lean ====
abbrev S8192x1024 : Shape := ⟨2, ![8192, 1024]⟩
abbrev S4x8192x1024 : Shape := ⟨3, ![4, 8192, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S8192x1024 : Shape := ⟨2, ![8192, 1024]⟩
abbrev S4x8192x1024 : Shape := ⟨3, ![4, 8192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x1024, .f32⟩
  | .hbm, ⟨3, _⟩ => ⟨S8192x1024, .f32⟩
  | .hbm, ⟨4, _⟩ => ⟨S4x8192x1024, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel34.lean ====
abbrev S4096x2048 : Shape := ⟨2, ![4096, 2048]⟩
abbrev S4x4096x2048 : Shape := ⟨3, ![4, 4096, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4x4096x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel34Ideal.lean ====
abbrev S4096x2048 : Shape := ⟨2, ![4096, 2048]⟩
abbrev S4x4096x2048 : Shape := ⟨3, ![4, 4096, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4x4096x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S4096x2048 : Shape := ⟨2, ![4096, 2048]⟩
abbrev S4x4096x2048 : Shape := ⟨3, ![4, 4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x4096x2048, .bf16⟩
  | .hbm, ⟨2, _⟩ => ⟨S4096x2048, .f32⟩
  | .hbm, ⟨3, _⟩ => ⟨S4096x2048, .f32⟩
  | .hbm, ⟨4, _⟩ => ⟨S4x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S2048x1296 : Shape := ⟨2, ![2048, 1296]⟩
abbrev S4x2048x1296 : Shape := ⟨3, ![4, 2048, 1296]⟩
abbrev S128x1296 : Shape := ⟨2, ![128, 1296]⟩
abbrev S4x128x1296 : Shape := ⟨3, ![4, 128, 1296]⟩
abbrev S1x128x1296 : Shape := ⟨3, ![1, 128, 1296]⟩

abbrev nBuf : Space → Nat
  | .hbm => 8
  | .vmem => 16
  | .smem => 0
  | _ => 0

abbrev bufTy : (tb : Table) → Fin (tcTables nBuf tb) → BufTy
  | .hbm, ⟨0, _⟩ => ⟨S2048x1296, .f32⟩
  | .hbm, ⟨1, _⟩ => ⟨S4x2048x1296, .bf16⟩
  | .hbm, ⟨2, _⟩ => ⟨S2048x1296, .f32⟩
  | .hbm, ⟨3, _⟩ => ⟨S2048x1296, .f32⟩
  | .hbm, ⟨4, _⟩ => ⟨S2048x1296, .f32⟩
  | .hbm, ⟨5, _⟩ => ⟨S2048x1296, .f32⟩
  | .hbm, ⟨6, _⟩ => ⟨S2048x1296, .f32⟩
  | .hbm, ⟨7, _⟩ => ⟨S2048x1296, .f32⟩
  | .local _ .vmem, ⟨0, _⟩ => ⟨S128x1296, .f32⟩
  | .local _ .vmem, ⟨1, _⟩ => ⟨S128x1296, .f32⟩
  | .local _ .vmem, ⟨2, _⟩ => ⟨S4x128x1296, .bf16⟩
  | .local _ .vmem, ⟨3, _⟩ => ⟨S4x128x1296, .bf16⟩
  | .local _ .vmem, ⟨4, _⟩ => ⟨S128x1296, .f32⟩
  | .local _ .vmem, ⟨5, _⟩ => ⟨S128x1296, .f32⟩
  | .local _ .vmem, ⟨6, _⟩ => ⟨S128x1296, .f32⟩
  | .local _ .vmem, ⟨7, _⟩ => ⟨S128x1296, .f32⟩
  | .local _ .vmem, ⟨8, _⟩ => ⟨S128x1296, .f32⟩
  | .local _ .vmem, ⟨9, _⟩ => ⟨S128x1296, .f32⟩
  | .local _ .vmem, ⟨10, _⟩ => ⟨S128x1296, .f32⟩
  | .local _ .vmem, ⟨11, _⟩ => ⟨S128x1296, .f32⟩
  | .local _ .vmem, ⟨12, _⟩ => ⟨S128x1296, .f32⟩
  | .local _ .vmem, ⟨13, _⟩ => ⟨S128x1296, .f32⟩
  | .local _ .vmem, ⟨14, _⟩ => ⟨S128x1296, .f32⟩
  | .local _ .vmem, ⟨15, _⟩ => ⟨S128x1296, .f32⟩
  | _, _ => ⟨S2048x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1296 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1296 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1296 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1296 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1296 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel35Ideal.lean ====
abbrev S2048x1296 : Shape := ⟨2, ![2048, 1296]⟩
abbrev S4x2048x1296 : Shape := ⟨3, ![4, 2048, 1296]⟩
abbrev S128x1296 : Shape := ⟨2, ![128, 1296]⟩
abbrev S4x128x1296 : Shape := ⟨3, ![4, 128, 1296]⟩
abbrev S1x128x1296 : Shape := ⟨3, ![1, 128, 1296]⟩

abbrev nBuf : Space → Nat
  | .hbm => 8
  | .vmem => 16
  | .smem => 0
  | _ => 0

abbrev bufTy : (tb : Table) → Fin (tcTables nBuf tb) → BufTy
  | .hbm, ⟨0, _⟩ => ⟨S2048x1296, .f32⟩
  | .hbm, ⟨1, _⟩ => ⟨S4x2048x1296, .bf16⟩
  | .hbm, ⟨2, _⟩ => ⟨S2048x1296, .f32⟩
  | .hbm, ⟨3, _⟩ => ⟨S2048x1296, .f32⟩
  | .hbm, ⟨4, _⟩ => ⟨S2048x1296, .f32⟩
  | .hbm, ⟨5, _⟩ => ⟨S2048x1296, .f32⟩
  | .hbm, ⟨6, _⟩ => ⟨S2048x1296, .f32⟩
  | .hbm, ⟨7, _⟩ => ⟨S2048x1296, .f32⟩
  | .local _ .vmem, ⟨0, _⟩ => ⟨S128x1296, .f32⟩
  | .local _ .vmem, ⟨1, _⟩ => ⟨S128x1296, .f32⟩
  | .local _ .vmem, ⟨2, _⟩ => ⟨S4x128x1296, .bf16⟩
  | .local _ .vmem, ⟨3, _⟩ => ⟨S4x128x1296, .bf16⟩
  | .local _ .vmem, ⟨4, _⟩ => ⟨S128x1296, .f32⟩
  | .local _ .vmem, ⟨5, _⟩ => ⟨S128x1296, .f32⟩
  | .local _ .vmem, ⟨6, _⟩ => ⟨S128x1296, .f32⟩
  | .local _ .vmem, ⟨7, _⟩ => ⟨S128x1296, .f32⟩
  | .local _ .vmem, ⟨8, _⟩ => ⟨S128x1296, .f32⟩
  | .local _ .vmem, ⟨9, _⟩ => ⟨S128x1296, .f32⟩
  | .local _ .vmem, ⟨10, _⟩ => ⟨S128x1296, .f32⟩
  | .local _ .vmem, ⟨11, _⟩ => ⟨S128x1296, .f32⟩
  | .local _ .vmem, ⟨12, _⟩ => ⟨S128x1296, .f32⟩
  | .local _ .vmem, ⟨13, _⟩ => ⟨S128x1296, .f32⟩
  | .local _ .vmem, ⟨14, _⟩ => ⟨S128x1296, .f32⟩
  | .local _ .vmem, ⟨15, _⟩ => ⟨S128x1296, .f32⟩
  | _, _ => ⟨S2048x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1296 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1296 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1296 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1296 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1296 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S2048x1296 : Shape := ⟨2, ![2048, 1296]⟩
abbrev S4x2048x1296 : Shape := ⟨3, ![4, 2048, 1296]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1296, .f32⟩
  | .hbm, ⟨1, _⟩ => ⟨S4x2048x1296, .bf16⟩
  | .hbm, ⟨2, _⟩ => ⟨S2048x1296, .f32⟩
  | .hbm, ⟨3, _⟩ => ⟨S2048x1296, .f32⟩
  | .hbm, ⟨4, _⟩ => ⟨S4x2048x1296, .f32⟩
  | .hbm, ⟨5, _⟩ => ⟨S_, .f32⟩
  | .hbm, ⟨6, _⟩ => ⟨S2048x1296, .f32⟩
  | .hbm, ⟨7, _⟩ => ⟨S_, .f32⟩
  | .hbm, ⟨8, _⟩ => ⟨S2048x1296, .f32⟩
  | .hbm, ⟨9, _⟩ => ⟨S2048x1296, .f32⟩
  | .hbm, ⟨10, _⟩ => ⟨S_, .f32⟩
  | .hbm, ⟨11, _⟩ => ⟨S2048x1296, .f32⟩
  | .hbm, ⟨12, _⟩ => ⟨S2048x1296, .f32⟩
  | .hbm, ⟨13, _⟩ => ⟨S2048x1296, .f32⟩
  | .hbm, ⟨14, _⟩ => ⟨S_, .f32⟩
  | .hbm, ⟨15, _⟩ => ⟨S2048x1296, .f32⟩
  | .hbm, ⟨16, _⟩ => ⟨S2048x1296, .f32⟩
  | .hbm, ⟨17, _⟩ => ⟨S2048x1296, .f32⟩
  | .hbm, ⟨18, _⟩ => ⟨S_, .f32⟩
  | .hbm, ⟨19, _⟩ => ⟨S2048x1296, .f32⟩
  | .hbm, ⟨20, _⟩ => ⟨S2048x1296, .f32⟩
  | .hbm, ⟨21, _⟩ => ⟨S2048x1296, .f32⟩
  | .hbm, ⟨22, _⟩ => ⟨S_, .f32⟩
  | .hbm, ⟨23, _⟩ => ⟨S2048x1296, .f32⟩
  | .hbm, ⟨24, _⟩ => ⟨S2048x1296, .f32⟩
  | .hbm, ⟨25, _⟩ => ⟨S_, .f32⟩
  | .hbm, ⟨26, _⟩ => ⟨S2048x1296, .f32⟩
  | .hbm, ⟨27, _⟩ => ⟨S2048x1296, .f32⟩
  | .hbm, ⟨28, _⟩ => ⟨S2048x1296, .f32⟩
  | .hbm, ⟨29, _⟩ => ⟨S_, .f32⟩
  | .hbm, ⟨30, _⟩ => ⟨S2048x1296, .f32⟩
  | .hbm, ⟨31, _⟩ => ⟨S2048x1296, .f32⟩
  | .hbm, ⟨32, _⟩ => ⟨S2048x1296, .f32⟩
  | .hbm, ⟨33, _⟩ => ⟨S_, .f32⟩
  | .hbm, ⟨34, _⟩ => ⟨S2048x1296, .f32⟩
  | .hbm, ⟨35, _⟩ => ⟨S2048x1296, .f32⟩
  | .hbm, ⟨36, _⟩ => ⟨S2048x1296, .f32⟩
  | .hbm, ⟨37, _⟩ => ⟨S_, .f32⟩
  | .hbm, ⟨38, _⟩ => ⟨S2048x1296, .f32⟩
  | .hbm, ⟨39, _⟩ => ⟨S2048x1296, .f32⟩
  | _, _ => ⟨S2048x1296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel36.lean ====
abbrev S2048x1536 : Shape := ⟨2, ![2048, 1536]⟩
abbrev S4x2048x1536 : Shape := ⟨3, ![4, 2048, 1536]⟩
abbrev S128x1536 : Shape := ⟨2, ![128, 1536]⟩
abbrev S4x128x1536 : Shape := ⟨3, ![4, 128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S4x2048x1536, .bf16⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S4x128x1536, .bf16⟩
  | .local _ .vmem, ⟨3, _⟩ => ⟨S4x128x1536, .bf16⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel36Ideal.lean ====
abbrev S2048x1536 : Shape := ⟨2, ![2048, 1536]⟩
abbrev S4x2048x1536 : Shape := ⟨3, ![4, 2048, 1536]⟩
abbrev S128x1536 : Shape := ⟨2, ![128, 1536]⟩
abbrev S4x128x1536 : Shape := ⟨3, ![4, 128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S4x2048x1536, .bf16⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S4x128x1536, .bf16⟩
  | .local _ .vmem, ⟨3, _⟩ => ⟨S4x128x1536, .bf16⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S2048x1536 : Shape := ⟨2, ![2048, 1536]⟩
abbrev S4x2048x1536 : Shape := ⟨3, ![4, 2048, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x2048x1536, .bf16⟩
  | .hbm, ⟨2, _⟩ => ⟨S2048x1536, .f32⟩
  | .hbm, ⟨3, _⟩ => ⟨S2048x1536, .f32⟩
  | .hbm, ⟨4, _⟩ => ⟨S4x2048x1536, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel37.lean ====
abbrev S2048x1280 : Shape := ⟨2, ![2048, 1280]⟩
abbrev S4x2048x1280 : Shape := ⟨3, ![4, 2048, 1280]⟩
abbrev S128x1280 : Shape := ⟨2, ![128, 1280]⟩
abbrev S4x128x1280 : Shape := ⟨3, ![4, 128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S4x2048x1280, .bf16⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S128x1280, .f32⟩
  | .local _ .vmem, ⟨1, _⟩ => ⟨S128x1280, .f32⟩
  | .local _ .vmem, ⟨2, _⟩ => ⟨S4x128x1280, .bf16⟩
  | .local _ .vmem, ⟨3, _⟩ => ⟨S4x128x1280, .bf16⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel37Ideal.lean ====
abbrev S2048x1280 : Shape := ⟨2, ![2048, 1280]⟩
abbrev S4x2048x1280 : Shape := ⟨3, ![4, 2048, 1280]⟩
abbrev S128x1280 : Shape := ⟨2, ![128, 1280]⟩
abbrev S4x128x1280 : Shape := ⟨3, ![4, 128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S4x2048x1280, .bf16⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S128x1280, .f32⟩
  | .local _ .vmem, ⟨1, _⟩ => ⟨S128x1280, .f32⟩
  | .local _ .vmem, ⟨2, _⟩ => ⟨S4x128x1280, .bf16⟩
  | .local _ .vmem, ⟨3, _⟩ => ⟨S4x128x1280, .bf16⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference37Ideal.lean ====
abbrev S2048x1280 : Shape := ⟨2, ![2048, 1280]⟩
abbrev S4x2048x1280 : Shape := ⟨3, ![4, 2048, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S4x2048x1280, .bf16⟩
  | .hbm, ⟨2, _⟩ => ⟨S2048x1280, .f32⟩
  | .hbm, ⟨3, _⟩ => ⟨S2048x1280, .f32⟩
  | .hbm, ⟨4, _⟩ => ⟨S4x2048x1280, .f32⟩
  | .hbm, ⟨5, _⟩ => ⟨S_, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S_, .f32⟩
  | .hbm, ⟨11, _⟩ => ⟨S2048x1280, .f32⟩
  | .hbm, ⟨12, _⟩ => ⟨S2048x1280, .f32⟩
  | .hbm, ⟨13, _⟩ => ⟨S2048x1280, .f32⟩
  | .hbm, ⟨14, _⟩ => ⟨S_, .f32⟩
  | .hbm, ⟨15, _⟩ => ⟨S2048x1280, .f32⟩
  | .hbm, ⟨16, _⟩ => ⟨S2048x1280, .f32⟩
  | .hbm, ⟨17, _⟩ => ⟨S2048x1280, .f32⟩
  | .hbm, ⟨18, _⟩ => ⟨S_, .f32⟩
  | .hbm, ⟨19, _⟩ => ⟨S2048x1280, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S_, .f32⟩
  | .hbm, ⟨26, _⟩ => ⟨S2048x1280, .f32⟩
  | .hbm, ⟨27, _⟩ => ⟨S2048x1280, .f32⟩
  | .hbm, ⟨28, _⟩ => ⟨S2048x1280, .f32⟩
  | .hbm, ⟨29, _⟩ => ⟨S_, .f32⟩
  | .hbm, ⟨30, _⟩ => ⟨S2048x1280, .f32⟩
  | .hbm, ⟨31, _⟩ => ⟨S2048x1280, .f32⟩
  | .hbm, ⟨32, _⟩ => ⟨S2048x1280, .f32⟩
  | .hbm, ⟨33, _⟩ => ⟨S_, .f32⟩
  | .hbm, ⟨34, _⟩ => ⟨S2048x1280, .f32⟩
  | .hbm, ⟨35, _⟩ => ⟨S2048x1280, .f32⟩
  | .hbm, ⟨36, _⟩ => ⟨S2048x1280, .f32⟩
  | .hbm, ⟨37, _⟩ => ⟨S_, .f32⟩
  | .hbm, ⟨38, _⟩ => ⟨S2048x1280, .f32⟩
  | .hbm, ⟨39, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel38.lean ====
abbrev S2048x1552 : Shape := ⟨2, ![2048, 1552]⟩
abbrev S4x2048x1552 : Shape := ⟨3, ![4, 2048, 1552]⟩
abbrev S128x1552 : Shape := ⟨2, ![128, 1552]⟩
abbrev S4x128x1552 : Shape := ⟨3, ![4, 128, 1552]⟩
abbrev S1x128x1552 : Shape := ⟨3, ![1, 128, 1552]⟩

abbrev nBuf : Space → Nat
  | .hbm => 8
  | .vmem => 16
  | .smem => 0
  | _ => 0

abbrev bufTy : (tb : Table) → Fin (tcTables nBuf tb) → BufTy
  | .hbm, ⟨0, _⟩ => ⟨S2048x1552, .f32⟩
  | .hbm, ⟨1, _⟩ => ⟨S4x2048x1552, .bf16⟩
  | .hbm, ⟨2, _⟩ => ⟨S2048x1552, .f32⟩
  | .hbm, ⟨3, _⟩ => ⟨S2048x1552, .f32⟩
  | .hbm, ⟨4, _⟩ => ⟨S2048x1552, .f32⟩
  | .hbm, ⟨5, _⟩ => ⟨S2048x1552, .f32⟩
  | .hbm, ⟨6, _⟩ => ⟨S2048x1552, .f32⟩
  | .hbm, ⟨7, _⟩ => ⟨S2048x1552, .f32⟩
  | .local _ .vmem, ⟨0, _⟩ => ⟨S128x1552, .f32⟩
  | .local _ .vmem, ⟨1, _⟩ => ⟨S128x1552, .f32⟩
  | .local _ .vmem, ⟨2, _⟩ => ⟨S4x128x1552, .bf16⟩
  | .local _ .vmem, ⟨3, _⟩ => ⟨S4x128x1552, .bf16⟩
  | .local _ .vmem, ⟨4, _⟩ => ⟨S128x1552, .f32⟩
  | .local _ .vmem, ⟨5, _⟩ => ⟨S128x1552, .f32⟩
  | .local _ .vmem, ⟨6, _⟩ => ⟨S128x1552, .f32⟩
  | .local _ .vmem, ⟨7, _⟩ => ⟨S128x1552, .f32⟩
  | .local _ .vmem, ⟨8, _⟩ => ⟨S128x1552, .f32⟩
  | .local _ .vmem, ⟨9, _⟩ => ⟨S128x1552, .f32⟩
  | .local _ .vmem, ⟨10, _⟩ => ⟨S128x1552, .f32⟩
  | .local _ .vmem, ⟨11, _⟩ => ⟨S128x1552, .f32⟩
  | .local _ .vmem, ⟨12, _⟩ => ⟨S128x1552, .f32⟩
  | .local _ .vmem, ⟨13, _⟩ => ⟨S128x1552, .f32⟩
  | .local _ .vmem, ⟨14, _⟩ => ⟨S128x1552, .f32⟩
  | .local _ .vmem, ⟨15, _⟩ => ⟨S128x1552, .f32⟩
  | _, _ => ⟨S2048x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1552 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1552 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1552 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1552 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1552 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1552 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1552 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel38Ideal.lean ====
abbrev S2048x1552 : Shape := ⟨2, ![2048, 1552]⟩
abbrev S4x2048x1552 : Shape := ⟨3, ![4, 2048, 1552]⟩
abbrev S128x1552 : Shape := ⟨2, ![128, 1552]⟩
abbrev S4x128x1552 : Shape := ⟨3, ![4, 128, 1552]⟩
abbrev S1x128x1552 : Shape := ⟨3, ![1, 128, 1552]⟩

abbrev nBuf : Space → Nat
  | .hbm => 8
  | .vmem => 16
  | .smem => 0
  | _ => 0

abbrev bufTy : (tb : Table) → Fin (tcTables nBuf tb) → BufTy
  | .hbm, ⟨0, _⟩ => ⟨S2048x1552, .f32⟩
  | .hbm, ⟨1, _⟩ => ⟨S4x2048x1552, .bf16⟩
  | .hbm, ⟨2, _⟩ => ⟨S2048x1552, .f32⟩
  | .hbm, ⟨3, _⟩ => ⟨S2048x1552, .f32⟩
  | .hbm, ⟨4, _⟩ => ⟨S2048x1552, .f32⟩
  | .hbm, ⟨5, _⟩ => ⟨S2048x1552, .f32⟩
  | .hbm, ⟨6, _⟩ => ⟨S2048x1552, .f32⟩
  | .hbm, ⟨7, _⟩ => ⟨S2048x1552, .f32⟩
  | .local _ .vmem, ⟨0, _⟩ => ⟨S128x1552, .f32⟩
  | .local _ .vmem, ⟨1, _⟩ => ⟨S128x1552, .f32⟩
  | .local _ .vmem, ⟨2, _⟩ => ⟨S4x128x1552, .bf16⟩
  | .local _ .vmem, ⟨3, _⟩ => ⟨S4x128x1552, .bf16⟩
  | .local _ .vmem, ⟨4, _⟩ => ⟨S128x1552, .f32⟩
  | .local _ .vmem, ⟨5, _⟩ => ⟨S128x1552, .f32⟩
  | .local _ .vmem, ⟨6, _⟩ => ⟨S128x1552, .f32⟩
  | .local _ .vmem, ⟨7, _⟩ => ⟨S128x1552, .f32⟩
  | .local _ .vmem, ⟨8, _⟩ => ⟨S128x1552, .f32⟩
  | .local _ .vmem, ⟨9, _⟩ => ⟨S128x1552, .f32⟩
  | .local _ .vmem, ⟨10, _⟩ => ⟨S128x1552, .f32⟩
  | .local _ .vmem, ⟨11, _⟩ => ⟨S128x1552, .f32⟩
  | .local _ .vmem, ⟨12, _⟩ => ⟨S128x1552, .f32⟩
  | .local _ .vmem, ⟨13, _⟩ => ⟨S128x1552, .f32⟩
  | .local _ .vmem, ⟨14, _⟩ => ⟨S128x1552, .f32⟩
  | .local _ .vmem, ⟨15, _⟩ => ⟨S128x1552, .f32⟩
  | _, _ => ⟨S2048x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1552 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1552 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1552 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1552 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1552 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1552 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1552 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S2048x1552 : Shape := ⟨2, ![2048, 1552]⟩
abbrev S4x2048x1552 : Shape := ⟨3, ![4, 2048, 1552]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1552, .f32⟩
  | .hbm, ⟨1, _⟩ => ⟨S4x2048x1552, .bf16⟩
  | .hbm, ⟨2, _⟩ => ⟨S2048x1552, .f32⟩
  | .hbm, ⟨3, _⟩ => ⟨S2048x1552, .f32⟩
  | .hbm, ⟨4, _⟩ => ⟨S4x2048x1552, .f32⟩
  | .hbm, ⟨5, _⟩ => ⟨S_, .f32⟩
  | .hbm, ⟨6, _⟩ => ⟨S2048x1552, .f32⟩
  | .hbm, ⟨7, _⟩ => ⟨S_, .f32⟩
  | .hbm, ⟨8, _⟩ => ⟨S2048x1552, .f32⟩
  | .hbm, ⟨9, _⟩ => ⟨S2048x1552, .f32⟩
  | .hbm, ⟨10, _⟩ => ⟨S_, .f32⟩
  | .hbm, ⟨11, _⟩ => ⟨S2048x1552, .f32⟩
  | .hbm, ⟨12, _⟩ => ⟨S2048x1552, .f32⟩
  | .hbm, ⟨13, _⟩ => ⟨S2048x1552, .f32⟩
  | .hbm, ⟨14, _⟩ => ⟨S_, .f32⟩
  | .hbm, ⟨15, _⟩ => ⟨S2048x1552, .f32⟩
  | .hbm, ⟨16, _⟩ => ⟨S2048x1552, .f32⟩
  | .hbm, ⟨17, _⟩ => ⟨S2048x1552, .f32⟩
  | .hbm, ⟨18, _⟩ => ⟨S_, .f32⟩
  | .hbm, ⟨19, _⟩ => ⟨S2048x1552, .f32⟩
  | .hbm, ⟨20, _⟩ => ⟨S2048x1552, .f32⟩
  | .hbm, ⟨21, _⟩ => ⟨S2048x1552, .f32⟩
  | .hbm, ⟨22, _⟩ => ⟨S_, .f32⟩
  | .hbm, ⟨23, _⟩ => ⟨S2048x1552, .f32⟩
  | .hbm, ⟨24, _⟩ => ⟨S2048x1552, .f32⟩
  | .hbm, ⟨25, _⟩ => ⟨S_, .f32⟩
  | .hbm, ⟨26, _⟩ => ⟨S2048x1552, .f32⟩
  | .hbm, ⟨27, _⟩ => ⟨S2048x1552, .f32⟩
  | .hbm, ⟨28, _⟩ => ⟨S2048x1552, .f32⟩
  | .hbm, ⟨29, _⟩ => ⟨S_, .f32⟩
  | .hbm, ⟨30, _⟩ => ⟨S2048x1552, .f32⟩
  | .hbm, ⟨31, _⟩ => ⟨S2048x1552, .f32⟩
  | .hbm, ⟨32, _⟩ => ⟨S2048x1552, .f32⟩
  | .hbm, ⟨33, _⟩ => ⟨S_, .f32⟩
  | .hbm, ⟨34, _⟩ => ⟨S2048x1552, .f32⟩
  | .hbm, ⟨35, _⟩ => ⟨S2048x1552, .f32⟩
  | .hbm, ⟨36, _⟩ => ⟨S2048x1552, .f32⟩
  | .hbm, ⟨37, _⟩ => ⟨S_, .f32⟩
  | .hbm, ⟨38, _⟩ => ⟨S2048x1552, .f32⟩
  | .hbm, ⟨39, _⟩ => ⟨S2048x1552, .f32⟩
  | _, _ => ⟨S2048x1552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel39.lean ====
abbrev S512x2048 : Shape := ⟨2, ![512, 2048]⟩
abbrev S4x512x2048 : Shape := ⟨3, ![4, 512, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S4x512x2048, .bf16⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel39Ideal.lean ====
abbrev S512x2048 : Shape := ⟨2, ![512, 2048]⟩
abbrev S4x512x2048 : Shape := ⟨3, ![4, 512, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S4x512x2048, .bf16⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S512x2048 : Shape := ⟨2, ![512, 2048]⟩
abbrev S4x512x2048 : Shape := ⟨3, ![4, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4x512x2048, .bf16⟩
  | .hbm, ⟨2, _⟩ => ⟨S512x2048, .f32⟩
  | .hbm, ⟨3, _⟩ => ⟨S512x2048, .f32⟩
  | .hbm, ⟨4, _⟩ => ⟨S4x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel40.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel40Ideal.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel41.lean ====
abbrev S8192x1536 : Shape := ⟨2, ![8192, 1536]⟩
abbrev S1x8192x1536 : Shape := ⟨3, ![1, 8192, 1536]⟩
abbrev S128x1536 : Shape := ⟨2, ![128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S1x8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S8192x1536, .f32⟩
  | .local _ .vmem, ⟨0, _⟩ => ⟨S128x1536, .f32⟩
  | .local _ .vmem, ⟨1, _⟩ => ⟨S128x1536, .f32⟩
  | .local _ .vmem, ⟨2, _⟩ => ⟨S1x128x1536, .f32⟩
  | .local _ .vmem, ⟨3, _⟩ => ⟨S1x128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference41Ideal.lean ====
abbrev S8192x1536 : Shape := ⟨2, ![8192, 1536]⟩
abbrev S1x8192x1536 : Shape := ⟨3, ![1, 8192, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1x8192x1536, .f32⟩
  | .hbm, ⟨2, _⟩ => ⟨S8192x1536, .f32⟩
  | .hbm, ⟨3, _⟩ => ⟨S8192x1536, .f32⟩
  | .hbm, ⟨4, _⟩ => ⟨S_, .f32⟩
  | .hbm, ⟨5, _⟩ => ⟨S8192x1536, .f32⟩
  | .hbm, ⟨6, _⟩ => ⟨S_, .f32⟩
  | .hbm, ⟨7, _⟩ => ⟨S8192x1536, .f32⟩
  | .hbm, ⟨8, _⟩ => ⟨S8192x1536, .f32⟩
  | .hbm, ⟨9, _⟩ => ⟨S_, .f32⟩
  | .hbm, ⟨10, _⟩ => ⟨S8192x1536, .f32⟩
  | .hbm, ⟨11, _⟩ => ⟨S8192x1536, .f32⟩
  | .hbm, ⟨12, _⟩ => ⟨S8192x1536, .f32⟩
  | .hbm, ⟨13, _⟩ => ⟨S_, .f32⟩
  | .hbm, ⟨14, _⟩ => ⟨S8192x1536, .f32⟩
  | .hbm, ⟨15, _⟩ => ⟨S8192x1536, .f32⟩
  | .hbm, ⟨16, _⟩ => ⟨S8192x1536, .f32⟩
  | .hbm, ⟨17, _⟩ => ⟨S_, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S_, .f32⟩
  | .hbm, ⟨22, _⟩ => ⟨S8192x1536, .f32⟩
  | .hbm, ⟨23, _⟩ => ⟨S8192x1536, .f32⟩
  | .hbm, ⟨24, _⟩ => ⟨S_, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S_, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S_, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S_, .f32⟩
  | .hbm, ⟨37, _⟩ => ⟨S8192x1536, .f32⟩
  | .hbm, ⟨38, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Ker.Body.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value
public import Idealize.ShloMosaic.Lib.VecWindow
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp

/-!
# The two kernel bodies at one grid point

The forward body of the retention scan handles one chunk of two heads: it reads the chunk's queries, keys, values and log decays, and the state
that the chunk before left in the scratch; it stores the chunk's output, the state it started from, and the state it
ends with. The backward body reads the same blocks, the saved state and the gradient of the output, and the gradient of
the state that the later chunk left in the scratch; it stores the gradients of the four inputs and the gradient of the
state it started from.

Each theorem below says what one run of a body does to the buffers it is given. At the first chunk of a pair of heads
the body sets the scratch to zero before it reads it.
-/

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one run stores -/

/-- The output of a chunk of the forward scan, from its four blocks and the state before it. -/
def fwdY (x0 : Vec F S64x512 .f32) (x1 : Vec F S64x512 .f32) (x2 : Vec F S64x1024 .f32) (x3 : Vec F S2x64x1 .f32) (S : Vec F S2x256x512 .f32) : Vec F S64x1024 .f32 :=
  k0_pay1 (k0_pay6 S) (k0_pay11 x0) (k0_pay22 (k0_pay5 S) (k0_pay7 x0) (k0_pay9 x2) k0_pay15 (k0_pay17 x3) (k0_pay18 x3) (k0_pay20 x0) (k0_pay21 x1) (constant S64x64 .f32 0x00000000#32)) (k0_pay26 (k0_pay14 x3)) (k0_pay28 (k0_pay11 x0) (k0_pay12 x1) (k0_pay13 x2) (k0_pay14 x3))

/-- The state after a chunk of the forward scan. -/
def fwdS (x0 : Vec F S64x512 .f32) (x1 : Vec F S64x512 .f32) (x2 : Vec F S64x1024 .f32) (x3 : Vec F S2x64x1 .f32) (S : Vec F S2x256x512 .f32) : Vec F S2x256x512 .f32 :=
  k0_pay2 (k0_pay6 S) (k0_pay12 x1) (k0_pay13 x2) (k0_pay23 (k0_pay5 S) (k0_pay8 x1) (k0_pay9 x2) (k0_pay17 x3) (k0_pay19 x3)) (k0_pay26 (k0_pay14 x3)) (k0_pay27 (k0_pay14 x3))

/-- The state before a chunk, as the forward scan saves it. -/
def fwdSave (S : Vec F S2x256x512 .f32) : Vec F S2x1x256x512 .f32 := k0_pay4 S

/-- The gradient of the state before a chunk, from the chunk's blocks and the gradient of the state after it. -/
def bwdS (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) : Vec F S2x256x512 .f32 :=
  k1_pay1 (k1_pay57 (k1_pay14 x0) (k1_pay41 (k1_pay17 x3)) (k1_pay42 (k1_pay17 x3)) (k1_pay47 S) (k1_pay48 x5)) (k1_pay78 (k1_pay10 x0) (k1_pay29 (k1_pay20 x3)) (k1_pay46 x5) (k1_pay75 (k1_pay30 (k1_pay22 x3)) (k1_pay45 S)))

/-- The gradient of a chunk's queries. -/
def bwdQ (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) : Vec F S64x512 .f32 :=
  k1_pay2 (k1_pay65 (k1_pay15 x1) (k1_pay56 (k1_pay9 x4) (k1_pay41 (k1_pay17 x3)) (k1_pay48 x5)) (k1_pay61 (k1_pay16 x2) (k1_pay38 (k1_pay17 x3)) (k1_pay48 x5))) (k1_pay84 (k1_pay8 x4) (k1_pay11 x1) (k1_pay12 x2) (k1_pay26 k1_pay18 (k1_pay20 x3) (k1_pay21 x3)) (k1_pay29 (k1_pay20 x3)) (k1_pay46 x5))

/-- The gradient of a chunk's keys. -/
def bwdK (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) : Vec F S64x512 .f32 :=
  k1_pay3 (k1_pay66 (k1_pay14 x0) (k1_pay50 (k1_pay44 (k1_pay16 x2) (k1_pay17 x3)) (k1_pay47 S)) (k1_pay61 (k1_pay16 x2) (k1_pay38 (k1_pay17 x3)) (k1_pay48 x5))) (k1_pay85 (k1_pay10 x0) (k1_pay12 x2) (k1_pay26 k1_pay18 (k1_pay20 x3) (k1_pay21 x3)) (k1_pay46 x5) (k1_pay69 (k1_pay32 (k1_pay12 x2) (k1_pay20 x3) (k1_pay22 x3)) (k1_pay45 S)))

/-- The gradient of a chunk's values. -/
def bwdV (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) : Vec F S64x1024 .f32 :=
  k1_pay4 (k1_pay60 (k1_pay15 x1) (k1_pay39 (k1_pay14 x0) (k1_pay15 x1) (k1_pay17 x3)) (k1_pay43 (k1_pay17 x3)) (k1_pay47 S) (k1_pay48 x5)) (k1_pay81 (k1_pay27 k1_pay18 (k1_pay20 x3) (k1_pay21 x3) (k1_pay23 x0) (k1_pay24 x1)) (k1_pay46 x5) (k1_pay71 (k1_pay11 x1) (k1_pay31 (k1_pay20 x3) (k1_pay22 x3)) (k1_pay45 S)))

/-- The gradient of a chunk's log decays. -/
def bwdA (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) : Vec F S2x64x1 .f32 :=
  k1_pay5 (k1_pay67 k1_pay33 k1_pay34 (k1_pay53 (k1_pay9 x4) (k1_pay15 x1) (k1_pay16 x2) (k1_pay42 (k1_pay17 x3)) (k1_pay43 (k1_pay17 x3)) (k1_pay47 S)) (k1_pay54 (k1_pay15 x1) (k1_pay16 x2) (k1_pay40 (k1_pay9 x4) (k1_pay14 x0)) (k1_pay41 (k1_pay17 x3)) (k1_pay43 (k1_pay17 x3)) (k1_pay47 S) (k1_pay48 x5)) (k1_pay62 (k1_pay16 x2) (k1_pay37 (k1_pay14 x0) (k1_pay15 x1)) (k1_pay38 (k1_pay17 x3)) (k1_pay48 x5)) k1_pay63) (k1_pay86 (k1_pay12 x2) k1_pay18 k1_pay19 (k1_pay25 (k1_pay23 x0) (k1_pay24 x1)) (k1_pay26 k1_pay18 (k1_pay20 x3) (k1_pay21 x3)) (k1_pay46 x5)) (k1_pay87 (k1_pay12 x2) k1_pay18 k1_pay19 (k1_pay25 (k1_pay23 x0) (k1_pay24 x1)) (k1_pay26 k1_pay18 (k1_pay20 x3) (k1_pay21 x3)) (k1_pay28 (k1_pay8 x4) (k1_pay10 x0)) (k1_pay29 (k1_pay20 x3)) (k1_pay30 (k1_pay22 x3)) (k1_pay46 x5) (k1_pay73 (k1_pay11 x1) (k1_pay12 x2) (k1_pay31 (k1_pay20 x3) (k1_pay22 x3)) (k1_pay45 S)) (k1_pay74 (k1_pay11 x1) (k1_pay12 x2) (k1_pay31 (k1_pay20 x3) (k1_pay22 x3)) (k1_pay45 S)) (k1_pay76 (k1_pay8 x4) (k1_pay45 S)))

/-! ## The bodies' first test -/

/-- The forward body's test of whether the point is the first chunk of its pair of heads. -/
abbrev first0 (i : grid0.Coords) : Prop := (Scalar.cmpi .ne (Scalar.extui (Scalar.cmpi .eq (BitVec.ofNat 32 (i 1).val) 0#32)) 0#32) = 1#1

/-- The backward body's test of whether the point is the first chunk it visits of its pair of heads. -/
abbrev first1 (i : grid1.Coords) : Prop := (Scalar.cmpi .ne (Scalar.extui (Scalar.cmpi .eq (BitVec.ofNat 32 (i 1).val) 0#32)) 0#32) = 1#1

/-- The forward test holds at the points whose number is a multiple of 36. -/
theorem first0_iff : ∀ t : Fin cfg0.N, first0 (grid0.coords t) ↔ t.val % 36 = 0 :=
  (by decide +kernel : ∀ t : Fin grid0.N, first0 (grid0.coords t) ↔ t.val % 36 = 0)

/-- The backward test holds at the points whose number is a multiple of 36. -/
theorem first1_iff : ∀ t : Fin cfg1.N, first1 (grid1.coords t) ↔ t.val % 36 = 0 :=
  (by decide +kernel : ∀ t : Fin grid1.N, first1 (grid1.coords t) ↔ t.val % 36 = 0)

/-! ## The runs -/

set_option maxHeartbeats 4000000 in
/-- One run of the forward body at the first chunk of a pair of heads, the scratch at anything: the inputs' buffers stay, and each output's buffer and the scratch end at the values named above. -/
theorem fwd_first (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x1024 .f32) (harg4 : arg4.IsWhole) (arg5 : Memref sig .tc .vmem S2x64x1 .f32) (harg5 : arg5.IsWhole) (arg6 : Memref sig .tc .vmem S64x1024 .f32) (harg6 : arg6.IsWhole) (arg7 : Memref sig .tc .vmem S2x1x256x512 .f32) (harg7 : arg7.IsWhole) (arg8 : Memref sig .tc .vmem S2x256x512 .f32) (harg8 : arg8.IsWhole) (hc : first0 i)
    (x0 : Vec F S64x512 .f32) (x1 : Vec F S64x512 .f32) (x2 : Vec F S64x1024 .f32) (x3 : Vec F S2x64x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fwdY x0 x1 x2 x3 (k0_pay3 (F := F))) ∗ owns (c : Thread nD τ) arg7 fullShare (fwdSave (k0_pay3 (F := F))) ∗ owns (c : Thread nD τ) arg8 fullShare (fwdS x0 x1 x2 x3 (k0_pay3 (F := F)))) -∗ K ⟨⟩))
      ⊢ wp frame (wpE (defs₀ (F := F)) Variants.none c none) E (cc0_ret_scan_f_fwd i arg2 harg2 arg3 harg3 arg4 harg4 arg5 harg5 arg6 harg6 arg7 harg7 arg8 harg8) K := by
  simp only [cc0_ret_scan_f_fwd_eq_skeleton]; unfold cc0_ret_scan_f_fwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  have e2 : (arg2.view.readAt (Elt F) (Rect.unit (s := S64x512) ![0, 0] S64x512.size inb_S64x512_S64x512_0_0).toLoadRect (harg2.unread x0)) = x0 := by rw [View.readAt_full, harg2.read_unread]
  have e3 : (arg3.view.readAt (Elt F) (Rect.unit (s := S64x512) ![0, 0] S64x512.size inb_S64x512_S64x512_0_0).toLoadRect (harg3.unread x1)) = x1 := by rw [View.readAt_full, harg3.read_unread]
  have e4 : (arg4.view.readAt (Elt F) (Rect.unit (s := S64x1024) ![0, 0] S64x1024.size inb_S64x1024_S64x1024_0_0).toLoadRect (harg4.unread x2)) = x2 := by rw [View.readAt_full, harg4.read_unread]
  have e5 : (arg5.view.readAt (Elt F) (Rect.unit (s := S2x64x1) ![0, 0, 0] S2x64x1.size inb_S2x64x1_S2x64x1_0_0_0).toLoadRect (harg5.unread x3)) = x3 := by rw [View.readAt_full, harg5.read_unread]
  have e8 : (arg8.view.readCov (Val := Elt F) [⟨(Rect.unit (s := S2x256x512) ![0, 0, 0] S2x256x512.size inb_S2x256x512_S2x256x512_0_0_0), k0_pay3 (F := F)⟩] (Rect.unit (s := S2x256x512) ![0, 0, 0] S2x256x512.size inb_S2x256x512_S2x256x512_0_0_0).toLoadRect) = (k0_pay3 (F := F)) := by rw [View.readCov_full]
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full]
    rfl
  isplitl [H7]
  · iexists _; isplitr
    swap; · iexact H7
    ipureintro
    rw [View.read_writes_full]
    rfl
  iexists _; isplitr
  swap; · iexact H8
  ipureintro
  rw [View.read_writes_full]
  rfl

set_option maxHeartbeats 4000000 in
/-- One run of the forward body at a later chunk, the scratch at `S`: the inputs' buffers stay, and each output's buffer and the scratch end at the values named above. -/
theorem fwd_next (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x1024 .f32) (harg4 : arg4.IsWhole) (arg5 : Memref sig .tc .vmem S2x64x1 .f32) (harg5 : arg5.IsWhole) (arg6 : Memref sig .tc .vmem S64x1024 .f32) (harg6 : arg6.IsWhole) (arg7 : Memref sig .tc .vmem S2x1x256x512 .f32) (harg7 : arg7.IsWhole) (arg8 : Memref sig .tc .vmem S2x256x512 .f32) (harg8 : arg8.IsWhole) (hc : ¬ first0 i)
    (x0 : Vec F S64x512 .f32) (x1 : Vec F S64x512 .f32) (x2 : Vec F S64x1024 .f32) (x3 : Vec F S2x64x1 .f32) (S : Vec F S2x256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fwdY x0 x1 x2 x3 S) ∗ owns (c : Thread nD τ) arg7 fullShare (fwdSave S) ∗ owns (c : Thread nD τ) arg8 fullShare (fwdS x0 x1 x2 x3 S)) -∗ K ⟨⟩))
      ⊢ wp frame (wpE (defs₀ (F := F)) Variants.none c none) E (cc0_ret_scan_f_fwd i arg2 harg2 arg3 harg3 arg4 harg4 arg5 harg5 arg6 harg6 arg7 harg7 arg8 harg8) K := by
  simp only [cc0_ret_scan_f_fwd_eq_skeleton]; unfold cc0_ret_scan_f_fwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg8.eq_unread hf8
  have e2 : (arg2.view.readAt (Elt F) (Rect.unit (s := S64x512) ![0, 0] S64x512.size inb_S64x512_S64x512_0_0).toLoadRect (harg2.unread x0)) = x0 := by rw [View.readAt_full, harg2.read_unread]
  have e3 : (arg3.view.readAt (Elt F) (Rect.unit (s := S64x512) ![0, 0] S64x512.size inb_S64x512_S64x512_0_0).toLoadRect (harg3.unread x1)) = x1 := by rw [View.readAt_full, harg3.read_unread]
  have e4 : (arg4.view.readAt (Elt F) (Rect.unit (s := S64x1024) ![0, 0] S64x1024.size inb_S64x1024_S64x1024_0_0).toLoadRect (harg4.unread x2)) = x2 := by rw [View.readAt_full, harg4.read_unread]
  have e5 : (arg5.view.readAt (Elt F) (Rect.unit (s := S2x64x1) ![0, 0, 0] S2x64x1.size inb_S2x64x1_S2x64x1_0_0_0).toLoadRect (harg5.unread x3)) = x3 := by rw [View.readAt_full, harg5.read_unread]
  have e8 : (arg8.view.readAt (Elt F) (Rect.unit (s := S2x256x512) ![0, 0, 0] S2x256x512.size inb_S2x256x512_S2x256x512_0_0_0).toLoadRect (harg8.unread S)) = S := by rw [View.readAt_full, harg8.read_unread]
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full]
    rfl
  isplitl [H7]
  · iexists _; isplitr
    swap; · iexact H7
    ipureintro
    rw [View.read_writes_full]
    rfl
  iexists _; isplitr
  swap; · iexact H8
  ipureintro
  rw [View.read_writes_full]
  rfl

set_option maxHeartbeats 4000000 in
/-- One run of the backward body at the first chunk of a pair of heads, the scratch at anything: the inputs' buffers stay, and each output's buffer and the scratch end at the values named above. -/
theorem bwd_first (c : Dev nD) (i : grid1.Coords) (arg2 : Memref sig .tc .vmem S64x512 .f32) (harg2 : arg2.IsWhole) (arg3 : Memref sig .tc .vmem S64x512 .f32) (harg3 : arg3.IsWhole) (arg4 : Memref sig .tc .vmem S64x1024 .f32) (harg4 : arg4.IsWhole) (arg5 : Memref sig .tc .vmem S2x64x1 .f32) (harg5 : arg5.IsWhole) (arg6 : Memref sig .tc .vmem S2x1x256x512 .f32) (harg6 : arg6.IsWhole) (arg7 : Memref sig .tc .vmem S64x1024 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x1024 .f32) (harg10 : arg10.IsWhole) (arg11 : Memref sig .tc .vmem S2x64x1 .f32) (harg11 : arg11.IsWhole) (arg12 : Memref sig .tc .vmem S2x256x512 .f32) (harg12 : arg12.IsWhole) (hc : first1 i)
    (x0 : Vec F S64x512 .f32) (x1 : Vec F S64x512 .f32) (x2 : Vec F S64x1024 .f32) (x3 : Vec F S2x64x1 .f32) (x4 : Vec F S2x1x256x512 .f32) (x5 : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (bwdQ x0 x1 x2 x3 x4 x5 (k1_pay7 (F := F))) ∗ owns (c : Thread nD τ) arg9 fullShare (bwdK x0 x1 x2 x3 x4 x5 (k1_pay7 (F := F))) ∗ owns (c : Thread nD τ) arg10 fullShare (bwdV x0 x1 x2 x3 x4 x5 (k1_pay7 (F := F))) ∗ owns (c : Thread nD τ) arg11 fullShare (bwdA x0 x1 x2 x3 x4 x5 (k1_pay7 (F := F))) ∗ owns (c : Thread nD τ) arg12 fullShare (bwdS x0 x1 x2 x3 x4 x5 (k1_pay7 (F := F)))) -∗ K ⟨⟩))
      ⊢ wp frame (wpE (defs₀ (F := F)) Variants.none c none) E (cc1_ret_scan_f_bwd i arg2 harg2 arg3 harg3 arg4 harg4 arg5 harg5 arg6 harg6 arg7 harg7 arg8 harg8 arg9 harg9 arg10 harg10 arg11 harg11 arg12 harg12) K := by
  simp only [cc1_ret_scan_f_bwd_eq_skeleton]; unfold cc1_ret_scan_f_bwd_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  have e2 : (arg2.view.readAt (Elt F) (Rect.unit (s := S64x512) ![0, 0] S64x512.size inb_S64x512_S64x512_0_0).toLoadRect (harg2.unread x0)) = x0 := by rw [View.readAt_full, harg2.read_unread]
  have e3 : (arg3.view.readAt (Elt F) (Rect.unit (s := S64x512) ![0, 0] S64x512.size inb_S64x512_S64x512_0_0).toLoadRect (harg3.unread x1)) = x1 := by rw [View.readAt_full, harg3.read_unread]
  have e4 : (arg4.view.readAt (Elt F) (Rect.unit (s := S64x1024) ![0, 0] S64x1024.size inb_S64x1024_S64x1024_0_0).toLoadRect (harg4.unread x2)) = x2 := by rw [View.readAt_full, harg4.read_unread]
  have e5 : (arg5.view.readAt (Elt F) (Rect.unit (s := S2x64x1) ![0, 0, 0] S2x64x1.size inb_S2x64x1_S2x64x1_0_0_0).toLoadRect (harg5.unread x3)) = x3 := by rw [View.readAt_full, harg5.read_unread]
  have e6 : (arg6.view.readAt (Elt F) (Rect.unit (s := S2x1x256x512) ![0, 0, 0, 0] S2x1x256x512.size inb_S2x1x256x512_S2x1x256x512_0_0_0_0).toLoadRect (harg6.unread x4)) = x4 := by rw [View.readAt_full, harg6.read_unread]
  have e7 : (arg7.view.readAt (Elt F) (Rect.unit (s := S64x1024) ![0, 0] S64x1024.size inb_S64x1024_S64x1024_0_0).toLoadRect (harg7.unread x5)) = x5 := by rw [View.readAt_full, harg7.read_unread]
  have e12 : (arg12.view.readCov (Val := Elt F) [⟨(Rect.unit (s := S2x256x512) ![0, 0, 0] S2x256x512.size inb_S2x256x512_S2x256x512_0_0_0), k1_pay7 (F := F)⟩] (Rect.unit (s := S2x256x512) ![0, 0, 0] S2x256x512.size inb_S2x256x512_S2x256x512_0_0_0).toLoadRect) = (k1_pay7 (F := F)) := by rw [View.readCov_full]
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_full]
    rfl
  isplitl [H9]
  · iexists _; isplitr
    swap; · iexact H9
    ipureintro
    rw [View.read_writes_full]
    rfl
  isplitl [H10]
  · iexists _; isplitr
    swap; · iexact H10
    ipureintro
    rw [View.read_writes_full]
    rfl
  isplitl [H11]
  · iexists _; isplitr
    swap; · iexact H11
    ipureintro
    rw [View.read_writes_full]
    rfl
  iexists _; isplitr
  swap; · iexact H12
  ipureintro
  rw [View.read_writes_full]
  rfl

set_option maxHeartbeats 4000000 in
/-- One run of the backward body at a later chunk, the scratch at `S`: the inputs' buffers stay, and each output's buffer and the scratch end at the values named above. -/
theorem bwd_next (c : Dev nD) (i : grid1.Coords) (arg2 : Memref sig .tc .vmem S64x512 .f32) (harg2 : arg2.IsWhole) (arg3 : Memref sig .tc .vmem S64x512 .f32) (harg3 : arg3.IsWhole) (arg4 : Memref sig .tc .vmem S64x1024 .f32) (harg4 : arg4.IsWhole) (arg5 : Memref sig .tc .vmem S2x64x1 .f32) (harg5 : arg5.IsWhole) (arg6 : Memref sig .tc .vmem S2x1x256x512 .f32) (harg6 : arg6.IsWhole) (arg7 : Memref sig .tc .vmem S64x1024 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x1024 .f32) (harg10 : arg10.IsWhole) (arg11 : Memref sig .tc .vmem S2x64x1 .f32) (harg11 : arg11.IsWhole) (arg12 : Memref sig .tc .vmem S2x256x512 .f32) (harg12 : arg12.IsWhole) (hc : ¬ first1 i)
    (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (bwdQ x0 x1 x2 x3 x4 x5 S) ∗ owns (c : Thread nD τ) arg9 fullShare (bwdK x0 x1 x2 x3 x4 x5 S) ∗ owns (c : Thread nD τ) arg10 fullShare (bwdV x0 x1 x2 x3 x4 x5 S) ∗ owns (c : Thread nD τ) arg11 fullShare (bwdA x0 x1 x2 x3 x4 x5 S) ∗ owns (c : Thread nD τ) arg12 fullShare (bwdS x0 x1 x2 x3 x4 x5 S)) -∗ K ⟨⟩))
      ⊢ wp frame (wpE (defs₀ (F := F)) Variants.none c none) E (cc1_ret_scan_f_bwd i arg2 harg2 arg3 harg3 arg4 harg4 arg5 harg5 arg6 harg6 arg7 harg7 arg8 harg8 arg9 harg9 arg10 harg10 arg11 harg11 arg12 harg12) K := by
  simp only [cc1_ret_scan_f_bwd_eq_skeleton]; unfold cc1_ret_scan_f_bwd_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12
  have e2 : (arg2.view.readAt (Elt F) (Rect.unit (s := S64x512) ![0, 0] S64x512.size inb_S64x512_S64x512_0_0).toLoadRect (harg2.unread x0)) = x0 := by rw [View.readAt_full, harg2.read_unread]
  have e3 : (arg3.view.readAt (Elt F) (Rect.unit (s := S64x512) ![0, 0] S64x512.size inb_S64x512_S64x512_0_0).toLoadRect (harg3.unread x1)) = x1 := by rw [View.readAt_full, harg3.read_unread]
  have e4 : (arg4.view.readAt (Elt F) (Rect.unit (s := S64x1024) ![0, 0] S64x1024.size inb_S64x1024_S64x1024_0_0).toLoadRect (harg4.unread x2)) = x2 := by rw [View.readAt_full, harg4.read_unread]
  have e5 : (arg5.view.readAt (Elt F) (Rect.unit (s := S2x64x1) ![0, 0, 0] S2x64x1.size inb_S2x64x1_S2x64x1_0_0_0).toLoadRect (harg5.unread x3)) = x3 := by rw [View.readAt_full, harg5.read_unread]
  have e6 : (arg6.view.readAt (Elt F) (Rect.unit (s := S2x1x256x512) ![0, 0, 0, 0] S2x1x256x512.size inb_S2x1x256x512_S2x1x256x512_0_0_0_0).toLoadRect (harg6.unread x4)) = x4 := by rw [View.readAt_full, harg6.read_unread]
  have e7 : (arg7.view.readAt (Elt F) (Rect.unit (s := S64x1024) ![0, 0] S64x1024.size inb_S64x1024_S64x1024_0_0).toLoadRect (harg7.unread x5)) = x5 := by rw [View.readAt_full, harg7.read_unread]
  have e12 : (arg12.view.readAt (Elt F) (Rect.unit (s := S2x256x512) ![0, 0, 0] S2x256x512.size inb_S2x256x512_S2x256x512_0_0_0).toLoadRect (harg12.unread S)) = S := by rw [View.readAt_full, harg12.read_unread]
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_full]
    rfl
  isplitl [H9]
  · iexists _; isplitr
    swap; · iexact H9
    ipureintro
    rw [View.read_writes_full]
    rfl
  isplitl [H10]
  · iexists _; isplitr
    swap; · iexact H10
    ipureintro
    rw [View.read_writes_full]
    rfl
  isplitl [H11]
  · iexists _; isplitr
    swap; · iexact H11
    ipureintro
    rw [View.read_writes_full]
    rfl
  iexists _; isplitr
  swap; · iexact H12
  ipureintro
  rw [View.read_writes_full]
  rfl

end Cert.KernelIdeal.Ret

end
-- ==== Proof.Ker.Head.lean ====
module

public import proofs.«01_k».proof.Proof.Ker.Body

/-!
# One head of the two kernel bodies

The bodies handle two heads by the same operations. Here those operations are written once, for one head, and the bodies'
results are given by the two heads' values.
-/

@[expose] public section

noncomputable section

namespace Cert.KernelIdeal.Ret

open Idealize.ShloMosaic
open Cert.KernelIdeal Idealize.ShloMosaic.TcCoe
open Cert.KernelIdeal.Gen

variable {F : FTy → Type} [FloatOps F]

/-- What the bodies read of one head: the chunk's queries, keys, values and log decays, the state before the chunk, the
gradient of the state after it, and the gradient of the output. -/
structure Head (F : FTy → Type) where
  q : FVec F S64x256 .f32
  k : FVec F S64x256 .f32
  v : FVec F S64x512 .f32
  la : FVec F S64x1 .f32
  S : FVec F S256x512 .f32
  D : FVec F S256x512 .f32
  g : FVec F S64x512 .f32

/-- The backward body's value `v25` of a pair's first head, for any head. -/
def hd_v25 : IVec S64x64 32 := iota .tc S64x64 32 [0] iota_S64x64_d0_w32

/-- The backward body's value `v26` of a pair's first head, for any head. -/
def hd_v26 : IVec S64x64 32 := iota .tc S64x64 32 [1] iota_S64x64_d1_w32

/-- The backward body's value `v27` of a pair's first head, for any head. -/
def hd_v27 : IVec S64x64 1 := cmpi .sge hd_v25 hd_v26

/-- The backward body's value `v28` of a pair's first head, for any head. -/
def hd_v28 : IVec S64x64 32 := extui 32 hd_v27 natLt_1_32

/-- The backward body's value `v29` of a pair's first head, for any head. -/
def hd_v29 : FVec F S64x64 .f32 := sitofp .f32 hd_v28

/-- The backward body's value `v30` of a pair's first head, for any head. -/
def hd_v30 (H : Head F) : FVec F S64x1 .f32 := matmul dot_S64x64_S64x1_S64x1_1_0_0_1_n_n (some .fp32) hd_v29 H.la (constant S64x1 .f32 0x00000000#32)

/-- The backward body's value `v31` of a pair's first head, for any head. -/
def hd_v31 (H : Head F) : FVec F S1x64 .f32 := matmul dot_S64x1_S64x64_S1x64_0_1_1_0_n_n (some .fp32) H.la (hd_v29 (F := F)) (constant S1x64 .f32 0x00000000#32)

/-- The backward body's value `v32` of a pair's first head, for any head. -/
def hd_v32 (H : Head F) : FVec F S1x1 .f32 := extractStridedSlice S1x1 ![63, 0] (hd_v30 H) slices_S64x1_o63_0_S1x1

/-- The backward body's value `v33` of a pair's first head, for any head. -/
def hd_v33 (H : Head F) : FVec F S64x256 .bf16 := truncf .bf16 H.q bitsLt_bf16_f32

/-- The backward body's value `v34` of a pair's first head, for any head. -/
def hd_v34 (H : Head F) : FVec F S64x256 .bf16 := truncf .bf16 H.k bitsLt_bf16_f32

/-- The backward body's value `v35` of a pair's first head, for any head. -/
def hd_v35 (H : Head F) : FVec F S64x64 .f32 := matmul dot_S64x256_S64x256_S64x64_1_1_0_0_n_n none (hd_v33 H) (hd_v34 H) (constant S64x64 .f32 0x00000000#32)

/-- The backward body's value `v36` of a pair's first head, for any head. -/
def hd_v36 (H : Head F) : FVec F S64x64 .f32 := broadcastTo S64x64 (hd_v30 H) broadcasts_S64x1_S64x64

/-- The backward body's value `v37` of a pair's first head, for any head. -/
def hd_v37 (H : Head F) : FVec F S64x64 .f32 := broadcastTo S64x64 (hd_v31 H) broadcasts_S1x64_S64x64

/-- The backward body's value `v38` of a pair's first head, for any head. -/
def hd_v38 (H : Head F) : FVec F S64x64 .f32 := subf (hd_v36 H) (hd_v37 H)

/-- The backward body's value `v39` of a pair's first head, for any head. -/
def hd_v39 : FVec F S64x64 .f32 := broadcast S64x64 (Scalar.ofBits .f32 0xFF800000#32)

/-- The backward body's value `v40` of a pair's first head, for any head. -/
def hd_v40 (H : Head F) : FVec F S64x64 .f32 := select hd_v27 (hd_v38 H) (hd_v39 (F := F))

/-- The backward body's value `v41` of a pair's first head, for any head. -/
def hd_v41 (H : Head F) : FVec F S64x64 .f32 := exp (hd_v40 H)

/-- The backward body's value `v42` of a pair's first head, for any head. -/
def hd_v42 (H : Head F) : FVec F S64x64 .f32 := mulf (hd_v35 H) (hd_v41 H)

/-- The backward body's value `v43` of a pair's first head, for any head. -/
def hd_v43 (H : Head F) : FVec F S64x256 .bf16 := truncf .bf16 H.q bitsLt_bf16_f32

/-- The backward body's value `v44` of a pair's first head, for any head. -/
def hd_v44 (H : Head F) : FVec F S256x512 .bf16 := truncf .bf16 H.S bitsLt_bf16_f32

/-- The backward body's value `v45` of a pair's first head, for any head. -/
def hd_v45 (H : Head F) : FVec F S64x512 .f32 := matmul dot_S64x256_S256x512_S64x512_1_0_0_1_n_n none (hd_v43 H) (hd_v44 H) (constant S64x512 .f32 0x00000000#32)

/-- The backward body's value `v46` of a pair's first head, for any head. -/
def hd_v46 (H : Head F) : FVec F S64x1 .f32 := exp (hd_v30 H)

/-- The backward body's value `v47` of a pair's first head, for any head. -/
def hd_v47 (H : Head F) : FVec F S1x1 .f32 := exp (hd_v32 H)

/-- The backward body's value `v48` of a pair's first head, for any head. -/
def hd_v48 (H : Head F) : FVec F S64x1 .f32 := broadcastTo S64x1 (hd_v32 H) broadcasts_S1x1_S64x1

/-- The backward body's value `v49` of a pair's first head, for any head. -/
def hd_v49 (H : Head F) : FVec F S64x1 .f32 := subf (hd_v48 H) (hd_v30 H)

/-- The backward body's value `v50` of a pair's first head, for any head. -/
def hd_v50 (H : Head F) : FVec F S64x1 .f32 := exp (hd_v49 H)

/-- The backward body's value `v51` of a pair's first head, for any head. -/
def hd_v51 (H : Head F) : FVec F S64x512 .f32 := broadcastTo S64x512 (hd_v50 H) broadcasts_S64x1_S64x512

/-- The backward body's value `v52` of a pair's first head, for any head. -/
def hd_v52 (H : Head F) : FVec F S64x512 .f32 := mulf (hd_v51 H) H.v

/-- The backward body's value `v158` of a pair's first head, for any head. -/
def hd_v158 (H : Head F) : FVec F S64x256 .bf16 := truncf .bf16 H.k bitsLt_bf16_f32

/-- The backward body's value `v159` of a pair's first head, for any head. -/
def hd_v159 (H : Head F) : FVec F S64x512 .bf16 := truncf .bf16 (hd_v52 H) bitsLt_bf16_f32

/-- The backward body's value `v160` of a pair's first head, for any head. -/
def hd_v160 (H : Head F) : FVec F S256x512 .bf16 := truncf .bf16 H.D bitsLt_bf16_f32

/-- The backward body's value `v161` of a pair's first head, for any head. -/
def hd_v161 (H : Head F) : FVec F S64x256 .f32 := matmul dot_S64x512_S256x512_S64x256_1_1_0_0_n_n none (hd_v159 H) (hd_v160 H) (constant S64x256 .f32 0x00000000#32)

/-- The backward body's value `v162` of a pair's first head, for any head. -/
def hd_v162 (H : Head F) : FVec F S64x512 .f32 := matmul dot_S64x256_S256x512_S64x512_1_0_0_1_n_n none (hd_v158 H) (hd_v160 H) (constant S64x512 .f32 0x00000000#32)

/-- The backward body's value `v163` of a pair's first head, for any head. -/
def hd_v163 (H : Head F) : FVec F S64x512 .f32 := broadcastTo S64x512 (hd_v50 H) broadcasts_S64x1_S64x512

/-- The backward body's value `v164` of a pair's first head, for any head. -/
def hd_v164 (H : Head F) : FVec F S64x512 .f32 := mulf (hd_v163 H) (hd_v162 H)

/-- The backward body's value `v165` of a pair's first head, for any head. -/
def hd_v165 (H : Head F) : FVec F S64x512 .f32 := mulf (hd_v162 H) H.v

/-- The backward body's value `v166` of a pair's first head, for any head. -/
def hd_v166 (H : Head F) : FVec F S64 .f32 := multiReduction .add [1] S64 (hd_v165 H) 0x00000000#32 reduces_S64x512_S64 (.inl rfl) rfl

/-- The backward body's value `v167` of a pair's first head, for any head. -/
def hd_v167 (H : Head F) : FVec F S64x1 .f32 := shapeCast S64x1 (hd_v166 H) shapeCasts_S64_S64x1

/-- The backward body's value `v168` of a pair's first head, for any head. -/
def hd_v168 (H : Head F) : FVec F S64x1 .f32 := mulf (hd_v167 H) (hd_v50 H)

/-- The backward body's value `v169` of a pair's first head, for any head. -/
def hd_v169 (H : Head F) : FVec F S1 .f32 := multiReduction .add [0] S1 (hd_v168 H) 0x00000000#32 reduces_S64x1_S1 (.inl rfl) rfl

/-- The backward body's value `v170` of a pair's first head, for any head. -/
def hd_v170 (H : Head F) : FVec F S1x1 .f32 := shapeCast S1x1 (hd_v169 H) shapeCasts_S1_S1x1

/-- The backward body's value `v171` of a pair's first head, for any head. -/
def hd_v171 : FVec F S64x1 .f32 := broadcast S64x1 (Scalar.ofBits .f32 0x00000000#32)

/-- The backward body's value `v172` of a pair's first head, for any head. -/
def hd_v172 (H : Head F) : FVec F S64x1 .f32 := subf (hd_v171 (F := F)) (hd_v168 H)

/-- The backward body's value `v173` of a pair's first head, for any head. -/
def hd_v173 (H : Head F) : FVec F S256x512 .f32 := broadcastTo S256x512 (hd_v47 H) broadcasts_S1x1_S256x512

/-- The backward body's value `v174` of a pair's first head, for any head. -/
def hd_v174 (H : Head F) : FVec F S256x512 .f32 := mulf (hd_v173 H) H.D

/-- The backward body's value `v175` of a pair's first head, for any head. -/
def hd_v175 (H : Head F) : FVec F S256x512 .f32 := mulf H.D H.S

/-- The backward body's value `v176` of a pair's first head, for any head. -/
def hd_v176 (H : Head F) : FVec F S1x256x512 .f32 := shapeCast S1x256x512 (hd_v175 H) shapeCasts_S256x512_S1x256x512

/-- The backward body's value `v177` of a pair's first head, for any head. -/
def hd_v177 (H : Head F) : FVec F S1 .f32 := multiReduction .add [1, 2] S1 (hd_v176 H) 0x00000000#32 reduces_S1x256x512_S1 (.inl rfl) rfl

/-- The backward body's value `v178` of a pair's first head, for any head. -/
def hd_v178 (H : Head F) : FVec F S1x1x1 .f32 := shapeCast S1x1x1 (hd_v177 H) shapeCasts_S1_S1x1x1

/-- The backward body's value `v179` of a pair's first head, for any head. -/
def hd_v179 (H : Head F) : F .f32 := extractAt ![0, 0, 0] (hd_v178 H) inpos_S1x1x1_p0_0_0

/-- The backward body's value `v180` of a pair's first head, for any head. -/
def hd_v180 (H : Head F) : FVec F S1x1 .f32 := broadcast S1x1 (hd_v179 H)

/-- The backward body's value `v181` of a pair's first head, for any head. -/
def hd_v181 (H : Head F) : FVec F S1x1 .f32 := mulf (hd_v180 H) (hd_v47 H)

/-- The backward body's value `v182` of a pair's first head, for any head. -/
def hd_v182 (H : Head F) : FVec F S1x1 .f32 := addf (hd_v170 H) (hd_v181 H)

/-- The backward body's value `v183` of a pair's first head, for any head. -/
def hd_v183 (H : Head F) : FVec F S64x512 .f32 := mulf (hd_v45 H) H.g

/-- The backward body's value `v184` of a pair's first head, for any head. -/
def hd_v184 (H : Head F) : FVec F S64 .f32 := multiReduction .add [1] S64 (hd_v183 H) 0x00000000#32 reduces_S64x512_S64 (.inl rfl) rfl

/-- The backward body's value `v185` of a pair's first head, for any head. -/
def hd_v185 (H : Head F) : FVec F S64x1 .f32 := shapeCast S64x1 (hd_v184 H) shapeCasts_S64_S64x1

/-- The backward body's value `v186` of a pair's first head, for any head. -/
def hd_v186 (H : Head F) : FVec F S64x512 .f32 := broadcastTo S64x512 (hd_v46 H) broadcasts_S64x1_S64x512

/-- The backward body's value `v187` of a pair's first head, for any head. -/
def hd_v187 (H : Head F) : FVec F S64x512 .f32 := mulf H.g (hd_v186 H)

/-- The backward body's value `v188` of a pair's first head, for any head. -/
def hd_v188 (H : Head F) : FVec F S64x1 .f32 := mulf (hd_v185 H) (hd_v46 H)

/-- The backward body's value `v189` of a pair's first head, for any head. -/
def hd_v189 (H : Head F) : FVec F S64x1 .f32 := addf (hd_v172 H) (hd_v188 H)

/-- The backward body's value `v190` of a pair's first head, for any head. -/
def hd_v190 (H : Head F) : FVec F S64x256 .bf16 := truncf .bf16 H.q bitsLt_bf16_f32

/-- The backward body's value `v191` of a pair's first head, for any head. -/
def hd_v191 (H : Head F) : FVec F S256x512 .bf16 := truncf .bf16 H.S bitsLt_bf16_f32

/-- The backward body's value `v192` of a pair's first head, for any head. -/
def hd_v192 (H : Head F) : FVec F S64x512 .bf16 := truncf .bf16 (hd_v187 H) bitsLt_bf16_f32

/-- The backward body's value `v193` of a pair's first head, for any head. -/
def hd_v193 (H : Head F) : FVec F S64x256 .f32 := matmul dot_S64x512_S256x512_S64x256_1_1_0_0_n_n none (hd_v192 H) (hd_v191 H) (constant S64x256 .f32 0x00000000#32)

/-- The backward body's value `v194` of a pair's first head, for any head. -/
def hd_v194 (H : Head F) : FVec F S256x512 .f32 := matmul dot_S64x256_S64x512_S256x512_0_0_1_1_n_n none (hd_v190 H) (hd_v192 H) (constant S256x512 .f32 0x00000000#32)

/-- The backward body's value `v195` of a pair's first head, for any head. -/
def hd_v195 (H : Head F) : FVec F S256x512 .f32 := addf (hd_v174 H) (hd_v194 H)

/-- The backward body's value `v196` of a pair's first head, for any head. -/
def hd_v196 (H : Head F) : FVec F S64x64 .bf16 := truncf .bf16 (hd_v42 H) bitsLt_bf16_f32

/-- The backward body's value `v197` of a pair's first head, for any head. -/
def hd_v197 (H : Head F) : FVec F S64x512 .bf16 := truncf .bf16 H.v bitsLt_bf16_f32

/-- The backward body's value `v198` of a pair's first head, for any head. -/
def hd_v198 (H : Head F) : FVec F S64x512 .bf16 := truncf .bf16 H.g bitsLt_bf16_f32

/-- The backward body's value `v199` of a pair's first head, for any head. -/
def hd_v199 (H : Head F) : FVec F S64x64 .f32 := matmul dot_S64x512_S64x512_S64x64_1_1_0_0_n_n none (hd_v198 H) (hd_v197 H) (constant S64x64 .f32 0x00000000#32)

/-- The backward body's value `v200` of a pair's first head, for any head. -/
def hd_v200 (H : Head F) : FVec F S64x512 .f32 := matmul dot_S64x64_S64x512_S64x512_0_0_1_1_n_n none (hd_v196 H) (hd_v198 H) (constant S64x512 .f32 0x00000000#32)

/-- The backward body's value `v201` of a pair's first head, for any head. -/
def hd_v201 (H : Head F) : FVec F S64x512 .f32 := addf (hd_v164 H) (hd_v200 H)

/-- The backward body's value `v202` of a pair's first head, for any head. -/
def hd_v202 (H : Head F) : FVec F S64x64 .f32 := mulf (hd_v35 H) (hd_v199 H)

/-- The backward body's value `v203` of a pair's first head, for any head. -/
def hd_v203 (H : Head F) : FVec F S64x64 .f32 := mulf (hd_v199 H) (hd_v41 H)

/-- The backward body's value `v204` of a pair's first head, for any head. -/
def hd_v204 (H : Head F) : FVec F S64x64 .f32 := mulf (hd_v202 H) (hd_v41 H)

/-- The backward body's value `v205` of a pair's first head, for any head. -/
def hd_v205 : FVec F S64x64 .f32 := broadcast S64x64 (Scalar.ofBits .f32 0x00000000#32)

/-- The backward body's value `v206` of a pair's first head, for any head. -/
def hd_v206 (H : Head F) : FVec F S64x64 .f32 := select hd_v27 (hd_v204 H) (hd_v205 (F := F))

/-- The backward body's value `v207` of a pair's first head, for any head. -/
def hd_v207 (H : Head F) : FVec F S64 .f32 := multiReduction .add [1] S64 (hd_v206 H) 0x00000000#32 reduces_S64x64_S64 (.inl rfl) rfl

/-- The backward body's value `v208` of a pair's first head, for any head. -/
def hd_v208 (H : Head F) : FVec F S64x1 .f32 := shapeCast S64x1 (hd_v207 H) shapeCasts_S64_S64x1

/-- The backward body's value `v209` of a pair's first head, for any head. -/
def hd_v209 : FVec F S64x64 .f32 := broadcast S64x64 (Scalar.ofBits .f32 0x00000000#32)

/-- The backward body's value `v210` of a pair's first head, for any head. -/
def hd_v210 (H : Head F) : FVec F S64x64 .f32 := subf (hd_v209 (F := F)) (hd_v206 H)

/-- The backward body's value `v211` of a pair's first head, for any head. -/
def hd_v211 (H : Head F) : FVec F S64 .f32 := multiReduction .add [0] S64 (hd_v210 H) 0x00000000#32 reduces_S64x64_S64_2 (.inl rfl) rfl

/-- The backward body's value `v212` of a pair's first head, for any head. -/
def hd_v212 (H : Head F) : FVec F S1x64 .f32 := shapeCast S1x64 (hd_v211 H) shapeCasts_S64_S1x64

/-- The backward body's value `v213` of a pair's first head, for any head. -/
def hd_v213 (H : Head F) : FVec F S64x1 .f32 := addf (hd_v189 H) (hd_v208 H)

/-- The backward body's value `v214` of a pair's first head, for any head. -/
def hd_v214 (H : Head F) : FVec F S64x256 .bf16 := truncf .bf16 H.q bitsLt_bf16_f32

/-- The backward body's value `v215` of a pair's first head, for any head. -/
def hd_v215 (H : Head F) : FVec F S64x256 .bf16 := truncf .bf16 H.k bitsLt_bf16_f32

/-- The backward body's value `v216` of a pair's first head, for any head. -/
def hd_v216 (H : Head F) : FVec F S64x64 .bf16 := truncf .bf16 (hd_v203 H) bitsLt_bf16_f32

/-- The backward body's value `v217` of a pair's first head, for any head. -/
def hd_v217 (H : Head F) : FVec F S64x256 .f32 := matmul dot_S64x64_S64x256_S64x256_1_0_0_1_n_n none (hd_v216 H) (hd_v215 H) (constant S64x256 .f32 0x00000000#32)

/-- The backward body's value `v218` of a pair's first head, for any head. -/
def hd_v218 (H : Head F) : FVec F S64x256 .f32 := matmul dot_S64x64_S64x256_S64x256_0_0_1_1_n_n none (hd_v216 H) (hd_v214 H) (constant S64x256 .f32 0x00000000#32)

/-- The backward body's value `v219` of a pair's first head, for any head. -/
def hd_v219 (H : Head F) : FVec F S64x256 .f32 := addf (hd_v193 H) (hd_v217 H)

/-- The backward body's value `v220` of a pair's first head, for any head. -/
def hd_v220 (H : Head F) : FVec F S64x256 .f32 := addf (hd_v161 H) (hd_v218 H)

/-- The backward body's value `v221` of a pair's first head, for any head. -/
def hd_v221 : FVec F S63x1 .f32 := broadcast S63x1 (Scalar.ofBits .f32 0x00000000#32)

/-- The backward body's value `v222` of a pair's first head, for any head. -/
def hd_v222 (H : Head F) : FVec F S64x1 .f32 := concatenate S64x1 0 [⟨S63x1, (hd_v221 (F := F))⟩, ⟨S1x1, (hd_v182 H)⟩] concatenates_S63x1_S1x1_S64x1_d0

/-- The backward body's value `v223` of a pair's first head, for any head. -/
def hd_v223 (H : Head F) : FVec F S64x1 .f32 := addf (hd_v213 H) (hd_v222 H)

/-- The backward body's value `v224` of a pair's first head, for any head. -/
def hd_v224 (H : Head F) : FVec F S1x64 .f32 := matmul dot_S1x64_S64x64_S1x64_1_0_0_1_n_n (some .fp32) (hd_v212 H) (hd_v29 (F := F)) (constant S1x64 .f32 0x00000000#32)

/-- The backward body's value `v225` of a pair's first head, for any head. -/
def hd_v225 (H : Head F) : FVec F S64x1 .f32 := transpose S64x1 [1, 0] (hd_v224 H) transposes_S1x64_p1_0_S64x1

/-- The backward body's value `v226` of a pair's first head, for any head. -/
def hd_v226 (H : Head F) : FVec F S1x64 .f32 := matmul dot_S64x1_S64x64_S1x64_0_0_1_1_n_n (some .fp32) (hd_v223 H) (hd_v29 (F := F)) (constant S1x64 .f32 0x00000000#32)

/-- The backward body's value `v227` of a pair's first head, for any head. -/
def hd_v227 (H : Head F) : FVec F S64x1 .f32 := transpose S64x1 [1, 0] (hd_v226 H) transposes_S1x64_p1_0_S64x1

/-- The backward body's value `v228` of a pair's first head, for any head. -/
def hd_v228 (H : Head F) : FVec F S64x1 .f32 := addf (hd_v225 H) (hd_v227 H)

/-- The forward body's new state of one head. -/
def hd_step (H : Head F) : FVec F S256x512 .f32 :=
  addf (mulf (broadcastTo S256x512 (hd_v47 H) broadcasts_S1x1_S256x512) H.S) (matmul dot_S64x256_S64x512_S256x512_0_0_1_1_n_n none (truncf .bf16 H.k bitsLt_bf16_f32) (truncf .bf16 (hd_v52 H) bitsLt_bf16_f32) (constant S256x512 .f32 0x00000000#32))

/-- The first head of a pair, from the blocks of the pair. -/
def headA (x0 : Vec F S64x512 .f32) (x1 : Vec F S64x512 .f32) (x2 : Vec F S64x1024 .f32) (x3 : Vec F S2x64x1 .f32) (T : Vec F S2x256x512 .f32) (x5 : Vec F S64x1024 .f32) (S : Vec F S2x256x512 .f32) : Head F := { q := (extractStridedSlice S64x256 ![0, 0] x0 slices_S64x512_o0_0_S64x256), k := (extractStridedSlice S64x256 ![0, 0] x1 slices_S64x512_o0_0_S64x256), v := (extractStridedSlice S64x512 ![0, 0] x2 slices_S64x1024_o0_0_S64x512), la := (shapeCast S64x1 (extractStridedSlice S1x64x1 ![0, 0, 0] x3 slices_S2x64x1_o0_0_0_S1x64x1) shapeCasts_S1x64x1_S64x1), S := (shapeCast S256x512 (extractStridedSlice S1x256x512 ![0, 0, 0] T slices_S2x256x512_o0_0_0_S1x256x512) shapeCasts_S1x256x512_S256x512), D := (shapeCast S256x512 (extractStridedSlice S1x256x512 ![0, 0, 0] S slices_S2x256x512_o0_0_0_S1x256x512) shapeCasts_S1x256x512_S256x512), g := (extractStridedSlice S64x512 ![0, 0] x5 slices_S64x1024_o0_0_S64x512) }

/-- The second head of a pair, from the blocks of the pair. -/
def headB (x0 : Vec F S64x512 .f32) (x1 : Vec F S64x512 .f32) (x2 : Vec F S64x1024 .f32) (x3 : Vec F S2x64x1 .f32) (T : Vec F S2x256x512 .f32) (x5 : Vec F S64x1024 .f32) (S : Vec F S2x256x512 .f32) : Head F := { q := (extractStridedSlice S64x256 ![0, 256] x0 slices_S64x512_o0_256_S64x256), k := (extractStridedSlice S64x256 ![0, 256] x1 slices_S64x512_o0_256_S64x256), v := (extractStridedSlice S64x512 ![0, 512] x2 slices_S64x1024_o0_512_S64x512), la := (shapeCast S64x1 (extractStridedSlice S1x64x1 ![1, 0, 0] x3 slices_S2x64x1_o1_0_0_S1x64x1) shapeCasts_S1x64x1_S64x1), S := (shapeCast S256x512 (extractStridedSlice S1x256x512 ![1, 0, 0] T slices_S2x256x512_o1_0_0_S1x256x512) shapeCasts_S1x256x512_S256x512), D := (shapeCast S256x512 (extractStridedSlice S1x256x512 ![1, 0, 0] S slices_S2x256x512_o1_0_0_S1x256x512) shapeCasts_S1x256x512_S256x512), g := (extractStridedSlice S64x512 ![0, 512] x5 slices_S64x1024_o0_512_S64x512) }

/-- The gradient of the queries of a pair of heads, from those of its two heads. -/
theorem bwdQ_eq (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) :
    bwdQ x0 x1 x2 x3 x4 x5 S = concatenate S64x512 1 [⟨S64x256, (hd_v219 (headA x0 x1 x2 x3 (shapeCast S2x256x512 x4 shapeCasts_S2x1x256x512_S2x256x512) x5 S))⟩, ⟨S64x256, (hd_v219 (headB x0 x1 x2 x3 (shapeCast S2x256x512 x4 shapeCasts_S2x1x256x512_S2x256x512) x5 S))⟩] concatenates_S64x256_S64x256_S64x512_d1 := rfl

/-- The gradient of the keys of a pair of heads, from those of its two heads. -/
theorem bwdK_eq (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) :
    bwdK x0 x1 x2 x3 x4 x5 S = concatenate S64x512 1 [⟨S64x256, (hd_v220 (headA x0 x1 x2 x3 (shapeCast S2x256x512 x4 shapeCasts_S2x1x256x512_S2x256x512) x5 S))⟩, ⟨S64x256, (hd_v220 (headB x0 x1 x2 x3 (shapeCast S2x256x512 x4 shapeCasts_S2x1x256x512_S2x256x512) x5 S))⟩] concatenates_S64x256_S64x256_S64x512_d1 := rfl

/-- The gradient of the values of a pair of heads, from those of its two heads. -/
theorem bwdV_eq (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) :
    bwdV x0 x1 x2 x3 x4 x5 S = concatenate S64x1024 1 [⟨S64x512, (hd_v201 (headA x0 x1 x2 x3 (shapeCast S2x256x512 x4 shapeCasts_S2x1x256x512_S2x256x512) x5 S))⟩, ⟨S64x512, (hd_v201 (headB x0 x1 x2 x3 (shapeCast S2x256x512 x4 shapeCasts_S2x1x256x512_S2x256x512) x5 S))⟩] concatenates_S64x512_S64x512_S64x1024_d1 := rfl

/-- The gradient of the log decays of a pair of heads, from those of its two heads. -/
theorem bwdA_eq (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) :
    bwdA x0 x1 x2 x3 x4 x5 S = concatenate S2x64x1 0 [⟨S1x64x1, (shapeCast S1x64x1 (hd_v228 (headA x0 x1 x2 x3 (shapeCast S2x256x512 x4 shapeCasts_S2x1x256x512_S2x256x512) x5 S)) shapeCasts_S64x1_S1x64x1)⟩, ⟨S1x64x1, (shapeCast S1x64x1 (hd_v228 (headB x0 x1 x2 x3 (shapeCast S2x256x512 x4 shapeCasts_S2x1x256x512_S2x256x512) x5 S)) shapeCasts_S64x1_S1x64x1)⟩] concatenates_S1x64x1_S1x64x1_S2x64x1_d0 := rfl

/-- The gradient of the state of a pair of heads, from those of its two heads. -/
theorem bwdS_eq (x0 : Vec F S64x512 .f32) (x1 : Vec F S64x512 .f32) (x2 : Vec F S64x1024 .f32) (x3 : Vec F S2x64x1 .f32) (x4 : Vec F S2x1x256x512 .f32) (x5 : Vec F S64x1024 .f32) (S : Vec F S2x256x512 .f32) :
    bwdS x0 x1 x2 x3 x4 x5 S = shapeCast S2x256x512 (concatenate S2x256x512 0 [⟨S1x256x512, (shapeCast S1x256x512 (hd_v195 (headA x0 x1 x2 x3 (shapeCast S2x256x512 x4 shapeCasts_S2x1x256x512_S2x256x512) x5 S)) shapeCasts_S256x512_S1x256x512)⟩, ⟨S1x256x512, (shapeCast S1x256x512 (hd_v195 (headB x0 x1 x2 x3 (shapeCast S2x256x512 x4 shapeCasts_S2x1x256x512_S2x256x512) x5 S)) shapeCasts_S256x512_S1x256x512)⟩] concatenates_S1x256x512_S1x256x512_S2x256x512_d0) shapeCasts_S2x256x512_S2x256x512 := rfl

/-- The forward body's new state of a pair of heads, from its two heads; `T` is the state before the chunk as it was saved. -/
theorem fwdS_eq (x0 : Vec F S64x512 .f32) (x1 : Vec F S64x512 .f32) (x2 : Vec F S64x1024 .f32) (x3 : Vec F S2x64x1 .f32) (x5 : Vec F S64x1024 .f32) (T S : Vec F S2x256x512 .f32) :
    fwdS x0 x1 x2 x3 T = shapeCast S2x256x512 (concatenate S2x256x512 0 [⟨S1x256x512, (shapeCast S1x256x512 (hd_step (headA x0 x1 x2 x3 T x5 S)) shapeCasts_S256x512_S1x256x512)⟩, ⟨S1x256x512, (shapeCast S1x256x512 (hd_step (headB x0 x1 x2 x3 T x5 S)) shapeCasts_S256x512_S1x256x512)⟩] concatenates_S1x256x512_S1x256x512_S2x256x512_d0) shapeCasts_S2x256x512_S2x256x512 := rfl

end Cert.KernelIdeal.Ret
-- ==== Proof.Scan.Spec.lean ====
module

public import Idealize.ShloMosaic.Lib.Pointwise

/-!
# The retention scan over the extended reals, one chunk of one head at a time

Both programs compute the same recursion. This file writes it with plain functions and finite sums: what one chunk makes
of the state before it (forward), and what it makes of the gradient of the state after it (backward).
-/

@[expose] public section

noncomputable section

namespace Cert.Scan

open Idealize.ShloMosaic

/-- One head's share of one chunk: its queries, keys, values and log decays, and the gradient of its output. -/
structure Piece where
  q : Fin 64 → Fin 256 → EReal
  k : Fin 64 → Fin 256 → EReal
  v : Fin 64 → Fin 512 → EReal
  la : Fin 64 → EReal
  g : Fin 64 → Fin 512 → EReal

/-- A state, or the gradient of one. -/
abbrev State := Fin 256 → Fin 512 → EReal

namespace Piece
variable (P : Piece) (S D : State)

/-- The log decay summed up to position `t`. -/
def cum (t : Fin 64) : EReal := ∑ u : Fin 64, if u ≤ t then P.la u else 0
/-- The log decay of the whole chunk. -/
def tot : EReal := P.cum 63
/-- The decay from position `s` to position `t`; zero when `s` comes after `t`. -/
def dec (t s : Fin 64) : EReal := Ideal.exp (if s ≤ t then P.cum t - P.cum s else ⊥)
/-- The decay from position `s` to the end of the chunk. -/
def toEnd (s : Fin 64) : EReal := Ideal.exp (P.tot - P.cum s)
/-- The score of query `t` against key `s`. -/
def sc (t s : Fin 64) : EReal := ∑ n : Fin 256, P.q t n * P.k s n
/-- The state after the chunk, from the state before it. -/
def step : State := fun n p => Ideal.exp P.tot * S n p + ∑ s : Fin 64, P.k s n * (P.toEnd s * P.v s p)
/-- What query `t` reads of the state before the chunk. -/
def u (t : Fin 64) (p : Fin 512) : EReal := ∑ n : Fin 256, P.q t n * S n p
/-- What key `s` reads of the gradient of the state after the chunk. -/
def gk (s : Fin 64) (p : Fin 512) : EReal := ∑ n : Fin 256, P.k s n * D n p
/-- The gradient of `tot − cum s`. -/
def ct (s : Fin 64) : EReal := (∑ p : Fin 512, P.gk D s p * P.v s p) * P.toEnd s
/-- The gradient of `tot`. -/
def last : EReal := (∑ s : Fin 64, P.ct D s) + (∑ n : Fin 256, ∑ p : Fin 512, D n p * S n p) * Ideal.exp P.tot
/-- The gradient of what query `t` read of the state before the chunk. -/
def du (t : Fin 64) (p : Fin 512) : EReal := P.g t p * Ideal.exp (P.cum t)
/-- The part of the gradient of `cum t` that comes from the read of the state. -/
def dg (t : Fin 64) : EReal := (∑ p : Fin 512, P.u S t p * P.g t p) * Ideal.exp (P.cum t)
/-- The gradient of the weight of value `s` in output `t`. -/
def dattn (t s : Fin 64) : EReal := ∑ p : Fin 512, P.g t p * P.v s p
/-- The gradient of the score. -/
def dsc (t s : Fin 64) : EReal := P.dattn t s * P.dec t s
/-- The gradient of `cum t − cum s`. -/
def dseg (t s : Fin 64) : EReal := if s ≤ t then P.sc t s * P.dattn t s * P.dec t s else 0
/-- The gradient of the queries. -/
def dq (t : Fin 64) (n : Fin 256) : EReal :=
  (∑ p : Fin 512, P.du t p * S n p) + ∑ s : Fin 64, P.dsc t s * P.k s n
/-- The gradient of the keys. -/
def dk (s : Fin 64) (n : Fin 256) : EReal :=
  (∑ p : Fin 512, P.toEnd s * P.v s p * D n p) + ∑ t : Fin 64, P.dsc t s * P.q t n
/-- The gradient of the values. -/
def dv (s : Fin 64) (p : Fin 512) : EReal :=
  P.toEnd s * P.gk D s p + ∑ t : Fin 64, P.sc t s * P.dec t s * P.g t p
/-- The gradient of `cum t`. -/
def dcum (t : Fin 64) : EReal :=
  -P.ct D t + (if t = 63 then P.last S D else 0) + P.dg S t + (∑ s : Fin 64, -P.dseg s t) + ∑ s : Fin 64, P.dseg t s
/-- The gradient of the log decays. -/
def dla (w : Fin 64) : EReal := ∑ t : Fin 64, if w ≤ t then P.dcum S D t else 0
/-- The gradient of the state before the chunk, from the gradient of the state after it. -/
def back : State := fun n p => Ideal.exp P.tot * D n p + ∑ t : Fin 64, P.q t n * P.du t p

end Piece

/-- The state before chunk `c`, from the chunks of one head. -/
def stateAt (P : ℕ → Piece) : ℕ → State
  | 0 => fun _ _ => 0
  | c + 1 => (P c).step (stateAt P c)

/-- The gradient of the state after chunk `35 − m`. -/
def gradAt (P : ℕ → Piece) : ℕ → State
  | 0 => fun _ _ => 0
  | m + 1 => (P (35 - m)).back (gradAt P m)

/-- The sum of the terms a 0/1 mask keeps. -/
theorem mul_ite_one (p : Prop) [Decidable p] (x : EReal) : (x * if p then (1 : EReal) else 0) = if p then x else 0 := by
  split <;> simp

/-- The same with the mask first. -/
theorem ite_one_mul (p : Prop) [Decidable p] (x : EReal) : ((if p then (1 : EReal) else 0) * x) = if p then x else 0 := by
  split <;> simp

/-- The most negative number's bits denote minus infinity. -/
theorem negInf : Ideal.ofBits .f32 0xFF800000#32 = ⊥ := by
  simp [Ideal.ofBits, Ideal.ieee]

end Cert.Scan
-- ==== Proof.Ker.HeadValue.lean ====
module

public import proofs.«01_k».proof.Proof.Ker.Head
public import proofs.«01_k».proof.Proof.Scan.Spec

/-!
# One head of the two kernel bodies over the extended reals

Each value of a head, read at an index, is the recursion's value of the same name.
-/

@[expose] public section

noncomputable section

namespace Cert.KernelIdeal.Ret

open Idealize.ShloMosaic
open Cert.KernelIdeal Idealize.ShloMosaic.TcCoe
open Cert.KernelIdeal.Gen

/-- What a head's arrays hold, as one piece of the recursion. -/
def Head.piece (H : Head Ideal) : Cert.Scan.Piece where
  q t n := H.q (ix2 t n)
  k t n := H.k (ix2 t n)
  v t p := H.v (ix2 t p)
  la t := H.la (ix2 t 0)
  g t p := H.g (ix2 t p)

/-- The head's state before the chunk. -/
def Head.before (H : Head Ideal) : Cert.Scan.State := fun n p => H.S (ix2 n p)
/-- The head's gradient of the state after the chunk. -/
def Head.after (H : Head Ideal) : Cert.Scan.State := fun n p => H.D (ix2 n p)

variable (H : Head Ideal)

/-- The mask keeps the positions up to `t`. -/
theorem hd_v27_at (t s : Fin 64) : hd_v27 (ix2 t s) = if s ≤ t then 1#1 else 0#1 := by
  pointwise [hd_v27, hd_v25, hd_v26]
  revert s t
  decide +kernel

/-- The mask as numbers. -/
theorem hd_v29_at (t s : Fin 64) : hd_v29 (F := Ideal) (ix2 t s) = if s ≤ t then (1 : EReal) else 0 := by
  pointwise [hd_v29, hd_v28]
  rw [hd_v27_at]
  split
  · show (((BitVec.setWidth 32 1#1).toInt : ℝ) : EReal) = 1
    norm_num
  · show (((BitVec.setWidth 32 0#1).toInt : ℝ) : EReal) = 0
    norm_num

theorem hd_v30_at (t : Fin 64) : hd_v30 H (ix2 t 0) = H.piece.cum t := by
  pointwise [hd_v30]
  simp only [hd_v29_at, Cert.Scan.ite_one_mul]
  rfl

theorem hd_v31_at (t : Fin 64) : hd_v31 H (ix2 0 t) = H.piece.cum t := by
  pointwise [hd_v31]
  simp only [hd_v29_at, Cert.Scan.mul_ite_one]
  rfl

theorem hd_v32_at : hd_v32 H (ix2 0 0) = H.piece.tot := by
  pointwise [hd_v32]
  exact hd_v30_at H 63

theorem hd_v35_at (t s : Fin 64) : hd_v35 H (ix2 t s) = H.piece.sc t s := by
  pointwise [hd_v35, hd_v33, hd_v34]
  rfl

theorem hd_v41_at (t s : Fin 64) : hd_v41 H (ix2 t s) = H.piece.dec t s := by
  pointwise [hd_v41, hd_v40, hd_v39, hd_v38, hd_v37, hd_v36]
  rw [hd_v27_at, hd_v30_at, hd_v31_at, Cert.Scan.negInf]
  unfold Cert.Scan.Piece.dec
  split <;> rfl

theorem hd_v42_at (t s : Fin 64) : hd_v42 H (ix2 t s) = H.piece.sc t s * H.piece.dec t s := by
  pointwise [hd_v42]
  rw [hd_v35_at, hd_v41_at]

theorem hd_v45_at (t : Fin 64) (p : Fin 512) : hd_v45 H (ix2 t p) = H.piece.u H.before t p := by
  pointwise [hd_v45, hd_v43, hd_v44]
  rfl

theorem hd_v46_at (t : Fin 64) : hd_v46 H (ix2 t 0) = Ideal.exp (H.piece.cum t) := by
  pointwise [hd_v46]
  rw [hd_v30_at]

theorem hd_v47_at : hd_v47 H (ix2 0 0) = Ideal.exp H.piece.tot := by
  pointwise [hd_v47]
  rw [hd_v32_at]

theorem hd_v50_at (t : Fin 64) : hd_v50 H (ix2 t 0) = H.piece.toEnd t := by
  pointwise [hd_v50, hd_v49, hd_v48]
  rw [hd_v32_at, hd_v30_at]
  rfl

theorem hd_v52_at (s : Fin 64) (p : Fin 512) : hd_v52 H (ix2 s p) = H.piece.toEnd s * H.piece.v s p := by
  pointwise [hd_v52, hd_v51]
  rw [hd_v50_at]
  rfl

theorem hd_step_at (n : Fin 256) (p : Fin 512) : hd_step H (ix2 n p) = H.piece.step H.before n p := by
  pointwise [hd_step]
  simp only [hd_v47_at, hd_v52_at]
  rfl

theorem hd_v161_at (s : Fin 64) (n : Fin 256) :
    hd_v161 H (ix2 s n) = ∑ p : Fin 512, H.piece.toEnd s * H.piece.v s p * H.after n p := by
  pointwise [hd_v161, hd_v159, hd_v160]
  simp only [hd_v52_at]
  rfl

theorem hd_v162_at (s : Fin 64) (p : Fin 512) : hd_v162 H (ix2 s p) = H.piece.gk H.after s p := by
  pointwise [hd_v162, hd_v158, hd_v160]
  rfl

theorem hd_v168_at (s : Fin 64) : hd_v168 H (ix2 s 0) = H.piece.ct H.after s := by
  pointwise [hd_v168, hd_v167, hd_v166, hd_v165]
  simp only [hd_v162_at, hd_v50_at]
  rfl

theorem hd_v170_at : hd_v170 H (ix2 0 0) = ∑ s : Fin 64, H.piece.ct H.after s := by
  pointwise [hd_v170, hd_v169]
  simp only [hd_v168_at]

theorem hd_v182_at : hd_v182 H (ix2 0 0) = H.piece.last H.before H.after := by
  pointwise [hd_v182, hd_v181, hd_v180, hd_v179, hd_v178, hd_v177, hd_v176, hd_v175]
  rw [hd_v170_at, hd_v47_at]
  rfl

theorem hd_v187_at (t : Fin 64) (p : Fin 512) : hd_v187 H (ix2 t p) = H.piece.du t p := by
  pointwise [hd_v187, hd_v186]
  rw [hd_v46_at]
  rfl

theorem hd_v188_at (t : Fin 64) : hd_v188 H (ix2 t 0) = H.piece.dg H.before t := by
  pointwise [hd_v188, hd_v185, hd_v184, hd_v183]
  simp only [hd_v45_at, hd_v46_at]
  rfl

/-- The gradient of the head's state before the chunk. -/
theorem hd_v195_at (n : Fin 256) (p : Fin 512) : hd_v195 H (ix2 n p) = H.piece.back H.after n p := by
  pointwise [hd_v195, hd_v194, hd_v192, hd_v190, hd_v174, hd_v173]
  simp only [hd_v47_at, hd_v187_at]
  rfl

theorem hd_v199_at (t s : Fin 64) : hd_v199 H (ix2 t s) = H.piece.dattn t s := by
  pointwise [hd_v199, hd_v198, hd_v197]
  rfl

/-- The gradient of the head's values. -/
theorem hd_v201_at (s : Fin 64) (p : Fin 512) : hd_v201 H (ix2 s p) = H.piece.dv H.after s p := by
  pointwise [hd_v201, hd_v200, hd_v198, hd_v196, hd_v164, hd_v163]
  simp only [hd_v50_at, hd_v162_at, hd_v42_at]
  rfl

theorem hd_v203_at (t s : Fin 64) : hd_v203 H (ix2 t s) = H.piece.dsc t s := by
  pointwise [hd_v203]
  rw [hd_v199_at, hd_v41_at]
  rfl

theorem hd_v206_at (t s : Fin 64) : hd_v206 H (ix2 t s) = H.piece.dseg t s := by
  pointwise [hd_v206, hd_v205, hd_v204, hd_v202]
  rw [hd_v27_at, hd_v35_at, hd_v199_at, hd_v41_at]
  unfold Cert.Scan.Piece.dseg
  split <;> rfl

/-- The gradient of the head's queries. -/
theorem hd_v219_at (t : Fin 64) (n : Fin 256) : hd_v219 H (ix2 t n) = H.piece.dq H.before t n := by
  pointwise [hd_v219, hd_v217, hd_v216, hd_v215, hd_v193, hd_v192, hd_v191]
  simp only [hd_v187_at, hd_v203_at]
  rfl

/-- The gradient of the head's keys. -/
theorem hd_v220_at (s : Fin 64) (n : Fin 256) : hd_v220 H (ix2 s n) = H.piece.dk H.after s n := by
  pointwise [hd_v220, hd_v218, hd_v216, hd_v214]
  simp only [hd_v161_at, hd_v203_at]
  rfl

theorem hd_v212_at (s : Fin 64) : hd_v212 H (ix2 0 s) = ∑ t : Fin 64, -H.piece.dseg t s := by
  pointwise [hd_v212, hd_v211, hd_v210, hd_v209]
  simp only [hd_v206_at, zero_sub]

theorem hd_v223_at (t : Fin 64) : hd_v223 H (ix2 t 0)
    = -H.piece.ct H.after t + H.piece.dg H.before t + (∑ s : Fin 64, H.piece.dseg t s)
      + (if t = 63 then H.piece.last H.before H.after else 0) := by
  pointwise [hd_v223, hd_v222, hd_v221, hd_v213, hd_v208, hd_v207, hd_v189, hd_v172, hd_v171]
  simp only [hd_v206_at, hd_v168_at, hd_v188_at, zero_sub]
  congr 1
  rcases t with ⟨t, ht⟩
  by_cases h : t < 63
  · have h' : (⟨t, ht⟩ : Fin 64) ≠ 63 := fun e => by
      have := congrArg Fin.val e
      simp at this
      omega
    rw [dif_pos h, if_neg h']
  · have h' : t = 63 := by omega
    subst h'
    rw [dif_neg h]
    exact (hd_v182_at H).trans (if_pos rfl).symm

/-- The gradient of the head's log decays. -/
theorem hd_v228_at (w : Fin 64) : hd_v228 H (ix2 w 0) = H.piece.dla H.before H.after w := by
  pointwise [hd_v228, hd_v227, hd_v226, hd_v225, hd_v224]
  simp only [hd_v212_at, hd_v223_at, hd_v29_at, Cert.Scan.mul_ite_one]
  unfold Cert.Scan.Piece.dla Cert.Scan.Piece.dcum
  rw [← Finset.sum_add_distrib]
  refine Finset.sum_congr rfl fun t _ => ?_
  split
  · ac_rfl
  · simp

end Cert.KernelIdeal.Ret
-- ==== Proof.Ker.Data.lean ====
module

public import proofs.«01_k».proof.Proof.Ker.Body
public import proofs.«01_k».proof.Proof.Gen.KernelIdeal.Regions
public import Idealize.ShloMosaic.Lib.Pipeline.FrameTail
public import Idealize.ShloMosaic.Lib.Pipeline.RegionArraysS

/-!
# What the two kernel calls hold point by point

The grid has 144 points, 36 for each pair of heads. Before the first point of a pair the scratch is set to zero; at any
other point it holds what the point before left. This module names that state after every point, gives each call's proof
data over ANY contents `V` of the buffers at its entry, and discharges each call's body obligation.
-/

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F)) (c : Dev nD)

/-! ## The forward call -/

/-- The block of window `w` at point `t`, read off its array as the call finds it. -/
def blk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The scratch after point `n`. -/
def aft0 : (n : ℕ) → n < cfg0.N → Vec F S2x256x512 .f32
  | 0, h => fwdS (blk0 V 0 ⟨0, h⟩) (blk0 V 1 ⟨0, h⟩) (blk0 V 2 ⟨0, h⟩) (blk0 V 3 ⟨0, h⟩) (k0_pay3 (F := F))
  | n + 1, h => fwdS (blk0 V 0 ⟨n + 1, h⟩) (blk0 V 1 ⟨n + 1, h⟩) (blk0 V 2 ⟨n + 1, h⟩) (blk0 V 3 ⟨n + 1, h⟩) (if (n + 1) % 36 = 0 then k0_pay3 (F := F) else aft0 n (Nat.lt_of_succ_lt h))

/-- The scratch a point's body works from: zero at the first point of a pair of heads, else what the point before left. -/
def pre0 (t : Fin cfg0.N) : Vec F S2x256x512 .f32 :=
  if t.val % 36 = 0 then k0_pay3 (F := F) else aft0 V (t.val - 1) (lt_of_le_of_lt (Nat.sub_le _ _) t.isLt)

/-- At the first point of a pair of heads the body works from zero. -/
theorem pre0_first (t : Fin cfg0.N) (h : t.val % 36 = 0) : pre0 V t = k0_pay3 (F := F) := if_pos h

/-- At any other point the body works from what the point before left. -/
theorem pre0_next (t : Fin cfg0.N) (h : ¬ t.val % 36 = 0) :
    pre0 V t = aft0 V (t.val - 1) (lt_of_le_of_lt (Nat.sub_le _ _) t.isLt) := if_neg h

/-- The scratch after a point is the body's function of the point's blocks and the scratch before it. -/
theorem aft0_eq (t : Fin cfg0.N) : aft0 V t.val t.isLt = fwdS (blk0 V 0 t) (blk0 V 1 t) (blk0 V 2 t) (blk0 V 3 t) (pre0 V t) := by
  obtain ⟨n, hn⟩ := t
  cases n with
  | zero => rfl
  | succ n => rfl

/-- The call's scratch buffer. -/
abbrev scr0 : Memref sig .tc .vmem S2x256x512 .f32 := Memref.whole cc0_scratch0

/-- The scoped buffers that are neither staging buffers of this call nor its scratch, at anything. -/
abbrev oth0 : sProp 𝕄 := Pipeline.scopedRestBut (Ix := Unit) (Name := ℕ) (U := UR sig nD τ) (Lvl := ℕ) (Val := Elt F) spec0 c [cc0_scratch0]

/-- The scoped buffers no window stages are the call's scratch and the others. -/
theorem scoped0_split : (Pipeline.scopedRest (Ix := Unit) (Name := ℕ) (U := UR sig nD τ) (Lvl := ℕ) (Val := Elt F) spec0 c : sProp 𝕄)
    = iprop((∃ d, owns (c : Thread nD τ) scr0 fullShare d) ∗ oth0 (F := F) c) := by
  rw [Pipeline.scopedRest_split_of_list spec0 c [cc0_scratch0] (by decide) (by decide)]
  simp only [owns_whole]; rfl

/-- What is carried from point to point: before the first point the scratch holds anything, afterwards what the last
    point left; beside it the other scoped buffers and the generator's register at anything. -/
def Phi0 : (n : ℕ) → n ≤ cfg0.N → sProp 𝕄
  | 0, _ => iprop((∃ d, owns (c : Thread nD τ) scr0 fullShare d) ∗ oth0 (F := F) c ∗ ∃ r, prngReg c r)
  | n + 1, h => iprop(owns (c : Thread nD τ) scr0 fullShare (aft0 V n h) ∗ oth0 (F := F) c ∗ ∃ r, prngReg c r)

/-- Whatever the point, the scratch holds something. -/
theorem Phi0_any (n : ℕ) (h : n ≤ cfg0.N) :
    Phi0 V c n h ⊢ iprop((∃ d, owns (c : Thread nD τ) scr0 fullShare d) ∗ oth0 (F := F) c ∗ ∃ r, prngReg c r) := by
  cases n with
  | zero => exact .rfl
  | succ n =>
    show iprop(owns (c : Thread nD τ) scr0 fullShare (aft0 V n h) ∗ oth0 (F := F) c ∗ ∃ r, prngReg c r) ⊢ _
    iintro ⟨Hs, Hr⟩
    isplitl [Hs]; · iexists _; iexact Hs
    iexact Hr

/-- Before a point that does not start a pair of heads, the scratch holds what the body works from. -/
theorem Phi0_next (t : Fin cfg0.N) (h : ¬ t.val % 36 = 0) :
    Phi0 V c t.val (Nat.le_of_lt t.isLt)
      = iprop(owns (c : Thread nD τ) scr0 fullShare (pre0 V t) ∗ oth0 (F := F) c ∗ ∃ r, prngReg c r) := by
  rw [pre0_next V t h]
  obtain ⟨n, hn⟩ := t
  cases n with
  | zero => exact absurd (Nat.zero_mod _) h
  | succ n => rfl

/-- The call's proof data over the entry contents `V`: every input's buffer stays at its block, every output's buffer
    ends at the body's value; nothing is owed. -/
def dat0 : Dat τ (Elt F) Unit ℕ (UR sig nD τ) ℕ cfg0 c where
  A w := V (Proc.devRef .tc (Pipeline.arrRef spec0 w))
  after w t := match w with
    | ⟨0, _⟩ => blk0 V 0 t
    | ⟨1, _⟩ => blk0 V 1 t
    | ⟨2, _⟩ => blk0 V 2 t
    | ⟨3, _⟩ => blk0 V 3 t
    | ⟨4, _⟩ => fwdY (blk0 V 0 t) (blk0 V 1 t) (blk0 V 2 t) (blk0 V 3 t) (pre0 V t)
    | ⟨5, _⟩ => fwdSave (pre0 V t)
  Φ t := Phi0 V c t.val (Nat.le_of_lt_succ t.isLt)
  q _ := fullShare
  owed _ := 0

/-- The proof data enter every array at `V`. -/
theorem dat0_A (w : Fin cfg0.W) : (dat0 V c).A w = V (Proc.devRef .tc (Pipeline.arrRef spec0 w)) := by
  dsimp only [dat0]

/-- What the body leaves in window 0's buffer: its block. -/
theorem dat0_after_0 (t : Fin cfg0.N) : (dat0 V c).after 0 t = blk0 V 0 t := by dsimp only [dat0]
/-- What the body leaves in window 1's buffer: its block. -/
theorem dat0_after_1 (t : Fin cfg0.N) : (dat0 V c).after 1 t = blk0 V 1 t := by dsimp only [dat0]
/-- What the body leaves in window 2's buffer: its block. -/
theorem dat0_after_2 (t : Fin cfg0.N) : (dat0 V c).after 2 t = blk0 V 2 t := by dsimp only [dat0]
/-- What the body leaves in window 3's buffer: its block. -/
theorem dat0_after_3 (t : Fin cfg0.N) : (dat0 V c).after 3 t = blk0 V 3 t := by dsimp only [dat0]
/-- What the body leaves in window 4's buffer. -/
theorem dat0_after_4 (t : Fin cfg0.N) : (dat0 V c).after 4 t = fwdY (blk0 V 0 t) (blk0 V 1 t) (blk0 V 2 t) (blk0 V 3 t) (pre0 V t) := by dsimp only [dat0]
/-- What the body leaves in window 5's buffer. -/
theorem dat0_after_5 (t : Fin cfg0.N) : (dat0 V c).after 5 t = fwdSave (pre0 V t) := by dsimp only [dat0]
/-- Window 0's buffer holds its block when the body is called. -/
theorem dat0_before_0 (t : Fin cfg0.N) (d) : (dat0 V c).before 0 t d = blk0 V 0 t :=
  ((dat0 V c).before_in_eq_fetched 0 rfl (fun _ => rfl) (fun _ _ _ => rfl)
      (fun t => by rw [dat0_after_0]; unfold Dat.blockOf blk0; rw [dat0_A]) t d).trans
    (by unfold Dat.fetched Dat.blockOf blk0; rw [dat0_A]; try rfl)
/-- Window 1's buffer holds its block when the body is called. -/
theorem dat0_before_1 (t : Fin cfg0.N) (d) : (dat0 V c).before 1 t d = blk0 V 1 t :=
  ((dat0 V c).before_in_eq_fetched 1 rfl (fun _ => rfl) (fun _ _ _ => rfl)
      (fun t => by rw [dat0_after_1]; unfold Dat.blockOf blk0; rw [dat0_A]) t d).trans
    (by unfold Dat.fetched Dat.blockOf blk0; rw [dat0_A]; try rfl)
/-- Window 2's buffer holds its block when the body is called. -/
theorem dat0_before_2 (t : Fin cfg0.N) (d) : (dat0 V c).before 2 t d = blk0 V 2 t :=
  ((dat0 V c).before_in_eq_fetched 2 rfl (fun _ => rfl) (fun _ _ _ => rfl)
      (fun t => by rw [dat0_after_2]; unfold Dat.blockOf blk0; rw [dat0_A]) t d).trans
    (by unfold Dat.fetched Dat.blockOf blk0; rw [dat0_A]; try rfl)
/-- Window 3's buffer holds its block when the body is called. -/
theorem dat0_before_3 (t : Fin cfg0.N) (d) : (dat0 V c).before 3 t d = blk0 V 3 t :=
  ((dat0 V c).before_in_eq_fetched 3 rfl (fun _ => rfl) (fun _ _ _ => rfl)
      (fun t => by rw [dat0_after_3]; unfold Dat.blockOf blk0; rw [dat0_A]) t d).trans
    (by unfold Dat.fetched Dat.blockOf blk0; rw [dat0_A]; try rfl)

/-- What the body is called with at point `t`. -/
def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body returns at point `t`. -/
def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 3200000 in
/-- The body at any point takes what it is called with to what it returns. -/
theorem body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before_0, dat0_before_1, dat0_before_2, dat0_before_3]
  rw [show (dat0 V c).owesAt () t.succ = (dat0 V c).owesAt () t.castSucc from rfl, dat0_after_0, dat0_after_1, dat0_after_2, dat0_after_3, dat0_after_4, dat0_after_5]
  rw [show (dat0 V c).Φ t.succ = iprop(owns (c : Thread nD τ) scr0 fullShare (aft0 V t.val t.isLt) ∗ oth0 (F := F) c ∗ ∃ r, prngReg c r) from rfl,
    show (dat0 V c).Φ t.castSucc = Phi0 V c t.val (Nat.le_of_lt t.isLt) from rfl, aft0_eq V t]
  by_cases h0 : t.val % 36 = 0
  · rw [pre0_first V t h0]
    refine (sep_mono (Phi0_any V c _ _) .rfl).trans ?_
    iintro ⟨⟨Hs, Hr⟩, Ho, ⟨%d0, H0⟩, ⟨%d1, H1⟩, ⟨%d2, H2⟩, ⟨%d3, H3⟩, ⟨%d4, H4⟩, ⟨%d5, H5⟩⟩
    iapply (fwd_first c (grid0.coords t) _ _ _ _ _ _ _ _ _ _ _ _ _ _ ((first0_iff t).mpr h0) (blk0 V 0 t) (blk0 V 1 t) (blk0 V 2 t) (blk0 V 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexact Hs
    iintro ⟨H0, H1, H2, H3, H4, H5, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [Phi0_next V c t h0]
    iintro ⟨⟨Hs, Hr⟩, Ho, ⟨%d0, H0⟩, ⟨%d1, H1⟩, ⟨%d2, H2⟩, ⟨%d3, H3⟩, ⟨%d4, H4⟩, ⟨%d5, H5⟩⟩
    iapply (fwd_next c (grid0.coords t) _ _ _ _ _ _ _ _ _ _ _ _ _ _ (fun h => h0 ((first0_iff t).mp h)) (blk0 V 0 t) (blk0 V 1 t) (blk0 V 2 t) (blk0 V 3 t) (pre0 V t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexact Hs
    iintro ⟨H0, H1, H2, H3, H4, H5, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body. -/
theorem row0 (t : Fin cfg0.N) : defs₀ (F := F) .tc cfg0.body (cfg0.bodyArgs t (cfg0.slots t)) = bodyAt0 t := by
  unfold defs₀; rw [Defs.onTc_tc]

/-- The call's body obligation. -/
theorem oblig0 : BodyObligation (dat0 V c) (defs₀ (F := F)) Variants.none () Set.univ := fun t => by
  rw [bigSep_W0, bigSep_W0, row0]
  exact triple_restated (body0 V c t) rfl .rfl fun _ => .rfl

/-- What the call is entered with gives what is carried before the first point. -/
theorem enter0 : iprop(Pipeline.scopedRest spec0 c ∗ (∃ r, prngReg c r)) ⊢ (dat0 V c).Φ 0 := by
  rw [show (dat0 V c).Φ 0 = iprop((∃ d, owns (c : Thread nD τ) scr0 fullShare d) ∗ oth0 (F := F) c ∗ ∃ r, prngReg c r) from rfl, scoped0_split]
  iintro ⟨⟨Hs, Ho⟩, Hg⟩
  isplitl [Hs]; · iexact Hs
  isplitl [Ho]; · iexact Ho
  iexact Hg

/-- What is carried after the last point gives back what the call was entered with. -/
theorem leave0 : (dat0 V c).Φ (Fin.last cfg0.N) ⊢ iprop(Pipeline.scopedRest spec0 c ∗ (∃ r, prngReg c r)) := by
  refine (show (dat0 V c).Φ (Fin.last cfg0.N) ⊢ _ from Phi0_any V c cfg0.N le_rfl).trans ?_
  rw [scoped0_split]
  iintro ⟨Hs, Ho, Hg⟩
  isplitl [Hs Ho]
  · isplitl [Hs]; · iexact Hs
    iexact Ho
  iexact Hg

/-! ## The backward call -/

/-- The block of window `w` at point `t`, read off its array as the call finds it. -/
def blk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The scratch after point `n`. -/
def aft1 : (n : ℕ) → n < cfg1.N → Vec F S2x256x512 .f32
  | 0, h => bwdS (blk1 V 0 ⟨0, h⟩) (blk1 V 1 ⟨0, h⟩) (blk1 V 2 ⟨0, h⟩) (blk1 V 3 ⟨0, h⟩) (blk1 V 4 ⟨0, h⟩) (blk1 V 5 ⟨0, h⟩) (k1_pay7 (F := F))
  | n + 1, h => bwdS (blk1 V 0 ⟨n + 1, h⟩) (blk1 V 1 ⟨n + 1, h⟩) (blk1 V 2 ⟨n + 1, h⟩) (blk1 V 3 ⟨n + 1, h⟩) (blk1 V 4 ⟨n + 1, h⟩) (blk1 V 5 ⟨n + 1, h⟩) (if (n + 1) % 36 = 0 then k1_pay7 (F := F) else aft1 n (Nat.lt_of_succ_lt h))

/-- The scratch a point's body works from: zero at the first point of a pair of heads, else what the point before left. -/
def pre1 (t : Fin cfg1.N) : Vec F S2x256x512 .f32 :=
  if t.val % 36 = 0 then k1_pay7 (F := F) else aft1 V (t.val - 1) (lt_of_le_of_lt (Nat.sub_le _ _) t.isLt)

/-- At the first point of a pair of heads the body works from zero. -/
theorem pre1_first (t : Fin cfg1.N) (h : t.val % 36 = 0) : pre1 V t = k1_pay7 (F := F) := if_pos h

/-- At any other point the body works from what the point before left. -/
theorem pre1_next (t : Fin cfg1.N) (h : ¬ t.val % 36 = 0) :
    pre1 V t = aft1 V (t.val - 1) (lt_of_le_of_lt (Nat.sub_le _ _) t.isLt) := if_neg h

/-- The scratch after a point is the body's function of the point's blocks and the scratch before it. -/
theorem aft1_eq (t : Fin cfg1.N) : aft1 V t.val t.isLt = bwdS (blk1 V 0 t) (blk1 V 1 t) (blk1 V 2 t) (blk1 V 3 t) (blk1 V 4 t) (blk1 V 5 t) (pre1 V t) := by
  obtain ⟨n, hn⟩ := t
  cases n with
  | zero => rfl
  | succ n => rfl

/-- The call's scratch buffer. -/
abbrev scr1 : Memref sig .tc .vmem S2x256x512 .f32 := Memref.whole cc1_scratch0

/-- The scoped buffers that are neither staging buffers of this call nor its scratch, at anything. -/
abbrev oth1 : sProp 𝕄 := Pipeline.scopedRestBut (Ix := Unit) (Name := ℕ) (U := UR sig nD τ) (Lvl := ℕ) (Val := Elt F) spec1 c [cc1_scratch0]

/-- The scoped buffers no window stages are the call's scratch and the others. -/
theorem scoped1_split : (Pipeline.scopedRest (Ix := Unit) (Name := ℕ) (U := UR sig nD τ) (Lvl := ℕ) (Val := Elt F) spec1 c : sProp 𝕄)
    = iprop((∃ d, owns (c : Thread nD τ) scr1 fullShare d) ∗ oth1 (F := F) c) := by
  rw [Pipeline.scopedRest_split_of_list spec1 c [cc1_scratch0] (by decide) (by decide)]
  simp only [owns_whole]; rfl

/-- What is carried from point to point: before the first point the scratch holds anything, afterwards what the last
    point left; beside it the other scoped buffers and the generator's register at anything. -/
def Phi1 : (n : ℕ) → n ≤ cfg1.N → sProp 𝕄
  | 0, _ => iprop((∃ d, owns (c : Thread nD τ) scr1 fullShare d) ∗ oth1 (F := F) c ∗ ∃ r, prngReg c r)
  | n + 1, h => iprop(owns (c : Thread nD τ) scr1 fullShare (aft1 V n h) ∗ oth1 (F := F) c ∗ ∃ r, prngReg c r)

/-- Whatever the point, the scratch holds something. -/
theorem Phi1_any (n : ℕ) (h : n ≤ cfg1.N) :
    Phi1 V c n h ⊢ iprop((∃ d, owns (c : Thread nD τ) scr1 fullShare d) ∗ oth1 (F := F) c ∗ ∃ r, prngReg c r) := by
  cases n with
  | zero => exact .rfl
  | succ n =>
    show iprop(owns (c : Thread nD τ) scr1 fullShare (aft1 V n h) ∗ oth1 (F := F) c ∗ ∃ r, prngReg c r) ⊢ _
    iintro ⟨Hs, Hr⟩
    isplitl [Hs]; · iexists _; iexact Hs
    iexact Hr

/-- Before a point that does not start a pair of heads, the scratch holds what the body works from. -/
theorem Phi1_next (t : Fin cfg1.N) (h : ¬ t.val % 36 = 0) :
    Phi1 V c t.val (Nat.le_of_lt t.isLt)
      = iprop(owns (c : Thread nD τ) scr1 fullShare (pre1 V t) ∗ oth1 (F := F) c ∗ ∃ r, prngReg c r) := by
  rw [pre1_next V t h]
  obtain ⟨n, hn⟩ := t
  cases n with
  | zero => exact absurd (Nat.zero_mod _) h
  | succ n => rfl

/-- The call's proof data over the entry contents `V`: every input's buffer stays at its block, every output's buffer
    ends at the body's value; nothing is owed. -/
def dat1 : Dat τ (Elt F) Unit ℕ (UR sig nD τ) ℕ cfg1 c where
  A w := V (Proc.devRef .tc (Pipeline.arrRef spec1 w))
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => blk1 V 5 t
    | ⟨6, _⟩ => bwdQ (blk1 V 0 t) (blk1 V 1 t) (blk1 V 2 t) (blk1 V 3 t) (blk1 V 4 t) (blk1 V 5 t) (pre1 V t)
    | ⟨7, _⟩ => bwdK (blk1 V 0 t) (blk1 V 1 t) (blk1 V 2 t) (blk1 V 3 t) (blk1 V 4 t) (blk1 V 5 t) (pre1 V t)
    | ⟨8, _⟩ => bwdV (blk1 V 0 t) (blk1 V 1 t) (blk1 V 2 t) (blk1 V 3 t) (blk1 V 4 t) (blk1 V 5 t) (pre1 V t)
    | ⟨9, _⟩ => bwdA (blk1 V 0 t) (blk1 V 1 t) (blk1 V 2 t) (blk1 V 3 t) (blk1 V 4 t) (blk1 V 5 t) (pre1 V t)
  Φ t := Phi1 V c t.val (Nat.le_of_lt_succ t.isLt)
  q _ := fullShare
  owed _ := 0

/-- The proof data enter every array at `V`. -/
theorem dat1_A (w : Fin cfg1.W) : (dat1 V c).A w = V (Proc.devRef .tc (Pipeline.arrRef spec1 w)) := by
  dsimp only [dat1]

/-- What the body leaves in window 0's buffer: its block. -/
theorem dat1_after_0 (t : Fin cfg1.N) : (dat1 V c).after 0 t = blk1 V 0 t := by dsimp only [dat1]
/-- What the body leaves in window 1's buffer: its block. -/
theorem dat1_after_1 (t : Fin cfg1.N) : (dat1 V c).after 1 t = blk1 V 1 t := by dsimp only [dat1]
/-- What the body leaves in window 2's buffer: its block. -/
theorem dat1_after_2 (t : Fin cfg1.N) : (dat1 V c).after 2 t = blk1 V 2 t := by dsimp only [dat1]
/-- What the body leaves in window 3's buffer: its block. -/
theorem dat1_after_3 (t : Fin cfg1.N) : (dat1 V c).after 3 t = blk1 V 3 t := by dsimp only [dat1]
/-- What the body leaves in window 4's buffer: its block. -/
theorem dat1_after_4 (t : Fin cfg1.N) : (dat1 V c).after 4 t = blk1 V 4 t := by dsimp only [dat1]
/-- What the body leaves in window 5's buffer: its block. -/
theorem dat1_after_5 (t : Fin cfg1.N) : (dat1 V c).after 5 t = blk1 V 5 t := by dsimp only [dat1]
/-- What the body leaves in window 6's buffer. -/
theorem dat1_after_6 (t : Fin cfg1.N) : (dat1 V c).after 6 t = bwdQ (blk1 V 0 t) (blk1 V 1 t) (blk1 V 2 t) (blk1 V 3 t) (blk1 V 4 t) (blk1 V 5 t) (pre1 V t) := by dsimp only [dat1]
/-- What the body leaves in window 7's buffer. -/
theorem dat1_after_7 (t : Fin cfg1.N) : (dat1 V c).after 7 t = bwdK (blk1 V 0 t) (blk1 V 1 t) (blk1 V 2 t) (blk1 V 3 t) (blk1 V 4 t) (blk1 V 5 t) (pre1 V t) := by dsimp only [dat1]
/-- What the body leaves in window 8's buffer. -/
theorem dat1_after_8 (t : Fin cfg1.N) : (dat1 V c).after 8 t = bwdV (blk1 V 0 t) (blk1 V 1 t) (blk1 V 2 t) (blk1 V 3 t) (blk1 V 4 t) (blk1 V 5 t) (pre1 V t) := by dsimp only [dat1]
/-- What the body leaves in window 9's buffer. -/
theorem dat1_after_9 (t : Fin cfg1.N) : (dat1 V c).after 9 t = bwdA (blk1 V 0 t) (blk1 V 1 t) (blk1 V 2 t) (blk1 V 3 t) (blk1 V 4 t) (blk1 V 5 t) (pre1 V t) := by dsimp only [dat1]
/-- Window 0's buffer holds its block when the body is called. -/
theorem dat1_before_0 (t : Fin cfg1.N) (d) : (dat1 V c).before 0 t d = blk1 V 0 t :=
  ((dat1 V c).before_in_eq_fetched 0 rfl (fun _ => rfl) (fun _ _ _ => rfl)
      (fun t => by rw [dat1_after_0]; unfold Dat.blockOf blk1; rw [dat1_A]) t d).trans
    (by unfold Dat.fetched Dat.blockOf blk1; rw [dat1_A]; try rfl)
/-- Window 1's buffer holds its block when the body is called. -/
theorem dat1_before_1 (t : Fin cfg1.N) (d) : (dat1 V c).before 1 t d = blk1 V 1 t :=
  ((dat1 V c).before_in_eq_fetched 1 rfl (fun _ => rfl) (fun _ _ _ => rfl)
      (fun t => by rw [dat1_after_1]; unfold Dat.blockOf blk1; rw [dat1_A]) t d).trans
    (by unfold Dat.fetched Dat.blockOf blk1; rw [dat1_A]; try rfl)
/-- Window 2's buffer holds its block when the body is called. -/
theorem dat1_before_2 (t : Fin cfg1.N) (d) : (dat1 V c).before 2 t d = blk1 V 2 t :=
  ((dat1 V c).before_in_eq_fetched 2 rfl (fun _ => rfl) (fun _ _ _ => rfl)
      (fun t => by rw [dat1_after_2]; unfold Dat.blockOf blk1; rw [dat1_A]) t d).trans
    (by unfold Dat.fetched Dat.blockOf blk1; rw [dat1_A]; try rfl)
/-- Window 3's buffer holds its block when the body is called. -/
theorem dat1_before_3 (t : Fin cfg1.N) (d) : (dat1 V c).before 3 t d = blk1 V 3 t :=
  ((dat1 V c).before_in_eq_fetched 3 rfl (fun _ => rfl) (fun _ _ _ => rfl)
      (fun t => by rw [dat1_after_3]; unfold Dat.blockOf blk1; rw [dat1_A]) t d).trans
    (by unfold Dat.fetched Dat.blockOf blk1; rw [dat1_A]; try rfl)
/-- Window 4's buffer holds its block when the body is called. -/
theorem dat1_before_4 (t : Fin cfg1.N) (d) : (dat1 V c).before 4 t d = blk1 V 4 t :=
  ((dat1 V c).before_in_eq_fetched 4 rfl (fun _ => rfl) (fun _ _ _ => rfl)
      (fun t => by rw [dat1_after_4]; unfold Dat.blockOf blk1; rw [dat1_A]) t d).trans
    (by unfold Dat.fetched Dat.blockOf blk1; rw [dat1_A]; try rfl)
/-- Window 5's buffer holds its block when the body is called. -/
theorem dat1_before_5 (t : Fin cfg1.N) (d) : (dat1 V c).before 5 t d = blk1 V 5 t :=
  ((dat1 V c).before_in_eq_fetched 5 rfl (fun _ => rfl) (fun _ _ _ => rfl)
      (fun t => by rw [dat1_after_5]; unfold Dat.blockOf blk1; rw [dat1_A]) t d).trans
    (by unfold Dat.fetched Dat.blockOf blk1; rw [dat1_A]; try rfl)

/-- What the body is called with at point `t`. -/
def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What the body returns at point `t`. -/
def bodyPost1 (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 3200000 in
/-- The body at any point takes what it is called with to what it returns. -/
theorem body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before_0, dat1_before_1, dat1_before_2, dat1_before_3, dat1_before_4, dat1_before_5]
  rw [show (dat1 V c).owesAt () t.succ = (dat1 V c).owesAt () t.castSucc from rfl, dat1_after_0, dat1_after_1, dat1_after_2, dat1_after_3, dat1_after_4, dat1_after_5, dat1_after_6, dat1_after_7, dat1_after_8, dat1_after_9]
  rw [show (dat1 V c).Φ t.succ = iprop(owns (c : Thread nD τ) scr1 fullShare (aft1 V t.val t.isLt) ∗ oth1 (F := F) c ∗ ∃ r, prngReg c r) from rfl,
    show (dat1 V c).Φ t.castSucc = Phi1 V c t.val (Nat.le_of_lt t.isLt) from rfl, aft1_eq V t]
  by_cases h0 : t.val % 36 = 0
  · rw [pre1_first V t h0]
    refine (sep_mono (Phi1_any V c _ _) .rfl).trans ?_
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bwd_first c (grid1.coords t) _ _ _ _ _ _ _ _ _ _ _ _ _ _ _ _ _ _ _ _ _ _ ((first1_iff t).mpr h0) (blk1 V 0 t) (blk1 V 1 t) (blk1 V 2 t) (blk1 V 3 t) (blk1 V 4 t) (blk1 V 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [Hs]; · iexact Hs
    iintro ⟨H0, H1, H2, H3, H4, H5, H6, H7, H8, H9, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi1_next V c t h0]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bwd_next c (grid1.coords t) _ _ _ _ _ _ _ _ _ _ _ _ _ _ _ _ _ _ _ _ _ _ (fun h => h0 ((first1_iff t).mp h)) (blk1 V 0 t) (blk1 V 1 t) (blk1 V 2 t) (blk1 V 3 t) (blk1 V 4 t) (blk1 V 5 t) (pre1 V t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [Hs]; · iexact Hs
    iintro ⟨H0, H1, H2, H3, H4, H5, H6, H7, H8, H9, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body. -/
theorem row1 (t : Fin cfg1.N) : defs₀ (F := F) .tc cfg1.body (cfg1.bodyArgs t (cfg1.slots t)) = bodyAt1 t := by
  unfold defs₀; rw [Defs.onTc_tc]

/-- The call's body obligation. -/
theorem oblig1 : BodyObligation (dat1 V c) (defs₀ (F := F)) Variants.none () Set.univ := fun t => by
  rw [bigSep_W1, bigSep_W1, row1]
  exact triple_restated (body1 V c t) rfl .rfl fun _ => .rfl

/-- What the call is entered with gives what is carried before the first point. -/
theorem enter1 : iprop(Pipeline.scopedRest spec1 c ∗ (∃ r, prngReg c r)) ⊢ (dat1 V c).Φ 0 := by
  rw [show (dat1 V c).Φ 0 = iprop((∃ d, owns (c : Thread nD τ) scr1 fullShare d) ∗ oth1 (F := F) c ∗ ∃ r, prngReg c r) from rfl, scoped1_split]
  iintro ⟨⟨Hs, Ho⟩, Hg⟩
  isplitl [Hs]; · iexact Hs
  isplitl [Ho]; · iexact Ho
  iexact Hg

/-- What is carried after the last point gives back what the call was entered with. -/
theorem leave1 : (dat1 V c).Φ (Fin.last cfg1.N) ⊢ iprop(Pipeline.scopedRest spec1 c ∗ (∃ r, prngReg c r)) := by
  refine (show (dat1 V c).Φ (Fin.last cfg1.N) ⊢ _ from Phi1_any V c cfg1.N le_rfl).trans ?_
  rw [scoped1_split]
  iintro ⟨Hs, Ho, Hg⟩
  isplitl [Hs Ho]
  · isplitl [Hs]; · iexact Hs
    iexact Ho
  iexact Hg

end Cert.KernelIdeal.Ret

end
-- ==== Proof.Scan.Arrays.lean ====
module

public import proofs.«01_k».proof.Proof.Scan.Spec

/-!
# The four gradients as arrays

The queries and keys are arrays of 2304 rows by 8 heads of 256 channels, the values and the gradient of the output of
2304 rows by 8 heads of 512 channels, the log decays of 8 heads by 2304 rows. A chunk is 64 rows; there are 36.
-/

@[expose] public section

noncomputable section

namespace Cert.Scan

open Idealize.ShloMosaic

/-- An array of queries, of keys, or of a gradient of one. -/
abbrev Narrow := (⟨2, ![2304, 2048]⟩ : Shape).Idx → EReal
/-- An array of values, or of a gradient of an output. -/
abbrev Wide := (⟨2, ![2304, 4096]⟩ : Shape).Idx → EReal
/-- An array of log decays. -/
abbrev Decays := (⟨3, ![8, 2304, 1]⟩ : Shape).Idx → EReal

/-- Row `t` of chunk `c`. -/
def row (c : ℕ) (t : Fin 64) : Fin 2304 := ⟨(64 * c + t) % 2304, Nat.mod_lt _ (by decide)⟩
/-- Channel `n` of head `h`, of 256. -/
def chan (h : Fin 8) (n : Fin 256) : Fin 2048 := ⟨256 * h + n, by omega⟩
/-- Channel `p` of head `h`, of 512. -/
def wide (h : Fin 8) (p : Fin 512) : Fin 4096 := ⟨512 * h + p, by omega⟩

variable (Q K : Narrow) (V : Wide) (L : Decays) (G : Wide)

/-- Head `h`'s share of chunk `c`. -/
def headPiece (h : Fin 8) (c : ℕ) : Piece where
  q t n := Q (ix2 (row c t) (chan h n))
  k t n := K (ix2 (row c t) (chan h n))
  v t p := V (ix2 (row c t) (wide h p))
  la t := L (ix3 h (row c t) 0)
  g t p := G (ix2 (row c t) (wide h p))

/-- The state of head `h` before chunk `c`. -/
def St (h : Fin 8) (c : ℕ) : State := stateAt (headPiece Q K V L G h) c
/-- The gradient of the state of head `h` after chunk `35 − m`. -/
def Dt (h : Fin 8) (m : ℕ) : State := gradAt (headPiece Q K V L G h) m

/-- The gradient of the queries, at a chunk, a head and a position in them. -/
def dqAt (h : Fin 8) (c : ℕ) (t : Fin 64) (n : Fin 256) : EReal :=
  (headPiece Q K V L G h c).dq (St Q K V L G h c) t n
/-- The gradient of the keys. -/
def dkAt (h : Fin 8) (c : ℕ) (t : Fin 64) (n : Fin 256) : EReal :=
  (headPiece Q K V L G h c).dk (Dt Q K V L G h (35 - c)) t n
/-- The gradient of the values. -/
def dvAt (h : Fin 8) (c : ℕ) (t : Fin 64) (p : Fin 512) : EReal :=
  (headPiece Q K V L G h c).dv (Dt Q K V L G h (35 - c)) t p
/-- The gradient of the log decays. -/
def dlaAt (h : Fin 8) (c : ℕ) (t : Fin 64) : EReal :=
  (headPiece Q K V L G h c).dla (St Q K V L G h c) (Dt Q K V L G h (35 - c)) t

/-- The array whose entry at row `r`, channel `j` is `f` of the head, the chunk and the position in them. -/
def narrowOf (f : Fin 8 → ℕ → Fin 64 → Fin 256 → EReal) : Narrow := fun i =>
  f ⟨(i 1).val / 256, by have := (i 1).isLt; change (i 1).val < 2048 at this; omega⟩ ((i 0).val / 64)
    ⟨(i 0).val % 64, Nat.mod_lt _ (by decide)⟩ ⟨(i 1).val % 256, Nat.mod_lt _ (by decide)⟩
/-- The same for 512 channels a head. -/
def wideOf (f : Fin 8 → ℕ → Fin 64 → Fin 512 → EReal) : Wide := fun i =>
  f ⟨(i 1).val / 512, by have := (i 1).isLt; change (i 1).val < 4096 at this; omega⟩ ((i 0).val / 64)
    ⟨(i 0).val % 64, Nat.mod_lt _ (by decide)⟩ ⟨(i 1).val % 512, Nat.mod_lt _ (by decide)⟩
/-- The same for the log decays. -/
def decaysOf (f : Fin 8 → ℕ → Fin 64 → EReal) : Decays := fun i =>
  f (i 0) ((i 1).val / 64) ⟨(i 1).val % 64, Nat.mod_lt _ (by decide)⟩

/-- `narrowOf f` at a row and a channel given by chunk and head. -/
theorem narrowOf_at (f : Fin 8 → ℕ → Fin 64 → Fin 256 → EReal) (h : Fin 8) (c : ℕ) (hc : c < 36) (t : Fin 64) (n : Fin 256) :
    narrowOf f (ix2 (row c t) (chan h n)) = f h c t n := by
  have e0 : (64 * c + t.val) % 2304 / 64 = c := by omega
  have e1 : (64 * c + t.val) % 2304 % 64 = t := by omega
  have e2 : (256 * h.val + n.val) / 256 = h := by omega
  have e3 : (256 * h.val + n.val) % 256 = n := by omega
  show f ⟨(256 * h.val + n.val) / 256, _⟩ ((64 * c + t.val) % 2304 / 64) ⟨(64 * c + t.val) % 2304 % 64, _⟩
    ⟨(256 * h.val + n.val) % 256, _⟩ = _
  simp only [e0, e1, e2, e3]

/-- The same for 512 channels a head. -/
theorem wideOf_at (f : Fin 8 → ℕ → Fin 64 → Fin 512 → EReal) (h : Fin 8) (c : ℕ) (hc : c < 36) (t : Fin 64) (p : Fin 512) :
    wideOf f (ix2 (row c t) (wide h p)) = f h c t p := by
  have e0 : (64 * c + t.val) % 2304 / 64 = c := by omega
  have e1 : (64 * c + t.val) % 2304 % 64 = t := by omega
  have e2 : (512 * h.val + p.val) / 512 = h := by omega
  have e3 : (512 * h.val + p.val) % 512 = p := by omega
  show f ⟨(512 * h.val + p.val) / 512, _⟩ ((64 * c + t.val) % 2304 / 64) ⟨(64 * c + t.val) % 2304 % 64, _⟩
    ⟨(512 * h.val + p.val) % 512, _⟩ = _
  simp only [e0, e1, e2, e3]

/-- The same for the log decays. -/
theorem decaysOf_at (f : Fin 8 → ℕ → Fin 64 → EReal) (h : Fin 8) (c : ℕ) (hc : c < 36) (t : Fin 64) (z : Fin 1) :
    decaysOf f (ix3 h (row c t) z) = f h c t := by
  have e0 : (64 * c + t.val) % 2304 / 64 = c := by omega
  have e1 : (64 * c + t.val) % 2304 % 64 = t := by omega
  show f h ((64 * c + t.val) % 2304 / 64) ⟨(64 * c + t.val) % 2304 % 64, _⟩ = _
  simp only [e0, e1]

end Cert.Scan
-- ==== Proof.Ker.Value.lean ====
module

public import proofs.«01_k».proof.Proof.Ker.HeadValue
public import proofs.«01_k».proof.Proof.Ker.Data
public import proofs.«01_k».proof.Proof.Scan.Arrays
public import Idealize.ShloMosaic.Lib.Pipeline.ValueKit.Point

/-!
# What the two calls read and write, over the extended reals

Grid point `t` handles heads `2 (t / 36)` and `2 (t / 36) + 1`; the forward call visits chunk `t % 36`, the backward call
chunk `35 − t % 36`.
-/

@[expose] public section

set_option maxRecDepth 16384

noncomputable section

namespace Cert.KernelIdeal.Ret

open Cert.KernelIdeal Cert.KernelIdeal.Gen
open Idealize.ShloMosaic Idealize.ShloMosaic.TcCoe
open Cert.Scan

theorem idx0 : ∀ t : Fin cfg0.N, win0_0.index t = ![t.val % 36, t.val / 36] ∧ win0_1.index t = ![t.val % 36, t.val / 36]
    ∧ win0_2.index t = ![t.val % 36, t.val / 36] ∧ win0_3.index t = ![t.val / 36, t.val % 36, 0]
    ∧ win0_5.index t = ![t.val / 36, t.val % 36, 0, 0] :=
  (by decide +kernel : ∀ t : Fin grid0.N, _)

theorem idx1 : ∀ t : Fin cfg1.N, win1_0.index t = ![35 - t.val % 36, t.val / 36] ∧ win1_1.index t = ![35 - t.val % 36, t.val / 36]
    ∧ win1_2.index t = ![35 - t.val % 36, t.val / 36] ∧ win1_3.index t = ![t.val / 36, 35 - t.val % 36, 0]
    ∧ win1_4.index t = ![t.val / 36, 35 - t.val % 36, 0, 0] ∧ win1_5.index t = ![35 - t.val % 36, t.val / 36]
    ∧ win1_6.index t = ![35 - t.val % 36, t.val / 36] ∧ win1_7.index t = ![35 - t.val % 36, t.val / 36]
    ∧ win1_8.index t = ![35 - t.val % 36, t.val / 36] ∧ win1_9.index t = ![t.val / 36, 35 - t.val % 36, 0] :=
  (by decide +kernel : ∀ t : Fin grid1.N, _)

variable (V : Valuation τ sig (Elt Ideal))

/-- The block of window 0, entry by entry. -/
theorem blk0_0 (t : Fin cfg0.N) (r : Fin 64) (j : Fin 512) :
    blk0 V 0 t (ix2 r j) = V (Proc.devRef .tc main_arg0) (ix2 (row (t.val % 36) r) ⟨512 * (t.val / 36) + j, by have := t.isLt; change t.val < 144 at this; omega⟩) := by
  blk_ext! [blk0, idx0 t, row]

/-- The block of window 1, entry by entry. -/
theorem blk0_1 (t : Fin cfg0.N) (r : Fin 64) (j : Fin 512) :
    blk0 V 1 t (ix2 r j) = V (Proc.devRef .tc main_arg1) (ix2 (row (t.val % 36) r) ⟨512 * (t.val / 36) + j, by have := t.isLt; change t.val < 144 at this; omega⟩) := by
  blk_ext! [blk0, idx0 t, row]

/-- The block of window 2, entry by entry. -/
theorem blk0_2 (t : Fin cfg0.N) (r : Fin 64) (j : Fin 1024) :
    blk0 V 2 t (ix2 r j) = V (Proc.devRef .tc main_arg2) (ix2 (row (t.val % 36) r) ⟨1024 * (t.val / 36) + j, by have := t.isLt; change t.val < 144 at this; omega⟩) := by
  blk_ext! [blk0, idx0 t, row]

/-- The block of window 3, entry by entry. -/
theorem blk0_3 (t : Fin cfg0.N) (z : Fin 2) (r : Fin 64) :
    blk0 V 3 t (ix3 z r 0) = V (Proc.devRef .tc main_arg3) (ix3 ⟨2 * (t.val / 36) + z, by have := t.isLt; change t.val < 144 at this; omega⟩ (row (t.val % 36) r) 0) := by
  blk_ext! [blk0, idx0 t, row]

/-- The block of window 0, entry by entry. -/
theorem blk1_0 (t : Fin cfg1.N) (r : Fin 64) (j : Fin 512) :
    blk1 V 0 t (ix2 r j) = V (Proc.devRef .tc main_arg0) (ix2 (row (35 - t.val % 36) r) ⟨512 * (t.val / 36) + j, by have := t.isLt; change t.val < 144 at this; omega⟩) := by
  blk_ext! [blk1, idx1 t, row]

/-- The block of window 1, entry by entry. -/
theorem blk1_1 (t : Fin cfg1.N) (r : Fin 64) (j : Fin 512) :
    blk1 V 1 t (ix2 r j) = V (Proc.devRef .tc main_arg1) (ix2 (row (35 - t.val % 36) r) ⟨512 * (t.val / 36) + j, by have := t.isLt; change t.val < 144 at this; omega⟩) := by
  blk_ext! [blk1, idx1 t, row]

/-- The block of window 2, entry by entry. -/
theorem blk1_2 (t : Fin cfg1.N) (r : Fin 64) (j : Fin 1024) :
    blk1 V 2 t (ix2 r j) = V (Proc.devRef .tc main_arg2) (ix2 (row (35 - t.val % 36) r) ⟨1024 * (t.val / 36) + j, by have := t.isLt; change t.val < 144 at this; omega⟩) := by
  blk_ext! [blk1, idx1 t, row]

/-- The block of window 5, entry by entry. -/
theorem blk1_5 (t : Fin cfg1.N) (r : Fin 64) (j : Fin 1024) :
    blk1 V 5 t (ix2 r j) = V (Proc.devRef .tc main_arg4) (ix2 (row (35 - t.val % 36) r) ⟨1024 * (t.val / 36) + j, by have := t.isLt; change t.val < 144 at this; omega⟩) := by
  blk_ext! [blk1, idx1 t, row]

/-- The block of window 3, entry by entry. -/
theorem blk1_3 (t : Fin cfg1.N) (z : Fin 2) (r : Fin 64) :
    blk1 V 3 t (ix3 z r 0) = V (Proc.devRef .tc main_arg3) (ix3 ⟨2 * (t.val / 36) + z, by have := t.isLt; change t.val < 144 at this; omega⟩ (row (35 - t.val % 36) r) 0) := by
  blk_ext! [blk1, idx1 t, row]

/-- The block of window 4, the saved states, entry by entry. -/
theorem blk1_4 (t : Fin cfg1.N) (z : Fin 2) (y : Fin 1) (n : Fin 256) (p : Fin 512) :
    blk1 V 4 t (ix4 z y n p) = V (Proc.devRef .tc main_v0_1) (ix4 ⟨2 * (t.val / 36) + z, by have := t.isLt; change t.val < 144 at this; omega⟩ ⟨35 - t.val % 36, by omega⟩ n p) := by
  blk_ext! [blk1, idx1 t]

/-! ## A pair of heads -/

section Pair
variable (Q K : Narrow) (VV : Wide) (L : Decays) (G : Wide)
variable (x0 x1 : Vec Ideal S64x512 .f32) (x2 : Vec Ideal S64x1024 .f32) (x3 : Vec Ideal S2x64x1 .f32)
  (T : Vec Ideal S2x256x512 .f32) (x5 : Vec Ideal S64x1024 .f32) (S : Vec Ideal S2x256x512 .f32)
variable (g : Fin 4) (c : ℕ)

/-- The blocks of a pair of heads are those of chunk `c` of the arrays. -/
structure Holds : Prop where
  q : ∀ r j, x0 (ix2 r j) = Q (ix2 (row c r) ⟨512 * g + j, by omega⟩)
  k : ∀ r j, x1 (ix2 r j) = K (ix2 (row c r) ⟨512 * g + j, by omega⟩)
  v : ∀ r j, x2 (ix2 r j) = VV (ix2 (row c r) ⟨1024 * g + j, by omega⟩)
  la : ∀ z r, x3 (ix3 z r 0) = L (ix3 ⟨2 * g + z, by omega⟩ (row c r) 0)
  g : ∀ r j, x5 (ix2 r j) = G (ix2 (row c r) ⟨1024 * g + j, by omega⟩)

variable {Q K VV L G x0 x1 x2 x3 x5 g c}

/-- The first head of the pair. -/
theorem headA_piece (h : Holds Q K VV L G x0 x1 x2 x3 x5 g c) :
    (headA x0 x1 x2 x3 T x5 S).piece = headPiece Q K VV L G ⟨2 * g, by omega⟩ c := by
  unfold Head.piece headPiece
  congr 1
  · funext t n
    pointwise [headA]
    rw [h.q]
    blk_ext! [chan]
  · funext t n
    pointwise [headA]
    rw [h.k]
    blk_ext! [chan]
  · funext t n
    pointwise [headA]
    rw [h.v]
    blk_ext! [wide]
  · funext t
    pointwise [headA]
    rw [h.la]
    blk_ext! [wide]
  · funext t n
    pointwise [headA]
    rw [h.g]
    blk_ext! [wide]

/-- The second head of the pair. -/
theorem headB_piece (h : Holds Q K VV L G x0 x1 x2 x3 x5 g c) :
    (headB x0 x1 x2 x3 T x5 S).piece = headPiece Q K VV L G ⟨2 * g + 1, by omega⟩ c := by
  unfold Head.piece headPiece
  congr 1
  · funext t n
    pointwise [headB]
    rw [h.q]
    blk_ext! [chan]
  · funext t n
    pointwise [headB]
    rw [h.k]
    blk_ext! [chan]
  · funext t n
    pointwise [headB]
    rw [h.v]
    blk_ext! [wide]
  · funext t
    pointwise [headB]
    rw [h.la]
    blk_ext! [wide]
  · funext t n
    pointwise [headB]
    rw [h.g]
    blk_ext! [wide]

theorem headA_before : (headA x0 x1 x2 x3 T x5 S).before = fun n p => T (ix3 0 n p) := by
  funext n p
  unfold Head.before
  pointwise [headA]

theorem headB_before : (headB x0 x1 x2 x3 T x5 S).before = fun n p => T (ix3 1 n p) := by
  funext n p
  unfold Head.before
  pointwise [headB]

theorem headA_after : (headA x0 x1 x2 x3 T x5 S).after = fun n p => S (ix3 0 n p) := by
  funext n p
  unfold Head.after
  pointwise [headA]

theorem headB_after : (headB x0 x1 x2 x3 T x5 S).after = fun n p => S (ix3 1 n p) := by
  funext n p
  unfold Head.after
  pointwise [headB]

/-- The forward body's new state, entry by entry. -/
theorem fwdS_at (h : Holds Q K VV L G x0 x1 x2 x3 x5 g c) (z : Fin 2) (n : Fin 256) (p : Fin 512) :
    fwdS x0 x1 x2 x3 T (ix3 z n p) = (headPiece Q K VV L G ⟨2 * g + z, by omega⟩ c).step (fun n p => T (ix3 z n p)) n p := by
  rw [fwdS_eq x0 x1 x2 x3 x5 T T]
  pointwise []
  fin_cases z
  · refine (dif_pos (by decide)).trans ?_
    simp only [hd_step_at, headA_piece T T h, headA_before]
    rfl
  · refine (dif_neg (by decide)).trans ?_
    simp only [hd_step_at, headB_piece T T h, headB_before]
    rfl

variable (x4 : Vec Ideal S2x1x256x512 .f32)

/-- The saved states of a pair of heads, without the axis of size one. -/
theorem saved_at (z : Fin 2) (n : Fin 256) (p : Fin 512) :
    shapeCast S2x256x512 x4 shapeCasts_S2x1x256x512_S2x256x512 (ix3 z n p) = x4 (ix4 z 0 n p) := by
  pointwise []

/-- The gradient of the queries that the backward body stores, entry by entry. -/
theorem bwdQ_at (h : Holds Q K VV L G x0 x1 x2 x3 x5 g c) (z : Fin 2) (t : Fin 64) (n : Fin 256) :
    bwdQ x0 x1 x2 x3 x4 x5 S (ix2 t ⟨256 * z + n, by omega⟩) = (headPiece Q K VV L G ⟨2 * g + z, by omega⟩ c).dq (fun n p => x4 (ix4 z 0 n p)) t n := by
  rw [bwdQ_eq]
  fin_cases z
  · pointwise []
    simp only [hd_v219_at, headA_piece _ S h, headA_before, headA_after, saved_at]
    all_goals exact congrArg (fun s => Piece.dq _ s t n) (funext fun n => funext fun p => saved_at x4 0 n p)
  · pointwise []
    simp only [hd_v219_at, headB_piece _ S h, headB_before, headB_after, saved_at]
    all_goals exact congrArg (fun s => Piece.dq _ s t n) (funext fun n => funext fun p => saved_at x4 1 n p)

/-- The gradient of the keys that the backward body stores, entry by entry. -/
theorem bwdK_at (h : Holds Q K VV L G x0 x1 x2 x3 x5 g c) (z : Fin 2) (t : Fin 64) (n : Fin 256) :
    bwdK x0 x1 x2 x3 x4 x5 S (ix2 t ⟨256 * z + n, by omega⟩) = (headPiece Q K VV L G ⟨2 * g + z, by omega⟩ c).dk (fun n p => S (ix3 z n p)) t n := by
  rw [bwdK_eq]
  fin_cases z
  · pointwise []
    simp only [hd_v220_at, headA_piece _ S h, headA_before, headA_after, saved_at]
  · pointwise []
    simp only [hd_v220_at, headB_piece _ S h, headB_before, headB_after, saved_at]

/-- The gradient of the values that the backward body stores, entry by entry. -/
theorem bwdV_at (h : Holds Q K VV L G x0 x1 x2 x3 x5 g c) (z : Fin 2) (t : Fin 64) (n : Fin 512) :
    bwdV x0 x1 x2 x3 x4 x5 S (ix2 t ⟨512 * z + n, by omega⟩) = (headPiece Q K VV L G ⟨2 * g + z, by omega⟩ c).dv (fun n p => S (ix3 z n p)) t n := by
  rw [bwdV_eq]
  fin_cases z
  · pointwise []
    simp only [hd_v201_at, headA_piece _ S h, headA_before, headA_after, saved_at]
  · pointwise []
    simp only [hd_v201_at, headB_piece _ S h, headB_before, headB_after, saved_at]

/-- The gradient of the log decays that the backward body stores, entry by entry. -/
theorem bwdA_at (h : Holds Q K VV L G x0 x1 x2 x3 x5 g c) (z : Fin 2) (t : Fin 64) :
    bwdA x0 x1 x2 x3 x4 x5 S (ix3 z t 0) = (headPiece Q K VV L G ⟨2 * g + z, by omega⟩ c).dla (fun n p => x4 (ix4 z 0 n p)) (fun n p => S (ix3 z n p)) t := by
  rw [bwdA_eq]
  fin_cases z
  · pointwise []
    simp only [hd_v228_at, headA_piece _ S h, headA_before, headA_after, saved_at]
    all_goals exact congrArg (fun s => Piece.dla _ s _ t) (funext fun n => funext fun p => saved_at x4 0 n p)
  · pointwise []
    simp only [hd_v228_at, headB_piece _ S h, headB_before, headB_after, saved_at]
    all_goals exact congrArg (fun s => Piece.dla _ s _ t) (funext fun n => funext fun p => saved_at x4 1 n p)

/-- The gradient of the state before the chunk that the backward body stores, entry by entry. -/
theorem bwdS_at (h : Holds Q K VV L G x0 x1 x2 x3 x5 g c) (z : Fin 2) (n : Fin 256) (p : Fin 512) :
    bwdS x0 x1 x2 x3 x4 x5 S (ix3 z n p) = (headPiece Q K VV L G ⟨2 * g + z, by omega⟩ c).back (fun n p => S (ix3 z n p)) n p := by
  rw [bwdS_eq]
  fin_cases z
  · pointwise []
    simp only [hd_v195_at, headA_piece _ S h, headA_before, headA_after, saved_at]
  · pointwise []
    simp only [hd_v195_at, headB_piece _ S h, headB_before, headB_after, saved_at]

end Pair

end Cert.KernelIdeal.Ret
-- ==== Proof.Ker.Run.lean ====
module

public import proofs.«01_k».proof.Proof.Ker.Data

/-!
# The run of the two kernel calls

The program is the forward call and then the backward call. From any memory with zero counters every execution ends,
with every counter at zero and with every buffer that outlives the calls at the contents named here: the launch
contents overwritten by what the two calls wrote back.
-/

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg LevelCut)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the forward call. -/
def mid (c : Dev nD) : Valuation τ sig (Elt F) := Pipeline.afterRegion (dat0 (V0 m c) c) (V0 m c)

/-- The buffers after the backward call. -/
def fin (c : Dev nD) : Valuation τ sig (Elt F) := Pipeline.afterRegion (dat1 (mid m c) c) (mid m c)

/-- The proof data of the two calls: the second is entered with what the first left. -/
def pdats (p : Fin 2) (c : Dev nD) : Dat τ (Elt F) Unit ℕ (UR sig nD τ) ℕ (cfgs p) c :=
  match p with
  | ⟨0, _⟩ => dat0 (V0 m c) c
  | ⟨1, _⟩ => dat1 (mid m c) c

/-- One level for every counter of the TensorCores. -/
def lev : GSem nD τ sig → Finset Unit := fun g => if g.1.2 = .tc then {()} else ∅

/-- Nothing is owed, so the levels bound nothing. -/
theorem cut (p : Fin 2) : LevelCut (pcfgs (F := F)) adm () lev (fun _ _ => (0 : ℕ)) p (fun _ => (0 : CellTallies nD τ sig Unit)) (fun _ => 0) where
  hι := fun c w s => by simp [lev]
  hιb := fun _ _ _ => le_rfl
  hD := fun _ _ _ h => absurd h (lt_irrefl _)

/-- The forward call's part of the program. -/
def reg0 : RegionSeg (pcfgs (F := F)) adm (pdats m) () defs₀ Variants.none lev (fun _ _ => (0 : ℕ)) 0 :=
  RegionSeg.ofHeldIn (pcfgs (F := F)) adm (pdats m) () defs₀ Variants.none lev (fun _ _ => (0 : ℕ)) 0 (fun _ => (0 : CellTallies nD τ sig Unit)) (Pipeline.ucRefs τ sig)
    (fun c => iprop(∃ r, prngReg c r)) (fun c => iprop(∃ r, prngReg c r)) launch0.toP rfl
    (fun c => (oblig0 (V0 m c) c).loose) (fun _ _ => rfl) (fun _ => rfl) (fun c => (dat0 (V0 m c) c).share_full fun _ => rfl)
    (fun c => enter0 (V0 m c) c) (fun c => leave0 (V0 m c) c) (fun _ => 0) (cut 0) (fun _ => iprop(emp)) (fun c => V0 m c)
    (fun c w => rfl)

/-- The backward call's part of the program. -/
def reg1 : RegionSeg (pcfgs (F := F)) adm (pdats m) () defs₀ Variants.none lev (fun _ _ => (0 : ℕ)) 1 :=
  RegionSeg.ofHeldIn (pcfgs (F := F)) adm (pdats m) () defs₀ Variants.none lev (fun _ _ => (0 : ℕ)) 1 (fun _ => (0 : CellTallies nD τ sig Unit)) (Pipeline.ucRefs τ sig)
    (fun c => iprop(∃ r, prngReg c r)) (fun c => iprop(∃ r, prngReg c r)) launch1.toP rfl
    (fun c => (oblig1 (mid m c) c).loose) (fun _ _ => rfl) (fun _ => rfl) (fun c => (dat1 (mid m c) c).share_full fun _ => rfl)
    (fun c => enter1 (mid m c) c) (fun c => leave1 (mid m c) c) (fun _ => 0) (cut 1) (fun _ => iprop(emp)) (fun c => mid m c)
    (fun c w => rfl)

/-- What a core holds between the calls: the buffers that outlive them at `W`, nothing owed, the generator's register. -/
def between (W : Dev nD → Valuation τ sig (Elt F)) (c : Dev nD) : sProp 𝕄 :=
  iprop(StableHlo.held (c : Thread nD τ) (Pipeline.ucRefs τ sig) (W c)
    ∗ ((∃ Wd, owes (c : Thread nD τ) (0 : CellTallies nD τ sig Unit) Wd) ∗ (∃ r, prngReg c r) ∗ emp))

/-- The forward call starts from the buffers as launched. -/
theorem reg0_pre (c : Dev nD) : between (fun c => V0 m c) c ⊢ (reg0 m).pre c := by
  unfold between reg0
  have hS : Pipeline.arrRefs (τ := τ) (pcfgs (F := F) 0).spec ⊆ Pipeline.ucRefs τ sig := Pipeline.arrRefs_sub_ucRefs spec0 launch0.win.arr_unscoped
  exact (RegionSeg.ofHeldIn_pre (pcs := pcfgs (F := F)) (a := adm) (pdats := pdats m) (ι := ()) (defs₀ := defs₀) (𝒱₀ := Variants.none) (L := lev) (lv := fun _ _ => (0 : ℕ)) (p := 0) (D := fun _ => (0 : CellTallies nD τ sig Unit)) hS (X := fun c => iprop(∃ r, prngReg c r)) (Y := fun c => iprop(∃ r, prngReg c r)) (R := fun _ => iprop(emp)) (W := fun c => V0 m c) c)

/-- The forward call leaves the buffers at `mid`. -/
theorem reg0_post (c : Dev nD) : (reg0 m).post c ⊢ between (mid m) c := by
  unfold between reg0
  have hS : Pipeline.arrRefs (τ := τ) (pcfgs (F := F) 0).spec ⊆ Pipeline.ucRefs τ sig := Pipeline.arrRefs_sub_ucRefs spec0 launch0.win.arr_unscoped
  exact RegionSeg.ofHeldIn_post (pcs := pcfgs (F := F)) (a := adm) (pdats := pdats m) (ι := ()) (defs₀ := defs₀) (𝒱₀ := Variants.none) (L := lev) (lv := fun _ _ => (0 : ℕ)) (p := 0) (D := fun _ => (0 : CellTallies nD τ sig Unit)) hS c

/-- The backward call starts from `mid`. -/
theorem reg1_pre (c : Dev nD) : between (mid m) c ⊢ (reg1 m).pre c := by
  unfold between reg1
  have hS : Pipeline.arrRefs (τ := τ) (pcfgs (F := F) 1).spec ⊆ Pipeline.ucRefs τ sig := Pipeline.arrRefs_sub_ucRefs spec1 launch1.win.arr_unscoped
  exact (RegionSeg.ofHeldIn_pre (pcs := pcfgs (F := F)) (a := adm) (pdats := pdats m) (ι := ()) (defs₀ := defs₀) (𝒱₀ := Variants.none) (L := lev) (lv := fun _ _ => (0 : ℕ)) (p := 1) (D := fun _ => (0 : CellTallies nD τ sig Unit)) hS (X := fun c => iprop(∃ r, prngReg c r)) (Y := fun c => iprop(∃ r, prngReg c r)) (R := fun _ => iprop(emp)) (W := fun c => mid m c) c)

/-- The backward call leaves the buffers at `fin`. -/
theorem reg1_post (c : Dev nD) : (reg1 m).post c ⊢ between (fin m) c := by
  unfold between reg1
  have hS : Pipeline.arrRefs (τ := τ) (pcfgs (F := F) 1).spec ⊆ Pipeline.ucRefs τ sig := Pipeline.arrRefs_sub_ucRefs spec1 launch1.win.arr_unscoped
  exact RegionSeg.ofHeldIn_post (pcs := pcfgs (F := F)) (a := adm) (pdats := pdats m) (ι := ()) (defs₀ := defs₀) (𝒱₀ := Variants.none) (L := lev) (lv := fun _ _ => (0 : ℕ)) (p := 1) (D := fun _ => (0 : CellTallies nD τ sig Unit)) hS c

/-- What is held at the end: the buffers at `fin`, and nothing owed. -/
theorem last_out (c : Dev nD) : between (fin m) c
    ⊢ iprop(StableHlo.held (c : Thread nD τ) (Pipeline.ucRefs τ sig) (fin m c) ∗ ∃ W, owes (c : Thread nD τ) (0 : CellTallies nD τ sig Unit) W) := by
  unfold between
  iintro ⟨Hh, HO, -⟩
  isplitl [Hh]
  · iexact Hh
  iexact HO

set_option backward.isDefEq.respectTransparency.types false in
set_option maxHeartbeats 1600000 in
/-- From any memory with zero counters every execution of the program ends, every counter at zero and every buffer that
    outlives the calls at `fin`. -/
theorem run_all : θ_run defs (onTc (τ := τ) (main (F := F))) ⟨m, fun _ => 0, ρ⟩ (fun r =>
    (∀ c : Dev nD, ∀ b ∈ Pipeline.ucRefs τ sig, r.2.mem (c, b) = fin m c b) ∧ r.2.sem = fun _ => 0) := by
  refine Pipeline.θ_run_regions_kit_dev_sems (pcfgs (F := F)) adm (pdats m) () cellOf_inj emb₁ defs₀ Variants.none lev (fun _ _ => (0 : ℕ)) m ρ main
    (fun _ => [.region (reg0 m), .region (reg1 m)])
    (fun c Q => by
      rewrite [main_chain c, Seg.run_eq_chain]
      exact .rfl)
    (fun c => by simp only [Seg.pipes_region, Seg.pipes_nil]; decide) (O₀ := 0)
    (hL := fun g h => if_neg h)
    (G := fun _ => iprop(emp)) (u₀ := initOf (Pipeline.cells cfgs cellOf_inj) (Pipeline.launchToks cfgs cellOf_inj))
    (hu₀ := ?_)
    (T₀ := between fun c => V0 m c)
    (Tₙ := fun c => StableHlo.held (c : Thread nD τ) (Pipeline.ucRefs τ sig) (fin m c))
    (hch := fun c => ⟨reg0_pre m c, (reg0_post m c).trans (reg1_pre m c), (reg1_post m c).trans (last_out m c)⟩)
    (hinit := Pipeline.initEach _ _ fun c => ?_)
    (QY := fun c s => ∀ b ∈ Pipeline.ucRefs τ sig, s.mem (c, b) = fin m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold between
    rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (fin m c) s') $$ [Hh HSI]
    · isplitl [Hh] <;> iassumption
    icases Hr with ⟨%h, HSI⟩
    imodintro
    isplitr
    · ipureintro; exact h
    · iexact HSI

/-- A buffer of the program's text is one of those that outlive the calls. -/
theorem uc_mem (r : Ref sig .tc) (h : r.isScoped = false) : (Proc.devRef .tc r : DevRef τ sig) ∈ Pipeline.ucRefs τ sig :=
  Finset.mem_filter.mpr ⟨StableHlo.devRef_mem_tcRefs r, by simp [h]⟩

/-- A buffer that neither call writes ends as it was launched. -/
theorem fin_kept (c : Dev nD) (r : Ref sig .tc) (h0 : ∀ w, Pipeline.arrRef spec0 w = r → (cfg0.win w).isOut = false)
    (h1 : ∀ w, Pipeline.arrRef spec1 w = r → (cfg1.win w).isOut = false) :
    fin m c (Proc.devRef .tc r) = m ((c : Thread nD τ).loc r) := by
  unfold fin
  rw [Pipeline.afterRegion_keeps (dat1 (mid m c) c) (mid m c) launch1.win.arr_inj (dat1_A (mid m c) c) r h1]
  unfold mid
  rw [Pipeline.afterRegion_keeps (dat0 (V0 m c) c) (V0 m c) launch0.win.arr_inj (dat0_A (V0 m c) c) r h0]

/-- The array of the backward call's window `w` ends at what the call wrote back. -/
theorem fin_out (c : Dev nD) (w : Fin cfg1.W) :
    fin m c (Proc.devRef .tc (Pipeline.arrRef spec1 w)) = (dat1 (mid m c) c).arrAt w cfg1.N :=
  Pipeline.afterRegion_arr (dat1 (mid m c) c) (mid m c) launch1.win.arr_inj w

/-- The run, read at the results and the arguments: the four gradients end at what the backward call wrote back, and the
    arguments as they were. -/
theorem run_main : θ_run defs (onTc (τ := τ) (main (F := F))) ⟨m, fun _ => 0, ρ⟩ (fun r => (∀ c : Dev nD,
      r.2.mem ((c.tc : Thread nD τ).loc main_v1_0) = (dat1 (mid m c) c).arrAt 6 cfg1.N
      ∧ r.2.mem ((c.tc : Thread nD τ).loc main_v1_1) = (dat1 (mid m c) c).arrAt 7 cfg1.N
      ∧ r.2.mem ((c.tc : Thread nD τ).loc main_v1_2) = (dat1 (mid m c) c).arrAt 8 cfg1.N
      ∧ r.2.mem ((c.tc : Thread nD τ).loc main_v1_3) = (dat1 (mid m c) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c _ (uc_mem main_v1_0 rfl)).trans (fin_out m c 6), (h.1 c _ (uc_mem main_v1_1 rfl)).trans (fin_out m c 7),
      (h.1 c _ (uc_mem main_v1_2 rfl)).trans (fin_out m c 8), (h.1 c _ (uc_mem main_v1_3 rfl)).trans (fin_out m c 9),
      (h.1 c _ (uc_mem main_arg0 rfl)).trans (fin_kept m c main_arg0 (by decide) (by decide)),
      (h.1 c _ (uc_mem main_arg1 rfl)).trans (fin_kept m c main_arg1 (by decide) (by decide)),
      (h.1 c _ (uc_mem main_arg2 rfl)).trans (fin_kept m c main_arg2 (by decide) (by decide)),
      (h.1 c _ (uc_mem main_arg3 rfl)).trans (fin_kept m c main_arg3 (by decide) (by decide)),
      (h.1 c _ (uc_mem main_arg4 rfl)).trans (fin_kept m c main_arg4 (by decide) (by decide))⟩, h.2⟩) (run_all m ρ)

end Cert.KernelIdeal.Ret

end
-- ==== Proof.Ker.Fold.lean ====
module

public import proofs.«01_k».proof.Proof.Ker.Value
public import proofs.«01_k».proof.Proof.Ker.Run

/-!
# The two calls' results as arrays

The scratch of the forward call holds the states of the recursion, that of the backward call the gradients of the
states. So the saved states and the four gradients are the recursion's, entry by entry.
-/

@[expose] public section

set_option maxRecDepth 16384

noncomputable section

namespace Cert.KernelIdeal.Ret

open Cert.KernelIdeal Cert.KernelIdeal.Gen
open Idealize.ShloMosaic Idealize.ShloMosaic.TcCoe
open Cert.Scan

variable (V : Valuation τ sig (Elt Ideal))

/-- The queries. -/
def aQ : Narrow := V (Proc.devRef .tc main_arg0)
/-- The keys. -/
def aK : Narrow := V (Proc.devRef .tc main_arg1)
/-- The values. -/
def aV : Wide := V (Proc.devRef .tc main_arg2)
/-- The log decays. -/
def aL : Decays := V (Proc.devRef .tc main_arg3)
/-- The gradient of the output. -/
def aG : Wide := V (Proc.devRef .tc main_arg4)

/-- The pair of heads of point `t`. -/
def pair (t : ℕ) (h : t < 144) : Fin 4 := ⟨t / 36, by omega⟩

/-- The block of the gradient of the output that goes with a point of the forward call. -/
def gblk (t : Fin cfg0.N) : Vec Ideal S64x1024 .f32 := fun i =>
  aG V (ix2 (row (t.val % 36) (i 0)) ⟨1024 * (t.val / 36) + (i 1).val, by
    have := t.isLt; change t.val < 144 at this; have := (i 1).isLt; change (i 1).val < 1024 at this; omega⟩)

/-- The blocks of a point of the forward call are its heads' share of its chunk. -/
theorem holds0 (t : Fin cfg0.N) : Holds (aQ V) (aK V) (aV V) (aL V) (aG V) (blk0 V 0 t) (blk0 V 1 t) (blk0 V 2 t) (blk0 V 3 t)
    (gblk V t) (pair t.val t.isLt) (t.val % 36) where
  q r j := blk0_0 V t r j
  k r j := blk0_1 V t r j
  v r j := blk0_2 V t r j
  la z r := blk0_3 V t z r
  g r j := rfl

/-- The blocks of a point of the backward call are its heads' share of its chunk. -/
theorem holds1 (t : Fin cfg1.N) : Holds (aQ V) (aK V) (aV V) (aL V) (aG V) (blk1 V 0 t) (blk1 V 1 t) (blk1 V 2 t) (blk1 V 3 t)
    (blk1 V 5 t) (pair t.val t.isLt) (35 - t.val % 36) where
  q r j := blk1_0 V t r j
  k r j := blk1_1 V t r j
  v r j := blk1_2 V t r j
  la z r := blk1_3 V t z r
  g r j := blk1_5 V t r j

/-- The scratch before a point of the forward call holds the states of its two heads before its chunk. -/
theorem pre0_at : ∀ (i : ℕ) (h : i < cfg0.N) (z : Fin 2) (n : Fin 256) (p : Fin 512),
    pre0 V ⟨i, h⟩ (ix3 z n p) = St (aQ V) (aK V) (aV V) (aL V) (aG V) ⟨2 * (i / 36) + z, by change i < 144 at h; omega⟩ (i % 36) n p := by
  intro i
  induction i with
  | zero =>
    intro h z n p
    rw [pre0_first V ⟨0, h⟩ rfl]
    pointwise [k0_pay3]
    rfl
  | succ i ih =>
    intro h z n p
    by_cases hi : (i + 1) % 36 = 0
    · rw [pre0_first V ⟨i + 1, h⟩ hi]
      pointwise [k0_pay3]
      rw [hi]
      rfl
    · rw [pre0_next V ⟨i + 1, h⟩ hi]
      have h' : i < cfg0.N := Nat.lt_of_succ_lt h
      have e := aft0_eq V ⟨i, h'⟩
      refine (congrFun e (ix3 z n p)).trans ?_
      rw [fwdS_at _ (holds0 V ⟨i, h'⟩)]
      have e1 : (i + 1) % 36 = i % 36 + 1 := by omega
      have e2 : (i + 1) / 36 = i / 36 := by omega
      simp only [ih h', e1, e2]
      rfl

/-- The scratch before a point of the backward call holds the gradients of the states of its two heads after its chunk. -/
theorem pre1_at : ∀ (i : ℕ) (h : i < cfg1.N) (z : Fin 2) (n : Fin 256) (p : Fin 512),
    pre1 V ⟨i, h⟩ (ix3 z n p) = Dt (aQ V) (aK V) (aV V) (aL V) (aG V) ⟨2 * (i / 36) + z, by change i < 144 at h; omega⟩ (i % 36) n p := by
  intro i
  induction i with
  | zero =>
    intro h z n p
    rw [pre1_first V ⟨0, h⟩ rfl]
    pointwise [k1_pay7]
    rfl
  | succ i ih =>
    intro h z n p
    by_cases hi : (i + 1) % 36 = 0
    · rw [pre1_first V ⟨i + 1, h⟩ hi]
      pointwise [k1_pay7]
      rw [hi]
      rfl
    · rw [pre1_next V ⟨i + 1, h⟩ hi]
      have h' : i < cfg1.N := Nat.lt_of_succ_lt h
      have e := aft1_eq V ⟨i, h'⟩
      refine (congrFun e (ix3 z n p)).trans ?_
      rw [bwdS_at _ _ (holds1 V ⟨i, h'⟩)]
      have e1 : (i + 1) % 36 = i % 36 + 1 := by omega
      have e2 : (i + 1) / 36 = i / 36 := by omega
      simp only [ih h', e1, e2]
      rfl

end Cert.KernelIdeal.Ret
-- ==== Proof.Ker.Ends.lean ====
module

public import proofs.«01_k».proof.Proof.Ker.Fold

/-!
# The two calls' results as arrays

The scratch of the forward call holds the states of the recursion, that of the backward call the gradients of the
states. So the saved states and the four gradients are the recursion's, entry by entry.
-/

@[expose] public section

set_option maxRecDepth 16384

noncomputable section

namespace Cert.KernelIdeal.Ret

open Cert.KernelIdeal Cert.KernelIdeal.Gen
open Idealize.ShloMosaic Idealize.ShloMosaic.TcCoe
open Cert.Scan

variable (V : Valuation τ sig (Elt Ideal))
variable (m : (ℓ : Loc nD τ sig) → Buf (Elt Ideal) ℓ) (c : Dev nD)

/-- The states that the forward call saves, head by head and chunk by chunk. -/
def savedArr : (⟨4, ![8, 36, 256, 512]⟩ : Shape).Idx → EReal := fun i => St (aQ V) (aK V) (aV V) (aL V) (aG V) (i 0) (i 1).val (i 2) (i 3)

/-- The forward call's saved states are the recursion's. -/
theorem saved_eq : (dat0 V c).arrAt 5 cfg0.N = savedArr V := by
  refine (dat0 V c).arrAt_eq_of_covers 5 _ (by decide +kernel) fun t hf y => ?_
  idx_vars y
  blk_simp
  rw [dat0_after_5]
  have ht : t.val < 144 := t.isLt
  have e : (win0_5.blk t).view.emb (ix4 y0 y1 y2 y3)
      = ix4 (⟨2 * (t.val / 36) + y0, by omega⟩ : Fin 8) (⟨t.val % 36, by omega⟩ : Fin 36) y2 y3 := by
    blk_ext [idx0 t]
  rw [e]
  refine Eq.trans ?_ (pre0_at V t.val t.isLt y0 y2 y3)
  unfold fwdSave
  pointwise [k0_pay4]

/-- The buffers that the backward call starts from hold the arguments. -/
theorem mid_kept (r : Ref sig .tc) (h0 : ∀ w, Pipeline.arrRef spec0 w = r → (cfg0.win w).isOut = false) :
    mid m c (Proc.devRef .tc r) = m ((c : Thread nD τ).loc r) := by
  unfold mid
  rw [Pipeline.afterRegion_keeps (dat0 (V0 m c) c) (V0 m c) launch0.win.arr_inj (dat0_A (V0 m c) c) r h0]

theorem mid_Q : aQ (mid m c) = aQ (V0 m c) := mid_kept m c main_arg0 (by decide +kernel)
theorem mid_K : aK (mid m c) = aK (V0 m c) := mid_kept m c main_arg1 (by decide +kernel)
theorem mid_V : aV (mid m c) = aV (V0 m c) := mid_kept m c main_arg2 (by decide +kernel)
theorem mid_L : aL (mid m c) = aL (V0 m c) := mid_kept m c main_arg3 (by decide +kernel)
theorem mid_G : aG (mid m c) = aG (V0 m c) := mid_kept m c main_arg4 (by decide +kernel)

/-- The buffers that the backward call starts from hold the saved states. -/
theorem mid_saved : mid m c (Proc.devRef .tc main_v0_1) = savedArr (V0 m c) :=
  (Pipeline.afterRegion_arr (dat0 (V0 m c) c) (V0 m c) launch0.win.arr_inj 5).trans (saved_eq (V0 m c) c)

/-- The block of saved states of a point of the backward call. -/
theorem saved_blk (t : Fin cfg1.N) (z : Fin 2) : (fun n p => blk1 (mid m c) 4 t (ix4 z 0 n p))
    = St (aQ (V0 m c)) (aK (V0 m c)) (aV (V0 m c)) (aL (V0 m c)) (aG (V0 m c))
        ⟨2 * (t.val / 36) + z, by have := t.isLt; change t.val < 144 at this; omega⟩ (35 - t.val % 36) := by
  funext n p
  rw [blk1_4, mid_saved]
  rfl

/-- The blocks of a point of the backward call, at the launch's arguments. -/
theorem holdsM (t : Fin cfg1.N) : Holds (aQ (V0 m c)) (aK (V0 m c)) (aV (V0 m c)) (aL (V0 m c)) (aG (V0 m c))
    (blk1 (mid m c) 0 t) (blk1 (mid m c) 1 t) (blk1 (mid m c) 2 t) (blk1 (mid m c) 3 t)
    (blk1 (mid m c) 5 t) (pair t.val t.isLt) (35 - t.val % 36) := by
  have h := holds1 (mid m c) t
  rwa [mid_Q, mid_K, mid_V, mid_L, mid_G] at h

/-- The scratch before a point of the backward call, at the launch's arguments. -/
theorem grad_scratch (t : Fin cfg1.N) (z : Fin 2) : (fun n p => pre1 (mid m c) t (ix3 z n p))
    = Dt (aQ (V0 m c)) (aK (V0 m c)) (aV (V0 m c)) (aL (V0 m c)) (aG (V0 m c))
        ⟨2 * (t.val / 36) + z, by have := t.isLt; change t.val < 144 at this; omega⟩ (t.val % 36) := by
  funext n p
  have h := pre1_at (mid m c) t.val t.isLt z n p
  rwa [mid_Q, mid_K, mid_V, mid_L, mid_G] at h

/-- A channel of a pair of heads, of 256 a head, is one of the two heads' own. -/
theorem split256 (j : Fin 512) : ∃ (z : Fin 2) (n : Fin 256), j = ⟨256 * z + n, by omega⟩ :=
  ⟨⟨j / 256, by omega⟩, ⟨j % 256, by omega⟩, Fin.ext (by show j.val = 256 * (j.val / 256) + j.val % 256; omega)⟩

/-- The same for 512 channels a head. -/
theorem split512 (j : Fin 1024) : ∃ (z : Fin 2) (n : Fin 512), j = ⟨512 * z + n, by omega⟩ :=
  ⟨⟨j / 512, by omega⟩, ⟨j % 512, by omega⟩, Fin.ext (by show j.val = 512 * (j.val / 512) + j.val % 512; omega)⟩

/-- The gradient of the queries. -/
def resQ : Narrow := narrowOf (dqAt (aQ V) (aK V) (aV V) (aL V) (aG V))

/-- The backward call's gradient of the queries is the recursion's. -/
theorem resQ_eq : (dat1 (mid m c) c).arrAt 6 cfg1.N = resQ (V0 m c) := by
  refine (dat1 (mid m c) c).arrAt_eq_of_covers 6 _ (by decide +kernel) fun t hf y => ?_
  idx_vars y
  blk_simp
  rw [dat1_after_6]
  have ht : t.val < 144 := t.isLt
  obtain ⟨z, n, rfl⟩ := split256 y1
  have e : (win1_6.blk t).view.emb (ix2 y0 ⟨256 * z + n, by omega⟩)
      = ix2 (row (35 - t.val % 36) y0) (chan (⟨2 * (t.val / 36) + z, by omega⟩ : Fin 8) n) := by
    blk_ext [idx1 t, row, chan]
  rw [e]
  refine (bwdQ_at _ _ (holdsM m c t) z y0 n).trans ?_
  rw [saved_blk]
  refine Eq.trans ?_ (narrowOf_at _ _ _ (by omega) _ _).symm
  unfold dqAt
  rfl

/-- The gradient of the keys. -/
def resK : Narrow := narrowOf (dkAt (aQ V) (aK V) (aV V) (aL V) (aG V))

/-- The backward call's gradient of the keys is the recursion's. -/
theorem resK_eq : (dat1 (mid m c) c).arrAt 7 cfg1.N = resK (V0 m c) := by
  refine (dat1 (mid m c) c).arrAt_eq_of_covers 7 _ (by decide +kernel) fun t hf y => ?_
  idx_vars y
  blk_simp
  rw [dat1_after_7]
  have ht : t.val < 144 := t.isLt
  obtain ⟨z, n, rfl⟩ := split256 y1
  have e : (win1_7.blk t).view.emb (ix2 y0 ⟨256 * z + n, by omega⟩)
      = ix2 (row (35 - t.val % 36) y0) (chan (⟨2 * (t.val / 36) + z, by omega⟩ : Fin 8) n) := by
    blk_ext [idx1 t, row, chan]
  rw [e]
  refine (bwdK_at _ _ (holdsM m c t) z y0 n).trans ?_
  rw [grad_scratch]
  refine Eq.trans ?_ (narrowOf_at _ _ _ (by omega) _ _).symm
  unfold dkAt
  rw [show 35 - (35 - t.val % 36) = t.val % 36 by omega]
  rfl

/-- The gradient of the values. -/
def resV : Wide := wideOf (dvAt (aQ V) (aK V) (aV V) (aL V) (aG V))

/-- The backward call's gradient of the values is the recursion's. -/
theorem resV_eq : (dat1 (mid m c) c).arrAt 8 cfg1.N = resV (V0 m c) := by
  refine (dat1 (mid m c) c).arrAt_eq_of_covers 8 _ (by decide +kernel) fun t hf y => ?_
  idx_vars y
  blk_simp
  rw [dat1_after_8]
  have ht : t.val < 144 := t.isLt
  obtain ⟨z, n, rfl⟩ := split512 y1
  have e : (win1_8.blk t).view.emb (ix2 y0 ⟨512 * z + n, by omega⟩)
      = ix2 (row (35 - t.val % 36) y0) (wide (⟨2 * (t.val / 36) + z, by omega⟩ : Fin 8) n) := by
    blk_ext [idx1 t, row, wide]
  rw [e]
  refine (bwdV_at _ _ (holdsM m c t) z y0 n).trans ?_
  rw [grad_scratch]
  refine Eq.trans ?_ (wideOf_at _ _ _ (by omega) _ _).symm
  unfold dvAt
  rw [show 35 - (35 - t.val % 36) = t.val % 36 by omega]
  rfl

/-- The gradient of the log decays. -/
def resL : Decays := decaysOf (dlaAt (aQ V) (aK V) (aV V) (aL V) (aG V))

/-- The backward call's gradient of the log decays is the recursion's. -/
theorem resL_eq : (dat1 (mid m c) c).arrAt 9 cfg1.N = resL (V0 m c) := by
  refine (dat1 (mid m c) c).arrAt_eq_of_covers 9 _ (by decide +kernel) fun t hf y => ?_
  idx_vars y
  blk_simp
  rw [dat1_after_9]
  have ht : t.val < 144 := t.isLt
  obtain rfl : y2 = 0 := Subsingleton.elim _ _
  have e : (win1_9.blk t).view.emb (ix3 y0 y1 0)
      = ix3 (⟨2 * (t.val / 36) + y0, by omega⟩ : Fin 8) (row (35 - t.val % 36) y1) (0 : Fin 1) := by
    blk_ext [idx1 t, row]
  rw [e]
  refine (bwdA_at _ _ (holdsM m c t) y0 y1).trans ?_
  rw [saved_blk, grad_scratch]
  refine Eq.trans ?_ (decaysOf_at _ _ _ (by omega) _ _).symm
  unfold dlaAt
  rw [show 35 - (35 - t.val % 36) = t.val % 36 by omega]
  rfl

end Cert.KernelIdeal.Ret
-- ==== Proof.Ker.Same.lean ====
module

public import proofs.«01_k».proof.Defs
public import proofs.«01_k».proof.Proof.Gen.Kernel
public import proofs.«01_k».proof.Proof.Gen.KernelIdeal

/-!
# The printed program and the ideal program are one text

No operation was rewritten, so the two programs are equal at the same float values. The bodies are compared one by one,
then the tables that hold them.
-/

@[expose] public section

noncomputable section

namespace Cert.Same

open Idealize.ShloMosaic

/-- The forward call's bodies are equal. -/
theorem fwd_eq : @Cert.Kernel.cc0_ret_scan_f_fwd Bits _ Cert.Kernel.Gen.facts
    = @Cert.KernelIdeal.cc0_ret_scan_f_fwd Bits _ Cert.KernelIdeal.Gen.facts := rfl

/-- The backward call's bodies are equal. -/
theorem bwd_eq : @Cert.Kernel.cc1_ret_scan_f_bwd Bits _ Cert.Kernel.Gen.facts
    = @Cert.KernelIdeal.cc1_ret_scan_f_bwd Bits _ Cert.KernelIdeal.Gen.facts := rfl

set_option maxHeartbeats 4000000 in
/-- The tables of bodies are equal. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) =>
    show Cert.Kernel.cc0_ret_scan_f_fwd .. = Cert.KernelIdeal.cc0_ret_scan_f_fwd ..
    rw [fwd_eq]
    rfl
  | 1, (t, s) =>
    show Cert.Kernel.cc1_ret_scan_f_bwd .. = Cert.KernelIdeal.cc1_ret_scan_f_bwd ..
    rw [bwd_eq]
    rfl
  | ⟨_ + 2, h⟩, _ => exact absurd h (by omega)

/-- The tables of bodies and pipelines are equal. -/
theorem defs_eq : @Cert.Kernel.defs Bits _ Cert.Kernel.Gen.facts = @Cert.KernelIdeal.defs Bits _ Cert.KernelIdeal.Gen.facts := by
  unfold Cert.Kernel.defs Cert.KernelIdeal.defs
  rw [bodies_eq]
  rfl

end Cert.Same
-- ==== Proof.Ref.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

/-- The arrays of a shape and an element type. -/
abbrev Arr (F : FTy → Type) (S : Shape) (t : EltTy) : Type := (⟨S, t⟩ : BufTy).Contents (Elt F)

/-- Operations before the first loop, stretch 0. -/
abbrev pre_0 : Line :=
  [ nullary main_v0 (iotaInDim S64 32 0),
    unary main_v0 main_v1 (broadcastInDim S64x1 ![0] bcast_S64_S64x1_0 : Arr F S64 .i32 → Arr F S64x1 .i32),
    unary main_v0 main_v2 (broadcastInDim S1x64 ![1] bcast_S64_S1x64_1 : Arr F S64 .i32 → Arr F S1x64 .i32),
    unary main_v1 main_v3 (broadcastInDim S64x64 ![0, 1] bcast_S64x1_S64x64_0_1 : Arr F S64x1 .i32 → Arr F S64x64 .i32),
    unary main_v2 main_v4 (broadcastInDim S64x64 ![0, 1] bcast_S1x64_S64x64_0_1 : Arr F S1x64 .i32 → Arr F S64x64 .i32),
    binary main_v3 main_v4 main_v5 (cmpi .sge : Arr F S64x64 .i32 → Arr F S64x64 .i32 → Arr F S64x64 .i1),
    nullary main_cst (constant S_ .f32 0x00000000#32),
    unary main_cst main_v6 (broadcastInDim S8x256x512 ![] bcast_S_S8x256x512 : Arr F S_ .f32 → Arr F S8x256x512 .f32),
    reshape main_arg0 main_v7 (rfl : (.f32 : EltTy) = .f32) shapeCasts_S2304x2048_S36x64x8x256,
    unary main_v7 main_v8 ((transpose S36x8x64x256 [0, 2, 1, 3] · transposes_S36x64x8x256_S36x8x64x256_0_2_1_3) : Arr F S36x64x8x256 .f32 → Arr F S36x8x64x256 .f32),
    reshape main_arg1 main_v9 (rfl : (.f32 : EltTy) = .f32) shapeCasts_S2304x2048_S36x64x8x256,
    unary main_v9 main_v10 ((transpose S36x8x64x256 [0, 2, 1, 3] · transposes_S36x64x8x256_S36x8x64x256_0_2_1_3) : Arr F S36x64x8x256 .f32 → Arr F S36x8x64x256 .f32),
    reshape main_arg2 main_v11 (rfl : (.f32 : EltTy) = .f32) shapeCasts_S2304x4096_S36x64x8x512,
    unary main_v11 main_v12 ((transpose S36x8x64x512 [0, 2, 1, 3] · transposes_S36x64x8x512_S36x8x64x512_0_2_1_3) : Arr F S36x64x8x512 .f32 → Arr F S36x8x64x512 .f32),
    reshape main_arg3 main_v13 (rfl : (.f32 : EltTy) = .f32) shapeCasts_S8x2304x1_S8x36x64,
    unary main_v13 main_v14 ((transpose S36x8x64 [1, 0, 2] · transposes_S8x36x64_S36x8x64_1_0_2) : Arr F S8x36x64 .f32 → Arr F S36x8x64 .f32),
    nullary main_cst_0 (constant S_ .f32 0x00000000#32) ]
/-- `pre_0` touches TensorCore buffers only. -/
theorem pre_0_sub : (pre_0 : Line).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., reshape_bufs_sub .., unary_bufs_sub .., reshape_bufs_sub .., unary_bufs_sub .., reshape_bufs_sub .., unary_bufs_sub .., reshape_bufs_sub .., unary_bufs_sub .., nullary_bufs_sub ..⟩
/-- Operations before the first loop, stretch 1. -/
abbrev pre_1 : Line :=
  [ TRef.unary (.of main_cst_0 : TRef sig ⟨S_, .f32⟩) (.of main_call0_v0 : TRef sig ⟨S_, .f32⟩) id,
    TRef.unary (.of main_v5 : TRef sig ⟨S64x64, .i1⟩) (.of main_v15_0 : TRef sig ⟨S8x64x64, .i1⟩) (broadcastInDim S8x64x64 ![1, 2] bcast_S64x64_S8x64x64_1_2),
    TRef.unary (.of main_call0_v0 : TRef sig ⟨S_, .f32⟩) (.of main_v15_1 : TRef sig ⟨S8x64x64, .f32⟩) (broadcastInDim S8x64x64 ![] bcast_S_S8x64x64) ]
/-- `pre_1` touches TensorCore buffers only. -/
theorem pre_1_sub : (pre_1 : Line).Forall fun op => op.bufs ⊆ tcRefs τ sig :=
  ⟨unary_bufs_sub .., unary_bufs_sub .., unary_bufs_sub ..⟩
/-- Operations before the first loop, stretch 2. -/
abbrev pre_2 : Line :=
  [ nullary main_cst_1 (constant S_ .f32 0xFF800000#32) ]
/-- `pre_2` touches TensorCore buffers only. -/
theorem pre_2_sub : (pre_2 : Line).Forall fun op => op.bufs ⊆ tcRefs τ sig :=
  nullary_bufs_sub ..
/-- Operations before the first loop, stretch 3. -/
abbrev pre_3 : Line :=
  [ TRef.unary (.of main_cst_1 : TRef sig ⟨S_, .f32⟩) (.of main_call1_v0 : TRef sig ⟨S_, .f32⟩) id,
    TRef.unary (.of main_v5 : TRef sig ⟨S64x64, .i1⟩) (.of main_v16_0 : TRef sig ⟨S8x64x64, .i1⟩) (broadcastInDim S8x64x64 ![1, 2] bcast_S64x64_S8x64x64_1_2),
    TRef.unary (.of main_call1_v0 : TRef sig ⟨S_, .f32⟩) (.of main_v16_1 : TRef sig ⟨S8x64x64, .f32⟩) (broadcastInDim S8x64x64 ![] bcast_S_S8x64x64) ]
/-- `pre_3` touches TensorCore buffers only. -/
theorem pre_3_sub : (pre_3 : Line).Forall fun op => op.bufs ⊆ tcRefs τ sig :=
  ⟨unary_bufs_sub .., unary_bufs_sub .., unary_bufs_sub ..⟩
/-- Operations before the first loop, stretch 4. -/
abbrev pre_4 : Line :=
  [ nullary main_cst_2 (constant S_ .f32 0x00000000#32),
    unary main_cst_2 main_v17 (broadcastInDim S36x8x64x512 ![] bcast_S_S36x8x64x512 : Arr F S_ .f32 → Arr F S36x8x64x512 .f32),
    nullary main_cst_3 (constant S_ .f32 0x00000000#32),
    unary main_cst_3 main_v18 (broadcastInDim S36x8x256x512 ![] bcast_S_S36x8x256x512 : Arr F S_ .f32 → Arr F S36x8x256x512 .f32),
    nullary main_c (constantI S_ 32 0#32),
    unary main_v8 main_v19_0 id,
    unary main_v10 main_v19_1 id,
    unary main_v12 main_v19_2 id,
    unary main_v14 main_v19_3 id,
    unary main_v15_0 main_v19_4 id,
    unary main_v15_1 main_v19_5 id,
    unary main_v16_0 main_v19_6 id,
    unary main_v16_1 main_v19_7 id,
    unary main_c main_v19_8 id,
    unary main_v6 main_v19_9 id,
    unary main_v17 main_v19_10 id,
    unary main_v18 main_v19_11 id ]
/-- `pre_4` touches TensorCore buffers only. -/
theorem pre_4_sub : (pre_4 : Line).Forall fun op => op.bufs ⊆ tcRefs τ sig :=
  ⟨nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The stretches before the first loop, in order. -/
abbrev preL : List Line := [pre_0, pre_1, pre_2, pre_3, pre_4]
/-- They allocate nothing and touch TensorCore buffers only. -/
theorem pre_plain : Plain (preL (F := F)) :=
  Plain.cons pre_0_sub (Plain.cons pre_1_sub (Plain.cons pre_2_sub (Plain.cons pre_3_sub (Plain.cons pre_4_sub (Plain.nil)))))
/-- Operations between the loops, stretch 0. -/
abbrev mid_0 : Line :=
  [ unary main_v19_10 main_v20 ((transpose S36x64x8x512 [0, 2, 1, 3] · transposes_S36x8x64x512_S36x64x8x512_0_2_1_3) : Arr F S36x8x64x512 .f32 → Arr F S36x64x8x512 .f32),
    reshape main_v20 main_v21 (rfl : (.f32 : EltTy) = .f32) shapeCasts_S36x64x8x512_S2304x4096,
    nullary main_cst_4 (constant S_ .f32 0x00000000#32),
    unary main_cst_4 main_v22 (broadcastInDim S8x256x512 ![] bcast_S_S8x256x512 : Arr F S_ .f32 → Arr F S8x256x512 .f32),
    reshape main_arg4 main_v23 (rfl : (.f32 : EltTy) = .f32) shapeCasts_S2304x4096_S36x64x8x512,
    unary main_v23 main_v24 ((transpose S36x8x64x512 [0, 2, 1, 3] · transposes_S36x64x8x512_S36x8x64x512_0_2_1_3) : Arr F S36x64x8x512 .f32 → Arr F S36x8x64x512 .f32),
    nullary main_cst_5 (constant S_ .f32 0x00000000#32),
    unary main_cst_5 main_v25 (broadcastInDim S8x256x512 ![] bcast_S_S8x256x512 : Arr F S_ .f32 → Arr F S8x256x512 .f32),
    nullary main_cst_6 (constant S_ .f32 0x00000000#32),
    unary main_cst_6 main_v26 (broadcastInDim S36x8x64x256 ![] bcast_S_S36x8x64x256 : Arr F S_ .f32 → Arr F S36x8x64x256 .f32),
    nullary main_cst_7 (constant S_ .f32 0x00000000#32),
    unary main_cst_7 main_v27 (broadcastInDim S36x8x64x256 ![] bcast_S_S36x8x64x256 : Arr F S_ .f32 → Arr F S36x8x64x256 .f32),
    nullary main_cst_8 (constant S_ .f32 0x00000000#32),
    unary main_cst_8 main_v28 (broadcastInDim S36x8x64x512 ![] bcast_S_S36x8x64x512 : Arr F S_ .f32 → Arr F S36x8x64x512 .f32),
    nullary main_cst_9 (constant S_ .f32 0x00000000#32),
    unary main_cst_9 main_v29 (broadcastInDim S36x8x64 ![] bcast_S_S36x8x64 : Arr F S_ .f32 → Arr F S36x8x64 .f32),
    nullary main_c_10 (constantI S_ 32 0#32),
    unary main_v24 main_v30_0 id,
    unary main_v19_11 main_v30_1 id,
    unary main_v8 main_v30_2 id,
    unary main_v10 main_v30_3 id,
    unary main_v12 main_v30_4 id ]
/-- `mid_0` touches TensorCore buffers only. -/
theorem mid_0_sub : (mid_0 : Line).Forall fun op => op.bufs ⊆ tcRefs τ sig :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
/-- Operations between the loops, stretch 1. -/
abbrev mid_1 : Line :=
  [ unary main_v14 main_v30_5 id,
    unary main_v5 main_v30_6 id,
    unary main_c_10 main_v30_7 id,
    unary main_v25 main_v30_8 id,
    unary main_v26 main_v30_9 id,
    unary main_v27 main_v30_10 id,
    unary main_v28 main_v30_11 id,
    unary main_v29 main_v30_12 id ]
/-- `mid_1` touches TensorCore buffers only. -/
theorem mid_1_sub : (mid_1 : Line).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩
/-- The stretches between the loops, in order. -/
abbrev midL : List Line := [mid_0, mid_1]
/-- They allocate nothing and touch TensorCore buffers only. -/
theorem mid_plain : Plain (midL (F := F)) :=
  Plain.cons mid_0_sub (Plain.cons mid_1_sub (Plain.nil))
/-- Operations after the second loop, stretch 0. -/
abbrev post_0 : Line :=
  [ unary main_v30_12 main_v31 ((transpose S8x36x64 [1, 0, 2] · transposes_S36x8x64_S8x36x64_1_0_2) : Arr F S36x8x64 .f32 → Arr F S8x36x64 .f32),
    reshape main_v31 main_v32 (rfl : (.f32 : EltTy) = .f32) shapeCasts_S8x36x64_S8x2304x1,
    unary main_v30_11 main_v33 ((transpose S36x64x8x512 [0, 2, 1, 3] · transposes_S36x8x64x512_S36x64x8x512_0_2_1_3) : Arr F S36x8x64x512 .f32 → Arr F S36x64x8x512 .f32),
    reshape main_v33 main_v34 (rfl : (.f32 : EltTy) = .f32) shapeCasts_S36x64x8x512_S2304x4096,
    unary main_v30_10 main_v35 ((transpose S36x64x8x256 [0, 2, 1, 3] · transposes_S36x8x64x256_S36x64x8x256_0_2_1_3) : Arr F S36x8x64x256 .f32 → Arr F S36x64x8x256 .f32),
    reshape main_v35 main_v36 (rfl : (.f32 : EltTy) = .f32) shapeCasts_S36x64x8x256_S2304x2048,
    unary main_v30_9 main_v37 ((transpose S36x64x8x256 [0, 2, 1, 3] · transposes_S36x8x64x256_S36x64x8x256_0_2_1_3) : Arr F S36x8x64x256 .f32 → Arr F S36x64x8x256 .f32),
    reshape main_v37 main_v38 (rfl : (.f32 : EltTy) = .f32) shapeCasts_S36x64x8x256_S2304x2048 ]
/-- `post_0` touches TensorCore buffers only. -/
theorem post_0_sub : (post_0 : Line).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
/-- The stretches after the second loop, in order. -/
abbrev postL : List Line := [post_0]
/-- They allocate nothing and touch TensorCore buffers only. -/
theorem post_plain : Plain (postL (F := F)) :=
  Plain.cons post_0_sub (Plain.nil)
/-- Operations of the first loop's turn, stretch 0. -/
abbrev turn_0 : Line :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v19_0 : TRef sig ⟨S36x8x64x256, .f32⟩) ![(.of main_v19_8 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x8x64x256, .f32⟩) (fun x i => Host.dynamicSlice S1x8x64x256 x (fun k => (i k (Shape.Idx.first h_S_)).toInt) sliceFits_S36x8x64x256_S1x8x64x256),
    TRef.reshape (.of main_while0b_call2_v0 : TRef sig ⟨S1x8x64x256, .f32⟩) (.of main_while0b_v39 : TRef sig ⟨S8x64x256, .f32⟩) (rfl : (.f32 : EltTy) = .f32) shapeCasts_S1x8x64x256_S8x64x256 ]
/-- `turn_0` touches TensorCore buffers only. -/
theorem turn_0_sub : (turn_0 : Line).Forall fun op => op.bufs ⊆ tcRefs τ sig :=
  ⟨nullary_bufs_sub .., nullary_bufs_sub .., nullary_bufs_sub .., unaryIndexed_bufs_sub .., reshape_bufs_sub ..⟩
/-- Operations of the first loop's turn, stretch 1. -/
abbrev turn_1 : Line :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v19_1 : TRef sig ⟨S36x8x64x256, .f32⟩) ![(.of main_v19_8 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x8x64x256, .f32⟩) (fun x i => Host.dynamicSlice S1x8x64x256 x (fun k => (i k (Shape.Idx.first h_S_)).toInt) sliceFits_S36x8x64x256_S1x8x64x256),
    TRef.reshape (.of main_while0b_call3_v0 : TRef sig ⟨S1x8x64x256, .f32⟩) (.of main_while0b_v40 : TRef sig ⟨S8x64x256, .f32⟩) (rfl : (.f32 : EltTy) = .f32) shapeCasts_S1x8x64x256_S8x64x256 ]
/-- `turn_1` touches TensorCore buffers only. -/
theorem turn_1_sub : (turn_1 : Line).Forall fun op => op.bufs ⊆ tcRefs τ sig :=
  ⟨nullary_bufs_sub .., nullary_bufs_sub .., nullary_bufs_sub .., unaryIndexed_bufs_sub .., reshape_bufs_sub ..⟩
/-- Operations of the first loop's turn, stretch 2. -/
abbrev turn_2 : Line :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v19_2 : TRef sig ⟨S36x8x64x512, .f32⟩) ![(.of main_v19_8 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x8x64x512, .f32⟩) (fun x i => Host.dynamicSlice S1x8x64x512 x (fun k => (i k (Shape.Idx.first h_S_)).toInt) sliceFits_S36x8x64x512_S1x8x64x512),
    TRef.reshape (.of main_while0b_call4_v0 : TRef sig ⟨S1x8x64x512, .f32⟩) (.of main_while0b_v41 : TRef sig ⟨S8x64x512, .f32⟩) (rfl : (.f32 : EltTy) = .f32) shapeCasts_S1x8x64x512_S8x64x512 ]
/-- `turn_2` touches TensorCore buffers only. -/
theorem turn_2_sub : (turn_2 : Line).Forall fun op => op.bufs ⊆ tcRefs τ sig :=
  ⟨nullary_bufs_sub .., nullary_bufs_sub .., nullary_bufs_sub .., unaryIndexed_bufs_sub .., reshape_bufs_sub ..⟩
/-- Operations of the first loop's turn, stretch 3. -/
abbrev turn_3 : Line :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.unaryIndexed (.of main_v19_3 : TRef sig ⟨S36x8x64, .f32⟩) ![(.of main_v19_8 : TRef sig ⟨S_, .i32⟩), (.of main_while0b_call5_c : TRef sig ⟨S_, .i32⟩), (.of main_while0b_call5_c_0 : TRef sig ⟨S_, .i32⟩)] (.of main_while0b_call5_v0 : TRef sig ⟨S1x8x64, .f32⟩) (fun x i => Host.dynamicSlice S1x8x64 x (fun k => (i k (Shape.Idx.first h_S_)).toInt) sliceFits_S36x8x64_S1x8x64),
    TRef.reshape (.of main_while0b_call5_v0 : TRef sig ⟨S1x8x64, .f32⟩) (.of main_while0b_v42 : TRef sig ⟨S8x64, .f32⟩) (rfl : (.f32 : EltTy) = .f32) shapeCasts_S1x8x64_S8x64 ]
/-- `turn_3` touches TensorCore buffers only. -/
theorem turn_3_sub : (turn_3 : Line).Forall fun op => op.bufs ⊆ tcRefs τ sig :=
  ⟨nullary_bufs_sub .., nullary_bufs_sub .., unaryIndexed_bufs_sub .., reshape_bufs_sub ..⟩
/-- Operations of the first loop's turn, stretch 4. -/
abbrev turn_4 : Line :=
  [ unary main_while0b_v42 main_while0b_v43 (broadcastInDim S8x1x64 ![0, 2] bcast_S8x64_S8x1x64_0_2 : Arr F S8x64 .f32 → Arr F S8x1x64 .f32) ]
/-- `turn_4` touches TensorCore buffers only. -/
theorem turn_4_sub : (turn_4 : Line).Forall fun op => op.bufs ⊆ tcRefs τ sig :=
  unary_bufs_sub ..
/-- Operations of the first loop's turn, stretch 5. -/
abbrev turn_5 : Line :=
  [ TRef.unary (.of main_while0b_v43 : TRef sig ⟨S8x1x64, .f32⟩) (.of main_while0b_call6_v0 : TRef sig ⟨S8x64x64, .f32⟩) (broadcastInDim S8x64x64 ![0, 1, 2] bcast_S8x1x64_S8x64x64_0_1_2),
    TRef.ternary (.of main_v19_4 : TRef sig ⟨S8x64x64, .i1⟩) (.of main_while0b_call6_v0 : TRef sig ⟨S8x64x64, .f32⟩) (.of main_v19_5 : TRef sig ⟨S8x64x64, .f32⟩) (.of main_while0b_v44 : TRef sig ⟨S8x64x64, .f32⟩) select ]
/-- `turn_5` touches TensorCore buffers only. -/
theorem turn_5_sub : (turn_5 : Line).Forall fun op => op.bufs ⊆ tcRefs τ sig :=
  ⟨unary_bufs_sub .., ternary_bufs_sub ..⟩
/-- Operations of the first loop's turn, stretch 6. -/
abbrev turn_6 : Line :=
  [ nullary main_while0b_cst_22 (constant S_ .f32 0x00000000#32),
    binary main_while0b_v44 main_while0b_cst_22 main_while0b_v45 ((fun x v => Host.reduceAdd x v reducesTo_S8x64x64_S8x64_d2 h_S_) : Arr F S8x64x64 .f32 → Arr F S_ .f32 → Arr F S8x64 .f32),
    unary main_while0b_v45 main_while0b_v46 (broadcastInDim S8x64x1 ![0, 1] bcast_S8x64_S8x64x1_0_1 : Arr F S8x64 .f32 → Arr F S8x64x1 .f32),
    unary main_while0b_v45 main_while0b_v47 (broadcastInDim S8x1x64 ![0, 2] bcast_S8x64_S8x1x64_0_2 : Arr F S8x64 .f32 → Arr F S8x1x64 .f32),
    unary main_while0b_v46 main_while0b_v48 (broadcastInDim S8x64x64 ![0, 1, 2] bcast_S8x64x1_S8x64x64_0_1_2 : Arr F S8x64x1 .f32 → Arr F S8x64x64 .f32),
    unary main_while0b_v47 main_while0b_v49 (broadcastInDim S8x64x64 ![0, 1, 2] bcast_S8x1x64_S8x64x64_0_1_2 : Arr F S8x1x64 .f32 → Arr F S8x64x64 .f32),
    binary main_while0b_v48 main_while0b_v49 main_while0b_v50 (subf : Arr F S8x64x64 .f32 → Arr F S8x64x64 .f32 → Arr F S8x64x64 .f32),
    binary main_while0b_v39 main_while0b_v40 main_while0b_v51 ((fun l r => Host.dotGeneral dot_S8x64x256_S8x64x256_S8x64x64_2_2_1_1_0_0 none l r) : Arr F S8x64x256 .f32 → Arr F S8x64x256 .f32 → Arr F S8x64x64 .f32) ]
/-- `turn_6` touches TensorCore buffers only. -/
theorem turn_6_sub : (turn_6 : Line).Forall fun op => op.bufs ⊆ tcRefs τ sig :=
  ⟨nullary_bufs_sub .., binary_bufs_sub .., unary_bufs_sub .., unary_bufs_sub .., unary_bufs_sub .., unary_bufs_sub .., binary_bufs_sub .., binary_bufs_sub ..⟩
/-- Operations of the first loop's turn, stretch 7. -/
abbrev turn_7 : Line :=
  [ TRef.ternary (.of main_v19_6 : TRef sig ⟨S8x64x64, .i1⟩) (.of main_while0b_v50 : TRef sig ⟨S8x64x64, .f32⟩) (.of main_v19_7 : TRef sig ⟨S8x64x64, .f32⟩) (.of main_while0b_v52 : TRef sig ⟨S8x64x64, .f32⟩) select ]
/-- `turn_7` touches TensorCore buffers only. -/
theorem turn_7_sub : (turn_7 : Line).Forall fun op => op.bufs ⊆ tcRefs τ sig :=
  ternary_bufs_sub ..
/-- Operations of the first loop's turn, stretch 8. -/
abbrev turn_8 : Line :=
  [ unary main_while0b_v52 main_while0b_v53 (Host.exp : Arr F S8x64x64 .f32 → Arr F S8x64x64 .f32),
    binary main_while0b_v51 main_while0b_v53 main_while0b_v54 (mulf : Arr F S8x64x64 .f32 → Arr F S8x64x64 .f32 → Arr F S8x64x64 .f32),
    binary main_while0b_v54 main_while0b_v41 main_while0b_v55 ((fun l r => Host.dotGeneral dot_S8x64x64_S8x64x512_S8x64x512_2_1_1_2_0_0 none l r) : Arr F S8x64x64 .f32 → Arr F S8x64x512 .f32 → Arr F S8x64x512 .f32),
    binary main_while0b_v39 main_v19_9 main_while0b_v56 ((fun l r => Host.dotGeneral dot_S8x64x256_S8x256x512_S8x64x512_2_1_1_2_0_0 none l r) : Arr F S8x64x256 .f32 → Arr F S8x256x512 .f32 → Arr F S8x64x512 .f32),
    unary main_while0b_v45 main_while0b_v57 (Host.exp : Arr F S8x64 .f32 → Arr F S8x64 .f32),
    unary main_while0b_v57 main_while0b_v58 (broadcastInDim S8x64x1 ![0, 1] bcast_S8x64_S8x64x1_0_1 : Arr F S8x64 .f32 → Arr F S8x64x1 .f32),
    unary main_while0b_v58 main_while0b_v59 (broadcastInDim S8x64x512 ![0, 1, 2] bcast_S8x64x1_S8x64x512_0_1_2 : Arr F S8x64x1 .f32 → Arr F S8x64x512 .f32),
    binary main_while0b_v56 main_while0b_v59 main_while0b_v60 (mulf : Arr F S8x64x512 .f32 → Arr F S8x64x512 .f32 → Arr F S8x64x512 .f32),
    binary main_while0b_v55 main_while0b_v60 main_while0b_v61 (addf : Arr F S8x64x512 .f32 → Arr F S8x64x512 .f32 → Arr F S8x64x512 .f32),
    unary main_while0b_v45 main_while0b_v62 ((extractStridedSlice S8x1 ![0, 63] · slices_S8x64_S8x1_0_63) : Arr F S8x64 .f32 → Arr F S8x1 .f32),
    unary main_while0b_v62 main_while0b_v63 (Host.exp : Arr F S8x1 .f32 → Arr F S8x1 .f32),
    unary main_while0b_v63 main_while0b_v64 (broadcastInDim S8x1x1 ![0, 1] bcast_S8x1_S8x1x1_0_1 : Arr F S8x1 .f32 → Arr F S8x1x1 .f32),
    unary main_while0b_v64 main_while0b_v65 (broadcastInDim S8x256x512 ![0, 1, 2] bcast_S8x1x1_S8x256x512_0_1_2 : Arr F S8x1x1 .f32 → Arr F S8x256x512 .f32),
    binary main_while0b_v65 main_v19_9 main_while0b_v66 (mulf : Arr F S8x256x512 .f32 → Arr F S8x256x512 .f32 → Arr F S8x256x512 .f32),
    unary main_while0b_v62 main_while0b_v67 (broadcastInDim S8x64 ![0, 1] bcast_S8x1_S8x64_0_1 : Arr F S8x1 .f32 → Arr F S8x64 .f32),
    binary main_while0b_v67 main_while0b_v45 main_while0b_v68 (subf : Arr F S8x64 .f32 → Arr F S8x64 .f32 → Arr F S8x64 .f32),
    unary main_while0b_v68 main_while0b_v69 (Host.exp : Arr F S8x64 .f32 → Arr F S8x64 .f32),
    unary main_while0b_v69 main_while0b_v70 (broadcastInDim S8x64x1 ![0, 1] bcast_S8x64_S8x64x1_0_1 : Arr F S8x64 .f32 → Arr F S8x64x1 .f32),
    unary main_while0b_v70 main_while0b_v71 (broadcastInDim S8x64x512 ![0, 1, 2] bcast_S8x64x1_S8x64x512_0_1_2 : Arr F S8x64x1 .f32 → Arr F S8x64x512 .f32),
    binary main_while0b_v71 main_while0b_v41 main_while0b_v72 (mulf : Arr F S8x64x512 .f32 → Arr F S8x64x512 .f32 → Arr F S8x64x512 .f32),
    binary main_while0b_v40 main_while0b_v72 main_while0b_v73 ((fun l r => Host.dotGeneral dot_S8x64x256_S8x64x512_S8x256x512_1_1_2_2_0_0 none l r) : Arr F S8x64x256 .f32 → Arr F S8x64x512 .f32 → Arr F S8x256x512 .f32),
    binary main_while0b_v66 main_while0b_v73 main_while0b_v74 (addf : Arr F S8x256x512 .f32 → Arr F S8x256x512 .f32 → Arr F S8x256x512 .f32) ]
/-- `turn_8` touches TensorCore buffers only. -/
theorem turn_8_sub : (turn_8 : Line).Forall fun op => op.bufs ⊆ tcRefs τ sig :=
  ⟨unary_bufs_sub .., binary_bufs_sub .., binary_bufs_sub .., binary_bufs_sub .., unary_bufs_sub .., unary_bufs_sub .., unary_bufs_sub .., binary_bufs_sub .., binary_bufs_sub .., unary_bufs_sub .., unary_bufs_sub .., unary_bufs_sub .., unary_bufs_sub .., binary_bufs_sub .., unary_bufs_sub .., binary_bufs_sub .., unary_bufs_sub .., unary_bufs_sub .., unary_bufs_sub .., binary_bufs_sub .., binary_bufs_sub .., binary_bufs_sub ..⟩
/-- Operations of the first loop's turn, stretch 9. -/
abbrev turn_9 : Line :=
  [ TRef.unary (.of main_while0b_v61 : TRef sig ⟨S8x64x512, .f32⟩) (.of main_while0b_call8_v0 : TRef sig ⟨S1x8x64x512, .f32⟩) (broadcastInDim S1x8x64x512 ![1, 2, 3] bcast_S8x64x512_S1x8x64x512_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v19_10 : TRef sig ⟨S36x8x64x512, .f32⟩) (.of main_while0b_call8_v0 : TRef sig ⟨S1x8x64x512, .f32⟩) ![(.of main_v19_8 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v75 : TRef sig ⟨S36x8x64x512, .f32⟩) (fun x u i => Host.dynamicUpdateSlice x u (fun k => (i k (Shape.Idx.first h_S_)).toInt) updateFits_S36x8x64x512_S1x8x64x512) ]
/-- `turn_9` touches TensorCore buffers only. -/
theorem turn_9_sub : (turn_9 : Line).Forall fun op => op.bufs ⊆ tcRefs τ sig :=
  ⟨unary_bufs_sub .., nullary_bufs_sub .., nullary_bufs_sub .., nullary_bufs_sub .., binaryIndexed_bufs_sub ..⟩
/-- Operations of the first loop's turn, stretch 10. -/
abbrev turn_10 : Line :=
  [ TRef.unary (.of main_v19_9 : TRef sig ⟨S8x256x512, .f32⟩) (.of main_while0b_call9_v0 : TRef sig ⟨S1x8x256x512, .f32⟩) (broadcastInDim S1x8x256x512 ![1, 2, 3] bcast_S8x256x512_S1x8x256x512_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v19_11 : TRef sig ⟨S36x8x256x512, .f32⟩) (.of main_while0b_call9_v0 : TRef sig ⟨S1x8x256x512, .f32⟩) ![(.of main_v19_8 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v76 : TRef sig ⟨S36x8x256x512, .f32⟩) (fun x u i => Host.dynamicUpdateSlice x u (fun k => (i k (Shape.Idx.first h_S_)).toInt) updateFits_S36x8x256x512_S1x8x256x512) ]
/-- `turn_10` touches TensorCore buffers only. -/
theorem turn_10_sub : (turn_10 : Line).Forall fun op => op.bufs ⊆ tcRefs τ sig :=
  ⟨unary_bufs_sub .., nullary_bufs_sub .., nullary_bufs_sub .., nullary_bufs_sub .., binaryIndexed_bufs_sub ..⟩
/-- Operations of the first loop's turn, stretch 11. -/
abbrev turn_11 : Line :=
  [ nullary main_while0b_c_23 (constantI S_ 32 1#32),
    binary main_v19_8 main_while0b_c_23 main_while0b_v77 (addi : Arr F S_ .i32 → Arr F S_ .i32 → Arr F S_ .i32),
    unary main_while0b_v77 main_v19_8 id,
    unary main_while0b_v74 main_v19_9 id,
    unary main_while0b_v75 main_v19_10 id,
    unary main_while0b_v76 main_v19_11 id ]
/-- `turn_11` touches TensorCore buffers only. -/
theorem turn_11_sub : (turn_11 : Line).Forall fun op => op.bufs ⊆ tcRefs τ sig :=
  ⟨nullary_bufs_sub .., binary_bufs_sub .., unary_bufs_sub .., unary_bufs_sub .., unary_bufs_sub .., unary_bufs_sub ..⟩
/-- The stretches of the first loop's turn, in order. -/
abbrev turnL : List Line := [turn_0, turn_1, turn_2, turn_3, turn_4, turn_5, turn_6, turn_7, turn_8, turn_9, turn_10, turn_11]
/-- They allocate nothing and touch TensorCore buffers only. -/
theorem turn_plain : Plain (turnL (F := F)) :=
  Plain.cons turn_0_sub (Plain.cons turn_1_sub (Plain.cons turn_2_sub (Plain.cons turn_3_sub (Plain.cons turn_4_sub (Plain.cons turn_5_sub (Plain.cons turn_6_sub (Plain.cons turn_7_sub (Plain.cons turn_8_sub (Plain.cons turn_9_sub (Plain.cons turn_10_sub (Plain.cons turn_11_sub (Plain.nil))))))))))))
/-- Operations of the second loop's turn, stretch 0. -/
abbrev back_0 : Line :=
  [ nullary main_while1b_c_23 (constantI S_ 32 36#32),
    binary main_while1b_c_23 main_v30_7 main_while1b_v39 (subi : Arr F S_ .i32 → Arr F S_ .i32 → Arr F S_ .i32),
    nullary main_while1b_c_24 (constantI S_ 32 1#32),
    binary main_while1b_v39 main_while1b_c_24 main_while1b_v40 (subi : Arr F S_ .i32 → Arr F S_ .i32 → Arr F S_ .i32) ]
/-- `back_0` touches TensorCore buffers only. -/
theorem back_0_sub : (back_0 : Line).Forall fun op => op.bufs ⊆ tcRefs τ sig :=
  ⟨nullary_bufs_sub .., binary_bufs_sub .., nullary_bufs_sub .., binary_bufs_sub ..⟩
/-- Operations of the second loop's turn, stretch 1. -/
abbrev back_1 : Line :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v30_0 : TRef sig ⟨S36x8x64x512, .f32⟩) ![(.of main_while1b_v40 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x8x64x512, .f32⟩) (fun x i => Host.dynamicSlice S1x8x64x512 x (fun k => (i k (Shape.Idx.first h_S_)).toInt) sliceFits_S36x8x64x512_S1x8x64x512),
    TRef.reshape (.of main_while1b_call10_v0 : TRef sig ⟨S1x8x64x512, .f32⟩) (.of main_while1b_v41 : TRef sig ⟨S8x64x512, .f32⟩) (rfl : (.f32 : EltTy) = .f32) shapeCasts_S1x8x64x512_S8x64x512 ]
/-- `back_1` touches TensorCore buffers only. -/
theorem back_1_sub : (back_1 : Line).Forall fun op => op.bufs ⊆ tcRefs τ sig :=
  ⟨nullary_bufs_sub .., nullary_bufs_sub .., nullary_bufs_sub .., unaryIndexed_bufs_sub .., reshape_bufs_sub ..⟩
/-- Operations of the second loop's turn, stretch 2. -/
abbrev back_2 : Line :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v30_1 : TRef sig ⟨S36x8x256x512, .f32⟩) ![(.of main_while1b_v40 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x8x256x512, .f32⟩) (fun x i => Host.dynamicSlice S1x8x256x512 x (fun k => (i k (Shape.Idx.first h_S_)).toInt) sliceFits_S36x8x256x512_S1x8x256x512),
    TRef.reshape (.of main_while1b_call11_v0 : TRef sig ⟨S1x8x256x512, .f32⟩) (.of main_while1b_v42 : TRef sig ⟨S8x256x512, .f32⟩) (rfl : (.f32 : EltTy) = .f32) shapeCasts_S1x8x256x512_S8x256x512 ]
/-- `back_2` touches TensorCore buffers only. -/
theorem back_2_sub : (back_2 : Line).Forall fun op => op.bufs ⊆ tcRefs τ sig :=
  ⟨nullary_bufs_sub .., nullary_bufs_sub .., nullary_bufs_sub .., unaryIndexed_bufs_sub .., reshape_bufs_sub ..⟩
/-- Operations of the second loop's turn, stretch 3. -/
abbrev back_3 : Line :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v30_2 : TRef sig ⟨S36x8x64x256, .f32⟩) ![(.of main_while1b_v40 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x8x64x256, .f32⟩) (fun x i => Host.dynamicSlice S1x8x64x256 x (fun k => (i k (Shape.Idx.first h_S_)).toInt) sliceFits_S36x8x64x256_S1x8x64x256),
    TRef.reshape (.of main_while1b_call12_v0 : TRef sig ⟨S1x8x64x256, .f32⟩) (.of main_while1b_v43 : TRef sig ⟨S8x64x256, .f32⟩) (rfl : (.f32 : EltTy) = .f32) shapeCasts_S1x8x64x256_S8x64x256 ]
/-- `back_3` touches TensorCore buffers only. -/
theorem back_3_sub : (back_3 : Line).Forall fun op => op.bufs ⊆ tcRefs τ sig :=
  ⟨nullary_bufs_sub .., nullary_bufs_sub .., nullary_bufs_sub .., unaryIndexed_bufs_sub .., reshape_bufs_sub ..⟩
/-- Operations of the second loop's turn, stretch 4. -/
abbrev back_4 : Line :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v30_3 : TRef sig ⟨S36x8x64x256, .f32⟩) ![(.of main_while1b_v40 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x8x64x256, .f32⟩) (fun x i => Host.dynamicSlice S1x8x64x256 x (fun k => (i k (Shape.Idx.first h_S_)).toInt) sliceFits_S36x8x64x256_S1x8x64x256),
    TRef.reshape (.of main_while1b_call13_v0 : TRef sig ⟨S1x8x64x256, .f32⟩) (.of main_while1b_v44 : TRef sig ⟨S8x64x256, .f32⟩) (rfl : (.f32 : EltTy) = .f32) shapeCasts_S1x8x64x256_S8x64x256 ]
/-- `back_4` touches TensorCore buffers only. -/
theorem back_4_sub : (back_4 : Line).Forall fun op => op.bufs ⊆ tcRefs τ sig :=
  ⟨nullary_bufs_sub .., nullary_bufs_sub .., nullary_bufs_sub .., unaryIndexed_bufs_sub .., reshape_bufs_sub ..⟩
/-- Operations of the second loop's turn, stretch 5. -/
abbrev back_5 : Line :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v30_4 : TRef sig ⟨S36x8x64x512, .f32⟩) ![(.of main_while1b_v40 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x8x64x512, .f32⟩) (fun x i => Host.dynamicSlice S1x8x64x512 x (fun k => (i k (Shape.Idx.first h_S_)).toInt) sliceFits_S36x8x64x512_S1x8x64x512),
    TRef.reshape (.of main_while1b_call14_v0 : TRef sig ⟨S1x8x64x512, .f32⟩) (.of main_while1b_v45 : TRef sig ⟨S8x64x512, .f32⟩) (rfl : (.f32 : EltTy) = .f32) shapeCasts_S1x8x64x512_S8x64x512 ]
/-- `back_5` touches TensorCore buffers only. -/
theorem back_5_sub : (back_5 : Line).Forall fun op => op.bufs ⊆ tcRefs τ sig :=
  ⟨nullary_bufs_sub .., nullary_bufs_sub .., nullary_bufs_sub .., unaryIndexed_bufs_sub .., reshape_bufs_sub ..⟩
/-- Operations of the second loop's turn, stretch 6. -/
abbrev back_6 : Line :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.unaryIndexed (.of main_v30_5 : TRef sig ⟨S36x8x64, .f32⟩) ![(.of main_while1b_v40 : TRef sig ⟨S_, .i32⟩), (.of main_while1b_call15_c : TRef sig ⟨S_, .i32⟩), (.of main_while1b_call15_c_0 : TRef sig ⟨S_, .i32⟩)] (.of main_while1b_call15_v0 : TRef sig ⟨S1x8x64, .f32⟩) (fun x i => Host.dynamicSlice S1x8x64 x (fun k => (i k (Shape.Idx.first h_S_)).toInt) sliceFits_S36x8x64_S1x8x64),
    TRef.reshape (.of main_while1b_call15_v0 : TRef sig ⟨S1x8x64, .f32⟩) (.of main_while1b_v46 : TRef sig ⟨S8x64, .f32⟩) (rfl : (.f32 : EltTy) = .f32) shapeCasts_S1x8x64_S8x64 ]
/-- `back_6` touches TensorCore buffers only. -/
theorem back_6_sub : (back_6 : Line).Forall fun op => op.bufs ⊆ tcRefs τ sig :=
  ⟨nullary_bufs_sub .., nullary_bufs_sub .., unaryIndexed_bufs_sub .., reshape_bufs_sub ..⟩
/-- Operations of the second loop's turn, stretch 7. -/
abbrev back_7 : Line :=
  [ unary main_while1b_v46 main_while1b_v47 (broadcastInDim S8x1x64 ![0, 2] bcast_S8x64_S8x1x64_0_2 : Arr F S8x64 .f32 → Arr F S8x1x64 .f32),
    nullary main_while1b_cst_25 (constant S_ .f32 0x00000000#32) ]
/-- `back_7` touches TensorCore buffers only. -/
theorem back_7_sub : (back_7 : Line).Forall fun op => op.bufs ⊆ tcRefs τ sig :=
  ⟨unary_bufs_sub .., nullary_bufs_sub ..⟩
/-- Operations of the second loop's turn, stretch 8. -/
abbrev back_8 : Line :=
  [ TRef.unary (.of main_while1b_cst_25 : TRef sig ⟨S_, .f32⟩) (.of main_while1b_call16_v0 : TRef sig ⟨S_, .f32⟩) id,
    TRef.unary (.of main_v30_6 : TRef sig ⟨S64x64, .i1⟩) (.of main_while1b_v48_1 : TRef sig ⟨S8x64x64, .i1⟩) (broadcastInDim S8x64x64 ![1, 2] bcast_S64x64_S8x64x64_1_2),
    TRef.unary (.of main_while1b_v47 : TRef sig ⟨S8x1x64, .f32⟩) (.of main_while1b_call16_v2 : TRef sig ⟨S8x64x64, .f32⟩) (broadcastInDim S8x64x64 ![0, 1, 2] bcast_S8x1x64_S8x64x64_0_1_2),
    TRef.unary (.of main_while1b_call16_v0 : TRef sig ⟨S_, .f32⟩) (.of main_while1b_call16_v3 : TRef sig ⟨S8x64x64, .f32⟩) (broadcastInDim S8x64x64 ![] bcast_S_S8x64x64),
    TRef.ternary (.of main_while1b_v48_1 : TRef sig ⟨S8x64x64, .i1⟩) (.of main_while1b_call16_v2 : TRef sig ⟨S8x64x64, .f32⟩) (.of main_while1b_call16_v3 : TRef sig ⟨S8x64x64, .f32⟩) (.of main_while1b_v48_0 : TRef sig ⟨S8x64x64, .f32⟩) select,
    TRef.nullary (.of main_while1b_call16_cst : TRef sig ⟨S_, .f32⟩) (constant S_ .f32 0x00000000#32),
    TRef.unary (.of main_while1b_call16_cst : TRef sig ⟨S_, .f32⟩) (.of main_while1b_v48_2 : TRef sig ⟨S8x64x64, .f32⟩) (broadcastInDim S8x64x64 ![] bcast_S_S8x64x64) ]
/-- `back_8` touches TensorCore buffers only. -/
theorem back_8_sub : (back_8 : Line).Forall fun op => op.bufs ⊆ tcRefs τ sig :=
  ⟨unary_bufs_sub .., unary_bufs_sub .., unary_bufs_sub .., unary_bufs_sub .., ternary_bufs_sub .., nullary_bufs_sub .., unary_bufs_sub ..⟩
/-- Operations of the second loop's turn, stretch 9. -/
abbrev back_9 : Line :=
  [ nullary main_while1b_cst_26 (constant S_ .f32 0x00000000#32),
    binary main_while1b_v48_0 main_while1b_cst_26 main_while1b_v49 ((fun x v => Host.reduceAdd x v reducesTo_S8x64x64_S8x64_d2 h_S_) : Arr F S8x64x64 .f32 → Arr F S_ .f32 → Arr F S8x64 .f32),
    unary main_while1b_v49 main_while1b_v50 (broadcastInDim S8x64x1 ![0, 1] bcast_S8x64_S8x64x1_0_1 : Arr F S8x64 .f32 → Arr F S8x64x1 .f32),
    unary main_while1b_v49 main_while1b_v51 (broadcastInDim S8x1x64 ![0, 2] bcast_S8x64_S8x1x64_0_2 : Arr F S8x64 .f32 → Arr F S8x1x64 .f32),
    unary main_while1b_v50 main_while1b_v52 (broadcastInDim S8x64x64 ![0, 1, 2] bcast_S8x64x1_S8x64x64_0_1_2 : Arr F S8x64x1 .f32 → Arr F S8x64x64 .f32),
    unary main_while1b_v51 main_while1b_v53 (broadcastInDim S8x64x64 ![0, 1, 2] bcast_S8x1x64_S8x64x64_0_1_2 : Arr F S8x1x64 .f32 → Arr F S8x64x64 .f32),
    binary main_while1b_v52 main_while1b_v53 main_while1b_v54 (subf : Arr F S8x64x64 .f32 → Arr F S8x64x64 .f32 → Arr F S8x64x64 .f32),
    binary main_while1b_v43 main_while1b_v44 main_while1b_v55 ((fun l r => Host.dotGeneral dot_S8x64x256_S8x64x256_S8x64x64_2_2_1_1_0_0 none l r) : Arr F S8x64x256 .f32 → Arr F S8x64x256 .f32 → Arr F S8x64x64 .f32),
    nullary main_while1b_cst_27 (constant S_ .f32 0xFF800000#32) ]
/-- `back_9` touches TensorCore buffers only. -/
theorem back_9_sub : (back_9 : Line).Forall fun op => op.bufs ⊆ tcRefs τ sig :=
  ⟨nullary_bufs_sub .., binary_bufs_sub .., unary_bufs_sub .., unary_bufs_sub .., unary_bufs_sub .., unary_bufs_sub .., binary_bufs_sub .., binary_bufs_sub .., nullary_bufs_sub ..⟩
/-- Operations of the second loop's turn, stretch 10. -/
abbrev back_10 : Line :=
  [ TRef.unary (.of main_while1b_cst_27 : TRef sig ⟨S_, .f32⟩) (.of main_while1b_call17_v0 : TRef sig ⟨S_, .f32⟩) id,
    TRef.unary (.of main_v30_6 : TRef sig ⟨S64x64, .i1⟩) (.of main_while1b_v56_1 : TRef sig ⟨S8x64x64, .i1⟩) (broadcastInDim S8x64x64 ![1, 2] bcast_S64x64_S8x64x64_1_2),
    TRef.unary (.of main_while1b_call17_v0 : TRef sig ⟨S_, .f32⟩) (.of main_while1b_call17_v2 : TRef sig ⟨S8x64x64, .f32⟩) (broadcastInDim S8x64x64 ![] bcast_S_S8x64x64),
    TRef.ternary (.of main_while1b_v56_1 : TRef sig ⟨S8x64x64, .i1⟩) (.of main_while1b_v54 : TRef sig ⟨S8x64x64, .f32⟩) (.of main_while1b_call17_v2 : TRef sig ⟨S8x64x64, .f32⟩) (.of main_while1b_v56_0 : TRef sig ⟨S8x64x64, .f32⟩) select,
    TRef.nullary (.of main_while1b_call17_cst : TRef sig ⟨S_, .f32⟩) (constant S_ .f32 0x00000000#32),
    TRef.unary (.of main_while1b_call17_cst : TRef sig ⟨S_, .f32⟩) (.of main_while1b_v56_2 : TRef sig ⟨S8x64x64, .f32⟩) (broadcastInDim S8x64x64 ![] bcast_S_S8x64x64) ]
/-- `back_10` touches TensorCore buffers only. -/
theorem back_10_sub : (back_10 : Line).Forall fun op => op.bufs ⊆ tcRefs τ sig :=
  ⟨unary_bufs_sub .., unary_bufs_sub .., unary_bufs_sub .., ternary_bufs_sub .., nullary_bufs_sub .., unary_bufs_sub ..⟩
/-- Operations of the second loop's turn, stretch 11. -/
abbrev back_11 : Line :=
  [ unary main_while1b_v56_0 main_while1b_v57 (Host.exp : Arr F S8x64x64 .f32 → Arr F S8x64x64 .f32),
    binary main_while1b_v55 main_while1b_v57 main_while1b_v58 (mulf : Arr F S8x64x64 .f32 → Arr F S8x64x64 .f32 → Arr F S8x64x64 .f32),
    binary main_while1b_v43 main_while1b_v42 main_while1b_v59 ((fun l r => Host.dotGeneral dot_S8x64x256_S8x256x512_S8x64x512_2_1_1_2_0_0 none l r) : Arr F S8x64x256 .f32 → Arr F S8x256x512 .f32 → Arr F S8x64x512 .f32),
    unary main_while1b_v49 main_while1b_v60 (Host.exp : Arr F S8x64 .f32 → Arr F S8x64 .f32),
    unary main_while1b_v60 main_while1b_v61 (broadcastInDim S8x64x1 ![0, 1] bcast_S8x64_S8x64x1_0_1 : Arr F S8x64 .f32 → Arr F S8x64x1 .f32),
    unary main_while1b_v49 main_while1b_v62 ((extractStridedSlice S8x1 ![0, 63] · slices_S8x64_S8x1_0_63) : Arr F S8x64 .f32 → Arr F S8x1 .f32),
    unary main_while1b_v62 main_while1b_v63 (Host.exp : Arr F S8x1 .f32 → Arr F S8x1 .f32),
    unary main_while1b_v63 main_while1b_v64 (broadcastInDim S8x1x1 ![0, 1] bcast_S8x1_S8x1x1_0_1 : Arr F S8x1 .f32 → Arr F S8x1x1 .f32),
    unary main_while1b_v62 main_while1b_v65 (broadcastInDim S8x64 ![0, 1] bcast_S8x1_S8x64_0_1 : Arr F S8x1 .f32 → Arr F S8x64 .f32),
    binary main_while1b_v65 main_while1b_v49 main_while1b_v66 (subf : Arr F S8x64 .f32 → Arr F S8x64 .f32 → Arr F S8x64 .f32),
    unary main_while1b_v66 main_while1b_v67 (Host.exp : Arr F S8x64 .f32 → Arr F S8x64 .f32),
    unary main_while1b_v67 main_while1b_v68 (broadcastInDim S8x64x1 ![0, 1] bcast_S8x64_S8x64x1_0_1 : Arr F S8x64 .f32 → Arr F S8x64x1 .f32),
    unary main_while1b_v68 main_while1b_v69 (broadcastInDim S8x64x512 ![0, 1, 2] bcast_S8x64x1_S8x64x512_0_1_2 : Arr F S8x64x1 .f32 → Arr F S8x64x512 .f32),
    binary main_while1b_v69 main_while1b_v45 main_while1b_v70 (mulf : Arr F S8x64x512 .f32 → Arr F S8x64x512 .f32 → Arr F S8x64x512 .f32),
    binary main_v30_8 main_while1b_v44 main_while1b_v71 ((fun l r => Host.dotGeneral dot_S8x256x512_S8x64x256_S8x512x64_1_2_2_1_0_0 none l r) : Arr F S8x256x512 .f32 → Arr F S8x64x256 .f32 → Arr F S8x512x64 .f32),
    unary main_while1b_v71 main_while1b_v72 ((transpose S8x64x512 [0, 2, 1] · transposes_S8x512x64_S8x64x512_0_2_1) : Arr F S8x512x64 .f32 → Arr F S8x64x512 .f32),
    binary main_v30_8 main_while1b_v70 main_while1b_v73 ((fun l r => Host.dotGeneral dot_S8x256x512_S8x64x512_S8x256x64_2_2_1_1_0_0 none l r) : Arr F S8x256x512 .f32 → Arr F S8x64x512 .f32 → Arr F S8x256x64 .f32),
    unary main_while1b_v73 main_while1b_v74 ((transpose S8x64x256 [0, 2, 1] · transposes_S8x256x64_S8x64x256_0_2_1) : Arr F S8x256x64 .f32 → Arr F S8x64x256 .f32),
    unary main_while1b_v68 main_while1b_v75 (broadcastInDim S8x64x512 ![0, 1, 2] bcast_S8x64x1_S8x64x512_0_1_2 : Arr F S8x64x1 .f32 → Arr F S8x64x512 .f32),
    binary main_while1b_v75 main_while1b_v72 main_while1b_v76 (mulf : Arr F S8x64x512 .f32 → Arr F S8x64x512 .f32 → Arr F S8x64x512 .f32),
    binary main_while1b_v72 main_while1b_v45 main_while1b_v77 (mulf : Arr F S8x64x512 .f32 → Arr F S8x64x512 .f32 → Arr F S8x64x512 .f32),
    nullary main_while1b_cst_28 (constant S_ .f32 0x00000000#32),
    binary main_while1b_v77 main_while1b_cst_28 main_while1b_v78 ((fun x v => Host.reduceAdd x v reducesTo_S8x64x512_S8x64_d2 h_S_) : Arr F S8x64x512 .f32 → Arr F S_ .f32 → Arr F S8x64 .f32),
    reshape main_while1b_v78 main_while1b_v79 (rfl : (.f32 : EltTy) = .f32) shapeCasts_S8x64_S8x64x1,
    nullary main_while1b_cst_29 (constant S_ .f32 0x00000000#32),
    binary main_while1b_v79 main_while1b_cst_29 main_while1b_v80 ((fun x v => Host.reduceAdd x v reducesTo_S8x64x1_S8x64_d2 h_S_) : Arr F S8x64x1 .f32 → Arr F S_ .f32 → Arr F S8x64 .f32),
    binary main_while1b_v80 main_while1b_v67 main_while1b_v81 (mulf : Arr F S8x64 .f32 → Arr F S8x64 .f32 → Arr F S8x64 .f32),
    nullary main_while1b_cst_30 (constant S_ .f32 0x00000000#32),
    binary main_while1b_v81 main_while1b_cst_30 main_while1b_v82 ((fun x v => Host.reduceAdd x v reducesTo_S8x64_S8_d1 h_S_) : Arr F S8x64 .f32 → Arr F S_ .f32 → Arr F S8 .f32),
    reshape main_while1b_v82 main_while1b_v83 (rfl : (.f32 : EltTy) = .f32) shapeCasts_S8_S8x1,
    unary main_while1b_v81 main_while1b_v84 (Host.negf : Arr F S8x64 .f32 → Arr F S8x64 .f32),
    unary main_while1b_v64 main_while1b_v85 (broadcastInDim S8x256x512 ![0, 1, 2] bcast_S8x1x1_S8x256x512_0_1_2 : Arr F S8x1x1 .f32 → Arr F S8x256x512 .f32),
    binary main_while1b_v85 main_v30_8 main_while1b_v86 (mulf : Arr F S8x256x512 .f32 → Arr F S8x256x512 .f32 → Arr F S8x256x512 .f32),
    binary main_v30_8 main_while1b_v42 main_while1b_v87 (mulf : Arr F S8x256x512 .f32 → Arr F S8x256x512 .f32 → Arr F S8x256x512 .f32),
    nullary main_while1b_cst_31 (constant S_ .f32 0x00000000#32),
    binary main_while1b_v87 main_while1b_cst_31 main_while1b_v88 ((fun x v => Host.reduceAdd x v reducesTo_S8x256x512_S8_d1_2 h_S_) : Arr F S8x256x512 .f32 → Arr F S_ .f32 → Arr F S8 .f32),
    reshape main_while1b_v88 main_while1b_v89 (rfl : (.f32 : EltTy) = .f32) shapeCasts_S8_S8x1x1 ]
/-- `back_11` touches TensorCore buffers only. -/
theorem back_11_sub : (back_11 : Line).Forall fun op => op.bufs ⊆ tcRefs τ sig :=
  ⟨unary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., reshape_bufs_sub .., nullary_bufs_sub .., binary_bufs_sub .., binary_bufs_sub .., nullary_bufs_sub .., binary_bufs_sub .., reshape_bufs_sub .., unary_bufs_sub .., unary_bufs_sub .., binary_bufs_sub .., binary_bufs_sub .., nullary_bufs_sub .., binary_bufs_sub .., reshape_bufs_sub ..⟩
/-- Operations of the second loop's turn, stretch 12. -/
abbrev back_12 : Line :=
  [ nullary main_while1b_cst_32 (constant S_ .f32 0x00000000#32),
    binary main_while1b_v89 main_while1b_cst_32 main_while1b_v90 ((fun x v => Host.reduceAdd x v reducesTo_S8x1x1_S8_d1_2 h_S_) : Arr F S8x1x1 .f32 → Arr F S_ .f32 → Arr F S8 .f32),
    unary main_while1b_v90 main_while1b_v91 (broadcastInDim S8x1 ![0] bcast_S8_S8x1_0 : Arr F S8 .f32 → Arr F S8x1 .f32),
    binary main_while1b_v91 main_while1b_v63 main_while1b_v92 (mulf : Arr F S8x1 .f32 → Arr F S8x1 .f32 → Arr F S8x1 .f32),
    binary main_while1b_v83 main_while1b_v92 main_while1b_v93 (addf : Arr F S8x1 .f32 → Arr F S8x1 .f32 → Arr F S8x1 .f32),
    nullary main_while1b_cst_33 (constant S_ .f32 0x00000000#32),
    binary main_while1b_v93 main_while1b_cst_33 main_while1b_v94 ((fun x v => pad S8x64 ![0, 63] ![0, 0] ![0, 0] x v pads_S8x1_S8x64_000_6300 h_S_) : Arr F S8x1 .f32 → Arr F S_ .f32 → Arr F S8x64 .f32),
    binary main_while1b_v84 main_while1b_v94 main_while1b_v95 (addf : Arr F S8x64 .f32 → Arr F S8x64 .f32 → Arr F S8x64 .f32),
    binary main_while1b_v59 main_while1b_v41 main_while1b_v96 (mulf : Arr F S8x64x512 .f32 → Arr F S8x64x512 .f32 → Arr F S8x64x512 .f32),
    nullary main_while1b_cst_34 (constant S_ .f32 0x00000000#32),
    binary main_while1b_v96 main_while1b_cst_34 main_while1b_v97 ((fun x v => Host.reduceAdd x v reducesTo_S8x64x512_S8x64_d2 h_S_) : Arr F S8x64x512 .f32 → Arr F S_ .f32 → Arr F S8x64 .f32),
    reshape main_while1b_v97 main_while1b_v98 (rfl : (.f32 : EltTy) = .f32) shapeCasts_S8x64_S8x64x1,
    unary main_while1b_v61 main_while1b_v99 (broadcastInDim S8x64x512 ![0, 1, 2] bcast_S8x64x1_S8x64x512_0_1_2 : Arr F S8x64x1 .f32 → Arr F S8x64x512 .f32),
    binary main_while1b_v41 main_while1b_v99 main_while1b_v100 (mulf : Arr F S8x64x512 .f32 → Arr F S8x64x512 .f32 → Arr F S8x64x512 .f32),
    nullary main_while1b_cst_35 (constant S_ .f32 0x00000000#32),
    binary main_while1b_v98 main_while1b_cst_35 main_while1b_v101 ((fun x v => Host.reduceAdd x v reducesTo_S8x64x1_S8x64_d2 h_S_) : Arr F S8x64x1 .f32 → Arr F S_ .f32 → Arr F S8x64 .f32),
    binary main_while1b_v101 main_while1b_v60 main_while1b_v102 (mulf : Arr F S8x64 .f32 → Arr F S8x64 .f32 → Arr F S8x64 .f32),
    binary main_while1b_v95 main_while1b_v102 main_while1b_v103 (addf : Arr F S8x64 .f32 → Arr F S8x64 .f32 → Arr F S8x64 .f32),
    binary main_while1b_v100 main_while1b_v43 main_while1b_v104 ((fun l r => Host.dotGeneral dot_S8x64x512_S8x64x256_S8x512x256_1_1_2_2_0_0 none l r) : Arr F S8x64x512 .f32 → Arr F S8x64x256 .f32 → Arr F S8x512x256 .f32),
    unary main_while1b_v104 main_while1b_v105 ((transpose S8x256x512 [0, 2, 1] · transposes_S8x512x256_S8x256x512_0_2_1) : Arr F S8x512x256 .f32 → Arr F S8x256x512 .f32),
    binary main_while1b_v86 main_while1b_v105 main_while1b_v106 (addf : Arr F S8x256x512 .f32 → Arr F S8x256x512 .f32 → Arr F S8x256x512 .f32),
    binary main_while1b_v100 main_while1b_v42 main_while1b_v107 ((fun l r => Host.dotGeneral dot_S8x64x512_S8x256x512_S8x64x256_2_2_1_1_0_0 none l r) : Arr F S8x64x512 .f32 → Arr F S8x256x512 .f32 → Arr F S8x64x256 .f32),
    binary main_while1b_v41 main_while1b_v58 main_while1b_v108 ((fun l r => Host.dotGeneral dot_S8x64x512_S8x64x64_S8x512x64_1_1_2_2_0_0 none l r) : Arr F S8x64x512 .f32 → Arr F S8x64x64 .f32 → Arr F S8x512x64 .f32),
    unary main_while1b_v108 main_while1b_v109 ((transpose S8x64x512 [0, 2, 1] · transposes_S8x512x64_S8x64x512_0_2_1) : Arr F S8x512x64 .f32 → Arr F S8x64x512 .f32),
    binary main_while1b_v76 main_while1b_v109 main_while1b_v110 (addf : Arr F S8x64x512 .f32 → Arr F S8x64x512 .f32 → Arr F S8x64x512 .f32),
    binary main_while1b_v41 main_while1b_v45 main_while1b_v111 ((fun l r => Host.dotGeneral dot_S8x64x512_S8x64x512_S8x64x64_2_2_1_1_0_0 none l r) : Arr F S8x64x512 .f32 → Arr F S8x64x512 .f32 → Arr F S8x64x64 .f32),
    binary main_while1b_v55 main_while1b_v111 main_while1b_v112 (mulf : Arr F S8x64x64 .f32 → Arr F S8x64x64 .f32 → Arr F S8x64x64 .f32),
    binary main_while1b_v111 main_while1b_v57 main_while1b_v113 (mulf : Arr F S8x64x64 .f32 → Arr F S8x64x64 .f32 → Arr F S8x64x64 .f32),
    binary main_while1b_v112 main_while1b_v57 main_while1b_v114 (mulf : Arr F S8x64x64 .f32 → Arr F S8x64x64 .f32 → Arr F S8x64x64 .f32) ]
/-- `back_12` touches TensorCore buffers only. -/
theorem back_12_sub : (back_12 : Line).Forall fun op => op.bufs ⊆ tcRefs τ sig :=
  ⟨nullary_bufs_sub .., binary_bufs_sub .., unary_bufs_sub .., binary_bufs_sub .., binary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., binary_bufs_sub .., binary_bufs_sub ..⟩
/-- Operations of the second loop's turn, stretch 13. -/
abbrev back_13 : Line :=
  [ TRef.nullary (.of main_while1b_call18_cst : TRef sig ⟨S_, .f32⟩) (constant S_ .f32 0x00000000#32),
    TRef.unary (.of main_while1b_call18_cst : TRef sig ⟨S_, .f32⟩) (.of main_while1b_call18_v0 : TRef sig ⟨S8x64x64, .f32⟩) (broadcastInDim S8x64x64 ![] bcast_S_S8x64x64),
    TRef.ternary (.of main_while1b_v56_1 : TRef sig ⟨S8x64x64, .i1⟩) (.of main_while1b_v114 : TRef sig ⟨S8x64x64, .f32⟩) (.of main_while1b_call18_v0 : TRef sig ⟨S8x64x64, .f32⟩) (.of main_while1b_v115 : TRef sig ⟨S8x64x64, .f32⟩) select ]
/-- `back_13` touches TensorCore buffers only. -/
theorem back_13_sub : (back_13 : Line).Forall fun op => op.bufs ⊆ tcRefs τ sig :=
  ⟨nullary_bufs_sub .., unary_bufs_sub .., ternary_bufs_sub ..⟩
/-- Operations of the second loop's turn, stretch 14. -/
abbrev back_14 : Line :=
  [ binary main_while1b_v113 main_while1b_v43 main_while1b_v116 ((fun l r => Host.dotGeneral dot_S8x64x64_S8x64x256_S8x64x256_1_1_2_2_0_0 none l r) : Arr F S8x64x64 .f32 → Arr F S8x64x256 .f32 → Arr F S8x64x256 .f32),
    binary main_while1b_v74 main_while1b_v116 main_while1b_v117 (addf : Arr F S8x64x256 .f32 → Arr F S8x64x256 .f32 → Arr F S8x64x256 .f32),
    binary main_while1b_v113 main_while1b_v44 main_while1b_v118 ((fun l r => Host.dotGeneral dot_S8x64x64_S8x64x256_S8x64x256_2_1_1_2_0_0 none l r) : Arr F S8x64x64 .f32 → Arr F S8x64x256 .f32 → Arr F S8x64x256 .f32),
    binary main_while1b_v107 main_while1b_v118 main_while1b_v119 (addf : Arr F S8x64x256 .f32 → Arr F S8x64x256 .f32 → Arr F S8x64x256 .f32),
    nullary main_while1b_cst_36 (constant S_ .f32 0x00000000#32),
    binary main_while1b_v115 main_while1b_cst_36 main_while1b_v120 ((fun x v => Host.reduceAdd x v reducesTo_S8x64x64_S8x64_d2 h_S_) : Arr F S8x64x64 .f32 → Arr F S_ .f32 → Arr F S8x64 .f32),
    reshape main_while1b_v120 main_while1b_v121 (rfl : (.f32 : EltTy) = .f32) shapeCasts_S8x64_S8x64x1,
    unary main_while1b_v115 main_while1b_v122 (Host.negf : Arr F S8x64x64 .f32 → Arr F S8x64x64 .f32),
    nullary main_while1b_cst_37 (constant S_ .f32 0x00000000#32),
    binary main_while1b_v122 main_while1b_cst_37 main_while1b_v123 ((fun x v => Host.reduceAdd x v reducesTo_S8x64x64_S8x64_d1 h_S_) : Arr F S8x64x64 .f32 → Arr F S_ .f32 → Arr F S8x64 .f32),
    reshape main_while1b_v123 main_while1b_v124 (rfl : (.f32 : EltTy) = .f32) shapeCasts_S8x64_S8x1x64,
    nullary main_while1b_cst_38 (constant S_ .f32 0x00000000#32),
    binary main_while1b_v124 main_while1b_cst_38 main_while1b_v125 ((fun x v => Host.reduceAdd x v reducesTo_S8x1x64_S8x64_d1 h_S_) : Arr F S8x1x64 .f32 → Arr F S_ .f32 → Arr F S8x64 .f32),
    binary main_while1b_v103 main_while1b_v125 main_while1b_v126 (addf : Arr F S8x64 .f32 → Arr F S8x64 .f32 → Arr F S8x64 .f32),
    nullary main_while1b_cst_39 (constant S_ .f32 0x00000000#32),
    binary main_while1b_v121 main_while1b_cst_39 main_while1b_v127 ((fun x v => Host.reduceAdd x v reducesTo_S8x64x1_S8x64_d2 h_S_) : Arr F S8x64x1 .f32 → Arr F S_ .f32 → Arr F S8x64 .f32),
    binary main_while1b_v126 main_while1b_v127 main_while1b_v128 (addf : Arr F S8x64 .f32 → Arr F S8x64 .f32 → Arr F S8x64 .f32),
    unary main_while1b_v128 main_while1b_v129 (broadcastInDim S8x64x64 ![0, 1] bcast_S8x64_S8x64x64_0_1 : Arr F S8x64 .f32 → Arr F S8x64x64 .f32) ]
/-- `back_14` touches TensorCore buffers only. -/
theorem back_14_sub : (back_14 : Line).Forall fun op => op.bufs ⊆ tcRefs τ sig :=
  ⟨binary_bufs_sub .., binary_bufs_sub .., binary_bufs_sub .., binary_bufs_sub .., nullary_bufs_sub .., binary_bufs_sub .., reshape_bufs_sub .., unary_bufs_sub .., nullary_bufs_sub .., binary_bufs_sub .., reshape_bufs_sub .., nullary_bufs_sub .., binary_bufs_sub .., binary_bufs_sub .., nullary_bufs_sub .., binary_bufs_sub .., binary_bufs_sub .., unary_bufs_sub ..⟩
/-- Operations of the second loop's turn, stretch 15. -/
abbrev back_15 : Line :=
  [ TRef.nullary (.of main_while1b_call19_cst : TRef sig ⟨S_, .f32⟩) (constant S_ .f32 0x00000000#32),
    TRef.unary (.of main_while1b_call19_cst : TRef sig ⟨S_, .f32⟩) (.of main_while1b_call19_v0 : TRef sig ⟨S8x64x64, .f32⟩) (broadcastInDim S8x64x64 ![] bcast_S_S8x64x64),
    TRef.ternary (.of main_while1b_v48_1 : TRef sig ⟨S8x64x64, .i1⟩) (.of main_while1b_v129 : TRef sig ⟨S8x64x64, .f32⟩) (.of main_while1b_call19_v0 : TRef sig ⟨S8x64x64, .f32⟩) (.of main_while1b_call19_v1 : TRef sig ⟨S8x64x64, .f32⟩) select,
    TRef.nullary (.of main_while1b_call19_cst_0 : TRef sig ⟨S_, .f32⟩) (constant S_ .f32 0x00000000#32),
    TRef.binary (.of main_while1b_call19_v1 : TRef sig ⟨S8x64x64, .f32⟩) (.of main_while1b_call19_cst_0 : TRef sig ⟨S_, .f32⟩) (.of main_while1b_call19_v2 : TRef sig ⟨S8x64, .f32⟩) (fun x v => Host.reduceAdd x v reducesTo_S8x64x64_S8x64_d1 h_S_),
    TRef.unary (.of main_while1b_call19_v2 : TRef sig ⟨S8x64, .f32⟩) (.of main_while1b_v130 : TRef sig ⟨S8x1x64, .f32⟩) (broadcastInDim S8x1x64 ![0, 2] bcast_S8x64_S8x1x64_0_2) ]
/-- `back_15` touches TensorCore buffers only. -/
theorem back_15_sub : (back_15 : Line).Forall fun op => op.bufs ⊆ tcRefs τ sig :=
  ⟨nullary_bufs_sub .., unary_bufs_sub .., ternary_bufs_sub .., nullary_bufs_sub .., binary_bufs_sub .., unary_bufs_sub ..⟩
/-- Operations of the second loop's turn, stretch 16. -/
abbrev back_16 : Line :=
  [ nullary main_while1b_cst_40 (constant S_ .f32 0x00000000#32),
    binary main_while1b_v130 main_while1b_cst_40 main_while1b_v131 ((fun x v => Host.reduceAdd x v reducesTo_S8x1x64_S8x64_d1 h_S_) : Arr F S8x1x64 .f32 → Arr F S_ .f32 → Arr F S8x64 .f32) ]
/-- `back_16` touches TensorCore buffers only. -/
theorem back_16_sub : (back_16 : Line).Forall fun op => op.bufs ⊆ tcRefs τ sig :=
  ⟨nullary_bufs_sub .., binary_bufs_sub ..⟩
/-- Operations of the second loop's turn, stretch 17. -/
abbrev back_17 : Line :=
  [ TRef.unary (.of main_while1b_v119 : TRef sig ⟨S8x64x256, .f32⟩) (.of main_while1b_call20_v0 : TRef sig ⟨S1x8x64x256, .f32⟩) (broadcastInDim S1x8x64x256 ![1, 2, 3] bcast_S8x64x256_S1x8x64x256_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v30_9 : TRef sig ⟨S36x8x64x256, .f32⟩) (.of main_while1b_call20_v0 : TRef sig ⟨S1x8x64x256, .f32⟩) ![(.of main_while1b_v40 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v132 : TRef sig ⟨S36x8x64x256, .f32⟩) (fun x u i => Host.dynamicUpdateSlice x u (fun k => (i k (Shape.Idx.first h_S_)).toInt) updateFits_S36x8x64x256_S1x8x64x256) ]
/-- `back_17` touches TensorCore buffers only. -/
theorem back_17_sub : (back_17 : Line).Forall fun op => op.bufs ⊆ tcRefs τ sig :=
  ⟨unary_bufs_sub .., nullary_bufs_sub .., nullary_bufs_sub .., nullary_bufs_sub .., binaryIndexed_bufs_sub ..⟩
/-- Operations of the second loop's turn, stretch 18. -/
abbrev back_18 : Line :=
  [ TRef.unary (.of main_while1b_v117 : TRef sig ⟨S8x64x256, .f32⟩) (.of main_while1b_call21_v0 : TRef sig ⟨S1x8x64x256, .f32⟩) (broadcastInDim S1x8x64x256 ![1, 2, 3] bcast_S8x64x256_S1x8x64x256_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v30_10 : TRef sig ⟨S36x8x64x256, .f32⟩) (.of main_while1b_call21_v0 : TRef sig ⟨S1x8x64x256, .f32⟩) ![(.of main_while1b_v40 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v133 : TRef sig ⟨S36x8x64x256, .f32⟩) (fun x u i => Host.dynamicUpdateSlice x u (fun k => (i k (Shape.Idx.first h_S_)).toInt) updateFits_S36x8x64x256_S1x8x64x256) ]
/-- `back_18` touches TensorCore buffers only. -/
theorem back_18_sub : (back_18 : Line).Forall fun op => op.bufs ⊆ tcRefs τ sig :=
  ⟨unary_bufs_sub .., nullary_bufs_sub .., nullary_bufs_sub .., nullary_bufs_sub .., binaryIndexed_bufs_sub ..⟩
/-- Operations of the second loop's turn, stretch 19. -/
abbrev back_19 : Line :=
  [ TRef.unary (.of main_while1b_v110 : TRef sig ⟨S8x64x512, .f32⟩) (.of main_while1b_call22_v0 : TRef sig ⟨S1x8x64x512, .f32⟩) (broadcastInDim S1x8x64x512 ![1, 2, 3] bcast_S8x64x512_S1x8x64x512_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v30_11 : TRef sig ⟨S36x8x64x512, .f32⟩) (.of main_while1b_call22_v0 : TRef sig ⟨S1x8x64x512, .f32⟩) ![(.of main_while1b_v40 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v134 : TRef sig ⟨S36x8x64x512, .f32⟩) (fun x u i => Host.dynamicUpdateSlice x u (fun k => (i k (Shape.Idx.first h_S_)).toInt) updateFits_S36x8x64x512_S1x8x64x512) ]
/-- `back_19` touches TensorCore buffers only. -/
theorem back_19_sub : (back_19 : Line).Forall fun op => op.bufs ⊆ tcRefs τ sig :=
  ⟨unary_bufs_sub .., nullary_bufs_sub .., nullary_bufs_sub .., nullary_bufs_sub .., binaryIndexed_bufs_sub ..⟩
/-- Operations of the second loop's turn, stretch 20. -/
abbrev back_20 : Line :=
  [ TRef.unary (.of main_while1b_v131 : TRef sig ⟨S8x64, .f32⟩) (.of main_while1b_call23_v0 : TRef sig ⟨S1x8x64, .f32⟩) (broadcastInDim S1x8x64 ![1, 2] bcast_S8x64_S1x8x64_1_2),
    TRef.nullary (.of main_while1b_call23_c : TRef sig ⟨S_, .i32⟩) (constantI S_ 32 0#32),
    TRef.nullary (.of main_while1b_call23_c_0 : TRef sig ⟨S_, .i32⟩) (constantI S_ 32 0#32),
    TRef.binaryIndexed (.of main_v30_12 : TRef sig ⟨S36x8x64, .f32⟩) (.of main_while1b_call23_v0 : TRef sig ⟨S1x8x64, .f32⟩) ![(.of main_while1b_v40 : TRef sig ⟨S_, .i32⟩), (.of main_while1b_call23_c : TRef sig ⟨S_, .i32⟩), (.of main_while1b_call23_c_0 : TRef sig ⟨S_, .i32⟩)] (.of main_while1b_v135 : TRef sig ⟨S36x8x64, .f32⟩) (fun x u i => Host.dynamicUpdateSlice x u (fun k => (i k (Shape.Idx.first h_S_)).toInt) updateFits_S36x8x64_S1x8x64) ]
/-- `back_20` touches TensorCore buffers only. -/
theorem back_20_sub : (back_20 : Line).Forall fun op => op.bufs ⊆ tcRefs τ sig :=
  ⟨unary_bufs_sub .., nullary_bufs_sub .., nullary_bufs_sub .., binaryIndexed_bufs_sub ..⟩
/-- Operations of the second loop's turn, stretch 21. -/
abbrev back_21 : Line :=
  [ nullary main_while1b_c_41 (constantI S_ 32 1#32),
    binary main_v30_7 main_while1b_c_41 main_while1b_v136 (addi : Arr F S_ .i32 → Arr F S_ .i32 → Arr F S_ .i32) ]
/-- `back_21` touches TensorCore buffers only. -/
theorem back_21_sub : (back_21 : Line).Forall fun op => op.bufs ⊆ tcRefs τ sig :=
  ⟨nullary_bufs_sub .., binary_bufs_sub ..⟩
/-- Operations of the second loop's turn, stretch 22. -/
abbrev back_22 : Line :=
  [ unary main_while1b_v136 main_v30_7 id,
    unary main_while1b_v106 main_v30_8 id,
    unary main_while1b_v132 main_v30_9 id,
    unary main_while1b_v133 main_v30_10 id,
    unary main_while1b_v134 main_v30_11 id,
    unary main_while1b_v135 main_v30_12 id ]
/-- `back_22` touches TensorCore buffers only. -/
theorem back_22_sub : (back_22 : Line).Forall fun op => op.bufs ⊆ tcRefs τ sig :=
  ⟨unary_bufs_sub .., unary_bufs_sub .., unary_bufs_sub .., unary_bufs_sub .., unary_bufs_sub .., unary_bufs_sub ..⟩
/-- The stretches of the second loop's turn, in order. -/
abbrev backL : List Line := [back_0, back_1, back_2, back_3, back_4, back_5, back_6, back_7, back_8, back_9, back_10, back_11, back_12, back_13, back_14, back_15, back_16, back_17, back_18, back_19, back_20, back_21, back_22]
/-- They allocate nothing and touch TensorCore buffers only. -/
theorem back_plain : Plain (backL (F := F)) :=
  Plain.cons back_0_sub (Plain.cons back_1_sub (Plain.cons back_2_sub (Plain.cons back_3_sub (Plain.cons back_4_sub (Plain.cons back_5_sub (Plain.cons back_6_sub (Plain.cons back_7_sub (Plain.cons back_8_sub (Plain.cons back_9_sub (Plain.cons back_10_sub (Plain.cons back_11_sub (Plain.cons back_12_sub (Plain.cons back_13_sub (Plain.cons back_14_sub (Plain.cons back_15_sub (Plain.cons back_16_sub (Plain.cons back_17_sub (Plain.cons back_18_sub (Plain.cons back_19_sub (Plain.cons back_20_sub (Plain.cons back_21_sub (Plain.cons back_22_sub (Plain.nil)))))))))))))))))))))))
/-- The operations of the exit test of loop 0. -/
abbrev ask0 : Line :=
  [ nullary main_while0c_c_22 (constantI S_ 32 36#32),
    binary main_v19_8 main_while0c_c_22 main_while0c_v39 (cmpi .slt : Arr F S_ .i32 → Arr F S_ .i32 → Arr F S_ .i1) ]
/-- `ask0` touches TensorCore buffers only. -/
theorem ask0_sub : (ask0 : Line).Forall fun op => op.bufs ⊆ tcRefs τ sig :=
  ⟨nullary_bufs_sub .., binary_bufs_sub ..⟩
/-- The operations of the exit test of loop 1. -/
abbrev ask1 : Line :=
  [ nullary main_while1c_c_23 (constantI S_ 32 36#32),
    binary main_v30_7 main_while1c_c_23 main_while1c_v39 (cmpi .slt : Arr F S_ .i32 → Arr F S_ .i32 → Arr F S_ .i1) ]
/-- `ask1` touches TensorCore buffers only. -/
theorem ask1_sub : (ask1 : Line).Forall fun op => op.bufs ⊆ tcRefs τ sig :=
  ⟨nullary_bufs_sub .., binary_bufs_sub ..⟩
/-- The first loop's turn is its stretches in order. -/
theorem turn_chain : main_while0_body = (Pipeline.chain [seq turn_0, seq turn_1, seq turn_2, seq turn_3, seq turn_4, seq turn_5, seq turn_6, seq turn_7, seq turn_8, seq turn_9, seq turn_10, seq turn_11] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, chain_seq_cons, Pipeline.chain_cons, chain_seq_cons, Pipeline.chain_cons, chain_seq_cons, Pipeline.chain_cons, Pipeline.chain_cons, chain_seq_cons]
  chain_rfl
/-- The second loop's turn, first part. -/
theorem back_chain0 : main_while1_body_part0 = (Pipeline.chainK [seq back_0, seq back_1, seq back_2, seq back_3, seq back_4, seq back_5, seq back_6, seq back_7, seq back_8, seq back_9, seq back_10] (seq back_11) : Prog (TpuEff nD τ sig (Elt F) (HostLoop.Sig (Pipeline.Sig Λ₀ (Fin 0) fun p => (pcfgs (F := F) p).Adm) 2) .tc) PUnit) := by
  rewrite [chainK_seq_cons, Pipeline.chainK_cons, Pipeline.chainK_cons, Pipeline.chainK_cons, Pipeline.chainK_cons, Pipeline.chainK_cons, Pipeline.chainK_cons, chainK_seq_cons, Pipeline.chainK_cons, chainK_seq_cons, Pipeline.chainK_cons]
  chain_rfl
/-- The second loop's turn, second part. -/
theorem back_chain1 : main_while1_body_part1 = (Pipeline.chainK [seq back_12, seq back_13, seq back_14, seq back_15, seq back_16, seq back_17, seq back_18, seq back_19, seq back_20] (seq back_21) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons, chainK_seq_cons, Pipeline.chainK_cons, Pipeline.chainK_cons, Pipeline.chainK_cons, Pipeline.chainK_cons]
  chain_rfl
/-- The second loop's turn, last part. -/
theorem back_chain2 : main_while1_body_part2 = (Pipeline.chain [seq back_22] : Prog (TpuEff nD τ sig (Elt F) (HostLoop.Sig (Pipeline.Sig Λ₀ (Fin 0) fun p => (pcfgs (F := F) p).Adm) 2) .tc) PUnit) := by
  rewrite [chain_seq_cons]
  chain_rfl
/-- The second loop's turn is its stretches in order. -/
theorem back_chain : main_while1_body = (Pipeline.chain [seq back_0, seq back_1, seq back_2, seq back_3, seq back_4, seq back_5, seq back_6, seq back_7, seq back_8, seq back_9, seq back_10, seq back_11, seq back_12, seq back_13, seq back_14, seq back_15, seq back_16, seq back_17, seq back_18, seq back_19, seq back_20, seq back_21, seq back_22] : Prog (TpuEff nD τ sig (Elt F) (HostLoop.Sig (Pipeline.Sig Λ₀ (Fin 0) fun p => (pcfgs (F := F) p).Adm) 2) .tc) PUnit) :=
  (show main_while1_body (F := F) = (main_while1_body_part0 >>= fun _ => main_while1_body_part1 >>= fun _ => main_while1_body_part2) from rfl).trans
    (Pipeline.chain_of_window back_chain0 (Pipeline.chain_of_window back_chain1 back_chain2))
/-- The first part of the program. -/
theorem main_chain0 (c : Dev nD) : main_part0 c = (Pipeline.chainK [seq pre_0, seq pre_1, seq pre_2, seq pre_3, seq pre_4, HostLoop.enter 0] (seq mid_0) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons, chainK_seq_cons, Pipeline.chainK_cons]
  chain_rfl
/-- The second part of the program. -/
theorem main_chain1 (c : Dev nD) : main_part1 c = (Pipeline.chain [seq mid_1, HostLoop.enter 1, seq post_0] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl
/-- The program is its stretches and two loops in order. -/
theorem main_chain (c : Dev nD) : main c = (Pipeline.chain [seq pre_0, seq pre_1, seq pre_2, seq pre_3, seq pre_4, HostLoop.enter 0, seq mid_0, seq mid_1, HostLoop.enter 1, seq post_0] : Prog (TpuEff nD τ sig (Elt F) (HostLoop.Sig (Pipeline.Sig Λ₀ (Fin 0) fun p => (pcfgs (F := F) p).Adm) 2) .tc) PUnit) :=
  (show main (F := F) c = (main_part0 c >>= fun _ => main_part1 c) from rfl).trans (Pipeline.chain_of_window (main_chain0 c) (main_chain1 c))

end Cert.ReferenceIdeal.Ret
-- ==== Proof.Ref.Read.lean ====
module

public import proofs.«01_k».proof.Proof.Ref.Ops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

/-- A buffer's number among the signature's. -/
abbrev key (r : Ref sig .tc) : ℕ := r.idx.val

section
variable {L : List (HloOp τ sig (Elt F))} {W : List (Ref sig .tc)}

private theorem not_mem_of_key {r : Ref sig .tc} {l : List (Ref sig .tc)} (h : key r ∉ l.map key) : r ∉ l :=
  fun hr => h (List.mem_map_of_mem hr)

/-- A buffer a line does not write keeps its contents. -/
theorem kept (hW : L.map HloOp.writes = W.map fun w => {Proc.devRef (τ := τ) .tc w}) {r : Ref sig .tc}
    (hr : key r ∉ W.map key) (V : Valuation τ sig (Elt F)) : after L V (Proc.devRef .tc r) = V (Proc.devRef .tc r) :=
  after_unwritten W hW (not_mem_of_key hr) V

/-- What a line leaves in a buffer is what the last operation writing it left there. -/
theorem read_out (hW : L.map HloOp.writes = W.map fun w => {Proc.devRef (τ := τ) .tc w}) (i : ℕ) {op : HloOp τ sig (Elt F)} {rest : List (HloOp τ sig (Elt F))}
    {r : Ref sig .tc} (hseg : L.drop i = op :: rest) (hr : key r ∉ (W.drop (i + 1)).map key) (V : Valuation τ sig (Elt F)) :
    after L V (Proc.devRef .tc r) = op.result (upto L V i) (Proc.devRef .tc r) := by
  refine after_last_write (W.drop (i + 1)) hseg ?_ (not_mem_of_key hr) V
  have h1 : L.drop (i + 1) = rest := by rw [← List.drop_drop, hseg]; rfl
  rw [← h1, List.map_drop, hW, List.map_drop]

/-- An operand written for the last time before operation `i` is read at its final contents. -/
theorem read_in (hW : L.map HloOp.writes = W.map fun w => {Proc.devRef (τ := τ) .tc w}) (i : ℕ)
    {r : Ref sig .tc} (hr : key r ∉ (W.drop i).map key) {V : Valuation τ sig (Elt F)} :
    upto L V i (Proc.devRef .tc r) = after L V (Proc.devRef .tc r) := by
  have hw : (L.drop i).map HloOp.writes = (W.drop i).map fun w => {Proc.devRef (τ := τ) .tc w} := by
    rw [List.map_drop, hW, List.map_drop]
  have h : after (L.drop i) (after (L.take i) V) (Proc.devRef .tc r) = after (L.take i) V (Proc.devRef .tc r) :=
    after_unwritten (W.drop i) hw (not_mem_of_key hr) _
  have ha : after (L.take i ++ L.drop i) V = after (L.drop i) (after (L.take i) V) := StableHlo.after_append _ _ _
  rw [List.take_append_drop] at ha
  exact h.symm.trans (congrFun ha _).symm

/-- An operand no operation before `i` writes is read at its first contents. -/
theorem read_arg (hW : L.map HloOp.writes = W.map fun w => {Proc.devRef (τ := τ) .tc w}) (i : ℕ)
    {r : Ref sig .tc} (hr : key r ∉ (W.take i).map key) {V : Valuation τ sig (Elt F)} :
    upto L V i (Proc.devRef .tc r) = V (Proc.devRef .tc r) :=
  upto_unwritten (W.take i) (by rw [List.map_take, hW, List.map_take]) (not_mem_of_key hr) V

variable (hW : L.map HloOp.writes = W.map fun w => {Proc.devRef (τ := τ) .tc w}) (i : ℕ) {rest : List (HloOp τ sig (Elt F))} {x y a b c : Ref sig .tc}
include hW

/-- A constant's value. -/
theorem read_nullary {v : y.ty.Contents (Elt F)} {hy} (hseg : L.drop i = nullary y v hy :: rest)
    (hr : key y ∉ (W.drop (i + 1)).map key) (V : Valuation τ sig (Elt F)) : after L V (Proc.devRef .tc y) = v :=
  (read_out hW i hseg hr V).trans (nullary_result' v hy _)

/-- A one-operand operation's value. -/
theorem read_unary {f : x.ty.Contents (Elt F) → y.ty.Contents (Elt F)} {hx hy} (hseg : L.drop i = unary x y f hx hy :: rest)
    (hr : key y ∉ (W.drop (i + 1)).map key) {V : Valuation τ sig (Elt F)} {u} (hu : upto L V i (Proc.devRef .tc x) = u) :
    after L V (Proc.devRef .tc y) = f u :=
  hu ▸ (read_out hW i hseg hr V).trans (unary_result' f hx hy _)

/-- A two-operand operation's value. -/
theorem read_binary {f : a.ty.Contents (Elt F) → b.ty.Contents (Elt F) → y.ty.Contents (Elt F)} {ha hb hy}
    (hseg : L.drop i = binary a b y f ha hb hy :: rest) (hr : key y ∉ (W.drop (i + 1)).map key) {V : Valuation τ sig (Elt F)} {u w}
    (hu : upto L V i (Proc.devRef .tc a) = u) (hw : upto L V i (Proc.devRef .tc b) = w) :
    after L V (Proc.devRef .tc y) = f u w :=
  hu ▸ hw ▸ (read_out hW i hseg hr V).trans (binary_result' f ha hb hy _)

/-- A three-operand operation's value. -/
theorem read_ternary {f : c.ty.Contents (Elt F) → a.ty.Contents (Elt F) → b.ty.Contents (Elt F) → y.ty.Contents (Elt F)} {hc ha hb hy}
    (hseg : L.drop i = ternary c a b y f hc ha hb hy :: rest) (hr : key y ∉ (W.drop (i + 1)).map key) {V : Valuation τ sig (Elt F)} {t u w}
    (ht : upto L V i (Proc.devRef .tc c) = t) (hu : upto L V i (Proc.devRef .tc a) = u) (hw : upto L V i (Proc.devRef .tc b) = w) :
    after L V (Proc.devRef .tc y) = f t u w :=
  ht ▸ hu ▸ hw ▸ (read_out hW i hseg hr V).trans (ternary_result' f hc ha hb hy _)

/-- A reshape's value. -/
theorem read_reshape {he hn hx hy} (hseg : L.drop i = StableHlo.reshape x y he hn hx hy :: rest)
    (hr : key y ∉ (W.drop (i + 1)).map key) {V : Valuation τ sig (Elt F)} {u} (hu : upto L V i (Proc.devRef .tc x) = u) :
    after L V (Proc.devRef .tc y) = fun j => he ▸ shapeCast y.ty.shape u hn j := by
  subst hu
  exact (read_out hW i hseg hr V).trans (reshape_result x y he hn hx hy _)

/-- A dynamic slice's value. -/
theorem read_unaryIndexed {n : ℕ} {ix : Fin n → Ref sig .tc} {T : BufTy} {f : a.ty.Contents (Elt F) → (Fin n → T.Contents (Elt F)) → y.ty.Contents (Elt F)}
    {hT ha hix hy} (hseg : L.drop i = unaryIndexed a ix T y f hT ha hix hy :: rest)
    (hr : key y ∉ (W.drop (i + 1)).map key) {V : Valuation τ sig (Elt F)} {u w} (hu : upto L V i (Proc.devRef .tc a) = u)
    (hw : (fun k => cast (congrArg (fun U : BufTy => U.Contents (Elt F)) (hT k)) (upto L V i (Proc.devRef .tc (ix k)))) = w) :
    after L V (Proc.devRef .tc y) = f u w :=
  hu ▸ hw ▸ (read_out hW i hseg hr V).trans (unaryIndexed_result' ix T f hT ha hix hy _)

/-- A dynamic update's value. -/
theorem read_binaryIndexed {n : ℕ} {ix : Fin n → Ref sig .tc} {T : BufTy} {f : a.ty.Contents (Elt F) → b.ty.Contents (Elt F) → (Fin n → T.Contents (Elt F)) → y.ty.Contents (Elt F)}
    {hT ha hb hix hy} (hseg : L.drop i = binaryIndexed a b ix T y f hT ha hb hix hy :: rest)
    (hr : key y ∉ (W.drop (i + 1)).map key) {V : Valuation τ sig (Elt F)} {t u w} (ht : upto L V i (Proc.devRef .tc a) = t) (hu : upto L V i (Proc.devRef .tc b) = u)
    (hw : (fun k => cast (congrArg (fun U : BufTy => U.Contents (Elt F)) (hT k)) (upto L V i (Proc.devRef .tc (ix k)))) = w) :
    after L V (Proc.devRef .tc y) = f t u w :=
  ht ▸ hu ▸ hw ▸ (read_out hW i hseg hr V).trans (binaryIndexed_result' ix T f hT ha hb hix hy _)

end

end Cert.ReferenceIdeal.Ret
-- ==== Proof.Ref.Back.lean ====
module

public import proofs.«01_k».proof.Proof.Ref.Read
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

/-- The second loop's turn, as one line. -/
def back : Line := backL.flatten
/-- What `back` writes, in order. -/
def back_W : List (Ref sig .tc) := [main_while1b_c_23, main_while1b_v39, main_while1b_c_24, main_while1b_v40, main_while1b_call10_c, main_while1b_call10_c_0, main_while1b_call10_c_1, main_while1b_call10_v0, main_while1b_v41, main_while1b_call11_c, main_while1b_call11_c_0, main_while1b_call11_c_1, main_while1b_call11_v0, main_while1b_v42, main_while1b_call12_c, main_while1b_call12_c_0, main_while1b_call12_c_1, main_while1b_call12_v0, main_while1b_v43, main_while1b_call13_c, main_while1b_call13_c_0, main_while1b_call13_c_1, main_while1b_call13_v0, main_while1b_v44, main_while1b_call14_c, main_while1b_call14_c_0, main_while1b_call14_c_1, main_while1b_call14_v0, main_while1b_v45, main_while1b_call15_c, main_while1b_call15_c_0, main_while1b_call15_v0, main_while1b_v46, main_while1b_v47, main_while1b_cst_25, main_while1b_call16_v0, main_while1b_v48_1, main_while1b_call16_v2, main_while1b_call16_v3, main_while1b_v48_0, main_while1b_call16_cst, main_while1b_v48_2, main_while1b_cst_26, main_while1b_v49, main_while1b_v50, main_while1b_v51, main_while1b_v52, main_while1b_v53, main_while1b_v54, main_while1b_v55, main_while1b_cst_27, main_while1b_call17_v0, main_while1b_v56_1, main_while1b_call17_v2, main_while1b_v56_0, main_while1b_call17_cst, main_while1b_v56_2, main_while1b_v57, main_while1b_v58, main_while1b_v59, main_while1b_v60, main_while1b_v61, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_cst_28, main_while1b_v78, main_while1b_v79, main_while1b_cst_29, main_while1b_v80, main_while1b_v81, main_while1b_cst_30, main_while1b_v82, main_while1b_v83, main_while1b_v84, main_while1b_v85, main_while1b_v86, main_while1b_v87, main_while1b_cst_31, main_while1b_v88, main_while1b_v89, main_while1b_cst_32, main_while1b_v90, main_while1b_v91, main_while1b_v92, main_while1b_v93, main_while1b_cst_33, main_while1b_v94, main_while1b_v95, main_while1b_v96, main_while1b_cst_34, main_while1b_v97, main_while1b_v98, main_while1b_v99, main_while1b_v100, main_while1b_cst_35, main_while1b_v101, main_while1b_v102, main_while1b_v103, main_while1b_v104, main_while1b_v105, main_while1b_v106, main_while1b_v107, main_while1b_v108, main_while1b_v109, main_while1b_v110, main_while1b_v111, main_while1b_v112, main_while1b_v113, main_while1b_v114, main_while1b_call18_cst, main_while1b_call18_v0, main_while1b_v115, main_while1b_v116, main_while1b_v117, main_while1b_v118, main_while1b_v119, main_while1b_cst_36, main_while1b_v120, main_while1b_v121, main_while1b_v122, main_while1b_cst_37, main_while1b_v123, main_while1b_v124, main_while1b_cst_38, main_while1b_v125, main_while1b_v126, main_while1b_cst_39, main_while1b_v127, main_while1b_v128, main_while1b_v129, main_while1b_call19_cst, main_while1b_call19_v0, main_while1b_call19_v1, main_while1b_call19_cst_0, main_while1b_call19_v2, main_while1b_v130, main_while1b_cst_40, main_while1b_v131, main_while1b_call20_v0, main_while1b_call20_c, main_while1b_call20_c_0, main_while1b_call20_c_1, main_while1b_v132, main_while1b_call21_v0, main_while1b_call21_c, main_while1b_call21_c_0, main_while1b_call21_c_1, main_while1b_v133, main_while1b_call22_v0, main_while1b_call22_c, main_while1b_call22_c_0, main_while1b_call22_c_1, main_while1b_v134, main_while1b_call23_v0, main_while1b_call23_c, main_while1b_call23_c_0, main_while1b_v135, main_while1b_c_41, main_while1b_v136, main_v30_7, main_v30_8, main_v30_9, main_v30_10, main_v30_11, main_v30_12]
theorem back_writes : (back (F := F)).map HloOp.writes = back_W.map fun w => {Proc.devRef (τ := τ) .tc w} := rfl
/-- `main_while1b_c_23` after the second loop's turn. -/
def bk_c_23 (V : Valuation τ sig (Elt F)) : Arr F S_ .i32 := after back V (Proc.devRef .tc main_while1b_c_23)
/-- `main_while1b_v39` after the second loop's turn. -/
def bk_v39 (V : Valuation τ sig (Elt F)) : Arr F S_ .i32 := after back V (Proc.devRef .tc main_while1b_v39)
/-- `main_while1b_c_24` after the second loop's turn. -/
def bk_c_24 (V : Valuation τ sig (Elt F)) : Arr F S_ .i32 := after back V (Proc.devRef .tc main_while1b_c_24)
/-- `main_while1b_v40` after the second loop's turn. -/
def bk_v40 (V : Valuation τ sig (Elt F)) : Arr F S_ .i32 := after back V (Proc.devRef .tc main_while1b_v40)
/-- `main_while1b_call10_c` after the second loop's turn. -/
def bk_call10_c (V : Valuation τ sig (Elt F)) : Arr F S_ .i32 := after back V (Proc.devRef .tc main_while1b_call10_c)
/-- `main_while1b_call10_c_0` after the second loop's turn. -/
def bk_call10_c_0 (V : Valuation τ sig (Elt F)) : Arr F S_ .i32 := after back V (Proc.devRef .tc main_while1b_call10_c_0)
/-- `main_while1b_call10_c_1` after the second loop's turn. -/
def bk_call10_c_1 (V : Valuation τ sig (Elt F)) : Arr F S_ .i32 := after back V (Proc.devRef .tc main_while1b_call10_c_1)
/-- `main_while1b_call10_v0` after the second loop's turn. -/
def bk_call10_v0 (V : Valuation τ sig (Elt F)) : Arr F S1x8x64x512 .f32 := after back V (Proc.devRef .tc main_while1b_call10_v0)
/-- `main_while1b_v41` after the second loop's turn. -/
def bk_v41 (V : Valuation τ sig (Elt F)) : Arr F S8x64x512 .f32 := after back V (Proc.devRef .tc main_while1b_v41)
/-- `main_while1b_call11_c` after the second loop's turn. -/
def bk_call11_c (V : Valuation τ sig (Elt F)) : Arr F S_ .i32 := after back V (Proc.devRef .tc main_while1b_call11_c)
/-- `main_while1b_call11_c_0` after the second loop's turn. -/
def bk_call11_c_0 (V : Valuation τ sig (Elt F)) : Arr F S_ .i32 := after back V (Proc.devRef .tc main_while1b_call11_c_0)
/-- `main_while1b_call11_c_1` after the second loop's turn. -/
def bk_call11_c_1 (V : Valuation τ sig (Elt F)) : Arr F S_ .i32 := after back V (Proc.devRef .tc main_while1b_call11_c_1)
/-- `main_while1b_call11_v0` after the second loop's turn. -/
def bk_call11_v0 (V : Valuation τ sig (Elt F)) : Arr F S1x8x256x512 .f32 := after back V (Proc.devRef .tc main_while1b_call11_v0)
/-- `main_while1b_v42` after the second loop's turn. -/
def bk_v42 (V : Valuation τ sig (Elt F)) : Arr F S8x256x512 .f32 := after back V (Proc.devRef .tc main_while1b_v42)
/-- `main_while1b_call12_c` after the second loop's turn. -/
def bk_call12_c (V : Valuation τ sig (Elt F)) : Arr F S_ .i32 := after back V (Proc.devRef .tc main_while1b_call12_c)
/-- `main_while1b_call12_c_0` after the second loop's turn. -/
def bk_call12_c_0 (V : Valuation τ sig (Elt F)) : Arr F S_ .i32 := after back V (Proc.devRef .tc main_while1b_call12_c_0)
/-- `main_while1b_call12_c_1` after the second loop's turn. -/
def bk_call12_c_1 (V : Valuation τ sig (Elt F)) : Arr F S_ .i32 := after back V (Proc.devRef .tc main_while1b_call12_c_1)
/-- `main_while1b_call12_v0` after the second loop's turn. -/
def bk_call12_v0 (V : Valuation τ sig (Elt F)) : Arr F S1x8x64x256 .f32 := after back V (Proc.devRef .tc main_while1b_call12_v0)
/-- `main_while1b_v43` after the second loop's turn. -/
def bk_v43 (V : Valuation τ sig (Elt F)) : Arr F S8x64x256 .f32 := after back V (Proc.devRef .tc main_while1b_v43)
/-- `main_while1b_call13_c` after the second loop's turn. -/
def bk_call13_c (V : Valuation τ sig (Elt F)) : Arr F S_ .i32 := after back V (Proc.devRef .tc main_while1b_call13_c)
/-- `main_while1b_call13_c_0` after the second loop's turn. -/
def bk_call13_c_0 (V : Valuation τ sig (Elt F)) : Arr F S_ .i32 := after back V (Proc.devRef .tc main_while1b_call13_c_0)
/-- `main_while1b_call13_c_1` after the second loop's turn. -/
def bk_call13_c_1 (V : Valuation τ sig (Elt F)) : Arr F S_ .i32 := after back V (Proc.devRef .tc main_while1b_call13_c_1)
/-- `main_while1b_call13_v0` after the second loop's turn. -/
def bk_call13_v0 (V : Valuation τ sig (Elt F)) : Arr F S1x8x64x256 .f32 := after back V (Proc.devRef .tc main_while1b_call13_v0)
/-- `main_while1b_v44` after the second loop's turn. -/
def bk_v44 (V : Valuation τ sig (Elt F)) : Arr F S8x64x256 .f32 := after back V (Proc.devRef .tc main_while1b_v44)
/-- `main_while1b_call14_c` after the second loop's turn. -/
def bk_call14_c (V : Valuation τ sig (Elt F)) : Arr F S_ .i32 := after back V (Proc.devRef .tc main_while1b_call14_c)
/-- `main_while1b_call14_c_0` after the second loop's turn. -/
def bk_call14_c_0 (V : Valuation τ sig (Elt F)) : Arr F S_ .i32 := after back V (Proc.devRef .tc main_while1b_call14_c_0)
/-- `main_while1b_call14_c_1` after the second loop's turn. -/
def bk_call14_c_1 (V : Valuation τ sig (Elt F)) : Arr F S_ .i32 := after back V (Proc.devRef .tc main_while1b_call14_c_1)
/-- `main_while1b_call14_v0` after the second loop's turn. -/
def bk_call14_v0 (V : Valuation τ sig (Elt F)) : Arr F S1x8x64x512 .f32 := after back V (Proc.devRef .tc main_while1b_call14_v0)
/-- `main_while1b_v45` after the second loop's turn. -/
def bk_v45 (V : Valuation τ sig (Elt F)) : Arr F S8x64x512 .f32 := after back V (Proc.devRef .tc main_while1b_v45)
/-- `main_while1b_call15_c` after the second loop's turn. -/
def bk_call15_c (V : Valuation τ sig (Elt F)) : Arr F S_ .i32 := after back V (Proc.devRef .tc main_while1b_call15_c)
/-- `main_while1b_call15_c_0` after the second loop's turn. -/
def bk_call15_c_0 (V : Valuation τ sig (Elt F)) : Arr F S_ .i32 := after back V (Proc.devRef .tc main_while1b_call15_c_0)
/-- `main_while1b_call15_v0` after the second loop's turn. -/
def bk_call15_v0 (V : Valuation τ sig (Elt F)) : Arr F S1x8x64 .f32 := after back V (Proc.devRef .tc main_while1b_call15_v0)
/-- `main_while1b_v46` after the second loop's turn. -/
def bk_v46 (V : Valuation τ sig (Elt F)) : Arr F S8x64 .f32 := after back V (Proc.devRef .tc main_while1b_v46)
/-- `main_while1b_v47` after the second loop's turn. -/
def bk_v47 (V : Valuation τ sig (Elt F)) : Arr F S8x1x64 .f32 := after back V (Proc.devRef .tc main_while1b_v47)
/-- `main_while1b_cst_25` after the second loop's turn. -/
def bk_cst_25 (V : Valuation τ sig (Elt F)) : Arr F S_ .f32 := after back V (Proc.devRef .tc main_while1b_cst_25)
/-- `main_while1b_call16_v0` after the second loop's turn. -/
def bk_call16_v0 (V : Valuation τ sig (Elt F)) : Arr F S_ .f32 := after back V (Proc.devRef .tc main_while1b_call16_v0)
/-- `main_while1b_v48_1` after the second loop's turn. -/
def bk_v48_1 (V : Valuation τ sig (Elt F)) : Arr F S8x64x64 .i1 := after back V (Proc.devRef .tc main_while1b_v48_1)
/-- `main_while1b_call16_v2` after the second loop's turn. -/
def bk_call16_v2 (V : Valuation τ sig (Elt F)) : Arr F S8x64x64 .f32 := after back V (Proc.devRef .tc main_while1b_call16_v2)
/-- `main_while1b_call16_v3` after the second loop's turn. -/
def bk_call16_v3 (V : Valuation τ sig (Elt F)) : Arr F S8x64x64 .f32 := after back V (Proc.devRef .tc main_while1b_call16_v3)
/-- `main_while1b_v48_0` after the second loop's turn. -/
def bk_v48_0 (V : Valuation τ sig (Elt F)) : Arr F S8x64x64 .f32 := after back V (Proc.devRef .tc main_while1b_v48_0)
/-- `main_while1b_cst_26` after the second loop's turn. -/
def bk_cst_26 (V : Valuation τ sig (Elt F)) : Arr F S_ .f32 := after back V (Proc.devRef .tc main_while1b_cst_26)
/-- `main_while1b_v49` after the second loop's turn. -/
def bk_v49 (V : Valuation τ sig (Elt F)) : Arr F S8x64 .f32 := after back V (Proc.devRef .tc main_while1b_v49)
/-- `main_while1b_v50` after the second loop's turn. -/
def bk_v50 (V : Valuation τ sig (Elt F)) : Arr F S8x64x1 .f32 := after back V (Proc.devRef .tc main_while1b_v50)
/-- `main_while1b_v51` after the second loop's turn. -/
def bk_v51 (V : Valuation τ sig (Elt F)) : Arr F S8x1x64 .f32 := after back V (Proc.devRef .tc main_while1b_v51)
/-- `main_while1b_v52` after the second loop's turn. -/
def bk_v52 (V : Valuation τ sig (Elt F)) : Arr F S8x64x64 .f32 := after back V (Proc.devRef .tc main_while1b_v52)
/-- `main_while1b_v53` after the second loop's turn. -/
def bk_v53 (V : Valuation τ sig (Elt F)) : Arr F S8x64x64 .f32 := after back V (Proc.devRef .tc main_while1b_v53)
/-- `main_while1b_v54` after the second loop's turn. -/
def bk_v54 (V : Valuation τ sig (Elt F)) : Arr F S8x64x64 .f32 := after back V (Proc.devRef .tc main_while1b_v54)
/-- `main_while1b_v55` after the second loop's turn. -/
def bk_v55 (V : Valuation τ sig (Elt F)) : Arr F S8x64x64 .f32 := after back V (Proc.devRef .tc main_while1b_v55)
/-- `main_while1b_cst_27` after the second loop's turn. -/
def bk_cst_27 (V : Valuation τ sig (Elt F)) : Arr F S_ .f32 := after back V (Proc.devRef .tc main_while1b_cst_27)
/-- `main_while1b_call17_v0` after the second loop's turn. -/
def bk_call17_v0 (V : Valuation τ sig (Elt F)) : Arr F S_ .f32 := after back V (Proc.devRef .tc main_while1b_call17_v0)
/-- `main_while1b_v56_1` after the second loop's turn. -/
def bk_v56_1 (V : Valuation τ sig (Elt F)) : Arr F S8x64x64 .i1 := after back V (Proc.devRef .tc main_while1b_v56_1)
/-- `main_while1b_call17_v2` after the second loop's turn. -/
def bk_call17_v2 (V : Valuation τ sig (Elt F)) : Arr F S8x64x64 .f32 := after back V (Proc.devRef .tc main_while1b_call17_v2)
/-- `main_while1b_v56_0` after the second loop's turn. -/
def bk_v56_0 (V : Valuation τ sig (Elt F)) : Arr F S8x64x64 .f32 := after back V (Proc.devRef .tc main_while1b_v56_0)
/-- `main_while1b_v57` after the second loop's turn. -/
def bk_v57 (V : Valuation τ sig (Elt F)) : Arr F S8x64x64 .f32 := after back V (Proc.devRef .tc main_while1b_v57)
/-- `main_while1b_v58` after the second loop's turn. -/
def bk_v58 (V : Valuation τ sig (Elt F)) : Arr F S8x64x64 .f32 := after back V (Proc.devRef .tc main_while1b_v58)
/-- `main_while1b_v59` after the second loop's turn. -/
def bk_v59 (V : Valuation τ sig (Elt F)) : Arr F S8x64x512 .f32 := after back V (Proc.devRef .tc main_while1b_v59)
/-- `main_while1b_v60` after the second loop's turn. -/
def bk_v60 (V : Valuation τ sig (Elt F)) : Arr F S8x64 .f32 := after back V (Proc.devRef .tc main_while1b_v60)
/-- `main_while1b_v61` after the second loop's turn. -/
def bk_v61 (V : Valuation τ sig (Elt F)) : Arr F S8x64x1 .f32 := after back V (Proc.devRef .tc main_while1b_v61)
/-- `main_while1b_v62` after the second loop's turn. -/
def bk_v62 (V : Valuation τ sig (Elt F)) : Arr F S8x1 .f32 := after back V (Proc.devRef .tc main_while1b_v62)
/-- `main_while1b_v63` after the second loop's turn. -/
def bk_v63 (V : Valuation τ sig (Elt F)) : Arr F S8x1 .f32 := after back V (Proc.devRef .tc main_while1b_v63)
/-- `main_while1b_v64` after the second loop's turn. -/
def bk_v64 (V : Valuation τ sig (Elt F)) : Arr F S8x1x1 .f32 := after back V (Proc.devRef .tc main_while1b_v64)
/-- `main_while1b_v65` after the second loop's turn. -/
def bk_v65 (V : Valuation τ sig (Elt F)) : Arr F S8x64 .f32 := after back V (Proc.devRef .tc main_while1b_v65)
/-- `main_while1b_v66` after the second loop's turn. -/
def bk_v66 (V : Valuation τ sig (Elt F)) : Arr F S8x64 .f32 := after back V (Proc.devRef .tc main_while1b_v66)
/-- `main_while1b_v67` after the second loop's turn. -/
def bk_v67 (V : Valuation τ sig (Elt F)) : Arr F S8x64 .f32 := after back V (Proc.devRef .tc main_while1b_v67)
/-- `main_while1b_v68` after the second loop's turn. -/
def bk_v68 (V : Valuation τ sig (Elt F)) : Arr F S8x64x1 .f32 := after back V (Proc.devRef .tc main_while1b_v68)
/-- `main_while1b_v69` after the second loop's turn. -/
def bk_v69 (V : Valuation τ sig (Elt F)) : Arr F S8x64x512 .f32 := after back V (Proc.devRef .tc main_while1b_v69)
/-- `main_while1b_v70` after the second loop's turn. -/
def bk_v70 (V : Valuation τ sig (Elt F)) : Arr F S8x64x512 .f32 := after back V (Proc.devRef .tc main_while1b_v70)
/-- `main_while1b_v71` after the second loop's turn. -/
def bk_v71 (V : Valuation τ sig (Elt F)) : Arr F S8x512x64 .f32 := after back V (Proc.devRef .tc main_while1b_v71)
/-- `main_while1b_v72` after the second loop's turn. -/
def bk_v72 (V : Valuation τ sig (Elt F)) : Arr F S8x64x512 .f32 := after back V (Proc.devRef .tc main_while1b_v72)
/-- `main_while1b_v73` after the second loop's turn. -/
def bk_v73 (V : Valuation τ sig (Elt F)) : Arr F S8x256x64 .f32 := after back V (Proc.devRef .tc main_while1b_v73)
/-- `main_while1b_v74` after the second loop's turn. -/
def bk_v74 (V : Valuation τ sig (Elt F)) : Arr F S8x64x256 .f32 := after back V (Proc.devRef .tc main_while1b_v74)
/-- `main_while1b_v75` after the second loop's turn. -/
def bk_v75 (V : Valuation τ sig (Elt F)) : Arr F S8x64x512 .f32 := after back V (Proc.devRef .tc main_while1b_v75)
/-- `main_while1b_v76` after the second loop's turn. -/
def bk_v76 (V : Valuation τ sig (Elt F)) : Arr F S8x64x512 .f32 := after back V (Proc.devRef .tc main_while1b_v76)
/-- `main_while1b_v77` after the second loop's turn. -/
def bk_v77 (V : Valuation τ sig (Elt F)) : Arr F S8x64x512 .f32 := after back V (Proc.devRef .tc main_while1b_v77)
/-- `main_while1b_cst_28` after the second loop's turn. -/
def bk_cst_28 (V : Valuation τ sig (Elt F)) : Arr F S_ .f32 := after back V (Proc.devRef .tc main_while1b_cst_28)
/-- `main_while1b_v78` after the second loop's turn. -/
def bk_v78 (V : Valuation τ sig (Elt F)) : Arr F S8x64 .f32 := after back V (Proc.devRef .tc main_while1b_v78)
/-- `main_while1b_v79` after the second loop's turn. -/
def bk_v79 (V : Valuation τ sig (Elt F)) : Arr F S8x64x1 .f32 := after back V (Proc.devRef .tc main_while1b_v79)
/-- `main_while1b_cst_29` after the second loop's turn. -/
def bk_cst_29 (V : Valuation τ sig (Elt F)) : Arr F S_ .f32 := after back V (Proc.devRef .tc main_while1b_cst_29)
/-- `main_while1b_v80` after the second loop's turn. -/
def bk_v80 (V : Valuation τ sig (Elt F)) : Arr F S8x64 .f32 := after back V (Proc.devRef .tc main_while1b_v80)
/-- `main_while1b_v81` after the second loop's turn. -/
def bk_v81 (V : Valuation τ sig (Elt F)) : Arr F S8x64 .f32 := after back V (Proc.devRef .tc main_while1b_v81)
/-- `main_while1b_cst_30` after the second loop's turn. -/
def bk_cst_30 (V : Valuation τ sig (Elt F)) : Arr F S_ .f32 := after back V (Proc.devRef .tc main_while1b_cst_30)
/-- `main_while1b_v82` after the second loop's turn. -/
def bk_v82 (V : Valuation τ sig (Elt F)) : Arr F S8 .f32 := after back V (Proc.devRef .tc main_while1b_v82)
/-- `main_while1b_v83` after the second loop's turn. -/
def bk_v83 (V : Valuation τ sig (Elt F)) : Arr F S8x1 .f32 := after back V (Proc.devRef .tc main_while1b_v83)
/-- `main_while1b_v84` after the second loop's turn. -/
def bk_v84 (V : Valuation τ sig (Elt F)) : Arr F S8x64 .f32 := after back V (Proc.devRef .tc main_while1b_v84)
/-- `main_while1b_v85` after the second loop's turn. -/
def bk_v85 (V : Valuation τ sig (Elt F)) : Arr F S8x256x512 .f32 := after back V (Proc.devRef .tc main_while1b_v85)
/-- `main_while1b_v86` after the second loop's turn. -/
def bk_v86 (V : Valuation τ sig (Elt F)) : Arr F S8x256x512 .f32 := after back V (Proc.devRef .tc main_while1b_v86)
/-- `main_while1b_v87` after the second loop's turn. -/
def bk_v87 (V : Valuation τ sig (Elt F)) : Arr F S8x256x512 .f32 := after back V (Proc.devRef .tc main_while1b_v87)
/-- `main_while1b_cst_31` after the second loop's turn. -/
def bk_cst_31 (V : Valuation τ sig (Elt F)) : Arr F S_ .f32 := after back V (Proc.devRef .tc main_while1b_cst_31)
/-- `main_while1b_v88` after the second loop's turn. -/
def bk_v88 (V : Valuation τ sig (Elt F)) : Arr F S8 .f32 := after back V (Proc.devRef .tc main_while1b_v88)
/-- `main_while1b_v89` after the second loop's turn. -/
def bk_v89 (V : Valuation τ sig (Elt F)) : Arr F S8x1x1 .f32 := after back V (Proc.devRef .tc main_while1b_v89)
/-- `main_while1b_cst_32` after the second loop's turn. -/
def bk_cst_32 (V : Valuation τ sig (Elt F)) : Arr F S_ .f32 := after back V (Proc.devRef .tc main_while1b_cst_32)
/-- `main_while1b_v90` after the second loop's turn. -/
def bk_v90 (V : Valuation τ sig (Elt F)) : Arr F S8 .f32 := after back V (Proc.devRef .tc main_while1b_v90)
/-- `main_while1b_v91` after the second loop's turn. -/
def bk_v91 (V : Valuation τ sig (Elt F)) : Arr F S8x1 .f32 := after back V (Proc.devRef .tc main_while1b_v91)
/-- `main_while1b_v92` after the second loop's turn. -/
def bk_v92 (V : Valuation τ sig (Elt F)) : Arr F S8x1 .f32 := after back V (Proc.devRef .tc main_while1b_v92)
/-- `main_while1b_v93` after the second loop's turn. -/
def bk_v93 (V : Valuation τ sig (Elt F)) : Arr F S8x1 .f32 := after back V (Proc.devRef .tc main_while1b_v93)
/-- `main_while1b_cst_33` after the second loop's turn. -/
def bk_cst_33 (V : Valuation τ sig (Elt F)) : Arr F S_ .f32 := after back V (Proc.devRef .tc main_while1b_cst_33)
/-- `main_while1b_v94` after the second loop's turn. -/
def bk_v94 (V : Valuation τ sig (Elt F)) : Arr F S8x64 .f32 := after back V (Proc.devRef .tc main_while1b_v94)
/-- `main_while1b_v95` after the second loop's turn. -/
def bk_v95 (V : Valuation τ sig (Elt F)) : Arr F S8x64 .f32 := after back V (Proc.devRef .tc main_while1b_v95)
/-- `main_while1b_v96` after the second loop's turn. -/
def bk_v96 (V : Valuation τ sig (Elt F)) : Arr F S8x64x512 .f32 := after back V (Proc.devRef .tc main_while1b_v96)
/-- `main_while1b_cst_34` after the second loop's turn. -/
def bk_cst_34 (V : Valuation τ sig (Elt F)) : Arr F S_ .f32 := after back V (Proc.devRef .tc main_while1b_cst_34)
/-- `main_while1b_v97` after the second loop's turn. -/
def bk_v97 (V : Valuation τ sig (Elt F)) : Arr F S8x64 .f32 := after back V (Proc.devRef .tc main_while1b_v97)
/-- `main_while1b_v98` after the second loop's turn. -/
def bk_v98 (V : Valuation τ sig (Elt F)) : Arr F S8x64x1 .f32 := after back V (Proc.devRef .tc main_while1b_v98)
/-- `main_while1b_v99` after the second loop's turn. -/
def bk_v99 (V : Valuation τ sig (Elt F)) : Arr F S8x64x512 .f32 := after back V (Proc.devRef .tc main_while1b_v99)
/-- `main_while1b_v100` after the second loop's turn. -/
def bk_v100 (V : Valuation τ sig (Elt F)) : Arr F S8x64x512 .f32 := after back V (Proc.devRef .tc main_while1b_v100)
/-- `main_while1b_cst_35` after the second loop's turn. -/
def bk_cst_35 (V : Valuation τ sig (Elt F)) : Arr F S_ .f32 := after back V (Proc.devRef .tc main_while1b_cst_35)
/-- `main_while1b_v101` after the second loop's turn. -/
def bk_v101 (V : Valuation τ sig (Elt F)) : Arr F S8x64 .f32 := after back V (Proc.devRef .tc main_while1b_v101)
/-- `main_while1b_v102` after the second loop's turn. -/
def bk_v102 (V : Valuation τ sig (Elt F)) : Arr F S8x64 .f32 := after back V (Proc.devRef .tc main_while1b_v102)
/-- `main_while1b_v103` after the second loop's turn. -/
def bk_v103 (V : Valuation τ sig (Elt F)) : Arr F S8x64 .f32 := after back V (Proc.devRef .tc main_while1b_v103)
/-- `main_while1b_v104` after the second loop's turn. -/
def bk_v104 (V : Valuation τ sig (Elt F)) : Arr F S8x512x256 .f32 := after back V (Proc.devRef .tc main_while1b_v104)
/-- `main_while1b_v105` after the second loop's turn. -/
def bk_v105 (V : Valuation τ sig (Elt F)) : Arr F S8x256x512 .f32 := after back V (Proc.devRef .tc main_while1b_v105)
/-- `main_while1b_v106` after the second loop's turn. -/
def bk_v106 (V : Valuation τ sig (Elt F)) : Arr F S8x256x512 .f32 := after back V (Proc.devRef .tc main_while1b_v106)
/-- `main_while1b_v107` after the second loop's turn. -/
def bk_v107 (V : Valuation τ sig (Elt F)) : Arr F S8x64x256 .f32 := after back V (Proc.devRef .tc main_while1b_v107)
/-- `main_while1b_v108` after the second loop's turn. -/
def bk_v108 (V : Valuation τ sig (Elt F)) : Arr F S8x512x64 .f32 := after back V (Proc.devRef .tc main_while1b_v108)
/-- `main_while1b_v109` after the second loop's turn. -/
def bk_v109 (V : Valuation τ sig (Elt F)) : Arr F S8x64x512 .f32 := after back V (Proc.devRef .tc main_while1b_v109)
/-- `main_while1b_v110` after the second loop's turn. -/
def bk_v110 (V : Valuation τ sig (Elt F)) : Arr F S8x64x512 .f32 := after back V (Proc.devRef .tc main_while1b_v110)
/-- `main_while1b_v111` after the second loop's turn. -/
def bk_v111 (V : Valuation τ sig (Elt F)) : Arr F S8x64x64 .f32 := after back V (Proc.devRef .tc main_while1b_v111)
/-- `main_while1b_v112` after the second loop's turn. -/
def bk_v112 (V : Valuation τ sig (Elt F)) : Arr F S8x64x64 .f32 := after back V (Proc.devRef .tc main_while1b_v112)
/-- `main_while1b_v113` after the second loop's turn. -/
def bk_v113 (V : Valuation τ sig (Elt F)) : Arr F S8x64x64 .f32 := after back V (Proc.devRef .tc main_while1b_v113)
/-- `main_while1b_v114` after the second loop's turn. -/
def bk_v114 (V : Valuation τ sig (Elt F)) : Arr F S8x64x64 .f32 := after back V (Proc.devRef .tc main_while1b_v114)
/-- `main_while1b_call18_cst` after the second loop's turn. -/
def bk_call18_cst (V : Valuation τ sig (Elt F)) : Arr F S_ .f32 := after back V (Proc.devRef .tc main_while1b_call18_cst)
/-- `main_while1b_call18_v0` after the second loop's turn. -/
def bk_call18_v0 (V : Valuation τ sig (Elt F)) : Arr F S8x64x64 .f32 := after back V (Proc.devRef .tc main_while1b_call18_v0)
/-- `main_while1b_v115` after the second loop's turn. -/
def bk_v115 (V : Valuation τ sig (Elt F)) : Arr F S8x64x64 .f32 := after back V (Proc.devRef .tc main_while1b_v115)
/-- `main_while1b_v116` after the second loop's turn. -/
def bk_v116 (V : Valuation τ sig (Elt F)) : Arr F S8x64x256 .f32 := after back V (Proc.devRef .tc main_while1b_v116)
/-- `main_while1b_v117` after the second loop's turn. -/
def bk_v117 (V : Valuation τ sig (Elt F)) : Arr F S8x64x256 .f32 := after back V (Proc.devRef .tc main_while1b_v117)
/-- `main_while1b_v118` after the second loop's turn. -/
def bk_v118 (V : Valuation τ sig (Elt F)) : Arr F S8x64x256 .f32 := after back V (Proc.devRef .tc main_while1b_v118)
/-- `main_while1b_v119` after the second loop's turn. -/
def bk_v119 (V : Valuation τ sig (Elt F)) : Arr F S8x64x256 .f32 := after back V (Proc.devRef .tc main_while1b_v119)
/-- `main_while1b_cst_36` after the second loop's turn. -/
def bk_cst_36 (V : Valuation τ sig (Elt F)) : Arr F S_ .f32 := after back V (Proc.devRef .tc main_while1b_cst_36)
/-- `main_while1b_v120` after the second loop's turn. -/
def bk_v120 (V : Valuation τ sig (Elt F)) : Arr F S8x64 .f32 := after back V (Proc.devRef .tc main_while1b_v120)
/-- `main_while1b_v121` after the second loop's turn. -/
def bk_v121 (V : Valuation τ sig (Elt F)) : Arr F S8x64x1 .f32 := after back V (Proc.devRef .tc main_while1b_v121)
/-- `main_while1b_v122` after the second loop's turn. -/
def bk_v122 (V : Valuation τ sig (Elt F)) : Arr F S8x64x64 .f32 := after back V (Proc.devRef .tc main_while1b_v122)
/-- `main_while1b_cst_37` after the second loop's turn. -/
def bk_cst_37 (V : Valuation τ sig (Elt F)) : Arr F S_ .f32 := after back V (Proc.devRef .tc main_while1b_cst_37)
/-- `main_while1b_v123` after the second loop's turn. -/
def bk_v123 (V : Valuation τ sig (Elt F)) : Arr F S8x64 .f32 := after back V (Proc.devRef .tc main_while1b_v123)
/-- `main_while1b_v124` after the second loop's turn. -/
def bk_v124 (V : Valuation τ sig (Elt F)) : Arr F S8x1x64 .f32 := after back V (Proc.devRef .tc main_while1b_v124)
/-- `main_while1b_cst_38` after the second loop's turn. -/
def bk_cst_38 (V : Valuation τ sig (Elt F)) : Arr F S_ .f32 := after back V (Proc.devRef .tc main_while1b_cst_38)
/-- `main_while1b_v125` after the second loop's turn. -/
def bk_v125 (V : Valuation τ sig (Elt F)) : Arr F S8x64 .f32 := after back V (Proc.devRef .tc main_while1b_v125)
/-- `main_while1b_v126` after the second loop's turn. -/
def bk_v126 (V : Valuation τ sig (Elt F)) : Arr F S8x64 .f32 := after back V (Proc.devRef .tc main_while1b_v126)
/-- `main_while1b_cst_39` after the second loop's turn. -/
def bk_cst_39 (V : Valuation τ sig (Elt F)) : Arr F S_ .f32 := after back V (Proc.devRef .tc main_while1b_cst_39)
/-- `main_while1b_v127` after the second loop's turn. -/
def bk_v127 (V : Valuation τ sig (Elt F)) : Arr F S8x64 .f32 := after back V (Proc.devRef .tc main_while1b_v127)
/-- `main_while1b_v128` after the second loop's turn. -/
def bk_v128 (V : Valuation τ sig (Elt F)) : Arr F S8x64 .f32 := after back V (Proc.devRef .tc main_while1b_v128)
/-- `main_while1b_v129` after the second loop's turn. -/
def bk_v129 (V : Valuation τ sig (Elt F)) : Arr F S8x64x64 .f32 := after back V (Proc.devRef .tc main_while1b_v129)
/-- `main_while1b_call19_cst` after the second loop's turn. -/
def bk_call19_cst (V : Valuation τ sig (Elt F)) : Arr F S_ .f32 := after back V (Proc.devRef .tc main_while1b_call19_cst)
/-- `main_while1b_call19_v0` after the second loop's turn. -/
def bk_call19_v0 (V : Valuation τ sig (Elt F)) : Arr F S8x64x64 .f32 := after back V (Proc.devRef .tc main_while1b_call19_v0)
/-- `main_while1b_call19_v1` after the second loop's turn. -/
def bk_call19_v1 (V : Valuation τ sig (Elt F)) : Arr F S8x64x64 .f32 := after back V (Proc.devRef .tc main_while1b_call19_v1)
/-- `main_while1b_call19_cst_0` after the second loop's turn. -/
def bk_call19_cst_0 (V : Valuation τ sig (Elt F)) : Arr F S_ .f32 := after back V (Proc.devRef .tc main_while1b_call19_cst_0)
/-- `main_while1b_call19_v2` after the second loop's turn. -/
def bk_call19_v2 (V : Valuation τ sig (Elt F)) : Arr F S8x64 .f32 := after back V (Proc.devRef .tc main_while1b_call19_v2)
/-- `main_while1b_v130` after the second loop's turn. -/
def bk_v130 (V : Valuation τ sig (Elt F)) : Arr F S8x1x64 .f32 := after back V (Proc.devRef .tc main_while1b_v130)
/-- `main_while1b_cst_40` after the second loop's turn. -/
def bk_cst_40 (V : Valuation τ sig (Elt F)) : Arr F S_ .f32 := after back V (Proc.devRef .tc main_while1b_cst_40)
/-- `main_while1b_v131` after the second loop's turn. -/
def bk_v131 (V : Valuation τ sig (Elt F)) : Arr F S8x64 .f32 := after back V (Proc.devRef .tc main_while1b_v131)
/-- `main_while1b_call20_v0` after the second loop's turn. -/
def bk_call20_v0 (V : Valuation τ sig (Elt F)) : Arr F S1x8x64x256 .f32 := after back V (Proc.devRef .tc main_while1b_call20_v0)
/-- `main_while1b_call20_c` after the second loop's turn. -/
def bk_call20_c (V : Valuation τ sig (Elt F)) : Arr F S_ .i32 := after back V (Proc.devRef .tc main_while1b_call20_c)
/-- `main_while1b_call20_c_0` after the second loop's turn. -/
def bk_call20_c_0 (V : Valuation τ sig (Elt F)) : Arr F S_ .i32 := after back V (Proc.devRef .tc main_while1b_call20_c_0)
/-- `main_while1b_call20_c_1` after the second loop's turn. -/
def bk_call20_c_1 (V : Valuation τ sig (Elt F)) : Arr F S_ .i32 := after back V (Proc.devRef .tc main_while1b_call20_c_1)
/-- `main_while1b_v132` after the second loop's turn. -/
def bk_v132 (V : Valuation τ sig (Elt F)) : Arr F S36x8x64x256 .f32 := after back V (Proc.devRef .tc main_while1b_v132)
/-- `main_while1b_call21_v0` after the second loop's turn. -/
def bk_call21_v0 (V : Valuation τ sig (Elt F)) : Arr F S1x8x64x256 .f32 := after back V (Proc.devRef .tc main_while1b_call21_v0)
/-- `main_while1b_call21_c` after the second loop's turn. -/
def bk_call21_c (V : Valuation τ sig (Elt F)) : Arr F S_ .i32 := after back V (Proc.devRef .tc main_while1b_call21_c)
/-- `main_while1b_call21_c_0` after the second loop's turn. -/
def bk_call21_c_0 (V : Valuation τ sig (Elt F)) : Arr F S_ .i32 := after back V (Proc.devRef .tc main_while1b_call21_c_0)
/-- `main_while1b_call21_c_1` after the second loop's turn. -/
def bk_call21_c_1 (V : Valuation τ sig (Elt F)) : Arr F S_ .i32 := after back V (Proc.devRef .tc main_while1b_call21_c_1)
/-- `main_while1b_v133` after the second loop's turn. -/
def bk_v133 (V : Valuation τ sig (Elt F)) : Arr F S36x8x64x256 .f32 := after back V (Proc.devRef .tc main_while1b_v133)
/-- `main_while1b_call22_v0` after the second loop's turn. -/
def bk_call22_v0 (V : Valuation τ sig (Elt F)) : Arr F S1x8x64x512 .f32 := after back V (Proc.devRef .tc main_while1b_call22_v0)
/-- `main_while1b_call22_c` after the second loop's turn. -/
def bk_call22_c (V : Valuation τ sig (Elt F)) : Arr F S_ .i32 := after back V (Proc.devRef .tc main_while1b_call22_c)
/-- `main_while1b_call22_c_0` after the second loop's turn. -/
def bk_call22_c_0 (V : Valuation τ sig (Elt F)) : Arr F S_ .i32 := after back V (Proc.devRef .tc main_while1b_call22_c_0)
/-- `main_while1b_call22_c_1` after the second loop's turn. -/
def bk_call22_c_1 (V : Valuation τ sig (Elt F)) : Arr F S_ .i32 := after back V (Proc.devRef .tc main_while1b_call22_c_1)
/-- `main_while1b_v134` after the second loop's turn. -/
def bk_v134 (V : Valuation τ sig (Elt F)) : Arr F S36x8x64x512 .f32 := after back V (Proc.devRef .tc main_while1b_v134)
/-- `main_while1b_call23_v0` after the second loop's turn. -/
def bk_call23_v0 (V : Valuation τ sig (Elt F)) : Arr F S1x8x64 .f32 := after back V (Proc.devRef .tc main_while1b_call23_v0)
/-- `main_while1b_call23_c` after the second loop's turn. -/
def bk_call23_c (V : Valuation τ sig (Elt F)) : Arr F S_ .i32 := after back V (Proc.devRef .tc main_while1b_call23_c)
/-- `main_while1b_call23_c_0` after the second loop's turn. -/
def bk_call23_c_0 (V : Valuation τ sig (Elt F)) : Arr F S_ .i32 := after back V (Proc.devRef .tc main_while1b_call23_c_0)
/-- `main_while1b_v135` after the second loop's turn. -/
def bk_v135 (V : Valuation τ sig (Elt F)) : Arr F S36x8x64 .f32 := after back V (Proc.devRef .tc main_while1b_v135)
/-- `main_while1b_c_41` after the second loop's turn. -/
def bk_c_41 (V : Valuation τ sig (Elt F)) : Arr F S_ .i32 := after back V (Proc.devRef .tc main_while1b_c_41)
/-- `main_while1b_v136` after the second loop's turn. -/
def bk_v136 (V : Valuation τ sig (Elt F)) : Arr F S_ .i32 := after back V (Proc.devRef .tc main_while1b_v136)
/-- `main_v30_7` after the second loop's turn. -/
def bk_o7 (V : Valuation τ sig (Elt F)) : Arr F S_ .i32 := after back V (Proc.devRef .tc main_v30_7)
/-- `main_v30_8` after the second loop's turn. -/
def bk_o8 (V : Valuation τ sig (Elt F)) : Arr F S8x256x512 .f32 := after back V (Proc.devRef .tc main_v30_8)
/-- `main_v30_9` after the second loop's turn. -/
def bk_o9 (V : Valuation τ sig (Elt F)) : Arr F S36x8x64x256 .f32 := after back V (Proc.devRef .tc main_v30_9)
/-- `main_v30_10` after the second loop's turn. -/
def bk_o10 (V : Valuation τ sig (Elt F)) : Arr F S36x8x64x256 .f32 := after back V (Proc.devRef .tc main_v30_10)
/-- `main_v30_11` after the second loop's turn. -/
def bk_o11 (V : Valuation τ sig (Elt F)) : Arr F S36x8x64x512 .f32 := after back V (Proc.devRef .tc main_v30_11)
/-- `main_v30_12` after the second loop's turn. -/
def bk_o12 (V : Valuation τ sig (Elt F)) : Arr F S36x8x64 .f32 := after back V (Proc.devRef .tc main_v30_12)

end Cert.ReferenceIdeal.Ret
-- ==== Proof.Ref.BackD.lean ====
module

public import proofs.«01_k».proof.Proof.Ref.Back
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

set_option maxHeartbeats 4000000 in
theorem bk_v132_eq (V : Valuation τ sig (Elt F)) : bk_v132 V = ((fun x u i => Host.dynamicUpdateSlice x u (fun k => (i k (Shape.Idx.first h_S_)).toInt) updateFits_S36x8x64x256_S1x8x64x256) : Arr F S36x8x64x256 .f32 → Arr F S1x8x64x256 .f32 → (Fin 4 → Arr F S_ .i32) → Arr F S36x8x64x256 .f32) (V (Proc.devRef .tc main_v30_9)) (bk_call20_v0 V) (![(bk_v40 V), (bk_call20_c V), (bk_call20_c_0 V), (bk_call20_c_1 V)] : Fin 4 → Arr F S_ .i32) := by
  have h := read_binaryIndexed (V := V) back_writes 156 rfl (by decide +kernel) (read_arg back_writes 156 (by decide +kernel)) (read_in back_writes 156 (by decide +kernel)) (w := (![(bk_v40 V), (bk_call20_c V), (bk_call20_c_0 V), (bk_call20_c_1 V)] : Fin 4 → Arr F S_ .i32))
    (funext fun k => by
      fin_cases k
      · exact (read_in back_writes 156 (by decide +kernel))
      · exact (read_in back_writes 156 (by decide +kernel))
      · exact (read_in back_writes 156 (by decide +kernel))
      · exact (read_in back_writes 156 (by decide +kernel)))
  exact h
set_option maxHeartbeats 4000000 in
theorem bk_v133_eq (V : Valuation τ sig (Elt F)) : bk_v133 V = ((fun x u i => Host.dynamicUpdateSlice x u (fun k => (i k (Shape.Idx.first h_S_)).toInt) updateFits_S36x8x64x256_S1x8x64x256) : Arr F S36x8x64x256 .f32 → Arr F S1x8x64x256 .f32 → (Fin 4 → Arr F S_ .i32) → Arr F S36x8x64x256 .f32) (V (Proc.devRef .tc main_v30_10)) (bk_call21_v0 V) (![(bk_v40 V), (bk_call21_c V), (bk_call21_c_0 V), (bk_call21_c_1 V)] : Fin 4 → Arr F S_ .i32) := by
  have h := read_binaryIndexed (V := V) back_writes 161 rfl (by decide +kernel) (read_arg back_writes 161 (by decide +kernel)) (read_in back_writes 161 (by decide +kernel)) (w := (![(bk_v40 V), (bk_call21_c V), (bk_call21_c_0 V), (bk_call21_c_1 V)] : Fin 4 → Arr F S_ .i32))
    (funext fun k => by
      fin_cases k
      · exact (read_in back_writes 161 (by decide +kernel))
      · exact (read_in back_writes 161 (by decide +kernel))
      · exact (read_in back_writes 161 (by decide +kernel))
      · exact (read_in back_writes 161 (by decide +kernel)))
  exact h
set_option maxHeartbeats 4000000 in
theorem bk_v134_eq (V : Valuation τ sig (Elt F)) : bk_v134 V = ((fun x u i => Host.dynamicUpdateSlice x u (fun k => (i k (Shape.Idx.first h_S_)).toInt) updateFits_S36x8x64x512_S1x8x64x512) : Arr F S36x8x64x512 .f32 → Arr F S1x8x64x512 .f32 → (Fin 4 → Arr F S_ .i32) → Arr F S36x8x64x512 .f32) (V (Proc.devRef .tc main_v30_11)) (bk_call22_v0 V) (![(bk_v40 V), (bk_call22_c V), (bk_call22_c_0 V), (bk_call22_c_1 V)] : Fin 4 → Arr F S_ .i32) := by
  have h := read_binaryIndexed (V := V) back_writes 166 rfl (by decide +kernel) (read_arg back_writes 166 (by decide +kernel)) (read_in back_writes 166 (by decide +kernel)) (w := (![(bk_v40 V), (bk_call22_c V), (bk_call22_c_0 V), (bk_call22_c_1 V)] : Fin 4 → Arr F S_ .i32))
    (funext fun k => by
      fin_cases k
      · exact (read_in back_writes 166 (by decide +kernel))
      · exact (read_in back_writes 166 (by decide +kernel))
      · exact (read_in back_writes 166 (by decide +kernel))
      · exact (read_in back_writes 166 (by decide +kernel)))
  exact h
set_option maxHeartbeats 4000000 in
theorem bk_v135_eq (V : Valuation τ sig (Elt F)) : bk_v135 V = ((fun x u i => Host.dynamicUpdateSlice x u (fun k => (i k (Shape.Idx.first h_S_)).toInt) updateFits_S36x8x64_S1x8x64) : Arr F S36x8x64 .f32 → Arr F S1x8x64 .f32 → (Fin 3 → Arr F S_ .i32) → Arr F S36x8x64 .f32) (V (Proc.devRef .tc main_v30_12)) (bk_call23_v0 V) (![(bk_v40 V), (bk_call23_c V), (bk_call23_c_0 V)] : Fin 3 → Arr F S_ .i32) := by
  have h := read_binaryIndexed (V := V) back_writes 170 rfl (by decide +kernel) (read_arg back_writes 170 (by decide +kernel)) (read_in back_writes 170 (by decide +kernel)) (w := (![(bk_v40 V), (bk_call23_c V), (bk_call23_c_0 V)] : Fin 3 → Arr F S_ .i32))
    (funext fun k => by
      fin_cases k
      · exact (read_in back_writes 170 (by decide +kernel))
      · exact (read_in back_writes 170 (by decide +kernel))
      · exact (read_in back_writes 170 (by decide +kernel)))
  exact h

end Cert.ReferenceIdeal.Ret
-- ==== Proof.Ref.BackA.lean ====
module

public import proofs.«01_k».proof.Proof.Ref.Back
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

theorem bk_c_23_eq (V : Valuation τ sig (Elt F)) : bk_c_23 V = (constantI S_ 32 36#32) := by
  have h := read_nullary back_writes 0 rfl (by decide +kernel) V
  exact h
theorem bk_v39_eq (V : Valuation τ sig (Elt F)) : bk_v39 V = (subi : Arr F S_ .i32 → Arr F S_ .i32 → Arr F S_ .i32) (bk_c_23 V) (V (Proc.devRef .tc main_v30_7)) := by
  have h := read_binary (V := V) back_writes 1 rfl (by decide +kernel) (read_in back_writes 1 (by decide +kernel)) (read_arg back_writes 1 (by decide +kernel))
  exact h
theorem bk_c_24_eq (V : Valuation τ sig (Elt F)) : bk_c_24 V = (constantI S_ 32 1#32) := by
  have h := read_nullary back_writes 2 rfl (by decide +kernel) V
  exact h
theorem bk_v40_eq (V : Valuation τ sig (Elt F)) : bk_v40 V = (subi : Arr F S_ .i32 → Arr F S_ .i32 → Arr F S_ .i32) (bk_v39 V) (bk_c_24 V) := by
  have h := read_binary (V := V) back_writes 3 rfl (by decide +kernel) (read_in back_writes 3 (by decide +kernel)) (read_in back_writes 3 (by decide +kernel))
  exact h
theorem bk_call10_c_eq (V : Valuation τ sig (Elt F)) : bk_call10_c V = (constantI S_ 32 0#32) := by
  have h := read_nullary back_writes 4 rfl (by decide +kernel) V
  exact h
theorem bk_call10_c_0_eq (V : Valuation τ sig (Elt F)) : bk_call10_c_0 V = (constantI S_ 32 0#32) := by
  have h := read_nullary back_writes 5 rfl (by decide +kernel) V
  exact h
theorem bk_call10_c_1_eq (V : Valuation τ sig (Elt F)) : bk_call10_c_1 V = (constantI S_ 32 0#32) := by
  have h := read_nullary back_writes 6 rfl (by decide +kernel) V
  exact h
theorem bk_call10_v0_eq (V : Valuation τ sig (Elt F)) : bk_call10_v0 V = ((fun x i => Host.dynamicSlice S1x8x64x512 x (fun k => (i k (Shape.Idx.first h_S_)).toInt) sliceFits_S36x8x64x512_S1x8x64x512) : Arr F S36x8x64x512 .f32 → (Fin 4 → Arr F S_ .i32) → Arr F S1x8x64x512 .f32) (V (Proc.devRef .tc main_v30_0)) (![(bk_v40 V), (bk_call10_c V), (bk_call10_c_0 V), (bk_call10_c_1 V)] : Fin 4 → Arr F S_ .i32) := by
  have h := read_unaryIndexed (V := V) back_writes 7 rfl (by decide +kernel) (read_arg back_writes 7 (by decide +kernel)) (w := (![(bk_v40 V), (bk_call10_c V), (bk_call10_c_0 V), (bk_call10_c_1 V)] : Fin 4 → Arr F S_ .i32))
    (funext fun k => by
      fin_cases k
      · exact (read_in back_writes 7 (by decide +kernel))
      · exact (read_in back_writes 7 (by decide +kernel))
      · exact (read_in back_writes 7 (by decide +kernel))
      · exact (read_in back_writes 7 (by decide +kernel)))
  exact h
theorem bk_v41_eq (V : Valuation τ sig (Elt F)) : bk_v41 V = shapeCast S8x64x512 (bk_call10_v0 V) shapeCasts_S1x8x64x512_S8x64x512 := by
  have h := read_reshape (V := V) back_writes 8 rfl (by decide +kernel) (read_in back_writes 8 (by decide +kernel))
  exact h
theorem bk_call11_c_eq (V : Valuation τ sig (Elt F)) : bk_call11_c V = (constantI S_ 32 0#32) := by
  have h := read_nullary back_writes 9 rfl (by decide +kernel) V
  exact h
theorem bk_call11_c_0_eq (V : Valuation τ sig (Elt F)) : bk_call11_c_0 V = (constantI S_ 32 0#32) := by
  have h := read_nullary back_writes 10 rfl (by decide +kernel) V
  exact h
theorem bk_call11_c_1_eq (V : Valuation τ sig (Elt F)) : bk_call11_c_1 V = (constantI S_ 32 0#32) := by
  have h := read_nullary back_writes 11 rfl (by decide +kernel) V
  exact h
theorem bk_call11_v0_eq (V : Valuation τ sig (Elt F)) : bk_call11_v0 V = ((fun x i => Host.dynamicSlice S1x8x256x512 x (fun k => (i k (Shape.Idx.first h_S_)).toInt) sliceFits_S36x8x256x512_S1x8x256x512) : Arr F S36x8x256x512 .f32 → (Fin 4 → Arr F S_ .i32) → Arr F S1x8x256x512 .f32) (V (Proc.devRef .tc main_v30_1)) (![(bk_v40 V), (bk_call11_c V), (bk_call11_c_0 V), (bk_call11_c_1 V)] : Fin 4 → Arr F S_ .i32) := by
  have h := read_unaryIndexed (V := V) back_writes 12 rfl (by decide +kernel) (read_arg back_writes 12 (by decide +kernel)) (w := (![(bk_v40 V), (bk_call11_c V), (bk_call11_c_0 V), (bk_call11_c_1 V)] : Fin 4 → Arr F S_ .i32))
    (funext fun k => by
      fin_cases k
      · exact (read_in back_writes 12 (by decide +kernel))
      · exact (read_in back_writes 12 (by decide +kernel))
      · exact (read_in back_writes 12 (by decide +kernel))
      · exact (read_in back_writes 12 (by decide +kernel)))
  exact h
theorem bk_v42_eq (V : Valuation τ sig (Elt F)) : bk_v42 V = shapeCast S8x256x512 (bk_call11_v0 V) shapeCasts_S1x8x256x512_S8x256x512 := by
  have h := read_reshape (V := V) back_writes 13 rfl (by decide +kernel) (read_in back_writes 13 (by decide +kernel))
  exact h
theorem bk_call12_c_eq (V : Valuation τ sig (Elt F)) : bk_call12_c V = (constantI S_ 32 0#32) := by
  have h := read_nullary back_writes 14 rfl (by decide +kernel) V
  exact h
theorem bk_call12_c_0_eq (V : Valuation τ sig (Elt F)) : bk_call12_c_0 V = (constantI S_ 32 0#32) := by
  have h := read_nullary back_writes 15 rfl (by decide +kernel) V
  exact h
theorem bk_call12_c_1_eq (V : Valuation τ sig (Elt F)) : bk_call12_c_1 V = (constantI S_ 32 0#32) := by
  have h := read_nullary back_writes 16 rfl (by decide +kernel) V
  exact h
theorem bk_call12_v0_eq (V : Valuation τ sig (Elt F)) : bk_call12_v0 V = ((fun x i => Host.dynamicSlice S1x8x64x256 x (fun k => (i k (Shape.Idx.first h_S_)).toInt) sliceFits_S36x8x64x256_S1x8x64x256) : Arr F S36x8x64x256 .f32 → (Fin 4 → Arr F S_ .i32) → Arr F S1x8x64x256 .f32) (V (Proc.devRef .tc main_v30_2)) (![(bk_v40 V), (bk_call12_c V), (bk_call12_c_0 V), (bk_call12_c_1 V)] : Fin 4 → Arr F S_ .i32) := by
  have h := read_unaryIndexed (V := V) back_writes 17 rfl (by decide +kernel) (read_arg back_writes 17 (by decide +kernel)) (w := (![(bk_v40 V), (bk_call12_c V), (bk_call12_c_0 V), (bk_call12_c_1 V)] : Fin 4 → Arr F S_ .i32))
    (funext fun k => by
      fin_cases k
      · exact (read_in back_writes 17 (by decide +kernel))
      · exact (read_in back_writes 17 (by decide +kernel))
      · exact (read_in back_writes 17 (by decide +kernel))
      · exact (read_in back_writes 17 (by decide +kernel)))
  exact h
theorem bk_v43_eq (V : Valuation τ sig (Elt F)) : bk_v43 V = shapeCast S8x64x256 (bk_call12_v0 V) shapeCasts_S1x8x64x256_S8x64x256 := by
  have h := read_reshape (V := V) back_writes 18 rfl (by decide +kernel) (read_in back_writes 18 (by decide +kernel))
  exact h
theorem bk_call13_c_eq (V : Valuation τ sig (Elt F)) : bk_call13_c V = (constantI S_ 32 0#32) := by
  have h := read_nullary back_writes 19 rfl (by decide +kernel) V
  exact h
theorem bk_call13_c_0_eq (V : Valuation τ sig (Elt F)) : bk_call13_c_0 V = (constantI S_ 32 0#32) := by
  have h := read_nullary back_writes 20 rfl (by decide +kernel) V
  exact h
theorem bk_call13_c_1_eq (V : Valuation τ sig (Elt F)) : bk_call13_c_1 V = (constantI S_ 32 0#32) := by
  have h := read_nullary back_writes 21 rfl (by decide +kernel) V
  exact h
theorem bk_call13_v0_eq (V : Valuation τ sig (Elt F)) : bk_call13_v0 V = ((fun x i => Host.dynamicSlice S1x8x64x256 x (fun k => (i k (Shape.Idx.first h_S_)).toInt) sliceFits_S36x8x64x256_S1x8x64x256) : Arr F S36x8x64x256 .f32 → (Fin 4 → Arr F S_ .i32) → Arr F S1x8x64x256 .f32) (V (Proc.devRef .tc main_v30_3)) (![(bk_v40 V), (bk_call13_c V), (bk_call13_c_0 V), (bk_call13_c_1 V)] : Fin 4 → Arr F S_ .i32) := by
  have h := read_unaryIndexed (V := V) back_writes 22 rfl (by decide +kernel) (read_arg back_writes 22 (by decide +kernel)) (w := (![(bk_v40 V), (bk_call13_c V), (bk_call13_c_0 V), (bk_call13_c_1 V)] : Fin 4 → Arr F S_ .i32))
    (funext fun k => by
      fin_cases k
      · exact (read_in back_writes 22 (by decide +kernel))
      · exact (read_in back_writes 22 (by decide +kernel))
      · exact (read_in back_writes 22 (by decide +kernel))
      · exact (read_in back_writes 22 (by decide +kernel)))
  exact h
theorem bk_v44_eq (V : Valuation τ sig (Elt F)) : bk_v44 V = shapeCast S8x64x256 (bk_call13_v0 V) shapeCasts_S1x8x64x256_S8x64x256 := by
  have h := read_reshape (V := V) back_writes 23 rfl (by decide +kernel) (read_in back_writes 23 (by decide +kernel))
  exact h
theorem bk_call14_c_eq (V : Valuation τ sig (Elt F)) : bk_call14_c V = (constantI S_ 32 0#32) := by
  have h := read_nullary back_writes 24 rfl (by decide +kernel) V
  exact h
theorem bk_call14_c_0_eq (V : Valuation τ sig (Elt F)) : bk_call14_c_0 V = (constantI S_ 32 0#32) := by
  have h := read_nullary back_writes 25 rfl (by decide +kernel) V
  exact h
theorem bk_call14_c_1_eq (V : Valuation τ sig (Elt F)) : bk_call14_c_1 V = (constantI S_ 32 0#32) := by
  have h := read_nullary back_writes 26 rfl (by decide +kernel) V
  exact h
theorem bk_call14_v0_eq (V : Valuation τ sig (Elt F)) : bk_call14_v0 V = ((fun x i => Host.dynamicSlice S1x8x64x512 x (fun k => (i k (Shape.Idx.first h_S_)).toInt) sliceFits_S36x8x64x512_S1x8x64x512) : Arr F S36x8x64x512 .f32 → (Fin 4 → Arr F S_ .i32) → Arr F S1x8x64x512 .f32) (V (Proc.devRef .tc main_v30_4)) (![(bk_v40 V), (bk_call14_c V), (bk_call14_c_0 V), (bk_call14_c_1 V)] : Fin 4 → Arr F S_ .i32) := by
  have h := read_unaryIndexed (V := V) back_writes 27 rfl (by decide +kernel) (read_arg back_writes 27 (by decide +kernel)) (w := (![(bk_v40 V), (bk_call14_c V), (bk_call14_c_0 V), (bk_call14_c_1 V)] : Fin 4 → Arr F S_ .i32))
    (funext fun k => by
      fin_cases k
      · exact (read_in back_writes 27 (by decide +kernel))
      · exact (read_in back_writes 27 (by decide +kernel))
      · exact (read_in back_writes 27 (by decide +kernel))
      · exact (read_in back_writes 27 (by decide +kernel)))
  exact h
theorem bk_v45_eq (V : Valuation τ sig (Elt F)) : bk_v45 V = shapeCast S8x64x512 (bk_call14_v0 V) shapeCasts_S1x8x64x512_S8x64x512 := by
  have h := read_reshape (V := V) back_writes 28 rfl (by decide +kernel) (read_in back_writes 28 (by decide +kernel))
  exact h
theorem bk_call15_c_eq (V : Valuation τ sig (Elt F)) : bk_call15_c V = (constantI S_ 32 0#32) := by
  have h := read_nullary back_writes 29 rfl (by decide +kernel) V
  exact h
theorem bk_call15_c_0_eq (V : Valuation τ sig (Elt F)) : bk_call15_c_0 V = (constantI S_ 32 0#32) := by
  have h := read_nullary back_writes 30 rfl (by decide +kernel) V
  exact h
theorem bk_call15_v0_eq (V : Valuation τ sig (Elt F)) : bk_call15_v0 V = ((fun x i => Host.dynamicSlice S1x8x64 x (fun k => (i k (Shape.Idx.first h_S_)).toInt) sliceFits_S36x8x64_S1x8x64) : Arr F S36x8x64 .f32 → (Fin 3 → Arr F S_ .i32) → Arr F S1x8x64 .f32) (V (Proc.devRef .tc main_v30_5)) (![(bk_v40 V), (bk_call15_c V), (bk_call15_c_0 V)] : Fin 3 → Arr F S_ .i32) := by
  have h := read_unaryIndexed (V := V) back_writes 31 rfl (by decide +kernel) (read_arg back_writes 31 (by decide +kernel)) (w := (![(bk_v40 V), (bk_call15_c V), (bk_call15_c_0 V)] : Fin 3 → Arr F S_ .i32))
    (funext fun k => by
      fin_cases k
      · exact (read_in back_writes 31 (by decide +kernel))
      · exact (read_in back_writes 31 (by decide +kernel))
      · exact (read_in back_writes 31 (by decide +kernel)))
  exact h
theorem bk_v46_eq (V : Valuation τ sig (Elt F)) : bk_v46 V = shapeCast S8x64 (bk_call15_v0 V) shapeCasts_S1x8x64_S8x64 := by
  have h := read_reshape (V := V) back_writes 32 rfl (by decide +kernel) (read_in back_writes 32 (by decide +kernel))
  exact h
theorem bk_v47_eq (V : Valuation τ sig (Elt F)) : bk_v47 V = (broadcastInDim S8x1x64 ![0, 2] bcast_S8x64_S8x1x64_0_2 : Arr F S8x64 .f32 → Arr F S8x1x64 .f32) (bk_v46 V) := by
  have h := read_unary (V := V) back_writes 33 rfl (by decide +kernel) (read_in back_writes 33 (by decide +kernel))
  exact h
theorem bk_cst_25_eq (V : Valuation τ sig (Elt F)) : bk_cst_25 V = (constant S_ .f32 0x00000000#32) := by
  have h := read_nullary back_writes 34 rfl (by decide +kernel) V
  exact h
theorem bk_call16_v0_eq (V : Valuation τ sig (Elt F)) : bk_call16_v0 V = (bk_cst_25 V) := by
  have h := read_unary (V := V) back_writes 35 rfl (by decide +kernel) (read_in back_writes 35 (by decide +kernel))
  exact h
theorem bk_v48_1_eq (V : Valuation τ sig (Elt F)) : bk_v48_1 V = (broadcastInDim S8x64x64 ![1, 2] bcast_S64x64_S8x64x64_1_2) (V (Proc.devRef .tc main_v30_6)) := by
  have h := read_unary (V := V) back_writes 36 rfl (by decide +kernel) (read_arg back_writes 36 (by decide +kernel))
  exact h
theorem bk_call16_v2_eq (V : Valuation τ sig (Elt F)) : bk_call16_v2 V = (broadcastInDim S8x64x64 ![0, 1, 2] bcast_S8x1x64_S8x64x64_0_1_2) (bk_v47 V) := by
  have h := read_unary (V := V) back_writes 37 rfl (by decide +kernel) (read_in back_writes 37 (by decide +kernel))
  exact h
theorem bk_call16_v3_eq (V : Valuation τ sig (Elt F)) : bk_call16_v3 V = (broadcastInDim S8x64x64 ![] bcast_S_S8x64x64) (bk_call16_v0 V) := by
  have h := read_unary (V := V) back_writes 38 rfl (by decide +kernel) (read_in back_writes 38 (by decide +kernel))
  exact h
theorem bk_v48_0_eq (V : Valuation τ sig (Elt F)) : bk_v48_0 V = select (bk_v48_1 V) (bk_call16_v2 V) (bk_call16_v3 V) := by
  have h := read_ternary (V := V) back_writes 39 rfl (by decide +kernel) (read_in back_writes 39 (by decide +kernel)) (read_in back_writes 39 (by decide +kernel)) (read_in back_writes 39 (by decide +kernel))
  exact h
theorem bk_cst_26_eq (V : Valuation τ sig (Elt F)) : bk_cst_26 V = (constant S_ .f32 0x00000000#32) := by
  have h := read_nullary back_writes 42 rfl (by decide +kernel) V
  exact h
theorem bk_v49_eq (V : Valuation τ sig (Elt F)) : bk_v49 V = ((fun x v => Host.reduceAdd x v reducesTo_S8x64x64_S8x64_d2 h_S_) : Arr F S8x64x64 .f32 → Arr F S_ .f32 → Arr F S8x64 .f32) (bk_v48_0 V) (bk_cst_26 V) := by
  have h := read_binary (V := V) back_writes 43 rfl (by decide +kernel) (read_in back_writes 43 (by decide +kernel)) (read_in back_writes 43 (by decide +kernel))
  exact h
theorem bk_v50_eq (V : Valuation τ sig (Elt F)) : bk_v50 V = (broadcastInDim S8x64x1 ![0, 1] bcast_S8x64_S8x64x1_0_1 : Arr F S8x64 .f32 → Arr F S8x64x1 .f32) (bk_v49 V) := by
  have h := read_unary (V := V) back_writes 44 rfl (by decide +kernel) (read_in back_writes 44 (by decide +kernel))
  exact h
theorem bk_v51_eq (V : Valuation τ sig (Elt F)) : bk_v51 V = (broadcastInDim S8x1x64 ![0, 2] bcast_S8x64_S8x1x64_0_2 : Arr F S8x64 .f32 → Arr F S8x1x64 .f32) (bk_v49 V) := by
  have h := read_unary (V := V) back_writes 45 rfl (by decide +kernel) (read_in back_writes 45 (by decide +kernel))
  exact h
theorem bk_v52_eq (V : Valuation τ sig (Elt F)) : bk_v52 V = (broadcastInDim S8x64x64 ![0, 1, 2] bcast_S8x64x1_S8x64x64_0_1_2 : Arr F S8x64x1 .f32 → Arr F S8x64x64 .f32) (bk_v50 V) := by
  have h := read_unary (V := V) back_writes 46 rfl (by decide +kernel) (read_in back_writes 46 (by decide +kernel))
  exact h
theorem bk_v53_eq (V : Valuation τ sig (Elt F)) : bk_v53 V = (broadcastInDim S8x64x64 ![0, 1, 2] bcast_S8x1x64_S8x64x64_0_1_2 : Arr F S8x1x64 .f32 → Arr F S8x64x64 .f32) (bk_v51 V) := by
  have h := read_unary (V := V) back_writes 47 rfl (by decide +kernel) (read_in back_writes 47 (by decide +kernel))
  exact h
theorem bk_v54_eq (V : Valuation τ sig (Elt F)) : bk_v54 V = (subf : Arr F S8x64x64 .f32 → Arr F S8x64x64 .f32 → Arr F S8x64x64 .f32) (bk_v52 V) (bk_v53 V) := by
  have h := read_binary (V := V) back_writes 48 rfl (by decide +kernel) (read_in back_writes 48 (by decide +kernel)) (read_in back_writes 48 (by decide +kernel))
  exact h
theorem bk_v55_eq (V : Valuation τ sig (Elt F)) : bk_v55 V = ((fun l r => Host.dotGeneral dot_S8x64x256_S8x64x256_S8x64x64_2_2_1_1_0_0 none l r) : Arr F S8x64x256 .f32 → Arr F S8x64x256 .f32 → Arr F S8x64x64 .f32) (bk_v43 V) (bk_v44 V) := by
  have h := read_binary (V := V) back_writes 49 rfl (by decide +kernel) (read_in back_writes 49 (by decide +kernel)) (read_in back_writes 49 (by decide +kernel))
  exact h
theorem bk_cst_27_eq (V : Valuation τ sig (Elt F)) : bk_cst_27 V = (constant S_ .f32 0xFF800000#32) := by
  have h := read_nullary back_writes 50 rfl (by decide +kernel) V
  exact h
theorem bk_call17_v0_eq (V : Valuation τ sig (Elt F)) : bk_call17_v0 V = (bk_cst_27 V) := by
  have h := read_unary (V := V) back_writes 51 rfl (by decide +kernel) (read_in back_writes 51 (by decide +kernel))
  exact h
theorem bk_v56_1_eq (V : Valuation τ sig (Elt F)) : bk_v56_1 V = (broadcastInDim S8x64x64 ![1, 2] bcast_S64x64_S8x64x64_1_2) (V (Proc.devRef .tc main_v30_6)) := by
  have h := read_unary (V := V) back_writes 52 rfl (by decide +kernel) (read_arg back_writes 52 (by decide +kernel))
  exact h
theorem bk_call17_v2_eq (V : Valuation τ sig (Elt F)) : bk_call17_v2 V = (broadcastInDim S8x64x64 ![] bcast_S_S8x64x64) (bk_call17_v0 V) := by
  have h := read_unary (V := V) back_writes 53 rfl (by decide +kernel) (read_in back_writes 53 (by decide +kernel))
  exact h
theorem bk_v56_0_eq (V : Valuation τ sig (Elt F)) : bk_v56_0 V = select (bk_v56_1 V) (bk_v54 V) (bk_call17_v2 V) := by
  have h := read_ternary (V := V) back_writes 54 rfl (by decide +kernel) (read_in back_writes 54 (by decide +kernel)) (read_in back_writes 54 (by decide +kernel)) (read_in back_writes 54 (by decide +kernel))
  exact h
theorem bk_v57_eq (V : Valuation τ sig (Elt F)) : bk_v57 V = (Host.exp : Arr F S8x64x64 .f32 → Arr F S8x64x64 .f32) (bk_v56_0 V) := by
  have h := read_unary (V := V) back_writes 57 rfl (by decide +kernel) (read_in back_writes 57 (by decide +kernel))
  exact h
theorem bk_v58_eq (V : Valuation τ sig (Elt F)) : bk_v58 V = (mulf : Arr F S8x64x64 .f32 → Arr F S8x64x64 .f32 → Arr F S8x64x64 .f32) (bk_v55 V) (bk_v57 V) := by
  have h := read_binary (V := V) back_writes 58 rfl (by decide +kernel) (read_in back_writes 58 (by decide +kernel)) (read_in back_writes 58 (by decide +kernel))
  exact h
theorem bk_v59_eq (V : Valuation τ sig (Elt F)) : bk_v59 V = ((fun l r => Host.dotGeneral dot_S8x64x256_S8x256x512_S8x64x512_2_1_1_2_0_0 none l r) : Arr F S8x64x256 .f32 → Arr F S8x256x512 .f32 → Arr F S8x64x512 .f32) (bk_v43 V) (bk_v42 V) := by
  have h := read_binary (V := V) back_writes 59 rfl (by decide +kernel) (read_in back_writes 59 (by decide +kernel)) (read_in back_writes 59 (by decide +kernel))
  exact h
theorem bk_v60_eq (V : Valuation τ sig (Elt F)) : bk_v60 V = (Host.exp : Arr F S8x64 .f32 → Arr F S8x64 .f32) (bk_v49 V) := by
  have h := read_unary (V := V) back_writes 60 rfl (by decide +kernel) (read_in back_writes 60 (by decide +kernel))
  exact h

end Cert.ReferenceIdeal.Ret
-- ==== Proof.Ref.BackB.lean ====
module

public import proofs.«01_k».proof.Proof.Ref.Back
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

theorem bk_v61_eq (V : Valuation τ sig (Elt F)) : bk_v61 V = (broadcastInDim S8x64x1 ![0, 1] bcast_S8x64_S8x64x1_0_1 : Arr F S8x64 .f32 → Arr F S8x64x1 .f32) (bk_v60 V) := by
  have h := read_unary (V := V) back_writes 61 rfl (by decide +kernel) (read_in back_writes 61 (by decide +kernel))
  exact h
theorem bk_v62_eq (V : Valuation τ sig (Elt F)) : bk_v62 V = ((extractStridedSlice S8x1 ![0, 63] · slices_S8x64_S8x1_0_63) : Arr F S8x64 .f32 → Arr F S8x1 .f32) (bk_v49 V) := by
  have h := read_unary (V := V) back_writes 62 rfl (by decide +kernel) (read_in back_writes 62 (by decide +kernel))
  exact h
theorem bk_v63_eq (V : Valuation τ sig (Elt F)) : bk_v63 V = (Host.exp : Arr F S8x1 .f32 → Arr F S8x1 .f32) (bk_v62 V) := by
  have h := read_unary (V := V) back_writes 63 rfl (by decide +kernel) (read_in back_writes 63 (by decide +kernel))
  exact h
theorem bk_v64_eq (V : Valuation τ sig (Elt F)) : bk_v64 V = (broadcastInDim S8x1x1 ![0, 1] bcast_S8x1_S8x1x1_0_1 : Arr F S8x1 .f32 → Arr F S8x1x1 .f32) (bk_v63 V) := by
  have h := read_unary (V := V) back_writes 64 rfl (by decide +kernel) (read_in back_writes 64 (by decide +kernel))
  exact h
theorem bk_v65_eq (V : Valuation τ sig (Elt F)) : bk_v65 V = (broadcastInDim S8x64 ![0, 1] bcast_S8x1_S8x64_0_1 : Arr F S8x1 .f32 → Arr F S8x64 .f32) (bk_v62 V) := by
  have h := read_unary (V := V) back_writes 65 rfl (by decide +kernel) (read_in back_writes 65 (by decide +kernel))
  exact h
theorem bk_v66_eq (V : Valuation τ sig (Elt F)) : bk_v66 V = (subf : Arr F S8x64 .f32 → Arr F S8x64 .f32 → Arr F S8x64 .f32) (bk_v65 V) (bk_v49 V) := by
  have h := read_binary (V := V) back_writes 66 rfl (by decide +kernel) (read_in back_writes 66 (by decide +kernel)) (read_in back_writes 66 (by decide +kernel))
  exact h
theorem bk_v67_eq (V : Valuation τ sig (Elt F)) : bk_v67 V = (Host.exp : Arr F S8x64 .f32 → Arr F S8x64 .f32) (bk_v66 V) := by
  have h := read_unary (V := V) back_writes 67 rfl (by decide +kernel) (read_in back_writes 67 (by decide +kernel))
  exact h
theorem bk_v68_eq (V : Valuation τ sig (Elt F)) : bk_v68 V = (broadcastInDim S8x64x1 ![0, 1] bcast_S8x64_S8x64x1_0_1 : Arr F S8x64 .f32 → Arr F S8x64x1 .f32) (bk_v67 V) := by
  have h := read_unary (V := V) back_writes 68 rfl (by decide +kernel) (read_in back_writes 68 (by decide +kernel))
  exact h
theorem bk_v69_eq (V : Valuation τ sig (Elt F)) : bk_v69 V = (broadcastInDim S8x64x512 ![0, 1, 2] bcast_S8x64x1_S8x64x512_0_1_2 : Arr F S8x64x1 .f32 → Arr F S8x64x512 .f32) (bk_v68 V) := by
  have h := read_unary (V := V) back_writes 69 rfl (by decide +kernel) (read_in back_writes 69 (by decide +kernel))
  exact h
theorem bk_v70_eq (V : Valuation τ sig (Elt F)) : bk_v70 V = (mulf : Arr F S8x64x512 .f32 → Arr F S8x64x512 .f32 → Arr F S8x64x512 .f32) (bk_v69 V) (bk_v45 V) := by
  have h := read_binary (V := V) back_writes 70 rfl (by decide +kernel) (read_in back_writes 70 (by decide +kernel)) (read_in back_writes 70 (by decide +kernel))
  exact h
theorem bk_v71_eq (V : Valuation τ sig (Elt F)) : bk_v71 V = ((fun l r => Host.dotGeneral dot_S8x256x512_S8x64x256_S8x512x64_1_2_2_1_0_0 none l r) : Arr F S8x256x512 .f32 → Arr F S8x64x256 .f32 → Arr F S8x512x64 .f32) (V (Proc.devRef .tc main_v30_8)) (bk_v44 V) := by
  have h := read_binary (V := V) back_writes 71 rfl (by decide +kernel) (read_arg back_writes 71 (by decide +kernel)) (read_in back_writes 71 (by decide +kernel))
  exact h
theorem bk_v72_eq (V : Valuation τ sig (Elt F)) : bk_v72 V = ((transpose S8x64x512 [0, 2, 1] · transposes_S8x512x64_S8x64x512_0_2_1) : Arr F S8x512x64 .f32 → Arr F S8x64x512 .f32) (bk_v71 V) := by
  have h := read_unary (V := V) back_writes 72 rfl (by decide +kernel) (read_in back_writes 72 (by decide +kernel))
  exact h
theorem bk_v73_eq (V : Valuation τ sig (Elt F)) : bk_v73 V = ((fun l r => Host.dotGeneral dot_S8x256x512_S8x64x512_S8x256x64_2_2_1_1_0_0 none l r) : Arr F S8x256x512 .f32 → Arr F S8x64x512 .f32 → Arr F S8x256x64 .f32) (V (Proc.devRef .tc main_v30_8)) (bk_v70 V) := by
  have h := read_binary (V := V) back_writes 73 rfl (by decide +kernel) (read_arg back_writes 73 (by decide +kernel)) (read_in back_writes 73 (by decide +kernel))
  exact h
theorem bk_v74_eq (V : Valuation τ sig (Elt F)) : bk_v74 V = ((transpose S8x64x256 [0, 2, 1] · transposes_S8x256x64_S8x64x256_0_2_1) : Arr F S8x256x64 .f32 → Arr F S8x64x256 .f32) (bk_v73 V) := by
  have h := read_unary (V := V) back_writes 74 rfl (by decide +kernel) (read_in back_writes 74 (by decide +kernel))
  exact h
theorem bk_v75_eq (V : Valuation τ sig (Elt F)) : bk_v75 V = (broadcastInDim S8x64x512 ![0, 1, 2] bcast_S8x64x1_S8x64x512_0_1_2 : Arr F S8x64x1 .f32 → Arr F S8x64x512 .f32) (bk_v68 V) := by
  have h := read_unary (V := V) back_writes 75 rfl (by decide +kernel) (read_in back_writes 75 (by decide +kernel))
  exact h
theorem bk_v76_eq (V : Valuation τ sig (Elt F)) : bk_v76 V = (mulf : Arr F S8x64x512 .f32 → Arr F S8x64x512 .f32 → Arr F S8x64x512 .f32) (bk_v75 V) (bk_v72 V) := by
  have h := read_binary (V := V) back_writes 76 rfl (by decide +kernel) (read_in back_writes 76 (by decide +kernel)) (read_in back_writes 76 (by decide +kernel))
  exact h
theorem bk_v77_eq (V : Valuation τ sig (Elt F)) : bk_v77 V = (mulf : Arr F S8x64x512 .f32 → Arr F S8x64x512 .f32 → Arr F S8x64x512 .f32) (bk_v72 V) (bk_v45 V) := by
  have h := read_binary (V := V) back_writes 77 rfl (by decide +kernel) (read_in back_writes 77 (by decide +kernel)) (read_in back_writes 77 (by decide +kernel))
  exact h
theorem bk_cst_28_eq (V : Valuation τ sig (Elt F)) : bk_cst_28 V = (constant S_ .f32 0x00000000#32) := by
  have h := read_nullary back_writes 78 rfl (by decide +kernel) V
  exact h
theorem bk_v78_eq (V : Valuation τ sig (Elt F)) : bk_v78 V = ((fun x v => Host.reduceAdd x v reducesTo_S8x64x512_S8x64_d2 h_S_) : Arr F S8x64x512 .f32 → Arr F S_ .f32 → Arr F S8x64 .f32) (bk_v77 V) (bk_cst_28 V) := by
  have h := read_binary (V := V) back_writes 79 rfl (by decide +kernel) (read_in back_writes 79 (by decide +kernel)) (read_in back_writes 79 (by decide +kernel))
  exact h
theorem bk_v79_eq (V : Valuation τ sig (Elt F)) : bk_v79 V = shapeCast S8x64x1 (bk_v78 V) shapeCasts_S8x64_S8x64x1 := by
  have h := read_reshape (V := V) back_writes 80 rfl (by decide +kernel) (read_in back_writes 80 (by decide +kernel))
  exact h
theorem bk_cst_29_eq (V : Valuation τ sig (Elt F)) : bk_cst_29 V = (constant S_ .f32 0x00000000#32) := by
  have h := read_nullary back_writes 81 rfl (by decide +kernel) V
  exact h
theorem bk_v80_eq (V : Valuation τ sig (Elt F)) : bk_v80 V = ((fun x v => Host.reduceAdd x v reducesTo_S8x64x1_S8x64_d2 h_S_) : Arr F S8x64x1 .f32 → Arr F S_ .f32 → Arr F S8x64 .f32) (bk_v79 V) (bk_cst_29 V) := by
  have h := read_binary (V := V) back_writes 82 rfl (by decide +kernel) (read_in back_writes 82 (by decide +kernel)) (read_in back_writes 82 (by decide +kernel))
  exact h
theorem bk_v81_eq (V : Valuation τ sig (Elt F)) : bk_v81 V = (mulf : Arr F S8x64 .f32 → Arr F S8x64 .f32 → Arr F S8x64 .f32) (bk_v80 V) (bk_v67 V) := by
  have h := read_binary (V := V) back_writes 83 rfl (by decide +kernel) (read_in back_writes 83 (by decide +kernel)) (read_in back_writes 83 (by decide +kernel))
  exact h
theorem bk_cst_30_eq (V : Valuation τ sig (Elt F)) : bk_cst_30 V = (constant S_ .f32 0x00000000#32) := by
  have h := read_nullary back_writes 84 rfl (by decide +kernel) V
  exact h
theorem bk_v82_eq (V : Valuation τ sig (Elt F)) : bk_v82 V = ((fun x v => Host.reduceAdd x v reducesTo_S8x64_S8_d1 h_S_) : Arr F S8x64 .f32 → Arr F S_ .f32 → Arr F S8 .f32) (bk_v81 V) (bk_cst_30 V) := by
  have h := read_binary (V := V) back_writes 85 rfl (by decide +kernel) (read_in back_writes 85 (by decide +kernel)) (read_in back_writes 85 (by decide +kernel))
  exact h
theorem bk_v83_eq (V : Valuation τ sig (Elt F)) : bk_v83 V = shapeCast S8x1 (bk_v82 V) shapeCasts_S8_S8x1 := by
  have h := read_reshape (V := V) back_writes 86 rfl (by decide +kernel) (read_in back_writes 86 (by decide +kernel))
  exact h
theorem bk_v84_eq (V : Valuation τ sig (Elt F)) : bk_v84 V = (Host.negf : Arr F S8x64 .f32 → Arr F S8x64 .f32) (bk_v81 V) := by
  have h := read_unary (V := V) back_writes 87 rfl (by decide +kernel) (read_in back_writes 87 (by decide +kernel))
  exact h
theorem bk_v85_eq (V : Valuation τ sig (Elt F)) : bk_v85 V = (broadcastInDim S8x256x512 ![0, 1, 2] bcast_S8x1x1_S8x256x512_0_1_2 : Arr F S8x1x1 .f32 → Arr F S8x256x512 .f32) (bk_v64 V) := by
  have h := read_unary (V := V) back_writes 88 rfl (by decide +kernel) (read_in back_writes 88 (by decide +kernel))
  exact h
theorem bk_v86_eq (V : Valuation τ sig (Elt F)) : bk_v86 V = (mulf : Arr F S8x256x512 .f32 → Arr F S8x256x512 .f32 → Arr F S8x256x512 .f32) (bk_v85 V) (V (Proc.devRef .tc main_v30_8)) := by
  have h := read_binary (V := V) back_writes 89 rfl (by decide +kernel) (read_in back_writes 89 (by decide +kernel)) (read_arg back_writes 89 (by decide +kernel))
  exact h
theorem bk_v87_eq (V : Valuation τ sig (Elt F)) : bk_v87 V = (mulf : Arr F S8x256x512 .f32 → Arr F S8x256x512 .f32 → Arr F S8x256x512 .f32) (V (Proc.devRef .tc main_v30_8)) (bk_v42 V) := by
  have h := read_binary (V := V) back_writes 90 rfl (by decide +kernel) (read_arg back_writes 90 (by decide +kernel)) (read_in back_writes 90 (by decide +kernel))
  exact h
theorem bk_cst_31_eq (V : Valuation τ sig (Elt F)) : bk_cst_31 V = (constant S_ .f32 0x00000000#32) := by
  have h := read_nullary back_writes 91 rfl (by decide +kernel) V
  exact h
theorem bk_v88_eq (V : Valuation τ sig (Elt F)) : bk_v88 V = ((fun x v => Host.reduceAdd x v reducesTo_S8x256x512_S8_d1_2 h_S_) : Arr F S8x256x512 .f32 → Arr F S_ .f32 → Arr F S8 .f32) (bk_v87 V) (bk_cst_31 V) := by
  have h := read_binary (V := V) back_writes 92 rfl (by decide +kernel) (read_in back_writes 92 (by decide +kernel)) (read_in back_writes 92 (by decide +kernel))
  exact h
theorem bk_v89_eq (V : Valuation τ sig (Elt F)) : bk_v89 V = shapeCast S8x1x1 (bk_v88 V) shapeCasts_S8_S8x1x1 := by
  have h := read_reshape (V := V) back_writes 93 rfl (by decide +kernel) (read_in back_writes 93 (by decide +kernel))
  exact h
theorem bk_cst_32_eq (V : Valuation τ sig (Elt F)) : bk_cst_32 V = (constant S_ .f32 0x00000000#32) := by
  have h := read_nullary back_writes 94 rfl (by decide +kernel) V
  exact h
theorem bk_v90_eq (V : Valuation τ sig (Elt F)) : bk_v90 V = ((fun x v => Host.reduceAdd x v reducesTo_S8x1x1_S8_d1_2 h_S_) : Arr F S8x1x1 .f32 → Arr F S_ .f32 → Arr F S8 .f32) (bk_v89 V) (bk_cst_32 V) := by
  have h := read_binary (V := V) back_writes 95 rfl (by decide +kernel) (read_in back_writes 95 (by decide +kernel)) (read_in back_writes 95 (by decide +kernel))
  exact h
theorem bk_v91_eq (V : Valuation τ sig (Elt F)) : bk_v91 V = (broadcastInDim S8x1 ![0] bcast_S8_S8x1_0 : Arr F S8 .f32 → Arr F S8x1 .f32) (bk_v90 V) := by
  have h := read_unary (V := V) back_writes 96 rfl (by decide +kernel) (read_in back_writes 96 (by decide +kernel))
  exact h
theorem bk_v92_eq (V : Valuation τ sig (Elt F)) : bk_v92 V = (mulf : Arr F S8x1 .f32 → Arr F S8x1 .f32 → Arr F S8x1 .f32) (bk_v91 V) (bk_v63 V) := by
  have h := read_binary (V := V) back_writes 97 rfl (by decide +kernel) (read_in back_writes 97 (by decide +kernel)) (read_in back_writes 97 (by decide +kernel))
  exact h
theorem bk_v93_eq (V : Valuation τ sig (Elt F)) : bk_v93 V = (addf : Arr F S8x1 .f32 → Arr F S8x1 .f32 → Arr F S8x1 .f32) (bk_v83 V) (bk_v92 V) := by
  have h := read_binary (V := V) back_writes 98 rfl (by decide +kernel) (read_in back_writes 98 (by decide +kernel)) (read_in back_writes 98 (by decide +kernel))
  exact h
theorem bk_cst_33_eq (V : Valuation τ sig (Elt F)) : bk_cst_33 V = (constant S_ .f32 0x00000000#32) := by
  have h := read_nullary back_writes 99 rfl (by decide +kernel) V
  exact h
theorem bk_v94_eq (V : Valuation τ sig (Elt F)) : bk_v94 V = ((fun x v => pad S8x64 ![0, 63] ![0, 0] ![0, 0] x v pads_S8x1_S8x64_000_6300 h_S_) : Arr F S8x1 .f32 → Arr F S_ .f32 → Arr F S8x64 .f32) (bk_v93 V) (bk_cst_33 V) := by
  have h := read_binary (V := V) back_writes 100 rfl (by decide +kernel) (read_in back_writes 100 (by decide +kernel)) (read_in back_writes 100 (by decide +kernel))
  exact h
theorem bk_v95_eq (V : Valuation τ sig (Elt F)) : bk_v95 V = (addf : Arr F S8x64 .f32 → Arr F S8x64 .f32 → Arr F S8x64 .f32) (bk_v84 V) (bk_v94 V) := by
  have h := read_binary (V := V) back_writes 101 rfl (by decide +kernel) (read_in back_writes 101 (by decide +kernel)) (read_in back_writes 101 (by decide +kernel))
  exact h
theorem bk_v96_eq (V : Valuation τ sig (Elt F)) : bk_v96 V = (mulf : Arr F S8x64x512 .f32 → Arr F S8x64x512 .f32 → Arr F S8x64x512 .f32) (bk_v59 V) (bk_v41 V) := by
  have h := read_binary (V := V) back_writes 102 rfl (by decide +kernel) (read_in back_writes 102 (by decide +kernel)) (read_in back_writes 102 (by decide +kernel))
  exact h
theorem bk_cst_34_eq (V : Valuation τ sig (Elt F)) : bk_cst_34 V = (constant S_ .f32 0x00000000#32) := by
  have h := read_nullary back_writes 103 rfl (by decide +kernel) V
  exact h
theorem bk_v97_eq (V : Valuation τ sig (Elt F)) : bk_v97 V = ((fun x v => Host.reduceAdd x v reducesTo_S8x64x512_S8x64_d2 h_S_) : Arr F S8x64x512 .f32 → Arr F S_ .f32 → Arr F S8x64 .f32) (bk_v96 V) (bk_cst_34 V) := by
  have h := read_binary (V := V) back_writes 104 rfl (by decide +kernel) (read_in back_writes 104 (by decide +kernel)) (read_in back_writes 104 (by decide +kernel))
  exact h
theorem bk_v98_eq (V : Valuation τ sig (Elt F)) : bk_v98 V = shapeCast S8x64x1 (bk_v97 V) shapeCasts_S8x64_S8x64x1 := by
  have h := read_reshape (V := V) back_writes 105 rfl (by decide +kernel) (read_in back_writes 105 (by decide +kernel))
  exact h
theorem bk_v99_eq (V : Valuation τ sig (Elt F)) : bk_v99 V = (broadcastInDim S8x64x512 ![0, 1, 2] bcast_S8x64x1_S8x64x512_0_1_2 : Arr F S8x64x1 .f32 → Arr F S8x64x512 .f32) (bk_v61 V) := by
  have h := read_unary (V := V) back_writes 106 rfl (by decide +kernel) (read_in back_writes 106 (by decide +kernel))
  exact h
theorem bk_v100_eq (V : Valuation τ sig (Elt F)) : bk_v100 V = (mulf : Arr F S8x64x512 .f32 → Arr F S8x64x512 .f32 → Arr F S8x64x512 .f32) (bk_v41 V) (bk_v99 V) := by
  have h := read_binary (V := V) back_writes 107 rfl (by decide +kernel) (read_in back_writes 107 (by decide +kernel)) (read_in back_writes 107 (by decide +kernel))
  exact h
theorem bk_cst_35_eq (V : Valuation τ sig (Elt F)) : bk_cst_35 V = (constant S_ .f32 0x00000000#32) := by
  have h := read_nullary back_writes 108 rfl (by decide +kernel) V
  exact h
theorem bk_v101_eq (V : Valuation τ sig (Elt F)) : bk_v101 V = ((fun x v => Host.reduceAdd x v reducesTo_S8x64x1_S8x64_d2 h_S_) : Arr F S8x64x1 .f32 → Arr F S_ .f32 → Arr F S8x64 .f32) (bk_v98 V) (bk_cst_35 V) := by
  have h := read_binary (V := V) back_writes 109 rfl (by decide +kernel) (read_in back_writes 109 (by decide +kernel)) (read_in back_writes 109 (by decide +kernel))
  exact h
theorem bk_v102_eq (V : Valuation τ sig (Elt F)) : bk_v102 V = (mulf : Arr F S8x64 .f32 → Arr F S8x64 .f32 → Arr F S8x64 .f32) (bk_v101 V) (bk_v60 V) := by
  have h := read_binary (V := V) back_writes 110 rfl (by decide +kernel) (read_in back_writes 110 (by decide +kernel)) (read_in back_writes 110 (by decide +kernel))
  exact h
theorem bk_v103_eq (V : Valuation τ sig (Elt F)) : bk_v103 V = (addf : Arr F S8x64 .f32 → Arr F S8x64 .f32 → Arr F S8x64 .f32) (bk_v95 V) (bk_v102 V) := by
  have h := read_binary (V := V) back_writes 111 rfl (by decide +kernel) (read_in back_writes 111 (by decide +kernel)) (read_in back_writes 111 (by decide +kernel))
  exact h
theorem bk_v104_eq (V : Valuation τ sig (Elt F)) : bk_v104 V = ((fun l r => Host.dotGeneral dot_S8x64x512_S8x64x256_S8x512x256_1_1_2_2_0_0 none l r) : Arr F S8x64x512 .f32 → Arr F S8x64x256 .f32 → Arr F S8x512x256 .f32) (bk_v100 V) (bk_v43 V) := by
  have h := read_binary (V := V) back_writes 112 rfl (by decide +kernel) (read_in back_writes 112 (by decide +kernel)) (read_in back_writes 112 (by decide +kernel))
  exact h
theorem bk_v105_eq (V : Valuation τ sig (Elt F)) : bk_v105 V = ((transpose S8x256x512 [0, 2, 1] · transposes_S8x512x256_S8x256x512_0_2_1) : Arr F S8x512x256 .f32 → Arr F S8x256x512 .f32) (bk_v104 V) := by
  have h := read_unary (V := V) back_writes 113 rfl (by decide +kernel) (read_in back_writes 113 (by decide +kernel))
  exact h
theorem bk_v106_eq (V : Valuation τ sig (Elt F)) : bk_v106 V = (addf : Arr F S8x256x512 .f32 → Arr F S8x256x512 .f32 → Arr F S8x256x512 .f32) (bk_v86 V) (bk_v105 V) := by
  have h := read_binary (V := V) back_writes 114 rfl (by decide +kernel) (read_in back_writes 114 (by decide +kernel)) (read_in back_writes 114 (by decide +kernel))
  exact h
theorem bk_v107_eq (V : Valuation τ sig (Elt F)) : bk_v107 V = ((fun l r => Host.dotGeneral dot_S8x64x512_S8x256x512_S8x64x256_2_2_1_1_0_0 none l r) : Arr F S8x64x512 .f32 → Arr F S8x256x512 .f32 → Arr F S8x64x256 .f32) (bk_v100 V) (bk_v42 V) := by
  have h := read_binary (V := V) back_writes 115 rfl (by decide +kernel) (read_in back_writes 115 (by decide +kernel)) (read_in back_writes 115 (by decide +kernel))
  exact h
theorem bk_v108_eq (V : Valuation τ sig (Elt F)) : bk_v108 V = ((fun l r => Host.dotGeneral dot_S8x64x512_S8x64x64_S8x512x64_1_1_2_2_0_0 none l r) : Arr F S8x64x512 .f32 → Arr F S8x64x64 .f32 → Arr F S8x512x64 .f32) (bk_v41 V) (bk_v58 V) := by
  have h := read_binary (V := V) back_writes 116 rfl (by decide +kernel) (read_in back_writes 116 (by decide +kernel)) (read_in back_writes 116 (by decide +kernel))
  exact h
theorem bk_v109_eq (V : Valuation τ sig (Elt F)) : bk_v109 V = ((transpose S8x64x512 [0, 2, 1] · transposes_S8x512x64_S8x64x512_0_2_1) : Arr F S8x512x64 .f32 → Arr F S8x64x512 .f32) (bk_v108 V) := by
  have h := read_unary (V := V) back_writes 117 rfl (by decide +kernel) (read_in back_writes 117 (by decide +kernel))
  exact h

end Cert.ReferenceIdeal.Ret
-- ==== Proof.Ref.BackC.lean ====
module

public import proofs.«01_k».proof.Proof.Ref.Back
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

theorem bk_v110_eq (V : Valuation τ sig (Elt F)) : bk_v110 V = (addf : Arr F S8x64x512 .f32 → Arr F S8x64x512 .f32 → Arr F S8x64x512 .f32) (bk_v76 V) (bk_v109 V) := by
  have h := read_binary (V := V) back_writes 118 rfl (by decide +kernel) (read_in back_writes 118 (by decide +kernel)) (read_in back_writes 118 (by decide +kernel))
  exact h
theorem bk_v111_eq (V : Valuation τ sig (Elt F)) : bk_v111 V = ((fun l r => Host.dotGeneral dot_S8x64x512_S8x64x512_S8x64x64_2_2_1_1_0_0 none l r) : Arr F S8x64x512 .f32 → Arr F S8x64x512 .f32 → Arr F S8x64x64 .f32) (bk_v41 V) (bk_v45 V) := by
  have h := read_binary (V := V) back_writes 119 rfl (by decide +kernel) (read_in back_writes 119 (by decide +kernel)) (read_in back_writes 119 (by decide +kernel))
  exact h
theorem bk_v112_eq (V : Valuation τ sig (Elt F)) : bk_v112 V = (mulf : Arr F S8x64x64 .f32 → Arr F S8x64x64 .f32 → Arr F S8x64x64 .f32) (bk_v55 V) (bk_v111 V) := by
  have h := read_binary (V := V) back_writes 120 rfl (by decide +kernel) (read_in back_writes 120 (by decide +kernel)) (read_in back_writes 120 (by decide +kernel))
  exact h
theorem bk_v113_eq (V : Valuation τ sig (Elt F)) : bk_v113 V = (mulf : Arr F S8x64x64 .f32 → Arr F S8x64x64 .f32 → Arr F S8x64x64 .f32) (bk_v111 V) (bk_v57 V) := by
  have h := read_binary (V := V) back_writes 121 rfl (by decide +kernel) (read_in back_writes 121 (by decide +kernel)) (read_in back_writes 121 (by decide +kernel))
  exact h
theorem bk_v114_eq (V : Valuation τ sig (Elt F)) : bk_v114 V = (mulf : Arr F S8x64x64 .f32 → Arr F S8x64x64 .f32 → Arr F S8x64x64 .f32) (bk_v112 V) (bk_v57 V) := by
  have h := read_binary (V := V) back_writes 122 rfl (by decide +kernel) (read_in back_writes 122 (by decide +kernel)) (read_in back_writes 122 (by decide +kernel))
  exact h
theorem bk_call18_cst_eq (V : Valuation τ sig (Elt F)) : bk_call18_cst V = (constant S_ .f32 0x00000000#32) := by
  have h := read_nullary back_writes 123 rfl (by decide +kernel) V
  exact h
theorem bk_call18_v0_eq (V : Valuation τ sig (Elt F)) : bk_call18_v0 V = (broadcastInDim S8x64x64 ![] bcast_S_S8x64x64) (bk_call18_cst V) := by
  have h := read_unary (V := V) back_writes 124 rfl (by decide +kernel) (read_in back_writes 124 (by decide +kernel))
  exact h
theorem bk_v115_eq (V : Valuation τ sig (Elt F)) : bk_v115 V = select (bk_v56_1 V) (bk_v114 V) (bk_call18_v0 V) := by
  have h := read_ternary (V := V) back_writes 125 rfl (by decide +kernel) (read_in back_writes 125 (by decide +kernel)) (read_in back_writes 125 (by decide +kernel)) (read_in back_writes 125 (by decide +kernel))
  exact h
theorem bk_v116_eq (V : Valuation τ sig (Elt F)) : bk_v116 V = ((fun l r => Host.dotGeneral dot_S8x64x64_S8x64x256_S8x64x256_1_1_2_2_0_0 none l r) : Arr F S8x64x64 .f32 → Arr F S8x64x256 .f32 → Arr F S8x64x256 .f32) (bk_v113 V) (bk_v43 V) := by
  have h := read_binary (V := V) back_writes 126 rfl (by decide +kernel) (read_in back_writes 126 (by decide +kernel)) (read_in back_writes 126 (by decide +kernel))
  exact h
theorem bk_v117_eq (V : Valuation τ sig (Elt F)) : bk_v117 V = (addf : Arr F S8x64x256 .f32 → Arr F S8x64x256 .f32 → Arr F S8x64x256 .f32) (bk_v74 V) (bk_v116 V) := by
  have h := read_binary (V := V) back_writes 127 rfl (by decide +kernel) (read_in back_writes 127 (by decide +kernel)) (read_in back_writes 127 (by decide +kernel))
  exact h
theorem bk_v118_eq (V : Valuation τ sig (Elt F)) : bk_v118 V = ((fun l r => Host.dotGeneral dot_S8x64x64_S8x64x256_S8x64x256_2_1_1_2_0_0 none l r) : Arr F S8x64x64 .f32 → Arr F S8x64x256 .f32 → Arr F S8x64x256 .f32) (bk_v113 V) (bk_v44 V) := by
  have h := read_binary (V := V) back_writes 128 rfl (by decide +kernel) (read_in back_writes 128 (by decide +kernel)) (read_in back_writes 128 (by decide +kernel))
  exact h
theorem bk_v119_eq (V : Valuation τ sig (Elt F)) : bk_v119 V = (addf : Arr F S8x64x256 .f32 → Arr F S8x64x256 .f32 → Arr F S8x64x256 .f32) (bk_v107 V) (bk_v118 V) := by
  have h := read_binary (V := V) back_writes 129 rfl (by decide +kernel) (read_in back_writes 129 (by decide +kernel)) (read_in back_writes 129 (by decide +kernel))
  exact h
theorem bk_cst_36_eq (V : Valuation τ sig (Elt F)) : bk_cst_36 V = (constant S_ .f32 0x00000000#32) := by
  have h := read_nullary back_writes 130 rfl (by decide +kernel) V
  exact h
theorem bk_v120_eq (V : Valuation τ sig (Elt F)) : bk_v120 V = ((fun x v => Host.reduceAdd x v reducesTo_S8x64x64_S8x64_d2 h_S_) : Arr F S8x64x64 .f32 → Arr F S_ .f32 → Arr F S8x64 .f32) (bk_v115 V) (bk_cst_36 V) := by
  have h := read_binary (V := V) back_writes 131 rfl (by decide +kernel) (read_in back_writes 131 (by decide +kernel)) (read_in back_writes 131 (by decide +kernel))
  exact h
theorem bk_v121_eq (V : Valuation τ sig (Elt F)) : bk_v121 V = shapeCast S8x64x1 (bk_v120 V) shapeCasts_S8x64_S8x64x1 := by
  have h := read_reshape (V := V) back_writes 132 rfl (by decide +kernel) (read_in back_writes 132 (by decide +kernel))
  exact h
theorem bk_v122_eq (V : Valuation τ sig (Elt F)) : bk_v122 V = (Host.negf : Arr F S8x64x64 .f32 → Arr F S8x64x64 .f32) (bk_v115 V) := by
  have h := read_unary (V := V) back_writes 133 rfl (by decide +kernel) (read_in back_writes 133 (by decide +kernel))
  exact h
theorem bk_cst_37_eq (V : Valuation τ sig (Elt F)) : bk_cst_37 V = (constant S_ .f32 0x00000000#32) := by
  have h := read_nullary back_writes 134 rfl (by decide +kernel) V
  exact h
theorem bk_v123_eq (V : Valuation τ sig (Elt F)) : bk_v123 V = ((fun x v => Host.reduceAdd x v reducesTo_S8x64x64_S8x64_d1 h_S_) : Arr F S8x64x64 .f32 → Arr F S_ .f32 → Arr F S8x64 .f32) (bk_v122 V) (bk_cst_37 V) := by
  have h := read_binary (V := V) back_writes 135 rfl (by decide +kernel) (read_in back_writes 135 (by decide +kernel)) (read_in back_writes 135 (by decide +kernel))
  exact h
theorem bk_v124_eq (V : Valuation τ sig (Elt F)) : bk_v124 V = shapeCast S8x1x64 (bk_v123 V) shapeCasts_S8x64_S8x1x64 := by
  have h := read_reshape (V := V) back_writes 136 rfl (by decide +kernel) (read_in back_writes 136 (by decide +kernel))
  exact h
theorem bk_cst_38_eq (V : Valuation τ sig (Elt F)) : bk_cst_38 V = (constant S_ .f32 0x00000000#32) := by
  have h := read_nullary back_writes 137 rfl (by decide +kernel) V
  exact h
theorem bk_v125_eq (V : Valuation τ sig (Elt F)) : bk_v125 V = ((fun x v => Host.reduceAdd x v reducesTo_S8x1x64_S8x64_d1 h_S_) : Arr F S8x1x64 .f32 → Arr F S_ .f32 → Arr F S8x64 .f32) (bk_v124 V) (bk_cst_38 V) := by
  have h := read_binary (V := V) back_writes 138 rfl (by decide +kernel) (read_in back_writes 138 (by decide +kernel)) (read_in back_writes 138 (by decide +kernel))
  exact h
theorem bk_v126_eq (V : Valuation τ sig (Elt F)) : bk_v126 V = (addf : Arr F S8x64 .f32 → Arr F S8x64 .f32 → Arr F S8x64 .f32) (bk_v103 V) (bk_v125 V) := by
  have h := read_binary (V := V) back_writes 139 rfl (by decide +kernel) (read_in back_writes 139 (by decide +kernel)) (read_in back_writes 139 (by decide +kernel))
  exact h
theorem bk_cst_39_eq (V : Valuation τ sig (Elt F)) : bk_cst_39 V = (constant S_ .f32 0x00000000#32) := by
  have h := read_nullary back_writes 140 rfl (by decide +kernel) V
  exact h
theorem bk_v127_eq (V : Valuation τ sig (Elt F)) : bk_v127 V = ((fun x v => Host.reduceAdd x v reducesTo_S8x64x1_S8x64_d2 h_S_) : Arr F S8x64x1 .f32 → Arr F S_ .f32 → Arr F S8x64 .f32) (bk_v121 V) (bk_cst_39 V) := by
  have h := read_binary (V := V) back_writes 141 rfl (by decide +kernel) (read_in back_writes 141 (by decide +kernel)) (read_in back_writes 141 (by decide +kernel))
  exact h
theorem bk_v128_eq (V : Valuation τ sig (Elt F)) : bk_v128 V = (addf : Arr F S8x64 .f32 → Arr F S8x64 .f32 → Arr F S8x64 .f32) (bk_v126 V) (bk_v127 V) := by
  have h := read_binary (V := V) back_writes 142 rfl (by decide +kernel) (read_in back_writes 142 (by decide +kernel)) (read_in back_writes 142 (by decide +kernel))
  exact h
theorem bk_v129_eq (V : Valuation τ sig (Elt F)) : bk_v129 V = (broadcastInDim S8x64x64 ![0, 1] bcast_S8x64_S8x64x64_0_1 : Arr F S8x64 .f32 → Arr F S8x64x64 .f32) (bk_v128 V) := by
  have h := read_unary (V := V) back_writes 143 rfl (by decide +kernel) (read_in back_writes 143 (by decide +kernel))
  exact h
theorem bk_call19_cst_eq (V : Valuation τ sig (Elt F)) : bk_call19_cst V = (constant S_ .f32 0x00000000#32) := by
  have h := read_nullary back_writes 144 rfl (by decide +kernel) V
  exact h
theorem bk_call19_v0_eq (V : Valuation τ sig (Elt F)) : bk_call19_v0 V = (broadcastInDim S8x64x64 ![] bcast_S_S8x64x64) (bk_call19_cst V) := by
  have h := read_unary (V := V) back_writes 145 rfl (by decide +kernel) (read_in back_writes 145 (by decide +kernel))
  exact h
theorem bk_call19_v1_eq (V : Valuation τ sig (Elt F)) : bk_call19_v1 V = select (bk_v48_1 V) (bk_v129 V) (bk_call19_v0 V) := by
  have h := read_ternary (V := V) back_writes 146 rfl (by decide +kernel) (read_in back_writes 146 (by decide +kernel)) (read_in back_writes 146 (by decide +kernel)) (read_in back_writes 146 (by decide +kernel))
  exact h
theorem bk_call19_cst_0_eq (V : Valuation τ sig (Elt F)) : bk_call19_cst_0 V = (constant S_ .f32 0x00000000#32) := by
  have h := read_nullary back_writes 147 rfl (by decide +kernel) V
  exact h
theorem bk_call19_v2_eq (V : Valuation τ sig (Elt F)) : bk_call19_v2 V = (fun x v => Host.reduceAdd x v reducesTo_S8x64x64_S8x64_d1 h_S_) (bk_call19_v1 V) (bk_call19_cst_0 V) := by
  have h := read_binary (V := V) back_writes 148 rfl (by decide +kernel) (read_in back_writes 148 (by decide +kernel)) (read_in back_writes 148 (by decide +kernel))
  exact h
theorem bk_v130_eq (V : Valuation τ sig (Elt F)) : bk_v130 V = (broadcastInDim S8x1x64 ![0, 2] bcast_S8x64_S8x1x64_0_2) (bk_call19_v2 V) := by
  have h := read_unary (V := V) back_writes 149 rfl (by decide +kernel) (read_in back_writes 149 (by decide +kernel))
  exact h
theorem bk_cst_40_eq (V : Valuation τ sig (Elt F)) : bk_cst_40 V = (constant S_ .f32 0x00000000#32) := by
  have h := read_nullary back_writes 150 rfl (by decide +kernel) V
  exact h
theorem bk_v131_eq (V : Valuation τ sig (Elt F)) : bk_v131 V = ((fun x v => Host.reduceAdd x v reducesTo_S8x1x64_S8x64_d1 h_S_) : Arr F S8x1x64 .f32 → Arr F S_ .f32 → Arr F S8x64 .f32) (bk_v130 V) (bk_cst_40 V) := by
  have h := read_binary (V := V) back_writes 151 rfl (by decide +kernel) (read_in back_writes 151 (by decide +kernel)) (read_in back_writes 151 (by decide +kernel))
  exact h
theorem bk_call20_v0_eq (V : Valuation τ sig (Elt F)) : bk_call20_v0 V = (broadcastInDim S1x8x64x256 ![1, 2, 3] bcast_S8x64x256_S1x8x64x256_1_2_3) (bk_v119 V) := by
  have h := read_unary (V := V) back_writes 152 rfl (by decide +kernel) (read_in back_writes 152 (by decide +kernel))
  exact h
theorem bk_call20_c_eq (V : Valuation τ sig (Elt F)) : bk_call20_c V = (constantI S_ 32 0#32) := by
  have h := read_nullary back_writes 153 rfl (by decide +kernel) V
  exact h
theorem bk_call20_c_0_eq (V : Valuation τ sig (Elt F)) : bk_call20_c_0 V = (constantI S_ 32 0#32) := by
  have h := read_nullary back_writes 154 rfl (by decide +kernel) V
  exact h
theorem bk_call20_c_1_eq (V : Valuation τ sig (Elt F)) : bk_call20_c_1 V = (constantI S_ 32 0#32) := by
  have h := read_nullary back_writes 155 rfl (by decide +kernel) V
  exact h
theorem bk_call21_v0_eq (V : Valuation τ sig (Elt F)) : bk_call21_v0 V = (broadcastInDim S1x8x64x256 ![1, 2, 3] bcast_S8x64x256_S1x8x64x256_1_2_3) (bk_v117 V) := by
  have h := read_unary (V := V) back_writes 157 rfl (by decide +kernel) (read_in back_writes 157 (by decide +kernel))
  exact h
theorem bk_call21_c_eq (V : Valuation τ sig (Elt F)) : bk_call21_c V = (constantI S_ 32 0#32) := by
  have h := read_nullary back_writes 158 rfl (by decide +kernel) V
  exact h
theorem bk_call21_c_0_eq (V : Valuation τ sig (Elt F)) : bk_call21_c_0 V = (constantI S_ 32 0#32) := by
  have h := read_nullary back_writes 159 rfl (by decide +kernel) V
  exact h
theorem bk_call21_c_1_eq (V : Valuation τ sig (Elt F)) : bk_call21_c_1 V = (constantI S_ 32 0#32) := by
  have h := read_nullary back_writes 160 rfl (by decide +kernel) V
  exact h
theorem bk_call22_v0_eq (V : Valuation τ sig (Elt F)) : bk_call22_v0 V = (broadcastInDim S1x8x64x512 ![1, 2, 3] bcast_S8x64x512_S1x8x64x512_1_2_3) (bk_v110 V) := by
  have h := read_unary (V := V) back_writes 162 rfl (by decide +kernel) (read_in back_writes 162 (by decide +kernel))
  exact h
theorem bk_call22_c_eq (V : Valuation τ sig (Elt F)) : bk_call22_c V = (constantI S_ 32 0#32) := by
  have h := read_nullary back_writes 163 rfl (by decide +kernel) V
  exact h
theorem bk_call22_c_0_eq (V : Valuation τ sig (Elt F)) : bk_call22_c_0 V = (constantI S_ 32 0#32) := by
  have h := read_nullary back_writes 164 rfl (by decide +kernel) V
  exact h
theorem bk_call22_c_1_eq (V : Valuation τ sig (Elt F)) : bk_call22_c_1 V = (constantI S_ 32 0#32) := by
  have h := read_nullary back_writes 165 rfl (by decide +kernel) V
  exact h
theorem bk_call23_v0_eq (V : Valuation τ sig (Elt F)) : bk_call23_v0 V = (broadcastInDim S1x8x64 ![1, 2] bcast_S8x64_S1x8x64_1_2) (bk_v131 V) := by
  have h := read_unary (V := V) back_writes 167 rfl (by decide +kernel) (read_in back_writes 167 (by decide +kernel))
  exact h
theorem bk_call23_c_eq (V : Valuation τ sig (Elt F)) : bk_call23_c V = (constantI S_ 32 0#32) := by
  have h := read_nullary back_writes 168 rfl (by decide +kernel) V
  exact h
theorem bk_call23_c_0_eq (V : Valuation τ sig (Elt F)) : bk_call23_c_0 V = (constantI S_ 32 0#32) := by
  have h := read_nullary back_writes 169 rfl (by decide +kernel) V
  exact h
theorem bk_c_41_eq (V : Valuation τ sig (Elt F)) : bk_c_41 V = (constantI S_ 32 1#32) := by
  have h := read_nullary back_writes 171 rfl (by decide +kernel) V
  exact h
theorem bk_v136_eq (V : Valuation τ sig (Elt F)) : bk_v136 V = (addi : Arr F S_ .i32 → Arr F S_ .i32 → Arr F S_ .i32) (V (Proc.devRef .tc main_v30_7)) (bk_c_41 V) := by
  have h := read_binary (V := V) back_writes 172 rfl (by decide +kernel) (read_arg back_writes 172 (by decide +kernel)) (read_in back_writes 172 (by decide +kernel))
  exact h
theorem bk_o7_eq (V : Valuation τ sig (Elt F)) : bk_o7 V = (bk_v136 V) := by
  have h := read_unary (V := V) back_writes 173 rfl (by decide +kernel) (read_in back_writes 173 (by decide +kernel))
  exact h
theorem bk_o8_eq (V : Valuation τ sig (Elt F)) : bk_o8 V = (bk_v106 V) := by
  have h := read_unary (V := V) back_writes 174 rfl (by decide +kernel) (read_in back_writes 174 (by decide +kernel))
  exact h
theorem bk_o9_eq (V : Valuation τ sig (Elt F)) : bk_o9 V = (bk_v132 V) := by
  have h := read_unary (V := V) back_writes 175 rfl (by decide +kernel) (read_in back_writes 175 (by decide +kernel))
  exact h
theorem bk_o10_eq (V : Valuation τ sig (Elt F)) : bk_o10 V = (bk_v133 V) := by
  have h := read_unary (V := V) back_writes 176 rfl (by decide +kernel) (read_in back_writes 176 (by decide +kernel))
  exact h
theorem bk_o11_eq (V : Valuation τ sig (Elt F)) : bk_o11 V = (bk_v134 V) := by
  have h := read_unary (V := V) back_writes 177 rfl (by decide +kernel) (read_in back_writes 177 (by decide +kernel))
  exact h
theorem bk_o12_eq (V : Valuation τ sig (Elt F)) : bk_o12 V = (bk_v135 V) := by
  have h := read_unary (V := V) back_writes 178 rfl (by decide +kernel) (read_in back_writes 178 (by decide +kernel))
  exact h

end Cert.ReferenceIdeal.Ret
-- ==== Proof.Ref.BackValue.lean ====
module

public import proofs.«01_k».proof.Proof.Ref.BackA
public import proofs.«01_k».proof.Proof.Ref.BackB
public import proofs.«01_k».proof.Proof.Ref.BackC
public import proofs.«01_k».proof.Proof.Scan.Arrays

/-!
# One turn of the reference's backward loop over the extended reals

Each value of the turn, read at a head and an index, is the recursion's value of the same name, for the piece that the
turn reads out of its stacks.
-/

@[expose] public section

noncomputable section

namespace Cert.ReferenceIdeal.Ret

open Idealize.ShloMosaic Idealize.ShloMosaic.TcCoe
open Cert.ReferenceIdeal.Gen

variable (V : Valuation τ sig (Elt Ideal)) (h : Fin 8)

/-- Head `h`'s share of the chunk that the turn reads. -/
def bPiece : Cert.Scan.Piece where
  q t n := bk_v43 V (ix3 h t n)
  k t n := bk_v44 V (ix3 h t n)
  v t p := bk_v45 V (ix3 h t p)
  la t := bk_v46 V (ix2 h t)
  g t p := bk_v41 V (ix3 h t p)

/-- The saved state that the turn reads. -/
def bS : Cert.Scan.State := fun n p => bk_v42 V (ix3 h n p)
/-- The gradient of the state that the turn is entered with. -/
def bD : Cert.Scan.State := fun n p => V (Proc.devRef .tc main_v30_8) (ix3 h n p)

/-- The mask that the turn reads keeps the positions up to a row's own. -/
def bMask : Prop := ∀ t s : Fin 64, V (Proc.devRef .tc main_v30_6) (ix2 t s) = if s ≤ t then 1#1 else 0#1

/-- A select on a mask of one bit. -/
theorem select_ite (p : Prop) [Decidable p] (x y : EReal) : Scalar.select (if p then 1#1 else 0#1) x y = if p then x else y := by
  split <;> rfl

variable {V} (hm : bMask V)
include hm

theorem bk_v49_at (t : Fin 64) : bk_v49 V (ix2 h t) = (bPiece V h).cum t := by
  pointwise [bk_v49_eq, bk_cst_26_eq, bk_v48_0_eq, bk_v48_1_eq, bk_call16_v2_eq, bk_call16_v3_eq, bk_v47_eq, bk_call16_v0_eq, bk_cst_25_eq]
  simp only [hm _ _, select_ite]
  rfl

theorem bk_v62_at (z : Fin 1) : bk_v62 V (ix2 h z) = (bPiece V h).tot := by
  pointwise [bk_v62_eq]
  exact bk_v49_at h hm 63

theorem bk_v57_at (t s : Fin 64) : bk_v57 V (ix3 h t s) = (bPiece V h).dec t s := by
  pointwise [bk_v57_eq, bk_v56_0_eq, bk_v56_1_eq, bk_call17_v2_eq, bk_call17_v0_eq, bk_cst_27_eq, bk_v54_eq, bk_v52_eq, bk_v53_eq, bk_v50_eq, bk_v51_eq]
  rw [hm, select_ite, bk_v49_at h hm, bk_v49_at h hm, Cert.Scan.negInf]
  rfl

omit hm in
theorem bk_v55_at (t s : Fin 64) : bk_v55 V (ix3 h t s) = (bPiece V h).sc t s := by
  pointwise [bk_v55_eq]
  rfl

theorem bk_v58_at (t s : Fin 64) : bk_v58 V (ix3 h t s) = (bPiece V h).sc t s * (bPiece V h).dec t s := by
  pointwise [bk_v58_eq]
  rw [bk_v55_at, bk_v57_at h hm]

omit hm in
theorem bk_v59_at (t : Fin 64) (p : Fin 512) : bk_v59 V (ix3 h t p) = (bPiece V h).u (bS V h) t p := by
  pointwise [bk_v59_eq]
  rfl

theorem bk_v60_at (t : Fin 64) : bk_v60 V (ix2 h t) = Ideal.exp ((bPiece V h).cum t) := by
  pointwise [bk_v60_eq]
  rw [bk_v49_at h hm]

theorem bk_v63_at (z : Fin 1) : bk_v63 V (ix2 h z) = Ideal.exp (bPiece V h).tot := by
  pointwise [bk_v63_eq]
  rw [bk_v62_at h hm]

theorem bk_v67_at (s : Fin 64) : bk_v67 V (ix2 h s) = (bPiece V h).toEnd s := by
  pointwise [bk_v67_eq, bk_v66_eq, bk_v65_eq]
  rw [bk_v62_at h hm, bk_v49_at h hm]
  rfl

theorem bk_v70_at (s : Fin 64) (p : Fin 512) : bk_v70 V (ix3 h s p) = (bPiece V h).toEnd s * (bPiece V h).v s p := by
  pointwise [bk_v70_eq, bk_v69_eq, bk_v68_eq]
  rw [bk_v67_at h hm]
  rfl

omit hm in
theorem bk_v72_at (s : Fin 64) (p : Fin 512) : bk_v72 V (ix3 h s p) = (bPiece V h).gk (bD V h) s p := by
  pointwise [bk_v72_eq, bk_v71_eq]
  exact Finset.sum_congr rfl fun n _ => mul_comm _ _

theorem bk_v74_at (s : Fin 64) (n : Fin 256) : bk_v74 V (ix3 h s n)
    = ∑ p : Fin 512, (bPiece V h).toEnd s * (bPiece V h).v s p * bD V h n p := by
  pointwise [bk_v74_eq, bk_v73_eq]
  simp only [bk_v70_at h hm]
  exact Finset.sum_congr rfl fun p _ => mul_comm _ _

theorem bk_v81_at (s : Fin 64) : bk_v81 V (ix2 h s) = (bPiece V h).ct (bD V h) s := by
  pointwise [bk_v81_eq, bk_v80_eq, bk_cst_29_eq, bk_v79_eq, bk_v78_eq, bk_cst_28_eq, bk_v77_eq]
  simp only [Fin.sum_univ_one, bk_v72_at, bk_v67_at h hm]
  rfl

theorem bk_v93_at (z : Fin 1) : bk_v93 V (ix2 h z) = (bPiece V h).last (bS V h) (bD V h) := by
  pointwise [bk_v93_eq, bk_v83_eq, bk_v82_eq, bk_cst_30_eq, bk_v92_eq, bk_v91_eq, bk_v90_eq, bk_cst_32_eq, bk_v89_eq, bk_v88_eq, bk_cst_31_eq, bk_v87_eq]
  simp only [Fin.sum_univ_one, bk_v81_at h hm, bk_v63_at h hm]
  rfl

theorem bk_v94_at (t : Fin 64) : bk_v94 V (ix2 h t) = if t = 63 then (bPiece V h).last (bS V h) (bD V h) else 0 := by
  pointwise [bk_v94_eq, bk_cst_33_eq]
  by_cases e : t = 63
  · subst e
    rw [if_pos rfl, dif_pos (by decide)]
    exact bk_v93_at h hm _
  · rw [if_neg e, dif_neg]
    rintro ⟨h1, -⟩
    exact e (Fin.ext (by have := t.isLt; show t.val = 63; omega))

theorem bk_v100_at (t : Fin 64) (p : Fin 512) : bk_v100 V (ix3 h t p) = (bPiece V h).du t p := by
  pointwise [bk_v100_eq, bk_v99_eq, bk_v61_eq]
  rw [bk_v60_at h hm]
  rfl

theorem bk_v102_at (t : Fin 64) : bk_v102 V (ix2 h t) = (bPiece V h).dg (bS V h) t := by
  pointwise [bk_v102_eq, bk_v101_eq, bk_cst_35_eq, bk_v98_eq, bk_v97_eq, bk_cst_34_eq, bk_v96_eq]
  simp only [Fin.sum_univ_one, bk_v59_at, bk_v60_at h hm]
  rfl

/-- The gradient of the state that the turn leaves. -/
theorem bk_v106_at (n : Fin 256) (p : Fin 512) : bk_v106 V (ix3 h n p) = (bPiece V h).back (bD V h) n p := by
  pointwise [bk_v106_eq, bk_v86_eq, bk_v85_eq, bk_v64_eq, bk_v105_eq, bk_v104_eq]
  simp only [bk_v63_at h hm, bk_v100_at h hm]
  refine congrArg₂ (· + ·) rfl ?_
  exact Finset.sum_congr rfl fun t _ => mul_comm _ _

omit hm in
theorem bk_v111_at (t s : Fin 64) : bk_v111 V (ix3 h t s) = (bPiece V h).dattn t s := by
  pointwise [bk_v111_eq]
  rfl

/-- The gradient of the values. -/
theorem bk_v110_at (s : Fin 64) (p : Fin 512) : bk_v110 V (ix3 h s p) = (bPiece V h).dv (bD V h) s p := by
  pointwise [bk_v110_eq, bk_v76_eq, bk_v75_eq, bk_v68_eq, bk_v109_eq, bk_v108_eq]
  simp only [bk_v67_at h hm, bk_v72_at, bk_v58_at h hm]
  refine congrArg₂ (· + ·) rfl ?_
  exact Finset.sum_congr rfl fun t _ => mul_comm _ _

theorem bk_v113_at (t s : Fin 64) : bk_v113 V (ix3 h t s) = (bPiece V h).dsc t s := by
  pointwise [bk_v113_eq]
  rw [bk_v111_at, bk_v57_at h hm]
  rfl

theorem bk_v115_at (t s : Fin 64) : bk_v115 V (ix3 h t s) = (bPiece V h).dseg t s := by
  pointwise [bk_v115_eq, bk_v56_1_eq, bk_v114_eq, bk_v112_eq, bk_call18_v0_eq, bk_call18_cst_eq]
  rw [hm, select_ite, bk_v55_at, bk_v111_at, bk_v57_at h hm]
  rfl

/-- The gradient of the keys. -/
theorem bk_v117_at (s : Fin 64) (n : Fin 256) : bk_v117 V (ix3 h s n) = (bPiece V h).dk (bD V h) s n := by
  pointwise [bk_v117_eq, bk_v116_eq]
  simp only [bk_v74_at h hm, bk_v113_at h hm]
  rfl

/-- The gradient of the queries. -/
theorem bk_v119_at (t : Fin 64) (n : Fin 256) : bk_v119 V (ix3 h t n) = (bPiece V h).dq (bS V h) t n := by
  pointwise [bk_v119_eq, bk_v107_eq, bk_v118_eq]
  simp only [bk_v100_at h hm, bk_v113_at h hm]
  rfl

theorem bk_v128_at (t : Fin 64) : bk_v128 V (ix2 h t) = (bPiece V h).dcum (bS V h) (bD V h) t := by
  pointwise [bk_v128_eq, bk_v126_eq, bk_v103_eq, bk_v95_eq, bk_v84_eq, bk_v125_eq, bk_cst_38_eq, bk_v124_eq, bk_v123_eq, bk_cst_37_eq, bk_v122_eq,
    bk_v127_eq, bk_cst_39_eq, bk_v121_eq, bk_v120_eq, bk_cst_36_eq]
  simp only [Fin.sum_univ_one, bk_v81_at h hm, bk_v94_at h hm, bk_v102_at h hm, bk_v115_at h hm]
  rfl

/-- The gradient of the log decays. -/
theorem bk_v131_at (w : Fin 64) : bk_v131 V (ix2 h w) = (bPiece V h).dla (bS V h) (bD V h) w := by
  pointwise [bk_v131_eq, bk_cst_40_eq, bk_v130_eq, bk_call19_v2_eq, bk_call19_cst_0_eq, bk_call19_v1_eq, bk_v48_1_eq, bk_v129_eq, bk_call19_v0_eq, bk_call19_cst_eq]
  simp only [Fin.sum_univ_one, hm _ _, select_ite, bk_v128_at h hm]
  rfl

end Cert.ReferenceIdeal.Ret
-- ==== Proof.Ref.Turn.lean ====
module

public import proofs.«01_k».proof.Proof.Ref.Read
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo

variable {F : FTy → Type} [FloatOps F]

/-- A line of host operations of the reference. -/
local notation "Line" => List (HloOp τ sig (Elt F))

set_option maxRecDepth 100000

/-- The operations before the first loop, as one line. -/
def pre : Line := preL.flatten
/-- What `pre` writes, in order. -/
def pre_W : List (Ref sig .tc) := [main_v0, main_v1, main_v2, main_v3, main_v4, main_v5, main_cst, main_v6, main_v7, main_v8, main_v9, main_v10, main_v11, main_v12, main_v13, main_v14, main_cst_0, main_call0_v0, main_v15_0, main_v15_1, main_cst_1, main_call1_v0, main_v16_0, main_v16_1, main_cst_2, main_v17, main_cst_3, main_v18, main_c, main_v19_0, main_v19_1, main_v19_2, main_v19_3, main_v19_4, main_v19_5, main_v19_6, main_v19_7, main_v19_8, main_v19_9, main_v19_10, main_v19_11]
theorem pre_writes : (pre (F := F)).map HloOp.writes = pre_W.map fun w => {Proc.devRef (τ := τ) .tc w} := rfl
/-- `main_v0` after the operations before the first loop. -/
def pr_v0 (V : Valuation τ sig (Elt F)) : Arr F S64 .i32 := after pre V (Proc.devRef .tc main_v0)
theorem pr_v0_eq (V : Valuation τ sig (Elt F)) : pr_v0 V = (iotaInDim S64 32 0) := by
  have h := read_nullary pre_writes 0 rfl (by decide +kernel) V
  exact h
/-- `main_v1` after the operations before the first loop. -/
def pr_v1 (V : Valuation τ sig (Elt F)) : Arr F S64x1 .i32 := after pre V (Proc.devRef .tc main_v1)
theorem pr_v1_eq (V : Valuation τ sig (Elt F)) : pr_v1 V = (broadcastInDim S64x1 ![0] bcast_S64_S64x1_0 : Arr F S64 .i32 → Arr F S64x1 .i32) (pr_v0 V) := by
  have h := read_unary (V := V) pre_writes 1 rfl (by decide +kernel) (read_in pre_writes 1 (by decide +kernel))
  exact h
/-- `main_v2` after the operations before the first loop. -/
def pr_v2 (V : Valuation τ sig (Elt F)) : Arr F S1x64 .i32 := after pre V (Proc.devRef .tc main_v2)
theorem pr_v2_eq (V : Valuation τ sig (Elt F)) : pr_v2 V = (broadcastInDim S1x64 ![1] bcast_S64_S1x64_1 : Arr F S64 .i32 → Arr F S1x64 .i32) (pr_v0 V) := by
  have h := read_unary (V := V) pre_writes 2 rfl (by decide +kernel) (read_in pre_writes 2 (by decide +kernel))
  exact h
/-- `main_v3` after the operations before the first loop. -/
def pr_v3 (V : Valuation τ sig (Elt F)) : Arr F S64x64 .i32 := after pre V (Proc.devRef .tc main_v3)
theorem pr_v3_eq (V : Valuation τ sig (Elt F)) : pr_v3 V = (broadcastInDim S64x64 ![0, 1] bcast_S64x1_S64x64_0_1 : Arr F S64x1 .i32 → Arr F S64x64 .i32) (pr_v1 V) := by
  have h := read_unary (V := V) pre_writes 3 rfl (by decide +kernel) (read_in pre_writes 3 (by decide +kernel))
  exact h
/-- `main_v4` after the operations before the first loop. -/
def pr_v4 (V : Valuation τ sig (Elt F)) : Arr F S64x64 .i32 := after pre V (Proc.devRef .tc main_v4)
theorem pr_v4_eq (V : Valuation τ sig (Elt F)) : pr_v4 V = (broadcastInDim S64x64 ![0, 1] bcast_S1x64_S64x64_0_1 : Arr F S1x64 .i32 → Arr F S64x64 .i32) (pr_v2 V) := by
  have h := read_unary (V := V) pre_writes 4 rfl (by decide +kernel) (read_in pre_writes 4 (by decide +kernel))
  exact h
/-- `main_v5` after the operations before the first loop. -/
def pr_v5 (V : Valuation τ sig (Elt F)) : Arr F S64x64 .i1 := after pre V (Proc.devRef .tc main_v5)
theorem pr_v5_eq (V : Valuation τ sig (Elt F)) : pr_v5 V = (cmpi .sge : Arr F S64x64 .i32 → Arr F S64x64 .i32 → Arr F S64x64 .i1) (pr_v3 V) (pr_v4 V) := by
  have h := read_binary (V := V) pre_writes 5 rfl (by decide +kernel) (read_in pre_writes 5 (by decide +kernel)) (read_in pre_writes 5 (by decide +kernel))
  exact h
/-- `main_cst` after the operations before the first loop. -/
def pr_cst (V : Valuation τ sig (Elt F)) : Arr F S_ .f32 := after pre V (Proc.devRef .tc main_cst)
theorem pr_cst_eq (V : Valuation τ sig (Elt F)) : pr_cst V = (constant S_ .f32 0x00000000#32) := by
  have h := read_nullary pre_writes 6 rfl (by decide +kernel) V
  exact h
/-- `main_v6` after the operations before the first loop. -/
def pr_v6 (V : Valuation τ sig (Elt F)) : Arr F S8x256x512 .f32 := after pre V (Proc.devRef .tc main_v6)
theorem pr_v6_eq (V : Valuation τ sig (Elt F)) : pr_v6 V = (broadcastInDim S8x256x512 ![] bcast_S_S8x256x512 : Arr F S_ .f32 → Arr F S8x256x512 .f32) (pr_cst V) := by
  have h := read_unary (V := V) pre_writes 7 rfl (by decide +kernel) (read_in pre_writes 7 (by decide +kernel))
  exact h
/-- `main_v7` after the operations before the first loop. -/
def pr_v7 (V : Valuation τ sig (Elt F)) : Arr F S36x64x8x256 .f32 := after pre V (Proc.devRef .tc main_v7)
theorem pr_v7_eq (V : Valuation τ sig (Elt F)) : pr_v7 V = shapeCast S36x64x8x256 (V (Proc.devRef .tc main_arg0)) shapeCasts_S2304x2048_S36x64x8x256 := by
  have h := read_reshape (V := V) pre_writes 8 rfl (by decide +kernel) (read_arg pre_writes 8 (by decide +kernel))
  exact h
/-- `main_v8` after the operations before the first loop. -/
def pr_v8 (V : Valuation τ sig (Elt F)) : Arr F S36x8x64x256 .f32 := after pre V (Proc.devRef .tc main_v8)
theorem pr_v8_eq (V : Valuation τ sig (Elt F)) : pr_v8 V = ((transpose S36x8x64x256 [0, 2, 1, 3] · transposes_S36x64x8x256_S36x8x64x256_0_2_1_3) : Arr F S36x64x8x256 .f32 → Arr F S36x8x64x256 .f32) (pr_v7 V) := by
  have h := read_unary (V := V) pre_writes 9 rfl (by decide +kernel) (read_in pre_writes 9 (by decide +kernel))
  exact h
/-- `main_v9` after the operations before the first loop. -/
def pr_v9 (V : Valuation τ sig (Elt F)) : Arr F S36x64x8x256 .f32 := after pre V (Proc.devRef .tc main_v9)
theorem pr_v9_eq (V : Valuation τ sig (Elt F)) : pr_v9 V = shapeCast S36x64x8x256 (V (Proc.devRef .tc main_arg1)) shapeCasts_S2304x2048_S36x64x8x256 := by
  have h := read_reshape (V := V) pre_writes 10 rfl (by decide +kernel) (read_arg pre_writes 10 (by decide +kernel))
  exact h
/-- `main_v10` after the operations before the first loop. -/
def pr_v10 (V : Valuation τ sig (Elt F)) : Arr F S36x8x64x256 .f32 := after pre V (Proc.devRef .tc main_v10)
theorem pr_v10_eq (V : Valuation τ sig (Elt F)) : pr_v10 V = ((transpose S36x8x64x256 [0, 2, 1, 3] · transposes_S36x64x8x256_S36x8x64x256_0_2_1_3) : Arr F S36x64x8x256 .f32 → Arr F S36x8x64x256 .f32) (pr_v9 V) := by
  have h := read_unary (V := V) pre_writes 11 rfl (by decide +kernel) (read_in pre_writes 11 (by decide +kernel))
  exact h
/-- `main_v11` after the operations before the first loop. -/
def pr_v11 (V : Valuation τ sig (Elt F)) : Arr F S36x64x8x512 .f32 := after pre V (Proc.devRef .tc main_v11)
theorem pr_v11_eq (V : Valuation τ sig (Elt F)) : pr_v11 V = shapeCast S36x64x8x512 (V (Proc.devRef .tc main_arg2)) shapeCasts_S2304x4096_S36x64x8x512 := by
  have h := read_reshape (V := V) pre_writes 12 rfl (by decide +kernel) (read_arg pre_writes 12 (by decide +kernel))
  exact h
/-- `main_v12` after the operations before the first loop. -/
def pr_v12 (V : Valuation τ sig (Elt F)) : Arr F S36x8x64x512 .f32 := after pre V (Proc.devRef .tc main_v12)
theorem pr_v12_eq (V : Valuation τ sig (Elt F)) : pr_v12 V = ((transpose S36x8x64x512 [0, 2, 1, 3] · transposes_S36x64x8x512_S36x8x64x512_0_2_1_3) : Arr F S36x64x8x512 .f32 → Arr F S36x8x64x512 .f32) (pr_v11 V) := by
  have h := read_unary (V := V) pre_writes 13 rfl (by decide +kernel) (read_in pre_writes 13 (by decide +kernel))
  exact h
/-- `main_v13` after the operations before the first loop. -/
def pr_v13 (V : Valuation τ sig (Elt F)) : Arr F S8x36x64 .f32 := after pre V (Proc.devRef .tc main_v13)
theorem pr_v13_eq (V : Valuation τ sig (Elt F)) : pr_v13 V = shapeCast S8x36x64 (V (Proc.devRef .tc main_arg3)) shapeCasts_S8x2304x1_S8x36x64 := by
  have h := read_reshape (V := V) pre_writes 14 rfl (by decide +kernel) (read_arg pre_writes 14 (by decide +kernel))
  exact h
/-- `main_v14` after the operations before the first loop. -/
def pr_v14 (V : Valuation τ sig (Elt F)) : Arr F S36x8x64 .f32 := after pre V (Proc.devRef .tc main_v14)
theorem pr_v14_eq (V : Valuation τ sig (Elt F)) : pr_v14 V = ((transpose S36x8x64 [1, 0, 2] · transposes_S8x36x64_S36x8x64_1_0_2) : Arr F S8x36x64 .f32 → Arr F S36x8x64 .f32) (pr_v13 V) := by
  have h := read_unary (V := V) pre_writes 15 rfl (by decide +kernel) (read_in pre_writes 15 (by decide +kernel))
  exact h
/-- `main_cst_0` after the operations before the first loop. -/
def pr_cst_0 (V : Valuation τ sig (Elt F)) : Arr F S_ .f32 := after pre V (Proc.devRef .tc main_cst_0)
theorem pr_cst_0_eq (V : Valuation τ sig (Elt F)) : pr_cst_0 V = (constant S_ .f32 0x00000000#32) := by
  have h := read_nullary pre_writes 16 rfl (by decide +kernel) V
  exact h
/-- `main_call0_v0` after the operations before the first loop. -/
def pr_call0_v0 (V : Valuation τ sig (Elt F)) : Arr F S_ .f32 := after pre V (Proc.devRef .tc main_call0_v0)
theorem pr_call0_v0_eq (V : Valuation τ sig (Elt F)) : pr_call0_v0 V = (pr_cst_0 V) := by
  have h := read_unary (V := V) pre_writes 17 rfl (by decide +kernel) (read_in pre_writes 17 (by decide +kernel))
  exact h
/-- `main_v15_0` after the operations before the first loop. -/
def pr_v15_0 (V : Valuation τ sig (Elt F)) : Arr F S8x64x64 .i1 := after pre V (Proc.devRef .tc main_v15_0)
theorem pr_v15_0_eq (V : Valuation τ sig (Elt F)) : pr_v15_0 V = (broadcastInDim S8x64x64 ![1, 2] bcast_S64x64_S8x64x64_1_2) (pr_v5 V) := by
  have h := read_unary (V := V) pre_writes 18 rfl (by decide +kernel) (read_in pre_writes 18 (by decide +kernel))
  exact h
/-- `main_v15_1` after the operations before the first loop. -/
def pr_v15_1 (V : Valuation τ sig (Elt F)) : Arr F S8x64x64 .f32 := after pre V (Proc.devRef .tc main_v15_1)
theorem pr_v15_1_eq (V : Valuation τ sig (Elt F)) : pr_v15_1 V = (broadcastInDim S8x64x64 ![] bcast_S_S8x64x64) (pr_call0_v0 V) := by
  have h := read_unary (V := V) pre_writes 19 rfl (by decide +kernel) (read_in pre_writes 19 (by decide +kernel))
  exact h
/-- `main_c` after the operations before the first loop. -/
def pr_c (V : Valuation τ sig (Elt F)) : Arr F S_ .i32 := after pre V (Proc.devRef .tc main_c)
theorem pr_c_eq (V : Valuation τ sig (Elt F)) : pr_c V = (constantI S_ 32 0#32) := by
  have h := read_nullary pre_writes 28 rfl (by decide +kernel) V
  exact h
/-- `main_v19_1` after the operations before the first loop. -/
def pr_v19_1 (V : Valuation τ sig (Elt F)) : Arr F S36x8x64x256 .f32 := after pre V (Proc.devRef .tc main_v19_1)
theorem pr_v19_1_eq (V : Valuation τ sig (Elt F)) : pr_v19_1 V = (pr_v10 V) := by
  have h := read_unary (V := V) pre_writes 30 rfl (by decide +kernel) (read_in pre_writes 30 (by decide +kernel))
  exact h
/-- `main_v19_2` after the operations before the first loop. -/
def pr_v19_2 (V : Valuation τ sig (Elt F)) : Arr F S36x8x64x512 .f32 := after pre V (Proc.devRef .tc main_v19_2)
theorem pr_v19_2_eq (V : Valuation τ sig (Elt F)) : pr_v19_2 V = (pr_v12 V) := by
  have h := read_unary (V := V) pre_writes 31 rfl (by decide +kernel) (read_in pre_writes 31 (by decide +kernel))
  exact h
/-- `main_v19_3` after the operations before the first loop. -/
def pr_v19_3 (V : Valuation τ sig (Elt F)) : Arr F S36x8x64 .f32 := after pre V (Proc.devRef .tc main_v19_3)
theorem pr_v19_3_eq (V : Valuation τ sig (Elt F)) : pr_v19_3 V = (pr_v14 V) := by
  have h := read_unary (V := V) pre_writes 32 rfl (by decide +kernel) (read_in pre_writes 32 (by decide +kernel))
  exact h
/-- `main_v19_4` after the operations before the first loop. -/
def pr_v19_4 (V : Valuation τ sig (Elt F)) : Arr F S8x64x64 .i1 := after pre V (Proc.devRef .tc main_v19_4)
theorem pr_v19_4_eq (V : Valuation τ sig (Elt F)) : pr_v19_4 V = (pr_v15_0 V) := by
  have h := read_unary (V := V) pre_writes 33 rfl (by decide +kernel) (read_in pre_writes 33 (by decide +kernel))
  exact h
/-- `main_v19_5` after the operations before the first loop. -/
def pr_v19_5 (V : Valuation τ sig (Elt F)) : Arr F S8x64x64 .f32 := after pre V (Proc.devRef .tc main_v19_5)
theorem pr_v19_5_eq (V : Valuation τ sig (Elt F)) : pr_v19_5 V = (pr_v15_1 V) := by
  have h := read_unary (V := V) pre_writes 34 rfl (by decide +kernel) (read_in pre_writes 34 (by decide +kernel))
  exact h
/-- `main_v19_8` after the operations before the first loop. -/
def pr_v19_8 (V : Valuation τ sig (Elt F)) : Arr F S_ .i32 := after pre V (Proc.devRef .tc main_v19_8)
theorem pr_v19_8_eq (V : Valuation τ sig (Elt F)) : pr_v19_8 V = (pr_c V) := by
  have h := read_unary (V := V) pre_writes 37 rfl (by decide +kernel) (read_in pre_writes 37 (by decide +kernel))
  exact h
/-- `main_v19_9` after the operations before the first loop. -/
def pr_v19_9 (V : Valuation τ sig (Elt F)) : Arr F S8x256x512 .f32 := after pre V (Proc.devRef .tc main_v19_9)
theorem pr_v19_9_eq (V : Valuation τ sig (Elt F)) : pr_v19_9 V = (pr_v6 V) := by
  have h := read_unary (V := V) pre_writes 38 rfl (by decide +kernel) (read_in pre_writes 38 (by decide +kernel))
  exact h

/-- The first loop's turn, as one line. -/
def turn : Line := turnL.flatten
/-- What `turn` writes, in order. -/
def turn_W : List (Ref sig .tc) := [main_while0b_call2_c, main_while0b_call2_c_0, main_while0b_call2_c_1, main_while0b_call2_v0, main_while0b_v39, main_while0b_call3_c, main_while0b_call3_c_0, main_while0b_call3_c_1, main_while0b_call3_v0, main_while0b_v40, main_while0b_call4_c, main_while0b_call4_c_0, main_while0b_call4_c_1, main_while0b_call4_v0, main_while0b_v41, main_while0b_call5_c, main_while0b_call5_c_0, main_while0b_call5_v0, main_while0b_v42, main_while0b_v43, main_while0b_call6_v0, main_while0b_v44, main_while0b_cst_22, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_call8_v0, main_while0b_call8_c, main_while0b_call8_c_0, main_while0b_call8_c_1, main_while0b_v75, main_while0b_call9_v0, main_while0b_call9_c, main_while0b_call9_c_0, main_while0b_call9_c_1, main_while0b_v76, main_while0b_c_23, main_while0b_v77, main_v19_8, main_v19_9, main_v19_10, main_v19_11]
theorem turn_writes : (turn (F := F)).map HloOp.writes = turn_W.map fun w => {Proc.devRef (τ := τ) .tc w} := rfl
/-- `main_while0b_call3_c` after the first loop's turn. -/
def tn_call3_c (V : Valuation τ sig (Elt F)) : Arr F S_ .i32 := after turn V (Proc.devRef .tc main_while0b_call3_c)
theorem tn_call3_c_eq (V : Valuation τ sig (Elt F)) : tn_call3_c V = (constantI S_ 32 0#32) := by
  have h := read_nullary turn_writes 5 rfl (by decide +kernel) V
  exact h
/-- `main_while0b_call3_c_0` after the first loop's turn. -/
def tn_call3_c_0 (V : Valuation τ sig (Elt F)) : Arr F S_ .i32 := after turn V (Proc.devRef .tc main_while0b_call3_c_0)
theorem tn_call3_c_0_eq (V : Valuation τ sig (Elt F)) : tn_call3_c_0 V = (constantI S_ 32 0#32) := by
  have h := read_nullary turn_writes 6 rfl (by decide +kernel) V
  exact h
/-- `main_while0b_call3_c_1` after the first loop's turn. -/
def tn_call3_c_1 (V : Valuation τ sig (Elt F)) : Arr F S_ .i32 := after turn V (Proc.devRef .tc main_while0b_call3_c_1)
theorem tn_call3_c_1_eq (V : Valuation τ sig (Elt F)) : tn_call3_c_1 V = (constantI S_ 32 0#32) := by
  have h := read_nullary turn_writes 7 rfl (by decide +kernel) V
  exact h
/-- `main_while0b_call3_v0` after the first loop's turn. -/
def tn_call3_v0 (V : Valuation τ sig (Elt F)) : Arr F S1x8x64x256 .f32 := after turn V (Proc.devRef .tc main_while0b_call3_v0)
theorem tn_call3_v0_eq (V : Valuation τ sig (Elt F)) : tn_call3_v0 V = ((fun x i => Host.dynamicSlice S1x8x64x256 x (fun k => (i k (Shape.Idx.first h_S_)).toInt) sliceFits_S36x8x64x256_S1x8x64x256) : Arr F S36x8x64x256 .f32 → (Fin 4 → Arr F S_ .i32) → Arr F S1x8x64x256 .f32) (V (Proc.devRef .tc main_v19_1)) (![(V (Proc.devRef .tc main_v19_8)), (tn_call3_c V), (tn_call3_c_0 V), (tn_call3_c_1 V)] : Fin 4 → Arr F S_ .i32) := by
  have h := read_unaryIndexed (V := V) turn_writes 8 rfl (by decide +kernel) (read_arg turn_writes 8 (by decide +kernel)) (w := (![(V (Proc.devRef .tc main_v19_8)), (tn_call3_c V), (tn_call3_c_0 V), (tn_call3_c_1 V)] : Fin 4 → Arr F S_ .i32))
    (funext fun k => by
      fin_cases k
      · exact (read_arg turn_writes 8 (by decide +kernel))
      · exact (read_in turn_writes 8 (by decide +kernel))
      · exact (read_in turn_writes 8 (by decide +kernel))
      · exact (read_in turn_writes 8 (by decide +kernel)))
  exact h
/-- `main_while0b_v40` after the first loop's turn. -/
def tn_v40 (V : Valuation τ sig (Elt F)) : Arr F S8x64x256 .f32 := after turn V (Proc.devRef .tc main_while0b_v40)
theorem tn_v40_eq (V : Valuation τ sig (Elt F)) : tn_v40 V = shapeCast S8x64x256 (tn_call3_v0 V) shapeCasts_S1x8x64x256_S8x64x256 := by
  have h := read_reshape (V := V) turn_writes 9 rfl (by decide +kernel) (read_in turn_writes 9 (by decide +kernel))
  exact h
/-- `main_while0b_call4_c` after the first loop's turn. -/
def tn_call4_c (V : Valuation τ sig (Elt F)) : Arr F S_ .i32 := after turn V (Proc.devRef .tc main_while0b_call4_c)
theorem tn_call4_c_eq (V : Valuation τ sig (Elt F)) : tn_call4_c V = (constantI S_ 32 0#32) := by
  have h := read_nullary turn_writes 10 rfl (by decide +kernel) V
  exact h
/-- `main_while0b_call4_c_0` after the first loop's turn. -/
def tn_call4_c_0 (V : Valuation τ sig (Elt F)) : Arr F S_ .i32 := after turn V (Proc.devRef .tc main_while0b_call4_c_0)
theorem tn_call4_c_0_eq (V : Valuation τ sig (Elt F)) : tn_call4_c_0 V = (constantI S_ 32 0#32) := by
  have h := read_nullary turn_writes 11 rfl (by decide +kernel) V
  exact h
/-- `main_while0b_call4_c_1` after the first loop's turn. -/
def tn_call4_c_1 (V : Valuation τ sig (Elt F)) : Arr F S_ .i32 := after turn V (Proc.devRef .tc main_while0b_call4_c_1)
theorem tn_call4_c_1_eq (V : Valuation τ sig (Elt F)) : tn_call4_c_1 V = (constantI S_ 32 0#32) := by
  have h := read_nullary turn_writes 12 rfl (by decide +kernel) V
  exact h
/-- `main_while0b_call4_v0` after the first loop's turn. -/
def tn_call4_v0 (V : Valuation τ sig (Elt F)) : Arr F S1x8x64x512 .f32 := after turn V (Proc.devRef .tc main_while0b_call4_v0)
theorem tn_call4_v0_eq (V : Valuation τ sig (Elt F)) : tn_call4_v0 V = ((fun x i => Host.dynamicSlice S1x8x64x512 x (fun k => (i k (Shape.Idx.first h_S_)).toInt) sliceFits_S36x8x64x512_S1x8x64x512) : Arr F S36x8x64x512 .f32 → (Fin 4 → Arr F S_ .i32) → Arr F S1x8x64x512 .f32) (V (Proc.devRef .tc main_v19_2)) (![(V (Proc.devRef .tc main_v19_8)), (tn_call4_c V), (tn_call4_c_0 V), (tn_call4_c_1 V)] : Fin 4 → Arr F S_ .i32) := by
  have h := read_unaryIndexed (V := V) turn_writes 13 rfl (by decide +kernel) (read_arg turn_writes 13 (by decide +kernel)) (w := (![(V (Proc.devRef .tc main_v19_8)), (tn_call4_c V), (tn_call4_c_0 V), (tn_call4_c_1 V)] : Fin 4 → Arr F S_ .i32))
    (funext fun k => by
      fin_cases k
      · exact (read_arg turn_writes 13 (by decide +kernel))
      · exact (read_in turn_writes 13 (by decide +kernel))
      · exact (read_in turn_writes 13 (by decide +kernel))
      · exact (read_in turn_writes 13 (by decide +kernel)))
  exact h
/-- `main_while0b_v41` after the first loop's turn. -/
def tn_v41 (V : Valuation τ sig (Elt F)) : Arr F S8x64x512 .f32 := after turn V (Proc.devRef .tc main_while0b_v41)
theorem tn_v41_eq (V : Valuation τ sig (Elt F)) : tn_v41 V = shapeCast S8x64x512 (tn_call4_v0 V) shapeCasts_S1x8x64x512_S8x64x512 := by
  have h := read_reshape (V := V) turn_writes 14 rfl (by decide +kernel) (read_in turn_writes 14 (by decide +kernel))
  exact h
/-- `main_while0b_call5_c` after the first loop's turn. -/
def tn_call5_c (V : Valuation τ sig (Elt F)) : Arr F S_ .i32 := after turn V (Proc.devRef .tc main_while0b_call5_c)
theorem tn_call5_c_eq (V : Valuation τ sig (Elt F)) : tn_call5_c V = (constantI S_ 32 0#32) := by
  have h := read_nullary turn_writes 15 rfl (by decide +kernel) V
  exact h
/-- `main_while0b_call5_c_0` after the first loop's turn. -/
def tn_call5_c_0 (V : Valuation τ sig (Elt F)) : Arr F S_ .i32 := after turn V (Proc.devRef .tc main_while0b_call5_c_0)
theorem tn_call5_c_0_eq (V : Valuation τ sig (Elt F)) : tn_call5_c_0 V = (constantI S_ 32 0#32) := by
  have h := read_nullary turn_writes 16 rfl (by decide +kernel) V
  exact h
/-- `main_while0b_call5_v0` after the first loop's turn. -/
def tn_call5_v0 (V : Valuation τ sig (Elt F)) : Arr F S1x8x64 .f32 := after turn V (Proc.devRef .tc main_while0b_call5_v0)
theorem tn_call5_v0_eq (V : Valuation τ sig (Elt F)) : tn_call5_v0 V = ((fun x i => Host.dynamicSlice S1x8x64 x (fun k => (i k (Shape.Idx.first h_S_)).toInt) sliceFits_S36x8x64_S1x8x64) : Arr F S36x8x64 .f32 → (Fin 3 → Arr F S_ .i32) → Arr F S1x8x64 .f32) (V (Proc.devRef .tc main_v19_3)) (![(V (Proc.devRef .tc main_v19_8)), (tn_call5_c V), (tn_call5_c_0 V)] : Fin 3 → Arr F S_ .i32) := by
  have h := read_unaryIndexed (V := V) turn_writes 17 rfl (by decide +kernel) (read_arg turn_writes 17 (by decide +kernel)) (w := (![(V (Proc.devRef .tc main_v19_8)), (tn_call5_c V), (tn_call5_c_0 V)] : Fin 3 → Arr F S_ .i32))
    (funext fun k => by
      fin_cases k
      · exact (read_arg turn_writes 17 (by decide +kernel))
      · exact (read_in turn_writes 17 (by decide +kernel))
      · exact (read_in turn_writes 17 (by decide +kernel)))
  exact h
/-- `main_while0b_v42` after the first loop's turn. -/
def tn_v42 (V : Valuation τ sig (Elt F)) : Arr F S8x64 .f32 := after turn V (Proc.devRef .tc main_while0b_v42)
theorem tn_v42_eq (V : Valuation τ sig (Elt F)) : tn_v42 V = shapeCast S8x64 (tn_call5_v0 V) shapeCasts_S1x8x64_S8x64 := by
  have h := read_reshape (V := V) turn_writes 18 rfl (by decide +kernel) (read_in turn_writes 18 (by decide +kernel))
  exact h
/-- `main_while0b_v43` after the first loop's turn. -/
def tn_v43 (V : Valuation τ sig (Elt F)) : Arr F S8x1x64 .f32 := after turn V (Proc.devRef .tc main_while0b_v43)
theorem tn_v43_eq (V : Valuation τ sig (Elt F)) : tn_v43 V = (broadcastInDim S8x1x64 ![0, 2] bcast_S8x64_S8x1x64_0_2 : Arr F S8x64 .f32 → Arr F S8x1x64 .f32) (tn_v42 V) := by
  have h := read_unary (V := V) turn_writes 19 rfl (by decide +kernel) (read_in turn_writes 19 (by decide +kernel))
  exact h
/-- `main_while0b_call6_v0` after the first loop's turn. -/
def tn_call6_v0 (V : Valuation τ sig (Elt F)) : Arr F S8x64x64 .f32 := after turn V (Proc.devRef .tc main_while0b_call6_v0)
theorem tn_call6_v0_eq (V : Valuation τ sig (Elt F)) : tn_call6_v0 V = (broadcastInDim S8x64x64 ![0, 1, 2] bcast_S8x1x64_S8x64x64_0_1_2) (tn_v43 V) := by
  have h := read_unary (V := V) turn_writes 20 rfl (by decide +kernel) (read_in turn_writes 20 (by decide +kernel))
  exact h
/-- `main_while0b_v44` after the first loop's turn. -/
def tn_v44 (V : Valuation τ sig (Elt F)) : Arr F S8x64x64 .f32 := after turn V (Proc.devRef .tc main_while0b_v44)
theorem tn_v44_eq (V : Valuation τ sig (Elt F)) : tn_v44 V = select (V (Proc.devRef .tc main_v19_4)) (tn_call6_v0 V) (V (Proc.devRef .tc main_v19_5)) := by
  have h := read_ternary (V := V) turn_writes 21 rfl (by decide +kernel) (read_arg turn_writes 21 (by decide +kernel)) (read_in turn_writes 21 (by decide +kernel)) (read_arg turn_writes 21 (by decide +kernel))
  exact h
/-- `main_while0b_cst_22` after the first loop's turn. -/
def tn_cst_22 (V : Valuation τ sig (Elt F)) : Arr F S_ .f32 := after turn V (Proc.devRef .tc main_while0b_cst_22)
theorem tn_cst_22_eq (V : Valuation τ sig (Elt F)) : tn_cst_22 V = (constant S_ .f32 0x00000000#32) := by
  have h := read_nullary turn_writes 22 rfl (by decide +kernel) V
  exact h
/-- `main_while0b_v45` after the first loop's turn. -/
def tn_v45 (V : Valuation τ sig (Elt F)) : Arr F S8x64 .f32 := after turn V (Proc.devRef .tc main_while0b_v45)
theorem tn_v45_eq (V : Valuation τ sig (Elt F)) : tn_v45 V = ((fun x v => Host.reduceAdd x v reducesTo_S8x64x64_S8x64_d2 h_S_) : Arr F S8x64x64 .f32 → Arr F S_ .f32 → Arr F S8x64 .f32) (tn_v44 V) (tn_cst_22 V) := by
  have h := read_binary (V := V) turn_writes 23 rfl (by decide +kernel) (read_in turn_writes 23 (by decide +kernel)) (read_in turn_writes 23 (by decide +kernel))
  exact h
/-- `main_while0b_v62` after the first loop's turn. -/
def tn_v62 (V : Valuation τ sig (Elt F)) : Arr F S8x1 .f32 := after turn V (Proc.devRef .tc main_while0b_v62)
theorem tn_v62_eq (V : Valuation τ sig (Elt F)) : tn_v62 V = ((extractStridedSlice S8x1 ![0, 63] · slices_S8x64_S8x1_0_63) : Arr F S8x64 .f32 → Arr F S8x1 .f32) (tn_v45 V) := by
  have h := read_unary (V := V) turn_writes 40 rfl (by decide +kernel) (read_in turn_writes 40 (by decide +kernel))
  exact h
/-- `main_while0b_v63` after the first loop's turn. -/
def tn_v63 (V : Valuation τ sig (Elt F)) : Arr F S8x1 .f32 := after turn V (Proc.devRef .tc main_while0b_v63)
theorem tn_v63_eq (V : Valuation τ sig (Elt F)) : tn_v63 V = (Host.exp : Arr F S8x1 .f32 → Arr F S8x1 .f32) (tn_v62 V) := by
  have h := read_unary (V := V) turn_writes 41 rfl (by decide +kernel) (read_in turn_writes 41 (by decide +kernel))
  exact h
/-- `main_while0b_v64` after the first loop's turn. -/
def tn_v64 (V : Valuation τ sig (Elt F)) : Arr F S8x1x1 .f32 := after turn V (Proc.devRef .tc main_while0b_v64)
theorem tn_v64_eq (V : Valuation τ sig (Elt F)) : tn_v64 V = (broadcastInDim S8x1x1 ![0, 1] bcast_S8x1_S8x1x1_0_1 : Arr F S8x1 .f32 → Arr F S8x1x1 .f32) (tn_v63 V) := by
  have h := read_unary (V := V) turn_writes 42 rfl (by decide +kernel) (read_in turn_writes 42 (by decide +kernel))
  exact h
/-- `main_while0b_v65` after the first loop's turn. -/
def tn_v65 (V : Valuation τ sig (Elt F)) : Arr F S8x256x512 .f32 := after turn V (Proc.devRef .tc main_while0b_v65)
theorem tn_v65_eq (V : Valuation τ sig (Elt F)) : tn_v65 V = (broadcastInDim S8x256x512 ![0, 1, 2] bcast_S8x1x1_S8x256x512_0_1_2 : Arr F S8x1x1 .f32 → Arr F S8x256x512 .f32) (tn_v64 V) := by
  have h := read_unary (V := V) turn_writes 43 rfl (by decide +kernel) (read_in turn_writes 43 (by decide +kernel))
  exact h
/-- `main_while0b_v66` after the first loop's turn. -/
def tn_v66 (V : Valuation τ sig (Elt F)) : Arr F S8x256x512 .f32 := after turn V (Proc.devRef .tc main_while0b_v66)
theorem tn_v66_eq (V : Valuation τ sig (Elt F)) : tn_v66 V = (mulf : Arr F S8x256x512 .f32 → Arr F S8x256x512 .f32 → Arr F S8x256x512 .f32) (tn_v65 V) (V (Proc.devRef .tc main_v19_9)) := by
  have h := read_binary (V := V) turn_writes 44 rfl (by decide +kernel) (read_in turn_writes 44 (by decide +kernel)) (read_arg turn_writes 44 (by decide +kernel))
  exact h
/-- `main_while0b_v67` after the first loop's turn. -/
def tn_v67 (V : Valuation τ sig (Elt F)) : Arr F S8x64 .f32 := after turn V (Proc.devRef .tc main_while0b_v67)
theorem tn_v67_eq (V : Valuation τ sig (Elt F)) : tn_v67 V = (broadcastInDim S8x64 ![0, 1] bcast_S8x1_S8x64_0_1 : Arr F S8x1 .f32 → Arr F S8x64 .f32) (tn_v62 V) := by
  have h := read_unary (V := V) turn_writes 45 rfl (by decide +kernel) (read_in turn_writes 45 (by decide +kernel))
  exact h
/-- `main_while0b_v68` after the first loop's turn. -/
def tn_v68 (V : Valuation τ sig (Elt F)) : Arr F S8x64 .f32 := after turn V (Proc.devRef .tc main_while0b_v68)
theorem tn_v68_eq (V : Valuation τ sig (Elt F)) : tn_v68 V = (subf : Arr F S8x64 .f32 → Arr F S8x64 .f32 → Arr F S8x64 .f32) (tn_v67 V) (tn_v45 V) := by
  have h := read_binary (V := V) turn_writes 46 rfl (by decide +kernel) (read_in turn_writes 46 (by decide +kernel)) (read_in turn_writes 46 (by decide +kernel))
  exact h
/-- `main_while0b_v69` after the first loop's turn. -/
def tn_v69 (V : Valuation τ sig (Elt F)) : Arr F S8x64 .f32 := after turn V (Proc.devRef .tc main_while0b_v69)
theorem tn_v69_eq (V : Valuation τ sig (Elt F)) : tn_v69 V = (Host.exp : Arr F S8x64 .f32 → Arr F S8x64 .f32) (tn_v68 V) := by
  have h := read_unary (V := V) turn_writes 47 rfl (by decide +kernel) (read_in turn_writes 47 (by decide +kernel))
  exact h
/-- `main_while0b_v70` after the first loop's turn. -/
def tn_v70 (V : Valuation τ sig (Elt F)) : Arr F S8x64x1 .f32 := after turn V (Proc.devRef .tc main_while0b_v70)
theorem tn_v70_eq (V : Valuation τ sig (Elt F)) : tn_v70 V = (broadcastInDim S8x64x1 ![0, 1] bcast_S8x64_S8x64x1_0_1 : Arr F S8x64 .f32 → Arr F S8x64x1 .f32) (tn_v69 V) := by
  have h := read_unary (V := V) turn_writes 48 rfl (by decide +kernel) (read_in turn_writes 48 (by decide +kernel))
  exact h
/-- `main_while0b_v71` after the first loop's turn. -/
def tn_v71 (V : Valuation τ sig (Elt F)) : Arr F S8x64x512 .f32 := after turn V (Proc.devRef .tc main_while0b_v71)
theorem tn_v71_eq (V : Valuation τ sig (Elt F)) : tn_v71 V = (broadcastInDim S8x64x512 ![0, 1, 2] bcast_S8x64x1_S8x64x512_0_1_2 : Arr F S8x64x1 .f32 → Arr F S8x64x512 .f32) (tn_v70 V) := by
  have h := read_unary (V := V) turn_writes 49 rfl (by decide +kernel) (read_in turn_writes 49 (by decide +kernel))
  exact h
/-- `main_while0b_v72` after the first loop's turn. -/
def tn_v72 (V : Valuation τ sig (Elt F)) : Arr F S8x64x512 .f32 := after turn V (Proc.devRef .tc main_while0b_v72)
theorem tn_v72_eq (V : Valuation τ sig (Elt F)) : tn_v72 V = (mulf : Arr F S8x64x512 .f32 → Arr F S8x64x512 .f32 → Arr F S8x64x512 .f32) (tn_v71 V) (tn_v41 V) := by
  have h := read_binary (V := V) turn_writes 50 rfl (by decide +kernel) (read_in turn_writes 50 (by decide +kernel)) (read_in turn_writes 50 (by decide +kernel))
  exact h
/-- `main_while0b_v73` after the first loop's turn. -/
def tn_v73 (V : Valuation τ sig (Elt F)) : Arr F S8x256x512 .f32 := after turn V (Proc.devRef .tc main_while0b_v73)
theorem tn_v73_eq (V : Valuation τ sig (Elt F)) : tn_v73 V = ((fun l r => Host.dotGeneral dot_S8x64x256_S8x64x512_S8x256x512_1_1_2_2_0_0 none l r) : Arr F S8x64x256 .f32 → Arr F S8x64x512 .f32 → Arr F S8x256x512 .f32) (tn_v40 V) (tn_v72 V) := by
  have h := read_binary (V := V) turn_writes 51 rfl (by decide +kernel) (read_in turn_writes 51 (by decide +kernel)) (read_in turn_writes 51 (by decide +kernel))
  exact h
/-- `main_while0b_v74` after the first loop's turn. -/
def tn_v74 (V : Valuation τ sig (Elt F)) : Arr F S8x256x512 .f32 := after turn V (Proc.devRef .tc main_while0b_v74)
theorem tn_v74_eq (V : Valuation τ sig (Elt F)) : tn_v74 V = (addf : Arr F S8x256x512 .f32 → Arr F S8x256x512 .f32 → Arr F S8x256x512 .f32) (tn_v66 V) (tn_v73 V) := by
  have h := read_binary (V := V) turn_writes 52 rfl (by decide +kernel) (read_in turn_writes 52 (by decide +kernel)) (read_in turn_writes 52 (by decide +kernel))
  exact h
/-- `main_while0b_call9_v0` after the first loop's turn. -/
def tn_call9_v0 (V : Valuation τ sig (Elt F)) : Arr F S1x8x256x512 .f32 := after turn V (Proc.devRef .tc main_while0b_call9_v0)
theorem tn_call9_v0_eq (V : Valuation τ sig (Elt F)) : tn_call9_v0 V = (broadcastInDim S1x8x256x512 ![1, 2, 3] bcast_S8x256x512_S1x8x256x512_1_2_3) (V (Proc.devRef .tc main_v19_9)) := by
  have h := read_unary (V := V) turn_writes 58 rfl (by decide +kernel) (read_arg turn_writes 58 (by decide +kernel))
  exact h
/-- `main_while0b_call9_c` after the first loop's turn. -/
def tn_call9_c (V : Valuation τ sig (Elt F)) : Arr F S_ .i32 := after turn V (Proc.devRef .tc main_while0b_call9_c)
theorem tn_call9_c_eq (V : Valuation τ sig (Elt F)) : tn_call9_c V = (constantI S_ 32 0#32) := by
  have h := read_nullary turn_writes 59 rfl (by decide +kernel) V
  exact h
/-- `main_while0b_call9_c_0` after the first loop's turn. -/
def tn_call9_c_0 (V : Valuation τ sig (Elt F)) : Arr F S_ .i32 := after turn V (Proc.devRef .tc main_while0b_call9_c_0)
theorem tn_call9_c_0_eq (V : Valuation τ sig (Elt F)) : tn_call9_c_0 V = (constantI S_ 32 0#32) := by
  have h := read_nullary turn_writes 60 rfl (by decide +kernel) V
  exact h
/-- `main_while0b_call9_c_1` after the first loop's turn. -/
def tn_call9_c_1 (V : Valuation τ sig (Elt F)) : Arr F S_ .i32 := after turn V (Proc.devRef .tc main_while0b_call9_c_1)
theorem tn_call9_c_1_eq (V : Valuation τ sig (Elt F)) : tn_call9_c_1 V = (constantI S_ 32 0#32) := by
  have h := read_nullary turn_writes 61 rfl (by decide +kernel) V
  exact h
/-- `main_while0b_v76` after the first loop's turn. -/
def tn_v76 (V : Valuation τ sig (Elt F)) : Arr F S36x8x256x512 .f32 := after turn V (Proc.devRef .tc main_while0b_v76)
theorem tn_v76_eq (V : Valuation τ sig (Elt F)) : tn_v76 V = ((fun x u i => Host.dynamicUpdateSlice x u (fun k => (i k (Shape.Idx.first h_S_)).toInt) updateFits_S36x8x256x512_S1x8x256x512) : Arr F S36x8x256x512 .f32 → Arr F S1x8x256x512 .f32 → (Fin 4 → Arr F S_ .i32) → Arr F S36x8x256x512 .f32) (V (Proc.devRef .tc main_v19_11)) (tn_call9_v0 V) (![(V (Proc.devRef .tc main_v19_8)), (tn_call9_c V), (tn_call9_c_0 V), (tn_call9_c_1 V)] : Fin 4 → Arr F S_ .i32) := by
  have h := read_binaryIndexed (V := V) turn_writes 62 rfl (by decide +kernel) (read_arg turn_writes 62 (by decide +kernel)) (read_in turn_writes 62 (by decide +kernel)) (w := (![(V (Proc.devRef .tc main_v19_8)), (tn_call9_c V), (tn_call9_c_0 V), (tn_call9_c_1 V)] : Fin 4 → Arr F S_ .i32))
    (funext fun k => by
      fin_cases k
      · exact (read_arg turn_writes 62 (by decide +kernel))
      · exact (read_in turn_writes 62 (by decide +kernel))
      · exact (read_in turn_writes 62 (by decide +kernel))
      · exact (read_in turn_writes 62 (by decide +kernel)))
  exact h
/-- `main_while0b_c_23` after the first loop's turn. -/
def tn_c_23 (V : Valuation τ sig (Elt F)) : Arr F S_ .i32 := after turn V (Proc.devRef .tc main_while0b_c_23)
theorem tn_c_23_eq (V : Valuation τ sig (Elt F)) : tn_c_23 V = (constantI S_ 32 1#32) := by
  have h := read_nullary turn_writes 63 rfl (by decide +kernel) V
  exact h
/-- `main_while0b_v77` after the first loop's turn. -/
def tn_v77 (V : Valuation τ sig (Elt F)) : Arr F S_ .i32 := after turn V (Proc.devRef .tc main_while0b_v77)
theorem tn_v77_eq (V : Valuation τ sig (Elt F)) : tn_v77 V = (addi : Arr F S_ .i32 → Arr F S_ .i32 → Arr F S_ .i32) (V (Proc.devRef .tc main_v19_8)) (tn_c_23 V) := by
  have h := read_binary (V := V) turn_writes 64 rfl (by decide +kernel) (read_arg turn_writes 64 (by decide +kernel)) (read_in turn_writes 64 (by decide +kernel))
  exact h
/-- `main_v19_8` after the first loop's turn. -/
def tn_o8 (V : Valuation τ sig (Elt F)) : Arr F S_ .i32 := after turn V (Proc.devRef .tc main_v19_8)
theorem tn_o8_eq (V : Valuation τ sig (Elt F)) : tn_o8 V = (tn_v77 V) := by
  have h := read_unary (V := V) turn_writes 65 rfl (by decide +kernel) (read_in turn_writes 65 (by decide +kernel))
  exact h
/-- `main_v19_9` after the first loop's turn. -/
def tn_o9 (V : Valuation τ sig (Elt F)) : Arr F S8x256x512 .f32 := after turn V (Proc.devRef .tc main_v19_9)
theorem tn_o9_eq (V : Valuation τ sig (Elt F)) : tn_o9 V = (tn_v74 V) := by
  have h := read_unary (V := V) turn_writes 66 rfl (by decide +kernel) (read_in turn_writes 66 (by decide +kernel))
  exact h
/-- `main_v19_11` after the first loop's turn. -/
def tn_o11 (V : Valuation τ sig (Elt F)) : Arr F S36x8x256x512 .f32 := after turn V (Proc.devRef .tc main_v19_11)
theorem tn_o11_eq (V : Valuation τ sig (Elt F)) : tn_o11 V = (tn_v76 V) := by
  have h := read_unary (V := V) turn_writes 68 rfl (by decide +kernel) (read_in turn_writes 68 (by decide +kernel))
  exact h

/-- The operations between the loops, as one line. -/
def mid : Line := midL.flatten
/-- What `mid` writes, in order. -/
def mid_W : List (Ref sig .tc) := [main_v20, main_v21, main_cst_4, main_v22, main_v23, main_v24, main_cst_5, main_v25, main_cst_6, main_v26, main_cst_7, main_v27, main_cst_8, main_v28, main_cst_9, main_v29, main_c_10, main_v30_0, main_v30_1, main_v30_2, main_v30_3, main_v30_4, main_v30_5, main_v30_6, main_v30_7, main_v30_8, main_v30_9, main_v30_10, main_v30_11, main_v30_12]
theorem mid_writes : (mid (F := F)).map HloOp.writes = mid_W.map fun w => {Proc.devRef (τ := τ) .tc w} := rfl
/-- `main_v23` after the operations between the loops. -/
def md_v23 (V : Valuation τ sig (Elt F)) : Arr F S36x64x8x512 .f32 := after mid V (Proc.devRef .tc main_v23)
theorem md_v23_eq (V : Valuation τ sig (Elt F)) : md_v23 V = shapeCast S36x64x8x512 (V (Proc.devRef .tc main_arg4)) shapeCasts_S2304x4096_S36x64x8x512 := by
  have h := read_reshape (V := V) mid_writes 4 rfl (by decide +kernel) (read_arg mid_writes 4 (by decide +kernel))
  exact h
/-- `main_v24` after the operations between the loops. -/
def md_v24 (V : Valuation τ sig (Elt F)) : Arr F S36x8x64x512 .f32 := after mid V (Proc.devRef .tc main_v24)
theorem md_v24_eq (V : Valuation τ sig (Elt F)) : md_v24 V = ((transpose S36x8x64x512 [0, 2, 1, 3] · transposes_S36x64x8x512_S36x8x64x512_0_2_1_3) : Arr F S36x64x8x512 .f32 → Arr F S36x8x64x512 .f32) (md_v23 V) := by
  have h := read_unary (V := V) mid_writes 5 rfl (by decide +kernel) (read_in mid_writes 5 (by decide +kernel))
  exact h
/-- `main_cst_5` after the operations between the loops. -/
def md_cst_5 (V : Valuation τ sig (Elt F)) : Arr F S_ .f32 := after mid V (Proc.devRef .tc main_cst_5)
theorem md_cst_5_eq (V : Valuation τ sig (Elt F)) : md_cst_5 V = (constant S_ .f32 0x00000000#32) := by
  have h := read_nullary mid_writes 6 rfl (by decide +kernel) V
  exact h
/-- `main_v25` after the operations between the loops. -/
def md_v25 (V : Valuation τ sig (Elt F)) : Arr F S8x256x512 .f32 := after mid V (Proc.devRef .tc main_v25)
theorem md_v25_eq (V : Valuation τ sig (Elt F)) : md_v25 V = (broadcastInDim S8x256x512 ![] bcast_S_S8x256x512 : Arr F S_ .f32 → Arr F S8x256x512 .f32) (md_cst_5 V) := by
  have h := read_unary (V := V) mid_writes 7 rfl (by decide +kernel) (read_in mid_writes 7 (by decide +kernel))
  exact h
/-- `main_c_10` after the operations between the loops. -/
def md_c_10 (V : Valuation τ sig (Elt F)) : Arr F S_ .i32 := after mid V (Proc.devRef .tc main_c_10)
theorem md_c_10_eq (V : Valuation τ sig (Elt F)) : md_c_10 V = (constantI S_ 32 0#32) := by
  have h := read_nullary mid_writes 16 rfl (by decide +kernel) V
  exact h
/-- `main_v30_0` after the operations between the loops. -/
def md_v30_0 (V : Valuation τ sig (Elt F)) : Arr F S36x8x64x512 .f32 := after mid V (Proc.devRef .tc main_v30_0)
theorem md_v30_0_eq (V : Valuation τ sig (Elt F)) : md_v30_0 V = (md_v24 V) := by
  have h := read_unary (V := V) mid_writes 17 rfl (by decide +kernel) (read_in mid_writes 17 (by decide +kernel))
  exact h
/-- `main_v30_1` after the operations between the loops. -/
def md_v30_1 (V : Valuation τ sig (Elt F)) : Arr F S36x8x256x512 .f32 := after mid V (Proc.devRef .tc main_v30_1)
theorem md_v30_1_eq (V : Valuation τ sig (Elt F)) : md_v30_1 V = (V (Proc.devRef .tc main_v19_11)) := by
  have h := read_unary (V := V) mid_writes 18 rfl (by decide +kernel) (read_arg mid_writes 18 (by decide +kernel))
  exact h
/-- `main_v30_2` after the operations between the loops. -/
def md_v30_2 (V : Valuation τ sig (Elt F)) : Arr F S36x8x64x256 .f32 := after mid V (Proc.devRef .tc main_v30_2)
theorem md_v30_2_eq (V : Valuation τ sig (Elt F)) : md_v30_2 V = (V (Proc.devRef .tc main_v8)) := by
  have h := read_unary (V := V) mid_writes 19 rfl (by decide +kernel) (read_arg mid_writes 19 (by decide +kernel))
  exact h
/-- `main_v30_3` after the operations between the loops. -/
def md_v30_3 (V : Valuation τ sig (Elt F)) : Arr F S36x8x64x256 .f32 := after mid V (Proc.devRef .tc main_v30_3)
theorem md_v30_3_eq (V : Valuation τ sig (Elt F)) : md_v30_3 V = (V (Proc.devRef .tc main_v10)) := by
  have h := read_unary (V := V) mid_writes 20 rfl (by decide +kernel) (read_arg mid_writes 20 (by decide +kernel))
  exact h
/-- `main_v30_4` after the operations between the loops. -/
def md_v30_4 (V : Valuation τ sig (Elt F)) : Arr F S36x8x64x512 .f32 := after mid V (Proc.devRef .tc main_v30_4)
theorem md_v30_4_eq (V : Valuation τ sig (Elt F)) : md_v30_4 V = (V (Proc.devRef .tc main_v12)) := by
  have h := read_unary (V := V) mid_writes 21 rfl (by decide +kernel) (read_arg mid_writes 21 (by decide +kernel))
  exact h
/-- `main_v30_5` after the operations between the loops. -/
def md_v30_5 (V : Valuation τ sig (Elt F)) : Arr F S36x8x64 .f32 := after mid V (Proc.devRef .tc main_v30_5)
theorem md_v30_5_eq (V : Valuation τ sig (Elt F)) : md_v30_5 V = (V (Proc.devRef .tc main_v14)) := by
  have h := read_unary (V := V) mid_writes 22 rfl (by decide +kernel) (read_arg mid_writes 22 (by decide +kernel))
  exact h
/-- `main_v30_6` after the operations between the loops. -/
def md_v30_6 (V : Valuation τ sig (Elt F)) : Arr F S64x64 .i1 := after mid V (Proc.devRef .tc main_v30_6)
theorem md_v30_6_eq (V : Valuation τ sig (Elt F)) : md_v30_6 V = (V (Proc.devRef .tc main_v5)) := by
  have h := read_unary (V := V) mid_writes 23 rfl (by decide +kernel) (read_arg mid_writes 23 (by decide +kernel))
  exact h
/-- `main_v30_7` after the operations between the loops. -/
def md_v30_7 (V : Valuation τ sig (Elt F)) : Arr F S_ .i32 := after mid V (Proc.devRef .tc main_v30_7)
theorem md_v30_7_eq (V : Valuation τ sig (Elt F)) : md_v30_7 V = (md_c_10 V) := by
  have h := read_unary (V := V) mid_writes 24 rfl (by decide +kernel) (read_in mid_writes 24 (by decide +kernel))
  exact h
/-- `main_v30_8` after the operations between the loops. -/
def md_v30_8 (V : Valuation τ sig (Elt F)) : Arr F S8x256x512 .f32 := after mid V (Proc.devRef .tc main_v30_8)
theorem md_v30_8_eq (V : Valuation τ sig (Elt F)) : md_v30_8 V = (md_v25 V) := by
  have h := read_unary (V := V) mid_writes 25 rfl (by decide +kernel) (read_in mid_writes 25 (by decide +kernel))
  exact h

/-- The operations after the second loop, as one line. -/
def post : Line := postL.flatten
/-- What `post` writes, in order. -/
def post_W : List (Ref sig .tc) := [main_v31, main_v32, main_v33, main_v34, main_v35, main_v36, main_v37, main_v38]
theorem post_writes : (post (F := F)).map HloOp.writes = post_W.map fun w => {Proc.devRef (τ := τ) .tc w} := rfl
/-- `main_v31` after the operations after the second loop. -/
def ps_v31 (V : Valuation τ sig (Elt F)) : Arr F S8x36x64 .f32 := after post V (Proc.devRef .tc main_v31)
theorem ps_v31_eq (V : Valuation τ sig (Elt F)) : ps_v31 V = ((transpose S8x36x64 [1, 0, 2] · transposes_S36x8x64_S8x36x64_1_0_2) : Arr F S36x8x64 .f32 → Arr F S8x36x64 .f32) (V (Proc.devRef .tc main_v30_12)) := by
  have h := read_unary (V := V) post_writes 0 rfl (by decide +kernel) (read_arg post_writes 0 (by decide +kernel))
  exact h
/-- `main_v32` after the operations after the second loop. -/
def ps_v32 (V : Valuation τ sig (Elt F)) : Arr F S8x2304x1 .f32 := after post V (Proc.devRef .tc main_v32)
theorem ps_v32_eq (V : Valuation τ sig (Elt F)) : ps_v32 V = shapeCast S8x2304x1 (ps_v31 V) shapeCasts_S8x36x64_S8x2304x1 := by
  have h := read_reshape (V := V) post_writes 1 rfl (by decide +kernel) (read_in post_writes 1 (by decide +kernel))
  exact h
/-- `main_v33` after the operations after the second loop. -/
def ps_v33 (V : Valuation τ sig (Elt F)) : Arr F S36x64x8x512 .f32 := after post V (Proc.devRef .tc main_v33)
theorem ps_v33_eq (V : Valuation τ sig (Elt F)) : ps_v33 V = ((transpose S36x64x8x512 [0, 2, 1, 3] · transposes_S36x8x64x512_S36x64x8x512_0_2_1_3) : Arr F S36x8x64x512 .f32 → Arr F S36x64x8x512 .f32) (V (Proc.devRef .tc main_v30_11)) := by
  have h := read_unary (V := V) post_writes 2 rfl (by decide +kernel) (read_arg post_writes 2 (by decide +kernel))
  exact h
/-- `main_v34` after the operations after the second loop. -/
def ps_v34 (V : Valuation τ sig (Elt F)) : Arr F S2304x4096 .f32 := after post V (Proc.devRef .tc main_v34)
theorem ps_v34_eq (V : Valuation τ sig (Elt F)) : ps_v34 V = shapeCast S2304x4096 (ps_v33 V) shapeCasts_S36x64x8x512_S2304x4096 := by
  have h := read_reshape (V := V) post_writes 3 rfl (by decide +kernel) (read_in post_writes 3 (by decide +kernel))
  exact h
/-- `main_v35` after the operations after the second loop. -/
def ps_v35 (V : Valuation τ sig (Elt F)) : Arr F S36x64x8x256 .f32 := after post V (Proc.devRef .tc main_v35)
theorem ps_v35_eq (V : Valuation τ sig (Elt F)) : ps_v35 V = ((transpose S36x64x8x256 [0, 2, 1, 3] · transposes_S36x8x64x256_S36x64x8x256_0_2_1_3) : Arr F S36x8x64x256 .f32 → Arr F S36x64x8x256 .f32) (V (Proc.devRef .tc main_v30_10)) := by
  have h := read_unary (V := V) post_writes 4 rfl (by decide +kernel) (read_arg post_writes 4 (by decide +kernel))
  exact h
/-- `main_v36` after the operations after the second loop. -/
def ps_v36 (V : Valuation τ sig (Elt F)) : Arr F S2304x2048 .f32 := after post V (Proc.devRef .tc main_v36)
theorem ps_v36_eq (V : Valuation τ sig (Elt F)) : ps_v36 V = shapeCast S2304x2048 (ps_v35 V) shapeCasts_S36x64x8x256_S2304x2048 := by
  have h := read_reshape (V := V) post_writes 5 rfl (by decide +kernel) (read_in post_writes 5 (by decide +kernel))
  exact h
/-- `main_v37` after the operations after the second loop. -/
def ps_v37 (V : Valuation τ sig (Elt F)) : Arr F S36x64x8x256 .f32 := after post V (Proc.devRef .tc main_v37)
theorem ps_v37_eq (V : Valuation τ sig (Elt F)) : ps_v37 V = ((transpose S36x64x8x256 [0, 2, 1, 3] · transposes_S36x8x64x256_S36x64x8x256_0_2_1_3) : Arr F S36x8x64x256 .f32 → Arr F S36x64x8x256 .f32) (V (Proc.devRef .tc main_v30_9)) := by
  have h := read_unary (V := V) post_writes 6 rfl (by decide +kernel) (read_arg post_writes 6 (by decide +kernel))
  exact h
/-- `main_v38` after the operations after the second loop. -/
def ps_v38 (V : Valuation τ sig (Elt F)) : Arr F S2304x2048 .f32 := after post V (Proc.devRef .tc main_v38)
theorem ps_v38_eq (V : Valuation τ sig (Elt F)) : ps_v38 V = shapeCast S2304x2048 (ps_v37 V) shapeCasts_S36x64x8x256_S2304x2048 := by
  have h := read_reshape (V := V) post_writes 7 rfl (by decide +kernel) (read_in post_writes 7 (by decide +kernel))
  exact h

end Cert.ReferenceIdeal.Ret
-- ==== Proof.Ref.TurnValue.lean ====
module

public import proofs.«01_k».proof.Proof.Ref.Turn
public import proofs.«01_k».proof.Proof.Scan.Arrays

/-!
# One turn of the reference's forward loop over the extended reals

Each value of the turn, read at a head and an index, is the recursion's value of the same name, for the piece that the
turn reads out of its stacks.
-/

@[expose] public section

noncomputable section

namespace Cert.ReferenceIdeal.Ret

open Idealize.ShloMosaic Idealize.ShloMosaic.TcCoe
open Cert.ReferenceIdeal.Gen

variable (V : Valuation τ sig (Elt Ideal)) (h : Fin 8)

/-- Head `h`'s share of the chunk that the turn reads; it reads neither the queries nor the gradient of the output for the
state it hands on. -/
def fPiece : Cert.Scan.Piece where
  q t n := 0
  k t n := tn_v40 V (ix3 h t n)
  v t p := tn_v41 V (ix3 h t p)
  la t := tn_v42 V (ix2 h t)
  g t p := 0

/-- The state that the turn is entered with. -/
def fS : Cert.Scan.State := fun n p => V (Proc.devRef .tc main_v19_9) (ix3 h n p)

/-- The mask that the turn reads keeps the positions up to a row's own, and the other operand of its select is zero. -/
structure fMask : Prop where
  mask : ∀ (h : Fin 8) (t s : Fin 64), V (Proc.devRef .tc main_v19_4) (ix3 h t s) = if s ≤ t then 1#1 else 0#1
  zero : ∀ (h : Fin 8) (t s : Fin 64), V (Proc.devRef .tc main_v19_5) (ix3 h t s) = (0 : EReal)

/-- A select on a mask of one bit. -/
theorem select_bit (p : Prop) [Decidable p] (x y : EReal) : Scalar.select (if p then 1#1 else 0#1) x y = if p then x else y := by
  split <;> rfl

variable {V} (hm : fMask V)
include hm

theorem tn_v45_at (t : Fin 64) : tn_v45 V (ix2 h t) = (fPiece V h).cum t := by
  pointwise [tn_v45_eq, tn_cst_22_eq, tn_v44_eq, tn_call6_v0_eq, tn_v43_eq]
  simp only [hm.mask _ _, hm.zero _ _, select_bit]
  rfl

theorem tn_v62_at (z : Fin 1) : tn_v62 V (ix2 h z) = (fPiece V h).tot := by
  pointwise [tn_v62_eq]
  exact tn_v45_at h hm 63

theorem tn_v72_at (s : Fin 64) (p : Fin 512) : tn_v72 V (ix3 h s p) = (fPiece V h).toEnd s * (fPiece V h).v s p := by
  pointwise [tn_v72_eq, tn_v71_eq, tn_v70_eq, tn_v69_eq, tn_v68_eq, tn_v67_eq]
  rw [tn_v62_at h hm, tn_v45_at h hm]
  rfl

/-- The state that the turn leaves. -/
theorem tn_v74_at (n : Fin 256) (p : Fin 512) : tn_v74 V (ix3 h n p) = (fPiece V h).step (fS V h) n p := by
  pointwise [tn_v74_eq, tn_v73_eq, tn_v66_eq, tn_v65_eq, tn_v64_eq, tn_v63_eq]
  simp only [tn_v62_at h hm, tn_v72_at h hm]
  rfl

end Cert.ReferenceIdeal.Ret
-- ==== Proof.Ref.Slices.lean ====
module

public import proofs.«01_k».proof.Proof.Ref.BackD
public import proofs.«01_k».proof.Proof.Ref.BackValue
public import proofs.«01_k».proof.Proof.Ref.TurnValue

/-!
# Where a turn of the reference's loops reads and writes its stacks

A turn reads one chunk of each stack and puts its results at one chunk of the result stacks. Both chunks are given by
the counter: the forward turn works at the counter's chunk, the backward turn at 35 less it. The programs clamp the
place they read at; at these counters the clamp changes nothing.
-/

@[expose] public section

noncomputable section

namespace Cert.ReferenceIdeal.Ret

open Idealize.ShloMosaic Idealize.ShloMosaic.TcCoe
open Cert.ReferenceIdeal.Gen

section
variable {a b d e : ℕ} {k0 k1 k2 k3 : ℕ} {j : Fin a} {x : Fin b} {y : Fin d} {z : Fin e}

/-- The place in a stack of three axes that is read. -/
theorem at4 (e0 : k0 = j) (e1 : k1 = 0) (e2 : k2 = 0) (e3 : k3 = 0) (f : (⟨4, ![a, b, d, e]⟩ : Shape).Idx → EReal)
    {p0 : k0 < a} {p1 : k1 + x.val < b} {p2 : k2 + y.val < d} {p3 : k3 + z.val < e} :
    f (ix4 ⟨k0, p0⟩ ⟨k1 + x, p1⟩ ⟨k2 + y, p2⟩ ⟨k3 + z, p3⟩) = f (ix4 j x y z) := by
  subst e0 e1 e2 e3
  simp only [Nat.zero_add]

/-- The place in a stack of two axes that is read. -/
theorem at3 (e0 : k0 = j) (e1 : k1 = 0) (e2 : k2 = 0) (f : (⟨3, ![a, b, d]⟩ : Shape).Idx → EReal)
    {p0 : k0 < a} {p1 : k1 + x.val < b} {p2 : k2 + y.val < d} :
    f (ix3 ⟨k0, p0⟩ ⟨k1 + x, p1⟩ ⟨k2 + y, p2⟩) = f (ix3 j x y) := by
  subst e0 e1 e2
  simp only [Nat.zero_add]

/-- A write of one place of a stack of three axes. -/
theorem put4 {i : Fin a} (e0 : k0 = j) (e1 : k1 = 0) (e2 : k2 = 0) (e3 : k3 = 0) (f : (⟨3, ![b, d, e]⟩ : Shape).Idx → EReal) (g : EReal)
    {p1 : ((k0 ≤ i.val ∧ i.val < k0 + 1) ∧ k1 ≤ x.val ∧ k2 ≤ y.val ∧ k3 ≤ z.val) → x.val - k1 < b}
    {p2 : ((k0 ≤ i.val ∧ i.val < k0 + 1) ∧ k1 ≤ x.val ∧ k2 ≤ y.val ∧ k3 ≤ z.val) → y.val - k2 < d}
    {p3 : ((k0 ≤ i.val ∧ i.val < k0 + 1) ∧ k1 ≤ x.val ∧ k2 ≤ y.val ∧ k3 ≤ z.val) → z.val - k3 < e} :
    (if h : (k0 ≤ i.val ∧ i.val < k0 + 1) ∧ k1 ≤ x.val ∧ k2 ≤ y.val ∧ k3 ≤ z.val then
      f (ix3 ⟨x - k1, p1 h⟩ ⟨y - k2, p2 h⟩ ⟨z - k3, p3 h⟩) else g) = if i = j then f (ix3 x y z) else g := by
  subst e0 e1 e2 e3
  by_cases hj : i = j
  · rw [dif_pos (by subst hj; omega), if_pos hj]; rfl
  · rw [dif_neg (fun h => hj (Fin.ext (by omega))), if_neg hj]

/-- A write of one place of a stack of two axes. -/
theorem put3 {i : Fin a} (e0 : k0 = j) (e1 : k1 = 0) (e2 : k2 = 0) (f : (⟨2, ![b, d]⟩ : Shape).Idx → EReal) (g : EReal)
    {p1 : ((k0 ≤ i.val ∧ i.val < k0 + 1) ∧ k1 ≤ x.val ∧ k2 ≤ y.val) → x.val - k1 < b}
    {p2 : ((k0 ≤ i.val ∧ i.val < k0 + 1) ∧ k1 ≤ x.val ∧ k2 ≤ y.val) → y.val - k2 < d} :
    (if h : (k0 ≤ i.val ∧ i.val < k0 + 1) ∧ k1 ≤ x.val ∧ k2 ≤ y.val then
      f (ix2 ⟨x - k1, p1 h⟩ ⟨y - k2, p2 h⟩) else g) = if i = j then f (ix2 x y) else g := by
  subst e0 e1 e2
  by_cases hj : i = j
  · rw [dif_pos (by subst hj; omega), if_pos hj]; rfl
  · rw [dif_neg (fun h => hj (Fin.ext (by omega))), if_neg hj]
end

variable (V : Valuation τ sig (Elt Ideal)) (h : Fin 8) {j : Fin 36}

section Forward
variable (hj : (V (Proc.devRef .tc main_v19_8) (Shape.Idx.first h_S_)).toInt = j.val)
include hj

theorem tn_v40_at (t : Fin 64) (n : Fin 256) : tn_v40 V (ix3 h t n) = V (Proc.devRef .tc main_v19_1) (ix4 j h t n) := by
  pointwise [tn_v40_eq, tn_call3_v0_eq, tn_call3_c_eq, tn_call3_c_0_eq, tn_call3_c_1_eq]
  refine at4 ?_ ?_ ?_ ?_ _
  · exact Host.clampedStart_of_le _ _ 0 _ hj (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem tn_v41_at (t : Fin 64) (n : Fin 512) : tn_v41 V (ix3 h t n) = V (Proc.devRef .tc main_v19_2) (ix4 j h t n) := by
  pointwise [tn_v41_eq, tn_call4_v0_eq, tn_call4_c_eq, tn_call4_c_0_eq, tn_call4_c_1_eq]
  refine at4 ?_ ?_ ?_ ?_ _
  · exact Host.clampedStart_of_le _ _ 0 _ hj (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem tn_v42_at (t : Fin 64) : tn_v42 V (ix2 h t) = V (Proc.devRef .tc main_v19_3) (ix3 j h t) := by
  pointwise [tn_v42_eq, tn_call5_v0_eq, tn_call5_c_eq, tn_call5_c_0_eq]
  refine at3 ?_ ?_ ?_ _
  · exact Host.clampedStart_of_le _ _ 0 _ hj (show j.val + 1 ≤ 36 from j.isLt)
  · exact Host.clampedStart_of_le _ _ 1 0 rfl (by decide)
  · exact Host.clampedStart_of_le _ _ 2 0 rfl (by decide)

/-- The forward turn puts the state it was entered with at the counter's chunk. -/
theorem tn_v76_at (i : Fin 36) (n : Fin 256) (p : Fin 512) : tn_v76 V (ix4 i h n p)
    = if i = j then V (Proc.devRef .tc main_v19_9) (ix3 h n p) else V (Proc.devRef .tc main_v19_11) (ix4 i h n p) := by
  pointwise [tn_v76_eq, tn_call9_v0_eq, tn_call9_c_eq, tn_call9_c_0_eq, tn_call9_c_1_eq]
  refine put4 ?_ ?_ ?_ ?_ _ _
  · exact Host.clampedStart_of_le _ _ 0 _ hj (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)
end Forward

section Backward
variable (hj : (36#32 - V (Proc.devRef .tc main_v30_7) (Shape.Idx.first h_S_) - 1#32).toInt = j.val)
include hj

/-- The word that the backward turn reads its stacks at. -/
theorem bk_v40_at : (bk_v40 V (Shape.Idx.first h_S_)).toInt = j.val := by
  rw [bk_v40_eq, bk_v39_eq, bk_c_23_eq, bk_c_24_eq]
  exact hj

theorem bk_v41_at (t : Fin 64) (n : Fin 512) : bk_v41 V (ix3 h t n) = V (Proc.devRef .tc main_v30_0) (ix4 j h t n) := by
  pointwise [bk_v41_eq, bk_call10_v0_eq, bk_call10_c_eq, bk_call10_c_0_eq, bk_call10_c_1_eq]
  have hw := bk_v40_at V hj
  generalize bk_v40 V = w at hw ⊢
  refine at4 ?_ ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem bk_v42_at (t : Fin 256) (n : Fin 512) : bk_v42 V (ix3 h t n) = V (Proc.devRef .tc main_v30_1) (ix4 j h t n) := by
  pointwise [bk_v42_eq, bk_call11_v0_eq, bk_call11_c_eq, bk_call11_c_0_eq, bk_call11_c_1_eq]
  have hw := bk_v40_at V hj
  generalize bk_v40 V = w at hw ⊢
  refine at4 ?_ ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem bk_v43_at (t : Fin 64) (n : Fin 256) : bk_v43 V (ix3 h t n) = V (Proc.devRef .tc main_v30_2) (ix4 j h t n) := by
  pointwise [bk_v43_eq, bk_call12_v0_eq, bk_call12_c_eq, bk_call12_c_0_eq, bk_call12_c_1_eq]
  have hw := bk_v40_at V hj
  generalize bk_v40 V = w at hw ⊢
  refine at4 ?_ ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem bk_v44_at (t : Fin 64) (n : Fin 256) : bk_v44 V (ix3 h t n) = V (Proc.devRef .tc main_v30_3) (ix4 j h t n) := by
  pointwise [bk_v44_eq, bk_call13_v0_eq, bk_call13_c_eq, bk_call13_c_0_eq, bk_call13_c_1_eq]
  have hw := bk_v40_at V hj
  generalize bk_v40 V = w at hw ⊢
  refine at4 ?_ ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem bk_v45_at (t : Fin 64) (n : Fin 512) : bk_v45 V (ix3 h t n) = V (Proc.devRef .tc main_v30_4) (ix4 j h t n) := by
  pointwise [bk_v45_eq, bk_call14_v0_eq, bk_call14_c_eq, bk_call14_c_0_eq, bk_call14_c_1_eq]
  have hw := bk_v40_at V hj
  generalize bk_v40 V = w at hw ⊢
  refine at4 ?_ ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

theorem bk_v46_at (t : Fin 64) : bk_v46 V (ix2 h t) = V (Proc.devRef .tc main_v30_5) (ix3 j h t) := by
  pointwise [bk_v46_eq, bk_call15_v0_eq, bk_call15_c_eq, bk_call15_c_0_eq]
  have hw := bk_v40_at V hj
  generalize bk_v40 V = w at hw ⊢
  refine at3 ?_ ?_ ?_ _
  · exact Host.clampedStart_of_le _ _ 0 _ hw (show j.val + 1 ≤ 36 from j.isLt)
  · exact Host.clampedStart_of_le _ _ 1 0 rfl (by decide)
  · exact Host.clampedStart_of_le _ _ 2 0 rfl (by decide)

/-- The backward turn puts the gradient of the queries at its chunk. -/
theorem bk_v132_at (i : Fin 36) (t : Fin 64) (n : Fin 256) : bk_v132 V (ix4 i h t n)
    = if i = j then bk_v119 V (ix3 h t n) else V (Proc.devRef .tc main_v30_9) (ix4 i h t n) := by
  pointwise [bk_v132_eq, bk_call20_v0_eq, bk_call20_c_eq, bk_call20_c_0_eq, bk_call20_c_1_eq]
  have hw := bk_v40_at V hj
  generalize bk_v40 V = w at hw ⊢
  refine put4 ?_ ?_ ?_ ?_ _ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

/-- The backward turn puts the gradient of the keys at its chunk. -/
theorem bk_v133_at (i : Fin 36) (t : Fin 64) (n : Fin 256) : bk_v133 V (ix4 i h t n)
    = if i = j then bk_v117 V (ix3 h t n) else V (Proc.devRef .tc main_v30_10) (ix4 i h t n) := by
  pointwise [bk_v133_eq, bk_call21_v0_eq, bk_call21_c_eq, bk_call21_c_0_eq, bk_call21_c_1_eq]
  have hw := bk_v40_at V hj
  generalize bk_v40 V = w at hw ⊢
  refine put4 ?_ ?_ ?_ ?_ _ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

/-- The backward turn puts the gradient of the values at its chunk. -/
theorem bk_v134_at (i : Fin 36) (t : Fin 64) (n : Fin 512) : bk_v134 V (ix4 i h t n)
    = if i = j then bk_v110 V (ix3 h t n) else V (Proc.devRef .tc main_v30_11) (ix4 i h t n) := by
  pointwise [bk_v134_eq, bk_call22_v0_eq, bk_call22_c_eq, bk_call22_c_0_eq, bk_call22_c_1_eq]
  have hw := bk_v40_at V hj
  generalize bk_v40 V = w at hw ⊢
  refine put4 ?_ ?_ ?_ ?_ _ _
  · exact Host.clampedStart_of_le _ _ 0 _ hw (show j.val + 1 ≤ 36 from j.isLt)
  · exact Host.clampedStart_of_le _ _ 1 0 rfl (by decide)
  · exact Host.clampedStart_of_le _ _ 2 0 rfl (by decide)
  · exact Host.clampedStart_of_le _ _ 3 0 rfl (by decide)

/-- The backward turn puts the gradient of the log decays at its chunk. -/
theorem bk_v135_at (i : Fin 36) (t : Fin 64) : bk_v135 V (ix3 i h t)
    = if i = j then bk_v131 V (ix2 h t) else V (Proc.devRef .tc main_v30_12) (ix3 i h t) := by
  pointwise [bk_v135_eq, bk_call23_v0_eq, bk_call23_c_eq, bk_call23_c_0_eq]
  have hw := bk_v40_at V hj
  generalize bk_v40 V = w at hw ⊢
  refine put3 ?_ ?_ ?_ _ _
  · exact Host.clampedStart_of_le _ _ 0 _ hw (show j.val + 1 ≤ 36 from j.isLt)
  · exact Host.clampedStart_of_le _ _ 1 0 rfl (by decide)
  · exact Host.clampedStart_of_le _ _ 2 0 rfl (by decide)
end Backward

end Cert.ReferenceIdeal.Ret
-- ==== Proof.Ref.Run.lean ====
module

public import proofs.«01_k».proof.Proof.Ref.Turn
public import proofs.«01_k».proof.Proof.Ref.BackC
public import Idealize.ShloMosaic.Lib.Tactic
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.Sem
open Cert.ReferenceIdeal.Gen
open Idealize.ShloMosaic.StableHlo
open Idealize.ShloMosaic.Pipeline (CSeg Ticket PCfg ucRefs unscopedBufs_held sub_ucRefs)

variable {F : FTy → Type} [FloatOps F]

/-- A line of host operations of the reference. -/
local notation "Line" => List (HloOp τ sig (Elt F))

variable (m : (ℓ : Loc nD τ sig) → Buf (Elt F) ℓ) (ρ : Dev nD → PrngReg)

/-- The exit tests write buffers of their own only. -/
theorem ask0_writes : (ask0 (F := F)).map HloOp.writes = [main_while0c_c_22, main_while0c_v39].map fun w => {Proc.devRef (τ := τ) .tc w} := rfl
theorem ask1_writes : (ask1 (F := F)).map HloOp.writes = [main_while1c_c_23, main_while1c_v39].map fun w => {Proc.devRef (τ := τ) .tc w} := rfl

/-- The contents the first loop starts from. -/
def W0 (c : Dev nD) : Valuation τ sig (Elt F) := after pre (launchContents m c)
/-- The contents before trip `k` of the first loop. -/
def T0 (k : ℕ) (c : Dev nD) : Valuation τ sig (Elt F) := atTrip ask0 turnL (W0 m) k c
/-- The contents the second loop starts from. -/
def W1 (c : Dev nD) : Valuation τ sig (Elt F) := after mid (after ask0 (T0 m 36 c))
/-- The contents before trip `k` of the second loop. -/
def T1 (k : ℕ) (c : Dev nD) : Valuation τ sig (Elt F) := atTrip ask1 backL (W1 m) k c
/-- The contents at the end. -/
def WE (c : Dev nD) : Valuation τ sig (Elt F) := after post (after ask1 (T1 m 36 c))

/-- One trip of the first loop. -/
theorem T0_succ (k : ℕ) (c : Dev nD) : T0 m (k + 1) c = after turn (after ask0 (T0 m k c)) :=
  afterL_eq_after_flatten turnL _
/-- One trip of the second loop. -/
theorem T1_succ (k : ℕ) (c : Dev nD) : T1 m (k + 1) c = after back (after ask1 (T1 m k c)) :=
  afterL_eq_after_flatten backL _

/-- The first loop's counter before trip `k`. -/
theorem T0_count (c : Dev nD) : ∀ k, T0 m k c (Proc.devRef .tc main_v19_8) = fun _ => Scf.iv 0#32 1#32 k
  | 0 => by
    show pr_v19_8 (launchContents m c) = _
    rw [pr_v19_8_eq, pr_c_eq, Scf.iv_zero]; rfl
  | k + 1 => by
    rw [T0_succ]
    show tn_o8 (after ask0 (T0 m k c)) = _
    rw [tn_o8_eq, tn_v77_eq, tn_c_23_eq, kept ask0_writes (by decide +kernel), T0_count c k, Scf.iv_succ]; rfl

/-- The second loop's counter before trip `k`. -/
theorem T1_count (c : Dev nD) : ∀ k, T1 m k c (Proc.devRef .tc main_v30_7) = fun _ => Scf.iv 0#32 1#32 k
  | 0 => by
    show md_v30_7 (after ask0 (T0 m 36 c)) = _
    rw [md_v30_7_eq, md_c_10_eq, Scf.iv_zero]; rfl
  | k + 1 => by
    rw [T1_succ]
    show bk_o7 (after ask1 (T1 m k c)) = _
    rw [bk_o7_eq, bk_v136_eq, bk_c_41_eq, kept ask1_writes (by decide +kernel), T1_count c k, Scf.iv_succ]; rfl

/-- What rides beside the buffers through the program. -/
abbrev Rides (c : Dev nD) : sProp (MT nD τ sig Unit (Elt F) ℕ (Option PUnit) ℕ) :=
  iprop(∃ W, owes (c : Thread nD τ) (0 : CellTallies nD τ sig Unit) W)

/-- The program has no pipelines, hence nothing admitted, no tickets and no levels. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

set_option backward.isDefEq.respectTransparency.types false in
/-- The exit test of loop 0: it answers yes exactly on the first 36 askings. -/
theorem ask0_cond : LoopCond (Ix := Unit) (Name := ℕ) (U := Option PUnit) (Lvl := ℕ) (pcfgs (F := F)) defs₀ Variants.none loops Rides
    (main_while0_cond (F := F)) ask0 turnL (W0 m) 36 := by
  intro k hk c bd
  have hctr : atTrip ask0 turnL (W0 m) k c (Proc.devRef .tc main_v19_8) = _ := T0_count m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip ask0 turnL (W0 m) k c) main_v19_8 HostLoop.idx0)
        (HloOp.result _ (atTrip ask0 turnL (W0 m) k c) main_while0c_c_22 HostLoop.idx0) = 1#1) (k < 36)
    rw [nullary_result_ne _ _ _ _ (by decide), nullary_result, hctr]
    exact Scf.cmpi_slt_iv_ub_iff (lb := 0#32) (ub := 36#32) (st := 1#32) (by decide) (show k ≤ Scf.trips 0#32 36#32 1#32 from hk)
  isplitl [Hb]; · iexact Hb
  isplitl [Hh]; · rw [after_cons, after_cons, after_nil]; iexact Hh
  iexact HR

set_option backward.isDefEq.respectTransparency.types false in
/-- The exit test of loop 1: it answers yes exactly on the first 36 askings. -/
theorem ask1_cond : LoopCond (Ix := Unit) (Name := ℕ) (U := Option PUnit) (Lvl := ℕ) (pcfgs (F := F)) defs₀ Variants.none loops Rides
    (main_while1_cond (F := F)) ask1 backL (W1 m) 36 := by
  intro k hk c bd
  have hctr : atTrip ask1 backL (W1 m) k c (Proc.devRef .tc main_v30_7) = _ := T1_count m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip ask1 backL (W1 m) k c) main_v30_7 HostLoop.idx0)
        (HloOp.result _ (atTrip ask1 backL (W1 m) k c) main_while1c_c_23 HostLoop.idx0) = 1#1) (k < 36)
    rw [nullary_result_ne _ _ _ _ (by decide), nullary_result, hctr]
    exact Scf.cmpi_slt_iv_ub_iff (lb := 0#32) (ub := 36#32) (st := 1#32) (by decide) (show k ≤ Scf.trips 0#32 36#32 1#32 from hk)
  isplitl [Hb]; · iexact Hb
  isplitl [Hh]; · rw [after_cons, after_cons, after_nil]; iexact Hh
  iexact HR

/-- Nothing collides where there is no pipeline. -/
theorem noCells : Function.Injective (Pipeline.cellOf (nD := nD) (τ := τ) (Pipeline.pin (pcfgs (F := F)) noAdm)) := fun k => k.1.elim0

/-- The first loop as one segment. -/
def seg0 : CSeg (Ix := Unit) (Name := ℕ) (U := Option PUnit) (Lvl := ℕ) (nD := nD) (τ := τ) (pcfgs (F := F)) noAdm defs₀ Variants.none noL noLv loops noTk :=
  loopSeg _ _ _ _ _ _ _ _ 0 main_while0_cond main_while0_body rfl ask0 turnL turn_plain turn_chain 36 (W0 m) Rides (ask0_cond m)
/-- The second loop as one segment. -/
def seg1 : CSeg (Ix := Unit) (Name := ℕ) (U := Option PUnit) (Lvl := ℕ) (nD := nD) (τ := τ) (pcfgs (F := F)) noAdm defs₀ Variants.none noL noLv loops noTk :=
  loopSeg _ _ _ _ _ _ _ _ 1 main_while1_cond main_while1_body rfl ask1 backL back_plain back_chain 36 (W1 m) Rides (ask1_cond m)

/-- The whole program's segments. -/
def allSegs : List (CSeg (Ix := Unit) (Name := ℕ) (U := Option PUnit) (Lvl := ℕ) (nD := nD) (τ := τ) (pcfgs (F := F)) noAdm defs₀ Variants.none noL noLv loops noTk) :=
  segsOf _ _ _ _ _ _ _ _ Rides preL pre_plain (launchContents m)
    ++ seg0 m :: (segsOf _ _ _ _ _ _ _ _ Rides midL mid_plain (fun c => after ask0 (T0 m 36 c))
    ++ seg1 m :: segsOf _ _ _ _ _ _ _ _ Rides postL post_plain (fun c => after ask1 (T1 m 36 c)))

/-- Their programs, in order, are the program's pieces. -/
theorem allSegs_prog : (allSegs m).map CSeg.prog
    = (preL (F := F)).map (fun ops => (seq ops : Prog (TpuEff nD τ sig (Elt F) (HostLoop.Sig (Pipeline.Sig Λ₀ (Fin 0) fun p => (pcfgs (F := F) p).Adm) 2) .tc) PUnit))
      ++ HostLoop.enter 0 :: ((midL (F := F)).map (fun ops => seq ops) ++ HostLoop.enter 1 :: (postL (F := F)).map (fun ops => seq ops)) := by
  unfold allSegs
  rw [List.map_append, List.map_cons, List.map_append, List.map_cons, segsOf_prog, segsOf_prog, segsOf_prog]
  rfl

/-- Each segment starts where the one before it ended. -/
theorem allSegs_chains : CSeg.Chains (fun c => iprop(held (c : Thread nD τ) (ucRefs τ sig) (launchContents m c) ∗ Rides c)) (allSegs m)
    (fun c => iprop(held (c : Thread nD τ) (ucRefs τ sig) (WE m c) ∗ Rides c)) := by
  have e0 : ∀ c, afterL preL (launchContents m c) = W0 m c := fun c => afterL_eq_after_flatten preL _
  have e1 : ∀ c, afterL midL (after ask0 (T0 m 36 c)) = W1 m c := fun c => afterL_eq_after_flatten midL _
  have e2 : ∀ c, afterL postL (after ask1 (T1 m 36 c)) = WE m c := fun c => afterL_eq_after_flatten postL _
  have h0 := segsOf_chains (Ix := Unit) (Name := ℕ) (U := Option PUnit) (Lvl := ℕ) (nD := nD) (τ := τ) (pcfgs (F := F)) noAdm defs₀ Variants.none noL noLv loops noTk Rides preL pre_plain (launchContents m)
  have h1 := segsOf_chains (Ix := Unit) (Name := ℕ) (U := Option PUnit) (Lvl := ℕ) (nD := nD) (τ := τ) (pcfgs (F := F)) noAdm defs₀ Variants.none noL noLv loops noTk Rides midL mid_plain (fun c => after ask0 (T0 m 36 c))
  have h2 := segsOf_chains (Ix := Unit) (Name := ℕ) (U := Option PUnit) (Lvl := ℕ) (nD := nD) (τ := τ) (pcfgs (F := F)) noAdm defs₀ Variants.none noL noLv loops noTk Rides postL post_plain (fun c => after ask1 (T1 m 36 c))
  simp only [e0] at h0
  simp only [e1] at h1
  simp only [e2] at h2
  unfold allSegs
  exact CSeg.Chains.append h0 ⟨fun _ => .rfl, CSeg.Chains.append h1 ⟨fun _ => .rfl, h2⟩⟩

/-- Every weakly fair run of the reference ends, with every buffer at the fold of its operations. -/
theorem run_fold [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = WE m c (Proc.devRef .tc b)) :=
  Pipeline.θ_run_regions_loop_kit (Ix := Unit) (Name := ℕ) (U := Option PUnit) (Lvl := ℕ) (J := Fin 0) (P := Fin 0) (Val := Elt F)
    (pcfgs (F := F)) noAdm noCells defs₀ Variants.none noL noLv loops noTk m ρ main
    (allSegs m)
    (fun c Q => by
      rw [main_chain c]
      show wp _ _ _ _ Q ⊢ wp _ _ _ (Pipeline.chain ((allSegs m).map CSeg.prog)) Q
      rw [allSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rides c))
    (Tₙ := fun c => iprop(held (c : Thread nD τ) (ucRefs τ sig) (WE m c)))
    (hch := allSegs_chains m)
    (hinit := by
      refine Pipeline.initEach noL noLv fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WE m c b)
    (hfin := fun c s' => by
      unfold held
      iintro ⟨Hh, HSI⟩
      ihave Hr := (pointsTo_read_all (ucRefs τ sig) (fun b => ((c : Dev nD), b)) (fun b => WE m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Ret
-- ==== Proof.Ref.Loops.lean ====
module

public import proofs.«01_k».proof.Proof.Ref.Slices
public import proofs.«01_k».proof.Proof.Ref.Run

/-!
# The reference's two loops compute the recursion

The forward loop carries the recursion's states and saves each one in front of its chunk. The backward loop carries the
gradients of the states and saves each chunk's four gradients. The stacks they read do not change while they run.
-/

@[expose] public section

set_option maxRecDepth 16384

noncomputable section

namespace Cert.ReferenceIdeal.Ret

open Idealize.ShloMosaic Idealize.ShloMosaic.TcCoe
open Cert.ReferenceIdeal.Gen
open Idealize.ShloMosaic.StableHlo
open Cert.Scan

section
variable {F : FTy → Type} [FloatOps F]
variable (m : (ℓ : Loc nD τ sig) → Buf (Elt F) ℓ) (c : Dev nD)

/-- A buffer that the first loop does not write is as the loop found it, before every trip. -/
theorem T0_kept {r : Ref sig .tc} (h0 : key r ∉ [main_while0c_c_22, main_while0c_v39].map key) (h1 : key r ∉ turn_W.map key) :
    ∀ k, T0 m k c (Proc.devRef .tc r) = W0 m c (Proc.devRef .tc r)
  | 0 => rfl
  | k + 1 => by rw [T0_succ, kept turn_writes h1, kept ask0_writes h0, T0_kept h0 h1 k]

/-- A buffer that the second loop does not write is as the loop found it, before every trip. -/
theorem T1_kept {r : Ref sig .tc} (h0 : key r ∉ [main_while1c_c_23, main_while1c_v39].map key) (h1 : key r ∉ back_W.map key) :
    ∀ k, T1 m k c (Proc.devRef .tc r) = W1 m c (Proc.devRef .tc r)
  | 0 => rfl
  | k + 1 => by rw [T1_succ, kept back_writes h1, kept ask1_writes h0, T1_kept h0 h1 k]

/-- A buffer that neither the first loop nor the lines between the loops write is as the first line left it. -/
theorem W1_kept {r : Ref sig .tc} (h : key r ∉ mid_W.map key) (h0 : key r ∉ [main_while0c_c_22, main_while0c_v39].map key)
    (h1 : key r ∉ turn_W.map key) : W1 m c (Proc.devRef .tc r) = W0 m c (Proc.devRef .tc r) := by
  unfold W1
  rw [kept mid_writes h, kept ask0_writes h0, T0_kept m c h0 h1]

/-- A buffer that nothing writes holds at the end what it held at the launch. -/
theorem WE_kept {r : Ref sig .tc} (hp : key r ∉ pre_W.map key) (h0 : key r ∉ [main_while0c_c_22, main_while0c_v39].map key)
    (h1 : key r ∉ turn_W.map key) (hm : key r ∉ mid_W.map key) (h2 : key r ∉ [main_while1c_c_23, main_while1c_v39].map key)
    (h3 : key r ∉ back_W.map key) (hq : key r ∉ post_W.map key) : WE m c (Proc.devRef .tc r) = launchContents m c (Proc.devRef .tc r) := by
  unfold WE
  rw [kept post_writes hq, kept ask1_writes h2, T1_kept m c h2 h3, W1_kept m c hm h0 h1]
  unfold W0
  rw [kept pre_writes hp]
end

/-- The counter of a forward trip as an integer. -/
theorem word_up : ∀ k : Fin 36, (Scf.iv 0#32 1#32 k.val).toInt = k.val := by decide +kernel
/-- The chunk of a backward trip as an integer. -/
theorem word_down : ∀ k : Fin 36, (36#32 - Scf.iv 0#32 1#32 k.val - 1#32).toInt = (35 - k.val : ℕ) := by decide +kernel
/-- The mask of the programs keeps the positions up to a row's own. -/
theorem mask_bit : ∀ t s : Fin 64, IntOp.cmpi .sge (BitVec.ofNat 32 t.val) (BitVec.ofNat 32 s.val) = if s ≤ t then 1#1 else 0#1 := by
  decide +kernel

section
variable (V : Valuation τ sig (Elt Ideal))

/-- The queries. -/
def aQ : Narrow := V (Proc.devRef .tc main_arg0)
/-- The keys. -/
def aK : Narrow := V (Proc.devRef .tc main_arg1)
/-- The values. -/
def aV : Wide := V (Proc.devRef .tc main_arg2)
/-- The log decays. -/
def aL : Decays := V (Proc.devRef .tc main_arg3)
/-- The gradient of the output. -/
def aG : Wide := V (Proc.devRef .tc main_arg4)

/-- The chunked queries. -/
theorem pr_v8_at (i : Fin 36) (h : Fin 8) (t : Fin 64) (n : Fin 256) : pr_v8 V (ix4 i h t n) = aQ V (ix2 (row i t) (chan h n)) := by
  pointwise [pr_v8_eq, pr_v7_eq]
  unfold aQ row chan
  congr 2 <;> exact Fin.ext (by simp only; omega)

/-- The chunked keys. -/
theorem pr_v10_at (i : Fin 36) (h : Fin 8) (t : Fin 64) (n : Fin 256) : pr_v10 V (ix4 i h t n) = aK V (ix2 (row i t) (chan h n)) := by
  pointwise [pr_v10_eq, pr_v9_eq]
  unfold aK row chan
  congr 2 <;> exact Fin.ext (by simp only; omega)

/-- The chunked values. -/
theorem pr_v12_at (i : Fin 36) (h : Fin 8) (t : Fin 64) (n : Fin 512) : pr_v12 V (ix4 i h t n) = aV V (ix2 (row i t) (wide h n)) := by
  pointwise [pr_v12_eq, pr_v11_eq]
  unfold aV row wide
  congr 2 <;> exact Fin.ext (by simp only; omega)

/-- The chunked log decays. -/
theorem pr_v14_at (i : Fin 36) (h : Fin 8) (t : Fin 64) : pr_v14 V (ix3 i h t) = aL V (ix3 h (row i t) 0) := by
  pointwise [pr_v14_eq, pr_v13_eq]
  unfold aL row
  congr 2 <;> exact Fin.ext (by simp only; omega)

/-- The chunked gradient of the output. -/
theorem md_v24_at (i : Fin 36) (h : Fin 8) (t : Fin 64) (n : Fin 512) : md_v24 V (ix4 i h t n) = aG V (ix2 (row i t) (wide h n)) := by
  pointwise [md_v24_eq, md_v23_eq]
  unfold aG row wide
  congr 2 <;> exact Fin.ext (by simp only; omega)

/-- The mask. -/
theorem pr_v5_at (t s : Fin 64) : pr_v5 V (ix2 t s) = if s ≤ t then 1#1 else 0#1 := by
  pointwise [pr_v5_eq, pr_v3_eq, pr_v4_eq, pr_v1_eq, pr_v2_eq, pr_v0_eq]
  exact mask_bit t s
end

variable (m : (ℓ : Loc nD τ sig) → Buf (Elt Ideal) ℓ) (c : Dev nD)

/-- A head's share of a chunk of the launch's arguments. -/
def lp (h : Fin 8) (i : ℕ) : Piece :=
  headPiece (aQ (launchContents m c)) (aK (launchContents m c)) (aV (launchContents m c)) (aL (launchContents m c)) (aG (launchContents m c)) h i
/-- The states for the launch's arguments. -/
def lS (h : Fin 8) (i : ℕ) : State :=
  St (aQ (launchContents m c)) (aK (launchContents m c)) (aV (launchContents m c)) (aL (launchContents m c)) (aG (launchContents m c)) h i
/-- The gradients of the states for the launch's arguments. -/
def lD (h : Fin 8) (i : ℕ) : State :=
  Dt (aQ (launchContents m c)) (aK (launchContents m c)) (aV (launchContents m c)) (aL (launchContents m c)) (aG (launchContents m c)) h i

/-- What forward trip `k` starts from, after the exit test. -/
abbrev F0 (k : ℕ) : Valuation τ sig (Elt Ideal) := after ask0 (T0 m k c)

/-- The exit test leaves a buffer that it does not write. -/
theorem F0_same {r : Ref sig .tc} (h0 : key r ∉ [main_while0c_c_22, main_while0c_v39].map key) (k : ℕ) :
    F0 m c k (Proc.devRef .tc r) = T0 m k c (Proc.devRef .tc r) := kept ask0_writes h0 _

/-- A buffer that the loop does not write, at a trip's start. -/
theorem F0_kept {r : Ref sig .tc} (h0 : key r ∉ [main_while0c_c_22, main_while0c_v39].map key) (h1 : key r ∉ turn_W.map key) (k : ℕ) :
    F0 m c k (Proc.devRef .tc r) = W0 m c (Proc.devRef .tc r) := by
  rw [F0_same m c h0, T0_kept m c h0 h1]

/-- The mask at a forward trip. -/
theorem F0_mask (k : ℕ) : fMask (F0 m c k) where
  mask h t s := by
    rw [F0_kept m c (by decide +kernel) (by decide +kernel)]
    show pr_v19_4 (launchContents m c) (ix3 h t s) = _
    pointwise [pr_v19_4_eq, pr_v15_0_eq]
    exact pr_v5_at _ t s
  zero h t s := by
    rw [F0_kept m c (by decide +kernel) (by decide +kernel)]
    show pr_v19_5 (launchContents m c) (ix3 h t s) = _
    pointwise [pr_v19_5_eq, pr_v15_1_eq, pr_call0_v0_eq, pr_cst_0_eq]

/-- The counter at a forward trip. -/
theorem F0_word (k : Fin 36) : (F0 m c k (Proc.devRef .tc main_v19_8) (Shape.Idx.first h_S_)).toInt = k.val := by
  rw [F0_same m c (by decide +kernel), T0_count]
  exact word_up k

/-- The piece that a forward trip reads. -/
theorem F0_piece (k : Fin 36) (h : Fin 8) : fPiece (F0 m c k) h = { lp m c h k with q := fun _ _ => 0, g := fun _ _ => 0 } := by
  unfold fPiece lp headPiece
  have e1 : ∀ t n, tn_v40 (F0 m c k) (ix3 h t n) = aK (launchContents m c) (ix2 (row k t) (chan h n)) := fun t n => by
    rw [tn_v40_at _ _ (F0_word m c k), F0_kept m c (by decide +kernel) (by decide +kernel)]
    show pr_v19_1 (launchContents m c) _ = _
    rw [pr_v19_1_eq, pr_v10_at]
  have e2 : ∀ t n, tn_v41 (F0 m c k) (ix3 h t n) = aV (launchContents m c) (ix2 (row k t) (wide h n)) := fun t n => by
    rw [tn_v41_at _ _ (F0_word m c k), F0_kept m c (by decide +kernel) (by decide +kernel)]
    show pr_v19_2 (launchContents m c) _ = _
    rw [pr_v19_2_eq, pr_v12_at]
  have e3 : ∀ t, tn_v42 (F0 m c k) (ix2 h t) = aL (launchContents m c) (ix3 h (row k t) 0) := fun t => by
    rw [tn_v42_at _ _ (F0_word m c k), F0_kept m c (by decide +kernel) (by decide +kernel)]
    show pr_v19_3 (launchContents m c) _ = _
    rw [pr_v19_3_eq, pr_v14_at]
  simp only [e1, e2, e3]

/-- The state carried by the forward loop is the recursion's. -/
theorem T0_state : ∀ k, k ≤ 36 → ∀ (h : Fin 8) (n : Fin 256) (p : Fin 512),
    T0 m k c (Proc.devRef .tc main_v19_9) (ix3 h n p) = lS m c h k n p
  | 0, _, h, n, p => by
    show pr_v19_9 (launchContents m c) (ix3 h n p) = 0
    pointwise [pr_v19_9_eq, pr_v6_eq, pr_cst_eq]
  | k + 1, hk, h, n, p => by
    have ih := T0_state k (by omega) h
    rw [T0_succ]
    show tn_o9 (F0 m c k) (ix3 h n p) = _
    rw [tn_o9_eq, tn_v74_at h (F0_mask m c k) n p, F0_piece m c ⟨k, hk⟩ h]
    have e : fS (F0 m c k) h = lS m c h k := by
      funext n p
      unfold fS
      rw [F0_same m c (by decide +kernel)]
      exact ih n p
    rw [e]
    rfl

/-- The states saved so far by the forward loop are the recursion's. -/
theorem T0_saved : ∀ k, k ≤ 36 → ∀ (i : Fin 36), i.val < k → ∀ (h : Fin 8) (n : Fin 256) (p : Fin 512),
    T0 m k c (Proc.devRef .tc main_v19_11) (ix4 i h n p) = lS m c h i n p
  | 0, _, i, hi, _, _, _ => absurd hi (by omega)
  | k + 1, hk, i, hi, h, n, p => by
    rw [T0_succ]
    show tn_o11 (F0 m c k) (ix4 i h n p) = _
    rw [tn_o11_eq, tn_v76_at _ h (F0_word m c ⟨k, hk⟩)]
    by_cases e : i = ⟨k, hk⟩
    · rw [if_pos e, F0_same m c (by decide +kernel), e]
      exact T0_state m c k (by omega) h n p
    · rw [if_neg e, F0_same m c (by decide +kernel)]
      exact T0_saved k (by omega) i (by have : i.val ≠ k := fun h => e (Fin.ext h); omega) h n p

/-- What backward trip `k` starts from, after the exit test. -/
abbrev F1 (k : ℕ) : Valuation τ sig (Elt Ideal) := after ask1 (T1 m k c)

/-- The exit test leaves a buffer that it does not write. -/
theorem F1_same {r : Ref sig .tc} (h0 : key r ∉ [main_while1c_c_23, main_while1c_v39].map key) (k : ℕ) :
    F1 m c k (Proc.devRef .tc r) = T1 m k c (Proc.devRef .tc r) := kept ask1_writes h0 _

/-- A buffer that the loop does not write, at a trip's start. -/
theorem F1_kept {r : Ref sig .tc} (h0 : key r ∉ [main_while1c_c_23, main_while1c_v39].map key) (h1 : key r ∉ back_W.map key) (k : ℕ) :
    F1 m c k (Proc.devRef .tc r) = W1 m c (Proc.devRef .tc r) := by
  rw [F1_same m c h0, T1_kept m c h0 h1]

/-- The mask at a backward trip. -/
theorem F1_mask (k : ℕ) : bMask (F1 m c k) := fun t s => by
  rw [F1_kept m c (by decide +kernel) (by decide +kernel)]
  show md_v30_6 (F0 m c 36) _ = _
  rw [md_v30_6_eq, F0_kept m c (by decide +kernel) (by decide +kernel)]
  exact pr_v5_at _ t s

/-- The chunk of a backward trip. -/
theorem F1_word (k : Fin 36) :
    (36#32 - F1 m c k (Proc.devRef .tc main_v30_7) (Shape.Idx.first h_S_) - 1#32).toInt = (⟨35 - k.val, by omega⟩ : Fin 36).val := by
  rw [F1_same m c (by decide +kernel), T1_count]
  exact word_down k

/-- The piece that a backward trip reads. -/
theorem F1_piece (k : Fin 36) (h : Fin 8) : bPiece (F1 m c k) h = lp m c h (35 - k) := by
  unfold bPiece lp headPiece
  have e0 : ∀ t n, bk_v43 (F1 m c k) (ix3 h t n) = aQ (launchContents m c) (ix2 (row (35 - k) t) (chan h n)) := fun t n => by
    rw [bk_v43_at _ _ (F1_word m c k), F1_kept m c (by decide +kernel) (by decide +kernel)]
    show md_v30_2 (F0 m c 36) _ = _
    rw [md_v30_2_eq, F0_kept m c (by decide +kernel) (by decide +kernel)]
    exact pr_v8_at _ _ _ _ _
  have e1 : ∀ t n, bk_v44 (F1 m c k) (ix3 h t n) = aK (launchContents m c) (ix2 (row (35 - k) t) (chan h n)) := fun t n => by
    rw [bk_v44_at _ _ (F1_word m c k), F1_kept m c (by decide +kernel) (by decide +kernel)]
    show md_v30_3 (F0 m c 36) _ = _
    rw [md_v30_3_eq, F0_kept m c (by decide +kernel) (by decide +kernel)]
    exact pr_v10_at _ _ _ _ _
  have e2 : ∀ t n, bk_v45 (F1 m c k) (ix3 h t n) = aV (launchContents m c) (ix2 (row (35 - k) t) (wide h n)) := fun t n => by
    rw [bk_v45_at _ _ (F1_word m c k), F1_kept m c (by decide +kernel) (by decide +kernel)]
    show md_v30_4 (F0 m c 36) _ = _
    rw [md_v30_4_eq, F0_kept m c (by decide +kernel) (by decide +kernel)]
    exact pr_v12_at _ _ _ _ _
  have e3 : ∀ t, bk_v46 (F1 m c k) (ix2 h t) = aL (launchContents m c) (ix3 h (row (35 - k) t) 0) := fun t => by
    rw [bk_v46_at _ _ (F1_word m c k), F1_kept m c (by decide +kernel) (by decide +kernel)]
    show md_v30_5 (F0 m c 36) _ = _
    rw [md_v30_5_eq, F0_kept m c (by decide +kernel) (by decide +kernel)]
    exact pr_v14_at _ _ _ _
  have e4 : ∀ t n, bk_v41 (F1 m c k) (ix3 h t n) = aG (launchContents m c) (ix2 (row (35 - k) t) (wide h n)) := fun t n => by
    rw [bk_v41_at _ _ (F1_word m c k), F1_kept m c (by decide +kernel) (by decide +kernel)]
    show md_v30_0 (F0 m c 36) _ = _
    rw [md_v30_0_eq, md_v24_at]
    unfold aG
    rw [F0_kept m c (by decide +kernel) (by decide +kernel)]
    unfold W0
    rw [kept pre_writes (by decide +kernel)]
  simp only [e0, e1, e2, e3, e4]

/-- The state that a backward trip reads. -/
theorem F1_state (k : Fin 36) (h : Fin 8) : bS (F1 m c k) h = lS m c h (35 - k) := by
  funext n p
  unfold bS
  rw [bk_v42_at _ _ (F1_word m c k), F1_kept m c (by decide +kernel) (by decide +kernel)]
  show md_v30_1 (F0 m c 36) _ = _
  rw [md_v30_1_eq, F0_same m c (by decide +kernel)]
  exact T0_saved m c 36 le_rfl _ (by show 35 - k.val < 36; omega) h n p

/-- The gradient of the state carried by the backward loop is the recursion's. -/
theorem T1_grad : ∀ k, k ≤ 36 → ∀ (h : Fin 8) (n : Fin 256) (p : Fin 512),
    T1 m k c (Proc.devRef .tc main_v30_8) (ix3 h n p) = lD m c h k n p
  | 0, _, h, n, p => by
    show md_v30_8 (F0 m c 36) (ix3 h n p) = 0
    pointwise [md_v30_8_eq, md_v25_eq, md_cst_5_eq]
  | k + 1, hk, h, n, p => by
    have ih := T1_grad k (by omega) h
    rw [T1_succ]
    show bk_o8 (F1 m c k) (ix3 h n p) = _
    rw [bk_o8_eq, bk_v106_at h (F1_mask m c k) n p, F1_piece m c ⟨k, hk⟩ h]
    have e : bD (F1 m c k) h = lD m c h k := by
      funext n p
      unfold bD
      rw [F1_same m c (by decide +kernel)]
      exact ih n p
    rw [e]
    rfl

/-- The gradient of the state that a backward trip is entered with. -/
theorem F1_grad (k : Fin 36) (h : Fin 8) : bD (F1 m c k) h = lD m c h k := by
  funext n p
  unfold bD
  rw [F1_same m c (by decide +kernel)]
  exact T1_grad m c k (by omega) h n p

/-- The gradients of the queries saved so far. -/
theorem T1_dq : ∀ k, k ≤ 36 → ∀ (i : Fin 36), 36 - k ≤ i.val → ∀ (h : Fin 8) (t : Fin 64) (n : Fin 256),
    T1 m k c (Proc.devRef .tc main_v30_9) (ix4 i h t n) = (lp m c h i).dq (lS m c h i) t n
  | 0, _, i, hi, _, _, _ => absurd hi (by omega)
  | k + 1, hk, i, hi, h, t, n => by
    rw [T1_succ]
    show bk_o9 (F1 m c k) (ix4 i h t n) = _
    rw [bk_o9_eq, bk_v132_at _ h (F1_word m c ⟨k, hk⟩)]
    split
    · next e =>
      rw [bk_v119_at h (F1_mask m c k), F1_piece m c ⟨k, hk⟩ h, F1_state m c ⟨k, hk⟩ h, e]
    · next e =>
      rw [F1_same m c (by decide +kernel)]
      exact T1_dq k (by omega) i (by have : i.val ≠ 35 - k := fun h => e (Fin.ext h); omega) h t n

/-- The gradients of the keys saved so far. -/
theorem T1_dk : ∀ k, k ≤ 36 → ∀ (i : Fin 36), 36 - k ≤ i.val → ∀ (h : Fin 8) (t : Fin 64) (n : Fin 256),
    T1 m k c (Proc.devRef .tc main_v30_10) (ix4 i h t n) = (lp m c h i).dk (lD m c h (35 - i)) t n
  | 0, _, i, hi, _, _, _ => absurd hi (by omega)
  | k + 1, hk, i, hi, h, t, n => by
    rw [T1_succ]
    show bk_o10 (F1 m c k) (ix4 i h t n) = _
    rw [bk_o10_eq, bk_v133_at _ h (F1_word m c ⟨k, hk⟩)]
    split
    · next e =>
      rw [bk_v117_at h (F1_mask m c k), F1_piece m c ⟨k, hk⟩ h, F1_grad m c ⟨k, hk⟩ h, e]
      simp only [show 35 - (35 - k) = k by omega]
    · next e =>
      rw [F1_same m c (by decide +kernel)]
      exact T1_dk k (by omega) i (by have : i.val ≠ 35 - k := fun h => e (Fin.ext h); omega) h t n

/-- The gradients of the values saved so far. -/
theorem T1_dv : ∀ k, k ≤ 36 → ∀ (i : Fin 36), 36 - k ≤ i.val → ∀ (h : Fin 8) (t : Fin 64) (n : Fin 512),
    T1 m k c (Proc.devRef .tc main_v30_11) (ix4 i h t n) = (lp m c h i).dv (lD m c h (35 - i)) t n
  | 0, _, i, hi, _, _, _ => absurd hi (by omega)
  | k + 1, hk, i, hi, h, t, n => by
    rw [T1_succ]
    show bk_o11 (F1 m c k) (ix4 i h t n) = _
    rw [bk_o11_eq, bk_v134_at _ h (F1_word m c ⟨k, hk⟩)]
    split
    · next e =>
      rw [bk_v110_at h (F1_mask m c k), F1_piece m c ⟨k, hk⟩ h, F1_grad m c ⟨k, hk⟩ h, e]
      simp only [show 35 - (35 - k) = k by omega]
    · next e =>
      rw [F1_same m c (by decide +kernel)]
      exact T1_dv k (by omega) i (by have : i.val ≠ 35 - k := fun h => e (Fin.ext h); omega) h t n

/-- The gradients of the log decays saved so far. -/
theorem T1_dla : ∀ k, k ≤ 36 → ∀ (i : Fin 36), 36 - k ≤ i.val → ∀ (h : Fin 8) (t : Fin 64),
    T1 m k c (Proc.devRef .tc main_v30_12) (ix3 i h t) = (lp m c h i).dla (lS m c h i) (lD m c h (35 - i)) t
  | 0, _, i, hi, _, _ => absurd hi (by omega)
  | k + 1, hk, i, hi, h, t => by
    rw [T1_succ]
    show bk_o12 (F1 m c k) (ix3 i h t) = _
    rw [bk_o12_eq, bk_v135_at _ h (F1_word m c ⟨k, hk⟩)]
    split
    · next e =>
      rw [bk_v131_at h (F1_mask m c k), F1_piece m c ⟨k, hk⟩ h, F1_state m c ⟨k, hk⟩ h, F1_grad m c ⟨k, hk⟩ h, e]
      simp only [show 35 - (35 - k) = k by omega]
    · next e =>
      rw [F1_same m c (by decide +kernel)]
      exact T1_dla k (by omega) i (by have : i.val ≠ 35 - k := fun h => e (Fin.ext h); omega) h t

section
variable (V : Valuation τ sig (Elt Ideal))

/-- The four gradients that the recursion gives for a valuation's arguments. -/
def resQ : Narrow := narrowOf (dqAt (aQ V) (aK V) (aV V) (aL V) (aG V))
def resK : Narrow := narrowOf (dkAt (aQ V) (aK V) (aV V) (aL V) (aG V))
def resV : Wide := wideOf (dvAt (aQ V) (aK V) (aV V) (aL V) (aG V))
def resL : Decays := decaysOf (dlaAt (aQ V) (aK V) (aV V) (aL V) (aG V))
end

/-- The reference's gradient of the queries. -/
theorem WE_Q : WE m c (Proc.devRef .tc main_v38) = resQ (launchContents m c) := by
  show ps_v38 (F1 m c 36) = _
  funext y
  idx_vars y
  pointwise [ps_v38_eq, ps_v37_eq]
  rw [F1_same m c (by decide +kernel), T1_dq m c 36 le_rfl _ (by omega)]
  rfl

/-- The reference's gradient of the keys. -/
theorem WE_K : WE m c (Proc.devRef .tc main_v36) = resK (launchContents m c) := by
  show ps_v36 (F1 m c 36) = _
  funext y
  idx_vars y
  pointwise [ps_v36_eq, ps_v35_eq]
  rw [F1_same m c (by decide +kernel), T1_dk m c 36 le_rfl _ (by omega)]
  rfl

/-- The reference's gradient of the values. -/
theorem WE_V : WE m c (Proc.devRef .tc main_v34) = resV (launchContents m c) := by
  show ps_v34 (F1 m c 36) = _
  funext y
  idx_vars y
  pointwise [ps_v34_eq, ps_v33_eq]
  rw [F1_same m c (by decide +kernel), T1_dv m c 36 le_rfl _ (by omega)]
  rfl

/-- The reference's gradient of the log decays. -/
theorem WE_L : WE m c (Proc.devRef .tc main_v32) = resL (launchContents m c) := by
  show ps_v32 (F1 m c 36) = _
  funext y
  idx_vars y
  pointwise [ps_v32_eq, ps_v31_eq]
  rw [F1_same m c (by decide +kernel), T1_dla m c 36 le_rfl _ (by omega)]
  rfl

end Cert.ReferenceIdeal.Ret
-- ==== Proof.Products.Kept.lean ====
module

public import Idealize.ShloMosaic.Adequacy
public import Idealize.ShloMosaic.Lib.Quiescent

/-!
# Runs of programs without semaphores
-/

@[expose] public section

namespace Cert.Products

open Idealize.ShloMosaic Idealize.SL.Sem

/-- A run whose end says two things of every device says the second alone, and, when the program declares no semaphore,
    that every semaphore is at zero. -/
theorem kept {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B : Dev nD → PUnit × MemSt nD τ sig Val → Prop} (h0 : sig.nSem + sig.nDmaSem = 0)
    (h : θ_run defs p s fun r => ∀ c, A c r ∧ B c r) : θ_run defs p s fun r => (∀ c, B c r) ∧ r.2.sem = fun _ => 0 :=
  (θ_run defs _ _).mono (fun r hr => ⟨fun c => (hr c).2, sem_eq_zero_of_no_sems h0 r.2⟩) h

/-- The same of a run whose end says five things of every device, of which the last is kept. -/
theorem kept4 {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B C D E : Dev nD → PUnit × MemSt nD τ sig Val → Prop} (h0 : sig.nSem + sig.nDmaSem = 0)
    (h : θ_run defs p s fun r => ∀ c, A c r ∧ B c r ∧ C c r ∧ D c r ∧ E c r) :
    θ_run defs p s fun r => (∀ c, E c r) ∧ r.2.sem = fun _ => 0 :=
  kept (A := fun _ _ => True) h0 ((θ_run defs _ _).mono (fun _ hr c => ⟨trivial, (hr c).2.2.2.2⟩) h)

end Cert.Products

end
-- ==== Proof.Products.Sums.lean ====
module

public import Idealize.ShloMosaic.Lib.Pipeline.ValueKit.Acc
public import Idealize.ShloMosaic.Lib.Pipeline.ValueKit.Geometry
public import Idealize.ShloMosaic.Lib.Pipeline.ReadBack
public import Idealize.ShloMosaic.Lib.Pointwise
public import Mathlib.Algebra.BigOperators.Fin
public import Mathlib.Algebra.BigOperators.Intervals

/-!
# A product of two matrices by tiles

A call that multiplies two matrices walks a grid of `ni × nj × nk` points, the last axis fastest. Point `t` multiplies
tile `(i, kk)` of the left factor with tile `(kk, j)` of the right one, with `i = t / (nj · nk)`, `j = t / nk % nj` and
`kk = t % nk`. The accumulator starts anew where `kk = 0` and grows by the tile's sum elsewhere. So after the last point
of block `(i, j)` it holds the product's entries of that block.

A factor is a function of two numbers here, so that the three ways in which a call reads its arguments are one.
-/

@[expose] public section

noncomputable section

namespace Cert.Products

open Idealize.ShloMosaic

/-- The entry of an array at two numbers, zero outside the array. -/
def ent {R S : ℕ} (A : (⟨2, ![R, S]⟩ : Shape).Idx → EReal) (r s : ℕ) : EReal :=
  if h : r < R ∧ s < S then A (ix2 ⟨r, h.1⟩ ⟨s, h.2⟩) else 0

/-- The entry at an index of the array. -/
theorem ent_fin {R S : ℕ} (A : (⟨2, ![R, S]⟩ : Shape).Idx → EReal) (r : Fin R) (s : Fin S) :
    ent A r.val s.val = A (ix2 r s) := dif_pos ⟨r.isLt, s.isLt⟩

/-- The entry of an array at the place `(a₀, a₁)` of its block `(p₀, p₁)`, the blocks of size `b₀ × b₁`. -/
theorem ent_block {R S : ℕ} (A : (⟨2, ![R, S]⟩ : Shape).Idx → EReal) (i : (⟨2, ![R, S]⟩ : Shape).Idx)
    {q₀ q₁ b₀ b₁ a₀ a₁ p₀ p₁ : ℕ} (h₀ : (i 0).val = q₀ * b₀ + 1 * a₀) (h₁ : (i 1).val = q₁ * b₁ + 1 * a₁)
    (e₀ : q₀ = p₀) (e₁ : q₁ = p₁) : A i = ent A (b₀ * p₀ + a₀) (b₁ * p₁ + a₁) := by
  subst e₀ e₁
  rw [Nat.mul_comm b₀, Nat.mul_comm b₁, show q₀ * b₀ + a₀ = (i 0).val by omega, show q₁ * b₁ + a₁ = (i 1).val by omega]
  rw [ent_fin A (i 0) (i 1)]
  congr 1
  funext x
  match x with
  | ⟨0, _⟩ => rfl
  | ⟨1, _⟩ => rfl

/-- Entry `(r, s)` of the product of two factors of inner width `K`. -/
def entry (K : ℕ) (L R : ℕ → ℕ → EReal) (r s : ℕ) : EReal := ∑ k : Fin K, L r k.val * R k.val s

/-- What point `t` adds to entry `(a, b)` of its block. -/
def tile (bm bn bk nj nk : ℕ) (L R : ℕ → ℕ → EReal) (t a b : ℕ) : EReal :=
  ∑ k : Fin bk, L (bm * (t / (nj * nk)) + a) (bk * (t % nk) + k.val) * R (bk * (t % nk) + k.val) (bn * (t / nk % nj) + b)

/-- A sum over `n` tiles of `b` terms is the sum over all `n · b` terms. -/
theorem sum_tiles (n b : ℕ) (f : ℕ → EReal) :
    ∑ j ∈ Finset.range n, ∑ k : Fin b, f (b * j + k) = ∑ k : Fin (n * b), f k := by
  rw [Fin.sum_univ_eq_sum_range f]
  induction n with
  | zero => simp
  | succ n ih =>
    rw [Finset.sum_range_succ, ih, Nat.succ_mul, Finset.sum_range_add, Fin.sum_univ_eq_sum_range (fun k => f (b * n + k)),
      Nat.mul_comm b n]

/-- **The accumulator of a product by tiles**, which starts anew at the points divisible by `nk` and grows by the tile's
    sum at the others, holds the product's entries of the block after the block's last point. -/
theorem product_by_tiles {N bm bn bk nj nk K : ℕ} (L R : ℕ → ℕ → EReal) (hK : nk * bk = K)
    (acc : (t : ℕ) → t < N → (⟨2, ![bm, bn]⟩ : Shape).Idx → EReal)
    (hfirst : ∀ (t : Fin N) (a : Fin bm) (b : Fin bn), t.val % nk = 0 →
      acc t.val t.isLt (ix2 a b) = 0 + tile bm bn bk nj nk L R t.val a.val b.val)
    (hnext : ∀ (t : Fin N) (a : Fin bm) (b : Fin bn), ¬t.val % nk = 0 →
      acc t.val t.isLt (ix2 a b) = acc (t.val - 1) (by omega) (ix2 a b) + tile bm bn bk nj nk L R t.val a.val b.val)
    (t : Fin N) (ht : t.val % nk + 1 = nk) (a : Fin bm) (b : Fin bn) :
    acc t.val t.isLt (ix2 a b) = entry K L R (t.val / (nj * nk) * bm + a.val) (t.val / nk % nj * bn + b.val) := by
  subst hK
  have hsum : ∀ u j, j < nk → ∀ h : nk * u + j < N, acc (nk * u + j) h (ix2 a b)
      = ∑ i ∈ Finset.range (j + 1), tile bm bn bk nj nk L R (nk * u + i) a.val b.val := by
    intro u j
    induction j with
    | zero => intro _ h; rw [hfirst ⟨_, h⟩ a b (by dsimp only; simp)]; simp
    | succ j ih =>
      intro hj h
      rw [hnext ⟨_, h⟩ a b (by dsimp only; rw [Nat.mul_add_mod, Nat.mod_eq_of_lt hj]; omega), Finset.sum_range_succ _ (j + 1)]
      congr 1
      exact ih (by omega) (by omega)
  have hp := Nat.div_add_mod t.val nk
  have h := hsum (t.val / nk) (t.val % nk) (by omega) (by rw [hp]; exact t.isLt)
  simp only [hp, ht] at h
  rw [h]
  unfold entry
  rw [← sum_tiles nk bk fun k => L _ k * R k _]
  refine Finset.sum_congr rfl fun i hi => ?_
  have hi' := Finset.mem_range.1 hi
  unfold tile
  rw [Nat.mul_comm _ bm, Nat.mul_comm _ bn, Nat.mul_comm nj nk, ← Nat.div_div_eq_div_mul, ← Nat.div_div_eq_div_mul, Nat.mul_add_div (Nat.zero_lt_of_lt hi'),
    Nat.div_eq_of_lt hi', Nat.add_zero, Nat.mul_add_mod, Nat.mod_eq_of_lt hi']

/-- **A block of a call that multiplies by tiles.** Point `t` reads the tiles `X t` and `Y t` and takes the accumulator
    through `step t`. Started from `zero` at the first point of a block and carried on at the others, it holds the
    product's entries of the block after the block's last point. -/
theorem block_of_steps {N bm bn bk nj nk K : ℕ} {L R : ℕ → ℕ → EReal} {X : Fin N → Fin bm → Fin bk → EReal}
    {Y : Fin N → Fin bk → Fin bn → EReal} {zero : (⟨2, ![bm, bn]⟩ : Shape).Idx → EReal}
    {step : Fin N → ((⟨2, ![bm, bn]⟩ : Shape).Idx → EReal) → (⟨2, ![bm, bn]⟩ : Shape).Idx → EReal}
    {acc : (t : ℕ) → t < N → (⟨2, ![bm, bn]⟩ : Shape).Idx → EReal} (hK : nk * bk = K)
    (hX : ∀ t a k, X t a k = L (bm * (t.val / (nj * nk)) + a.val) (bk * (t.val % nk) + k.val))
    (hY : ∀ t k b, Y t k b = R (bk * (t.val % nk) + k.val) (bn * (t.val / nk % nj) + b.val))
    (hzero : ∀ a b, zero (ix2 a b) = 0) (hstep : ∀ t o a b, step t o (ix2 a b) = o (ix2 a b) + ∑ k, X t a k * Y t k b)
    (hfirst : ∀ t : Fin N, t.val % nk = 0 → acc t.val t.isLt = step t zero)
    (hnext : ∀ t : Fin N, ¬t.val % nk = 0 → acc t.val t.isLt = step t (acc (t.val - 1) (by omega)))
    (t : Fin N) (ht : t.val % nk + 1 = nk) (y : (⟨2, ![bm, bn]⟩ : Shape).Idx) :
    acc t.val t.isLt y = entry K L R (t.val / (nj * nk) * bm + (y 0).val) (t.val / nk % nj * bn + (y 1).val) := by
  have hs : ∀ (t : Fin N) o (a : Fin bm) (b : Fin bn), step t o (ix2 a b) = o (ix2 a b) + tile bm bn bk nj nk L R t.val a.val b.val :=
    fun t o a b => (hstep t o a b).trans (congrArg _ (Finset.sum_congr rfl fun k _ => congr_arg₂ (· * ·) (hX t a k) (hY t k b)))
  exact (congrArg _ (eq_ix2 y)).trans (product_by_tiles L R hK acc (fun t a b h => by rw [hfirst t h, hs, hzero])
    (fun t a b h => by rw [hnext t h, hs]) t ht (y 0) (y 1))

/-- … and where a block has one point only, what that point makes of `zero`. -/
theorem block_of_step {N bm bn nj K : ℕ} {L R : ℕ → ℕ → EReal} {X : Fin N → Fin bm → Fin K → EReal}
    {Y : Fin N → Fin K → Fin bn → EReal} {zero : (⟨2, ![bm, bn]⟩ : Shape).Idx → EReal}
    {step : Fin N → ((⟨2, ![bm, bn]⟩ : Shape).Idx → EReal) → (⟨2, ![bm, bn]⟩ : Shape).Idx → EReal}
    (hX : ∀ t a k, X t a k = L (bm * (t.val / (nj * 1)) + a.val) (K * (t.val % 1) + k.val))
    (hY : ∀ t k b, Y t k b = R (K * (t.val % 1) + k.val) (bn * (t.val / 1 % nj) + b.val))
    (hzero : ∀ a b, zero (ix2 a b) = 0) (hstep : ∀ t o a b, step t o (ix2 a b) = o (ix2 a b) + ∑ k, X t a k * Y t k b)
    (t : Fin N) (y : (⟨2, ![bm, bn]⟩ : Shape).Idx) :
    step t zero y = entry K L R (t.val / (nj * 1) * bm + (y 0).val) (t.val / 1 % nj * bn + (y 1).val) :=
  block_of_steps (acc := fun n h => step ⟨n, h⟩ zero) (Nat.one_mul K) hX hY hzero hstep (fun _ _ => rfl)
    (fun t h => absurd (Nat.mod_one t.val) h) t (by omega) y

/-- Two arrays are the same where each entry of the one is the product's and the other is the product by entries. -/
theorem agree {M K N : ℕ} {L R : ℕ → ℕ → EReal} {f g : (⟨2, ![M, N]⟩ : Shape).Idx → EReal}
    (hg : g = fun i => entry K L R (i 0).val (i 1).val) (hf : ∀ r s, f (ix2 r s) = entry K L R r.val s.val) : f = g :=
  hg ▸ funext fun i => (congrArg f (eq_ix2 i)).trans (hf (i 0) (i 1))

/-- An entry of the product of two arrays. -/
theorem entry_nn {M K N : ℕ} (A : (⟨2, ![M, K]⟩ : Shape).Idx → EReal) (B : (⟨2, ![K, N]⟩ : Shape).Idx → EReal) (r : Fin M) (s : Fin N) :
    ∑ k : Fin K, A (ix2 r k) * B (ix2 k s) = entry K (ent A) (ent B) r.val s.val :=
  Finset.sum_congr rfl fun k _ => by rw [ent_fin A r k, ent_fin B k s]

/-- An entry of the product of an array and the transpose of another. -/
theorem entry_nt {M K N : ℕ} (A : (⟨2, ![M, K]⟩ : Shape).Idx → EReal) (B : (⟨2, ![N, K]⟩ : Shape).Idx → EReal) (r : Fin M) (s : Fin N) :
    ∑ k : Fin K, A (ix2 r k) * B (ix2 s k) = entry K (ent A) (flip (ent B)) r.val s.val :=
  Finset.sum_congr rfl fun k _ => by rw [flip, ent_fin A r k, ent_fin B s k]

/-- An entry of the product of the transpose of an array and another, the factors named in the other order. -/
theorem entry_tn {M K N : ℕ} (A : (⟨2, ![K, M]⟩ : Shape).Idx → EReal) (B : (⟨2, ![K, N]⟩ : Shape).Idx → EReal) (r : Fin M) (s : Fin N) :
    ∑ k : Fin K, B (ix2 k s) * A (ix2 k r) = entry K (flip (ent A)) (ent B) r.val s.val :=
  Finset.sum_congr rfl fun k _ => by rw [flip, ent_fin A k r, ent_fin B k s, mul_comm]

end Cert.Products
-- ==== Proof.Products.Call2.lean ====
module

public import proofs.«01_k».proof.Proof.Products.Sums
public import proofs.«01_k».proof.Proof.Gen.Kernel2Ideal.Value
public import proofs.«01_k».proof.Proof.Gen.Reference2Ideal.Run
public import proofs.«01_k».proof.Defs

/-! # `mlp1_0`: 2304 × 2048 times 2048 × 8192 -/

@[expose] public section

noncomputable section

namespace Cert.Kernel2Ideal.Product

open Cert.Kernel2Ideal Cert.Kernel2Ideal.Gen Idealize.ShloMosaic Idealize.ShloMosaic.TcCoe Cert.Products

variable (m : (ℓ : Loc nD τ sig) → Buf (Elt Ideal) ℓ) (c : Dev nD)

/-- The left factor. -/
abbrev lhs : ℕ → ℕ → EReal := ent (m ((c : Thread nD τ).loc main_arg0) : FVec Ideal S2304x2048 .f32)
/-- The right factor. -/
abbrev rhs : ℕ → ℕ → EReal := ent (m ((c : Thread nD τ).loc main_arg1) : FVec Ideal S2048x8192 .bf16)

/-- Which tiles a point reads, and which block it works on. -/
theorem places : ∀ t : Fin cfg0.N, win0_0.index t (0 : Fin 2) = t.val / (8 * 1) ∧ win0_0.index t (1 : Fin 2) = t.val % 1
    ∧ win0_1.index t (0 : Fin 2) = t.val % 1 ∧ win0_1.index t (1 : Fin 2) = t.val / 1 % 8
    ∧ win0_2.index t (0 : Fin 2) = t.val / (8 * 1) ∧ win0_2.index t (1 : Fin 2) = t.val / 1 % 8 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- **The call's result** is the product. -/
theorem result : (dats m 0 c).arrAt 2 cfg0.N
    = (fun i => entry 2048 (lhs m c) (rhs m c) (i 0).val (i 1).val : FVec Ideal S2304x8192 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel2Ideal_Reference2Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference2Ideal.Value.run m' ρ')⟩

end Cert.Kernel2Ideal.Product

end
-- ==== Proof.Products.Call3.lean ====
module

public import proofs.«01_k».proof.Proof.Products.Sums
public import proofs.«01_k».proof.Proof.Gen.Kernel3Ideal.Value
public import proofs.«01_k».proof.Proof.Gen.Reference3Ideal.Run
public import proofs.«01_k».proof.Defs

/-! # The input gradient of `mlp1_0`: 2304 × 8192 times the transpose of 2048 × 8192 -/

@[expose] public section

noncomputable section

namespace Cert.Kernel3Ideal.Product

open Cert.Kernel3Ideal Cert.Kernel3Ideal.Gen Idealize.ShloMosaic Idealize.ShloMosaic.TcCoe Cert.Products

variable (m : (ℓ : Loc nD τ sig) → Buf (Elt Ideal) ℓ) (c : Dev nD)

/-- The left factor. -/
abbrev lhs : ℕ → ℕ → EReal := ent (m ((c : Thread nD τ).loc main_arg0) : FVec Ideal S2304x8192 .f32)
/-- The right factor. -/
abbrev rhs : ℕ → ℕ → EReal := flip (ent (m ((c : Thread nD τ).loc main_arg1) : FVec Ideal S2048x8192 .bf16))

/-- Which tiles a point reads, and which block it works on. -/
theorem places : ∀ t : Fin cfg0.N, win0_0.index t (0 : Fin 2) = t.val / (2 * 4) ∧ win0_0.index t (1 : Fin 2) = t.val % 4
    ∧ win0_1.index t (0 : Fin 2) = t.val / 4 % 2 ∧ win0_1.index t (1 : Fin 2) = t.val % 4
    ∧ win0_2.index t (0 : Fin 2) = t.val / (2 * 4) ∧ win0_2.index t (1 : Fin 2) = t.val / 4 % 2 :=
  (by decide +kernel : ∀ t : Fin grid0.N, _)

/-- One step, at an entry. -/
theorem step_at (o : Vec Ideal S768x1024 .f32) (x : Vec Ideal S768x2048 .f32) (w : Vec Ideal S1024x2048 .bf16) (a : Fin 768) (b : Fin 1024) :
    k0_pay2 (F := Ideal) o x w (ix2 a b) = o (ix2 a b) + ∑ k : Fin 2048, x (ix2 a k) * w (ix2 b k) := by pointwise [k0_pay2]

/-- What the accumulator holds after a block's last point. -/
theorem block (t : Fin cfg0.N) (ht : t.val % 4 = 3) (y : S768x1024.Idx) :
    (outsAt0 m c t.val t.isLt).2 y = entry 8192 (lhs m c) (rhs m c) (t.val / (2 * 4) * 768 + (y 0).val) (t.val / 4 % 2 * 1024 + (y 1).val) :=
  block_of_steps (acc := fun n h => (outsAt0 m c n h).2) (step := fun t o => k0_pay2 o (iblk m c 0 t) (iblk m c 1 t))
    (X := fun t a k => (iblk m c 0 t : Vec Ideal S768x2048 .f32) (ix2 a k)) (Y := fun t k b => (iblk m c 1 t : Vec Ideal S1024x2048 .bf16) (ix2 b k))
    (zero := k0_pay1 (F := Ideal)) (L := lhs m c) (R := rhs m c) rfl
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b)
    (fun t h => by rw [outsAt0_A m c t h (by omega)]; frame_out)
    (fun t h => by
      by_cases h' : t.val % 4 = 3
      · rw [outsAt0_C m c t h h']; frame_out; rw [read_unread_whole]
      · rw [outsAt0_B m c t h h']; frame_out; rw [read_unread_whole]) t (by omega) y

/-- **The call's result** is the product. -/
theorem result : (dats m 0 c).arrAt 2 cfg0.N
    = (fun i => entry 8192 (lhs m c) (rhs m c) (i 0).val (i 1).val : FVec Ideal S2304x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_C m c t (by omega) ht]
  frame_out

/-- The run of the call and the run of the reference end with the same array. -/
theorem values : Cert.algebraic_Kernel3Ideal_Reference3Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference3Ideal.Value.run m' ρ')⟩

end Cert.Kernel3Ideal.Product

end
-- ==== Proof.Products.Call4.lean ====
module

public import proofs.«01_k».proof.Proof.Products.Sums
public import proofs.«01_k».proof.Proof.Gen.Kernel4Ideal.Value
public import proofs.«01_k».proof.Proof.Gen.Reference4Ideal.Run
public import proofs.«01_k».proof.Defs

/-! # The weight gradient of `mlp1_0`: the transpose of 2304 × 2048 times 2304 × 8192 -/

@[expose] public section

noncomputable section

namespace Cert.Kernel4Ideal.Product

open Cert.Kernel4Ideal Cert.Kernel4Ideal.Gen Idealize.ShloMosaic Idealize.ShloMosaic.TcCoe Cert.Products

variable (m : (ℓ : Loc nD τ sig) → Buf (Elt Ideal) ℓ) (c : Dev nD)

/-- The left factor. -/
abbrev lhs : ℕ → ℕ → EReal := flip (ent (m ((c : Thread nD τ).loc main_arg0) : FVec Ideal S2304x2048 .f32))
/-- The right factor. -/
abbrev rhs : ℕ → ℕ → EReal := ent (m ((c : Thread nD τ).loc main_arg1) : FVec Ideal S2304x8192 .f32)

/-- Which tiles a point reads, and which block it works on. -/
theorem places : ∀ t : Fin cfg0.N, win0_0.index t (0 : Fin 2) = t.val % 2 ∧ win0_0.index t (1 : Fin 2) = t.val / (8 * 2)
    ∧ win0_1.index t (0 : Fin 2) = t.val % 2 ∧ win0_1.index t (1 : Fin 2) = t.val / 2 % 8
    ∧ win0_2.index t (0 : Fin 2) = t.val / (8 * 2) ∧ win0_2.index t (1 : Fin 2) = t.val / 2 % 8 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (8 * 2) * 1024 + (y 0).val) (t.val / 2 % 8 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S2048x8192 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel4Ideal_Reference4Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference4Ideal.Value.run m' ρ')⟩

end Cert.Kernel4Ideal.Product

end
-- ==== Proof.Products.Mlp2.lean ====
module

public import proofs.«01_k».proof.Proof.Products.Sums
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Reference5Ideal.Run
public import proofs.«01_k».proof.Proof.Gen.Reference6Ideal.Run
public import proofs.«01_k».proof.Proof.Gen.Reference7Ideal.Run
public import proofs.«01_k».proof.Defs

/-!
# `mlp2_0`, from 8192 columns to 2048, on 2304 rows

The product reads its inner width in four tiles, the input gradient in one, the weight gradient in two.
-/

@[expose] public section

noncomputable section

namespace Cert.Kernel5Ideal.Product

open Cert.Kernel5Ideal Cert.Kernel5Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2304x8192 .f32)
/-- The weight. -/
abbrev rhs : ℕ → ℕ → EReal := ent (m ((c : Thread nD τ).loc main_arg1) : FVec Ideal S8192x2048 .bf16)

/-- Which tiles a point reads, and which block it works on. -/
theorem places : ∀ t : Fin cfg0.N, win0_0.index t (0 : Fin 2) = t.val / (2 * 4) ∧ win0_0.index t (1 : Fin 2) = t.val % 4
    ∧ win0_1.index t (0 : Fin 2) = t.val % 4 ∧ win0_1.index t (1 : Fin 2) = t.val / 4 % 2
    ∧ win0_2.index t (0 : Fin 2) = t.val / (2 * 4) ∧ win0_2.index t (1 : Fin 2) = t.val / 4 % 2 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- What the accumulator holds after a block's last point. -/
theorem block (t : Fin cfg0.N) (ht : t.val % 4 = 3) (y : S768x1024.Idx) : (outsAt0 m c t.val t.isLt).2 y
    = entry 8192 (lhs m c) (rhs m c) (t.val / (2 * 4) * 768 + (y 0).val) (t.val / 4 % 2 * 1024 + (y 1).val) :=
  block_of_steps (acc := fun n h => (outsAt0 m c n h).2) (step := fun t o => k0_pay2 o (iblk m c 0 t) (iblk m c 1 t))
    (X := fun t a k => (iblk m c 0 t : Vec Ideal S768x2048 .f32) (ix2 a k)) (Y := fun t k b => (iblk m c 1 t : Vec Ideal S2048x1024 .bf16) (ix2 k b))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by
      by_cases h' : t.val % 4 = 3
      · rw [outsAt0_C m c t h h']; frame_out; rw [read_unread_whole]
      · rw [outsAt0_B m c t h h']; frame_out; rw [read_unread_whole]) t (by omega) y

/-- **The call's result** is the product. -/
theorem result : (dats m 0 c).arrAt 2 cfg0.N
    = (fun i => entry 8192 (lhs m c) (rhs m c) (i 0).val (i 1).val : FVec Ideal S2304x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_C m c t (by omega) ht]
  frame_out

/-- The run of the call and the run of the reference end with the same array. -/
theorem values : Cert.algebraic_Kernel5Ideal_Reference5Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference5Ideal.Value.run m' ρ')⟩

end Cert.Kernel5Ideal.Product

namespace Cert.Kernel6Ideal.Product

open Cert.Kernel6Ideal Cert.Kernel6Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2304x2048 .f32)
/-- The weight's transpose. -/
abbrev rhs : ℕ → ℕ → EReal := flip (ent (m ((c : Thread nD τ).loc main_arg1) : FVec Ideal S8192x2048 .bf16))

/-- Which tiles a point reads, and which block it works on. -/
theorem places : ∀ t : Fin cfg0.N, win0_0.index t (0 : Fin 2) = t.val / (8 * 1) ∧ win0_0.index t (1 : Fin 2) = t.val % 1
    ∧ win0_1.index t (0 : Fin 2) = t.val / 1 % 8 ∧ win0_1.index t (1 : Fin 2) = t.val % 1
    ∧ win0_2.index t (0 : Fin 2) = t.val / (8 * 1) ∧ win0_2.index t (1 : Fin 2) = t.val / 1 % 8 :=
  (by decide +kernel : ∀ t : Fin grid0.N, _)

/-- One step, at an entry. -/
theorem step_at (o : Vec Ideal S768x1024 .f32) (g : Vec Ideal S768x2048 .f32) (w : Vec Ideal S1024x2048 .bf16) (a : Fin 768) (b : Fin 1024) :
    k0_pay2 (F := Ideal) o g w (ix2 a b) = o (ix2 a b) + ∑ k : Fin 2048, g (ix2 a k) * w (ix2 b k) := by pointwise [k0_pay2]

/-- **The call's result** is the product. -/
theorem result : (dats m 0 c).arrAt 2 cfg0.N
    = (fun i => entry 2048 (lhs m c) (rhs m c) (i 0).val (i 1).val : FVec Ideal S2304x8192 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel6Ideal_Reference6Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference6Ideal.Value.run m' ρ')⟩

end Cert.Kernel6Ideal.Product

namespace Cert.Kernel7Ideal.Product

open Cert.Kernel7Ideal Cert.Kernel7Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2304x8192 .f32))
/-- The cotangent. -/
abbrev rhs : ℕ → ℕ → EReal := ent (m ((c : Thread nD τ).loc main_arg1) : FVec Ideal S2304x2048 .f32)

/-- Which tiles a point reads, and which block it works on. -/
theorem places : ∀ t : Fin cfg0.N, win0_0.index t (0 : Fin 2) = t.val % 2 ∧ win0_0.index t (1 : Fin 2) = t.val / (2 * 2)
    ∧ win0_1.index t (0 : Fin 2) = t.val % 2 ∧ win0_1.index t (1 : Fin 2) = t.val / 2 % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (2 * 2) * 1024 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S8192x2048 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel7Ideal_Reference7Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference7Ideal.Value.run m' ρ')⟩

end Cert.Kernel7Ideal.Product

end
-- ==== Proof.Products.Mlp1Last.lean ====
module

public import proofs.«01_k».proof.Proof.Products.Sums
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Reference8Ideal.Run
public import proofs.«01_k».proof.Proof.Gen.Reference9Ideal.Run
public import proofs.«01_k».proof.Proof.Gen.Reference10Ideal.Run
public import proofs.«01_k».proof.Defs

/-!
# `mlp1_3`, from 2048 columns to 8192, on 2048 rows

The product and the weight gradient read their inner width in one tile, the input gradient in four.
-/

@[expose] public section

noncomputable section

namespace Cert.Kernel8Ideal.Product

open Cert.Kernel8Ideal Cert.Kernel8Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2048x2048 .f32)
/-- The weight. -/
abbrev rhs : ℕ → ℕ → EReal := ent (m ((c : Thread nD τ).loc main_arg1) : FVec Ideal S2048x8192 .bf16)

/-- Which tiles a point reads, and which block it works on. -/
theorem places : ∀ t : Fin cfg0.N, win0_0.index t (0 : Fin 2) = t.val / (8 * 1) ∧ win0_0.index t (1 : Fin 2) = t.val % 1
    ∧ win0_1.index t (0 : Fin 2) = t.val % 1 ∧ win0_1.index t (1 : Fin 2) = t.val / 1 % 8
    ∧ win0_2.index t (0 : Fin 2) = t.val / (8 * 1) ∧ win0_2.index t (1 : Fin 2) = t.val / 1 % 8 :=
  (by decide +kernel : ∀ t : Fin grid0.N, _)

/-- One step, at an entry. -/
theorem step_at (o : Vec Ideal S1024x1024 .f32) (x : Vec Ideal S1024x2048 .f32) (w : Vec Ideal S2048x1024 .bf16) (a b : Fin 1024) :
    k0_pay2 (F := Ideal) o x w (ix2 a b) = o (ix2 a b) + ∑ k : Fin 2048, x (ix2 a k) * w (ix2 k b) := by pointwise [k0_pay2]

/-- **The call's result** is the product. -/
theorem result : (dats m 0 c).arrAt 2 cfg0.N
    = (fun i => entry 2048 (lhs m c) (rhs m c) (i 0).val (i 1).val : FVec Ideal S2048x8192 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel8Ideal_Reference8Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference8Ideal.Value.run m' ρ')⟩

end Cert.Kernel8Ideal.Product

namespace Cert.Kernel9Ideal.Product

open Cert.Kernel9Ideal Cert.Kernel9Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2048x8192 .f32)
/-- The weight's transpose. -/
abbrev rhs : ℕ → ℕ → EReal := flip (ent (m ((c : Thread nD τ).loc main_arg1) : FVec Ideal S2048x8192 .bf16))

/-- Which tiles a point reads, and which block it works on. -/
theorem places : ∀ t : Fin cfg0.N, win0_0.index t (0 : Fin 2) = t.val / (2 * 4) ∧ win0_0.index t (1 : Fin 2) = t.val % 4
    ∧ win0_1.index t (0 : Fin 2) = t.val / 4 % 2 ∧ win0_1.index t (1 : Fin 2) = t.val % 4
    ∧ win0_2.index t (0 : Fin 2) = t.val / (2 * 4) ∧ win0_2.index t (1 : Fin 2) = t.val / 4 % 2 :=
  (by decide +kernel : ∀ t : Fin grid0.N, _)

/-- One step, at an entry. -/
theorem step_at (o : Vec Ideal S1024x1024 .f32) (g : Vec Ideal S1024x2048 .f32) (w : Vec Ideal S1024x2048 .bf16) (a b : Fin 1024) :
    k0_pay2 (F := Ideal) o g w (ix2 a b) = o (ix2 a b) + ∑ k : Fin 2048, g (ix2 a k) * w (ix2 b k) := by pointwise [k0_pay2]

/-- What the accumulator holds after a block's last point. -/
theorem block (t : Fin cfg0.N) (ht : t.val % 4 = 3) (y : S1024x1024.Idx) : (outsAt0 m c t.val t.isLt).2 y
    = entry 8192 (lhs m c) (rhs m c) (t.val / (2 * 4) * 1024 + (y 0).val) (t.val / 4 % 2 * 1024 + (y 1).val) :=
  block_of_steps (acc := fun n h => (outsAt0 m c n h).2) (step := fun t o => k0_pay2 o (iblk m c 0 t) (iblk m c 1 t))
    (X := fun t a k => (iblk m c 0 t : Vec Ideal S1024x2048 .f32) (ix2 a k)) (Y := fun t k b => (iblk m c 1 t : Vec Ideal S1024x2048 .bf16) (ix2 b k))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by
      by_cases h' : t.val % 4 = 3
      · rw [outsAt0_C m c t h h']; frame_out; rw [read_unread_whole]
      · rw [outsAt0_B m c t h h']; frame_out; rw [read_unread_whole]) t (by omega) y

/-- **The call's result** is the product. -/
theorem result : (dats m 0 c).arrAt 2 cfg0.N
    = (fun i => entry 8192 (lhs m c) (rhs m c) (i 0).val (i 1).val : FVec Ideal S2048x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_C m c t (by omega) ht]
  frame_out

/-- The run of the call and the run of the reference end with the same array. -/
theorem values : Cert.algebraic_Kernel9Ideal_Reference9Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference9Ideal.Value.run m' ρ')⟩

end Cert.Kernel9Ideal.Product

namespace Cert.Kernel10Ideal.Product

open Cert.Kernel10Ideal Cert.Kernel10Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2048x2048 .f32))
/-- The cotangent. -/
abbrev rhs : ℕ → ℕ → EReal := ent (m ((c : Thread nD τ).loc main_arg1) : FVec Ideal S2048x8192 .f32)

/-- Which tiles a point reads, and which block it works on. -/
theorem places : ∀ t : Fin cfg0.N, win0_0.index t (0 : Fin 2) = t.val % 1 ∧ win0_0.index t (1 : Fin 2) = t.val / (8 * 1)
    ∧ win0_1.index t (0 : Fin 2) = t.val % 1 ∧ win0_1.index t (1 : Fin 2) = t.val / 1 % 8
    ∧ win0_2.index t (0 : Fin 2) = t.val / (8 * 1) ∧ win0_2.index t (1 : Fin 2) = t.val / 1 % 8 :=
  (by decide +kernel : ∀ t : Fin grid0.N, _)

/-- One step, at an entry. -/
theorem step_at (o : Vec Ideal S1024x1024 .f32) (x g : Vec Ideal S2048x1024 .f32) (a b : Fin 1024) :
    k0_pay2 (F := Ideal) o x g (ix2 a b) = o (ix2 a b) + ∑ k : Fin 2048, x (ix2 k a) * g (ix2 k b) := by pointwise [k0_pay2]

/-- **The call's result** is the product. -/
theorem result : (dats m 0 c).arrAt 2 cfg0.N
    = (fun i => entry 2048 (lhs m c) (rhs m c) (i 0).val (i 1).val : FVec Ideal S2048x8192 .bf16) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out
  rfl

/-- The run of the call and the run of the reference end with the same array. -/
theorem values : Cert.algebraic_Kernel10Ideal_Reference10Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference10Ideal.Value.run m' ρ')⟩

end Cert.Kernel10Ideal.Product

end
-- ==== Proof.Products.Mlp2Last.lean ====
module

public import proofs.«01_k».proof.Proof.Products.Sums
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Reference11Ideal.Run
public import proofs.«01_k».proof.Proof.Gen.Reference12Ideal.Run
public import proofs.«01_k».proof.Proof.Gen.Reference13Ideal.Run
public import proofs.«01_k».proof.Defs

/-!
# `mlp2_3`, from 8192 columns to 2048, on 2048 rows

The product reads its inner width in four tiles, the two gradients in one.
-/

@[expose] public section

noncomputable section

namespace Cert.Kernel11Ideal.Product

open Cert.Kernel11Ideal Cert.Kernel11Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2048x8192 .f32)
/-- The weight. -/
abbrev rhs : ℕ → ℕ → EReal := ent (m ((c : Thread nD τ).loc main_arg1) : FVec Ideal S8192x2048 .bf16)

/-- Which tiles a point reads, and which block it works on. -/
theorem places : ∀ t : Fin cfg0.N, win0_0.index t (0 : Fin 2) = t.val / (2 * 4) ∧ win0_0.index t (1 : Fin 2) = t.val % 4
    ∧ win0_1.index t (0 : Fin 2) = t.val % 4 ∧ win0_1.index t (1 : Fin 2) = t.val / 4 % 2
    ∧ win0_2.index t (0 : Fin 2) = t.val / (2 * 4) ∧ win0_2.index t (1 : Fin 2) = t.val / 4 % 2 :=
  (by decide +kernel : ∀ t : Fin grid0.N, _)

/-- One step, at an entry. -/
theorem step_at (o : Vec Ideal S1024x1024 .f32) (x : Vec Ideal S1024x2048 .f32) (w : Vec Ideal S2048x1024 .bf16) (a b : Fin 1024) :
    k0_pay2 (F := Ideal) o x w (ix2 a b) = o (ix2 a b) + ∑ k : Fin 2048, x (ix2 a k) * w (ix2 k b) := by pointwise [k0_pay2]

/-- What the accumulator holds after a block's last point. -/
theorem block (t : Fin cfg0.N) (ht : t.val % 4 = 3) (y : S1024x1024.Idx) : (outsAt0 m c t.val t.isLt).2 y
    = entry 8192 (lhs m c) (rhs m c) (t.val / (2 * 4) * 1024 + (y 0).val) (t.val / 4 % 2 * 1024 + (y 1).val) :=
  block_of_steps (acc := fun n h => (outsAt0 m c n h).2) (step := fun t o => k0_pay2 o (iblk m c 0 t) (iblk m c 1 t))
    (X := fun t a k => (iblk m c 0 t : Vec Ideal S1024x2048 .f32) (ix2 a k)) (Y := fun t k b => (iblk m c 1 t : Vec Ideal S2048x1024 .bf16) (ix2 k b))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by
      by_cases h' : t.val % 4 = 3
      · rw [outsAt0_C m c t h h']; frame_out; rw [read_unread_whole]
      · rw [outsAt0_B m c t h h']; frame_out; rw [read_unread_whole]) t (by omega) y

/-- **The call's result** is the product. -/
theorem result : (dats m 0 c).arrAt 2 cfg0.N
    = (fun i => entry 8192 (lhs m c) (rhs m c) (i 0).val (i 1).val : FVec Ideal S2048x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_C m c t (by omega) ht]
  frame_out

/-- The run of the call and the run of the reference end with the same array. -/
theorem values : Cert.algebraic_Kernel11Ideal_Reference11Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference11Ideal.Value.run m' ρ')⟩

end Cert.Kernel11Ideal.Product

namespace Cert.Kernel12Ideal.Product

open Cert.Kernel12Ideal Cert.Kernel12Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2048x2048 .f32)
/-- The weight's transpose. -/
abbrev rhs : ℕ → ℕ → EReal := flip (ent (m ((c : Thread nD τ).loc main_arg1) : FVec Ideal S8192x2048 .bf16))

/-- Which tiles a point reads, and which block it works on. -/
theorem places : ∀ t : Fin cfg0.N, win0_0.index t (0 : Fin 2) = t.val / (8 * 1) ∧ win0_0.index t (1 : Fin 2) = t.val % 1
    ∧ win0_1.index t (0 : Fin 2) = t.val / 1 % 8 ∧ win0_1.index t (1 : Fin 2) = t.val % 1
    ∧ win0_2.index t (0 : Fin 2) = t.val / (8 * 1) ∧ win0_2.index t (1 : Fin 2) = t.val / 1 % 8 :=
  (by decide +kernel : ∀ t : Fin grid0.N, _)

/-- One step, at an entry. -/
theorem step_at (o : Vec Ideal S1024x1024 .f32) (g : Vec Ideal S1024x2048 .f32) (w : Vec Ideal S1024x2048 .bf16) (a b : Fin 1024) :
    k0_pay2 (F := Ideal) o g w (ix2 a b) = o (ix2 a b) + ∑ k : Fin 2048, g (ix2 a k) * w (ix2 b k) := by pointwise [k0_pay2]

/-- **The call's result** is the product. -/
theorem result : (dats m 0 c).arrAt 2 cfg0.N
    = (fun i => entry 2048 (lhs m c) (rhs m c) (i 0).val (i 1).val : FVec Ideal S2048x8192 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel12Ideal_Reference12Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference12Ideal.Value.run m' ρ')⟩

end Cert.Kernel12Ideal.Product

namespace Cert.Kernel13Ideal.Product

open Cert.Kernel13Ideal Cert.Kernel13Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2048x8192 .f32))
/-- The cotangent. -/
abbrev rhs : ℕ → ℕ → EReal := ent (m ((c : Thread nD τ).loc main_arg1) : FVec Ideal S2048x2048 .f32)

/-- Which tiles a point reads, and which block it works on. -/
theorem places : ∀ t : Fin cfg0.N, win0_0.index t (0 : Fin 2) = t.val % 1 ∧ win0_0.index t (1 : Fin 2) = t.val / (2 * 1)
    ∧ win0_1.index t (0 : Fin 2) = t.val % 1 ∧ win0_1.index t (1 : Fin 2) = t.val / 1 % 2
    ∧ win0_2.index t (0 : Fin 2) = t.val / (2 * 1) ∧ win0_2.index t (1 : Fin 2) = t.val / 1 % 2 :=
  (by decide +kernel : ∀ t : Fin grid0.N, _)

/-- One step, at an entry. -/
theorem step_at (o : Vec Ideal S1024x1024 .f32) (x g : Vec Ideal S2048x1024 .f32) (a b : Fin 1024) :
    k0_pay2 (F := Ideal) o x g (ix2 a b) = o (ix2 a b) + ∑ k : Fin 2048, x (ix2 k a) * g (ix2 k b) := by pointwise [k0_pay2]

/-- **The call's result** is the product. -/
theorem result : (dats m 0 c).arrAt 2 cfg0.N
    = (fun i => entry 2048 (lhs m c) (rhs m c) (i 0).val (i 1).val : FVec Ideal S8192x2048 .bf16) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out
  rfl

/-- The run of the call and the run of the reference end with the same array. -/
theorem values : Cert.algebraic_Kernel13Ideal_Reference13Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference13Ideal.Value.run m' ρ')⟩

end Cert.Kernel13Ideal.Product

end
-- ==== Proof.Products.RetInV.lean ====
module

public import proofs.«01_k».proof.Proof.Products.Sums
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Reference14Ideal.Run
public import proofs.«01_k».proof.Proof.Gen.Reference15Ideal.Run
public import proofs.«01_k».proof.Proof.Gen.Reference16Ideal.Run
public import proofs.«01_k».proof.Defs

/-!
# `ret_in_v`, from 2048 columns to 4096, on 2304 rows

The product reads its inner width in one tile, the two gradients in two.
-/

@[expose] public section

noncomputable section

namespace Cert.Kernel14Ideal.Product

open Cert.Kernel14Ideal Cert.Kernel14Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2304x2048 .f32)
/-- The weight. -/
abbrev rhs : ℕ → ℕ → EReal := ent (m ((c : Thread nD τ).loc main_arg1) : FVec Ideal S2048x4096 .bf16)

/-- Which tiles a point reads, and which block it works on. -/
theorem places : ∀ t : Fin cfg0.N, win0_0.index t (0 : Fin 2) = t.val / (4 * 1) ∧ win0_0.index t (1 : Fin 2) = t.val % 1
    ∧ win0_1.index t (0 : Fin 2) = t.val % 1 ∧ win0_1.index t (1 : Fin 2) = t.val / 1 % 4
    ∧ win0_2.index t (0 : Fin 2) = t.val / (4 * 1) ∧ win0_2.index t (1 : Fin 2) = t.val / 1 % 4 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- **The call's result** is the product. -/
theorem result : (dats m 0 c).arrAt 2 cfg0.N
    = (fun i => entry 2048 (lhs m c) (rhs m c) (i 0).val (i 1).val : FVec Ideal S2304x4096 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel14Ideal_Reference14Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference14Ideal.Value.run m' ρ')⟩

end Cert.Kernel14Ideal.Product

namespace Cert.Kernel15Ideal.Product

open Cert.Kernel15Ideal Cert.Kernel15Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2304x4096 .f32)
/-- The weight's transpose. -/
abbrev rhs : ℕ → ℕ → EReal := flip (ent (m ((c : Thread nD τ).loc main_arg1) : FVec Ideal S2048x4096 .bf16))

/-- Which tiles a point reads, and which block it works on. -/
theorem places : ∀ t : Fin cfg0.N, win0_0.index t (0 : Fin 2) = t.val / (2 * 2) ∧ win0_0.index t (1 : Fin 2) = t.val % 2
    ∧ win0_1.index t (0 : Fin 2) = t.val / 2 % 2 ∧ win0_1.index t (1 : Fin 2) = t.val % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S768x1024 .f32) (g : Vec Ideal S768x2048 .f32) (w : Vec Ideal S1024x2048 .bf16) (a : Fin 768) (b : Fin 1024) :
    k0_pay2 (F := Ideal) o g w (ix2 a b) = o (ix2 a b) + ∑ k : Fin 2048, g (ix2 a k) * w (ix2 b k) := by pointwise [k0_pay2]

/-- What the accumulator holds after a block's last point. -/
theorem block (t : Fin cfg0.N) (ht : t.val % 2 = 1) (y : S768x1024.Idx) : (outsAt0 m c t.val t.isLt).2 y
    = entry 4096 (lhs m c) (rhs m c) (t.val / (2 * 2) * 768 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S768x2048 .f32) (ix2 a k)) (Y := fun t k b => (iblk m c 1 t : Vec Ideal S1024x2048 .bf16) (ix2 b k))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 4096 (lhs m c) (rhs m c) (i 0).val (i 1).val : FVec Ideal S2304x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out

/-- The run of the call and the run of the reference end with the same array. -/
theorem values : Cert.algebraic_Kernel15Ideal_Reference15Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference15Ideal.Value.run m' ρ')⟩

end Cert.Kernel15Ideal.Product

namespace Cert.Kernel16Ideal.Product

open Cert.Kernel16Ideal Cert.Kernel16Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2304x2048 .f32))
/-- The cotangent. -/
abbrev rhs : ℕ → ℕ → EReal := ent (m ((c : Thread nD τ).loc main_arg1) : FVec Ideal S2304x4096 .f32)

/-- Which tiles a point reads, and which block it works on. -/
theorem places : ∀ t : Fin cfg0.N, win0_0.index t (0 : Fin 2) = t.val % 2 ∧ win0_0.index t (1 : Fin 2) = t.val / (4 * 2)
    ∧ win0_1.index t (0 : Fin 2) = t.val % 2 ∧ win0_1.index t (1 : Fin 2) = t.val / 2 % 4
    ∧ win0_2.index t (0 : Fin 2) = t.val / (4 * 2) ∧ win0_2.index t (1 : Fin 2) = t.val / 2 % 4 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (4 * 2) * 1024 + (y 0).val) (t.val / 2 % 4 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S2048x4096 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel16Ideal_Reference16Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference16Ideal.Value.run m' ρ')⟩

end Cert.Kernel16Ideal.Product

end
-- ==== Proof.Products.RetInQ.lean ====
module

public import proofs.«01_k».proof.Proof.Products.Sums
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Reference17Ideal.Run
public import proofs.«01_k».proof.Proof.Gen.Reference18Ideal.Run
public import proofs.«01_k».proof.Proof.Gen.Reference19Ideal.Run
public import proofs.«01_k».proof.Defs

/-!
# `ret_in_q`, from 2048 columns to 2048, on 2304 rows

The product and the input gradient read their inner width in one tile, the weight gradient in two.
-/

@[expose] public section

noncomputable section

namespace Cert.Kernel17Ideal.Product

open Cert.Kernel17Ideal Cert.Kernel17Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2304x2048 .f32)
/-- The weight. -/
abbrev rhs : ℕ → ℕ → EReal := ent (m ((c : Thread nD τ).loc main_arg1) : FVec Ideal S2048x2048 .bf16)

/-- Which tiles a point reads, and which block it works on. -/
theorem places : ∀ t : Fin cfg0.N, win0_0.index t (0 : Fin 2) = t.val / (2 * 1) ∧ win0_0.index t (1 : Fin 2) = t.val % 1
    ∧ win0_1.index t (0 : Fin 2) = t.val % 1 ∧ win0_1.index t (1 : Fin 2) = t.val / 1 % 2
    ∧ win0_2.index t (0 : Fin 2) = t.val / (2 * 1) ∧ win0_2.index t (1 : Fin 2) = t.val / 1 % 2 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- **The call's result** is the product. -/
theorem result : (dats m 0 c).arrAt 2 cfg0.N
    = (fun i => entry 2048 (lhs m c) (rhs m c) (i 0).val (i 1).val : FVec Ideal S2304x2048 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel17Ideal_Reference17Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference17Ideal.Value.run m' ρ')⟩

end Cert.Kernel17Ideal.Product

namespace Cert.Kernel18Ideal.Product

open Cert.Kernel18Ideal Cert.Kernel18Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2304x2048 .f32)
/-- The weight's transpose. -/
abbrev rhs : ℕ → ℕ → EReal := flip (ent (m ((c : Thread nD τ).loc main_arg1) : FVec Ideal S2048x2048 .bf16))

/-- Which tiles a point reads, and which block it works on. -/
theorem places : ∀ t : Fin cfg0.N, win0_0.index t (0 : Fin 2) = t.val / (2 * 1) ∧ win0_0.index t (1 : Fin 2) = t.val % 1
    ∧ win0_1.index t (0 : Fin 2) = t.val / 1 % 2 ∧ win0_1.index t (1 : Fin 2) = t.val % 1
    ∧ win0_2.index t (0 : Fin 2) = t.val / (2 * 1) ∧ win0_2.index t (1 : Fin 2) = t.val / 1 % 2 :=
  (by decide +kernel : ∀ t : Fin grid0.N, _)

/-- One step, at an entry. -/
theorem step_at (o : Vec Ideal S768x1024 .f32) (g : Vec Ideal S768x2048 .f32) (w : Vec Ideal S1024x2048 .bf16) (a : Fin 768) (b : Fin 1024) :
    k0_pay2 (F := Ideal) o g w (ix2 a b) = o (ix2 a b) + ∑ k : Fin 2048, g (ix2 a k) * w (ix2 b k) := by pointwise [k0_pay2]

/-- **The call's result** is the product. -/
theorem result : (dats m 0 c).arrAt 2 cfg0.N
    = (fun i => entry 2048 (lhs m c) (rhs m c) (i 0).val (i 1).val : FVec Ideal S2304x2048 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel18Ideal_Reference18Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference18Ideal.Value.run m' ρ')⟩

end Cert.Kernel18Ideal.Product

namespace Cert.Kernel19Ideal.Product

open Cert.Kernel19Ideal Cert.Kernel19Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2304x2048 .f32))
/-- The cotangent. -/
abbrev rhs : ℕ → ℕ → EReal := ent (m ((c : Thread nD τ).loc main_arg1) : FVec Ideal S2304x2048 .f32)

/-- Which tiles a point reads, and which block it works on. -/
theorem places : ∀ t : Fin cfg0.N, win0_0.index t (0 : Fin 2) = t.val % 2 ∧ win0_0.index t (1 : Fin 2) = t.val / (2 * 2)
    ∧ win0_1.index t (0 : Fin 2) = t.val % 2 ∧ win0_1.index t (1 : Fin 2) = t.val / 2 % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (2 * 2) * 1024 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S2048x2048 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel19Ideal_Reference19Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference19Ideal.Value.run m' ρ')⟩

end Cert.Kernel19Ideal.Product

end
-- ==== Proof.Products.RetOut.lean ====
module

public import proofs.«01_k».proof.Proof.Products.Sums
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Reference20Ideal.Run
public import proofs.«01_k».proof.Proof.Gen.Reference21Ideal.Run
public import proofs.«01_k».proof.Proof.Gen.Reference22Ideal.Run
public import proofs.«01_k».proof.Defs

/-!
# `ret_out`, from 4096 columns to 2048, on 2304 rows

The product and the weight gradient read their inner width in two tiles, the input gradient in one.
-/

@[expose] public section

noncomputable section

namespace Cert.Kernel20Ideal.Product

open Cert.Kernel20Ideal Cert.Kernel20Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2304x4096 .f32)
/-- The weight. -/
abbrev rhs : ℕ → ℕ → EReal := ent (m ((c : Thread nD τ).loc main_arg1) : FVec Ideal S4096x2048 .bf16)

/-- Which tiles a point reads, and which block it works on. -/
theorem places : ∀ t : Fin cfg0.N, win0_0.index t (0 : Fin 2) = t.val / (2 * 2) ∧ win0_0.index t (1 : Fin 2) = t.val % 2
    ∧ win0_1.index t (0 : Fin 2) = t.val % 2 ∧ win0_1.index t (1 : Fin 2) = t.val / 2 % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- What the accumulator holds after a block's last point. -/
theorem block (t : Fin cfg0.N) (ht : t.val % 2 = 1) (y : S768x1024.Idx) : (outsAt0 m c t.val t.isLt).2 y
    = entry 4096 (lhs m c) (rhs m c) (t.val / (2 * 2) * 768 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S768x2048 .f32) (ix2 a k)) (Y := fun t k b => (iblk m c 1 t : Vec Ideal S2048x1024 .bf16) (ix2 k b))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 4096 (lhs m c) (rhs m c) (i 0).val (i 1).val : FVec Ideal S2304x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out

/-- The run of the call and the run of the reference end with the same array. -/
theorem values : Cert.algebraic_Kernel20Ideal_Reference20Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference20Ideal.Value.run m' ρ')⟩

end Cert.Kernel20Ideal.Product

namespace Cert.Kernel21Ideal.Product

open Cert.Kernel21Ideal Cert.Kernel21Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2304x2048 .f32)
/-- The weight's transpose. -/
abbrev rhs : ℕ → ℕ → EReal := flip (ent (m ((c : Thread nD τ).loc main_arg1) : FVec Ideal S4096x2048 .bf16))

/-- Which tiles a point reads, and which block it works on. -/
theorem places : ∀ t : Fin cfg0.N, win0_0.index t (0 : Fin 2) = t.val / (4 * 1) ∧ win0_0.index t (1 : Fin 2) = t.val % 1
    ∧ win0_1.index t (0 : Fin 2) = t.val / 1 % 4 ∧ win0_1.index t (1 : Fin 2) = t.val % 1
    ∧ win0_2.index t (0 : Fin 2) = t.val / (4 * 1) ∧ win0_2.index t (1 : Fin 2) = t.val / 1 % 4 :=
  (by decide +kernel : ∀ t : Fin grid0.N, _)

/-- One step, at an entry. -/
theorem step_at (o : Vec Ideal S768x1024 .f32) (g : Vec Ideal S768x2048 .f32) (w : Vec Ideal S1024x2048 .bf16) (a : Fin 768) (b : Fin 1024) :
    k0_pay2 (F := Ideal) o g w (ix2 a b) = o (ix2 a b) + ∑ k : Fin 2048, g (ix2 a k) * w (ix2 b k) := by pointwise [k0_pay2]

/-- **The call's result** is the product. -/
theorem result : (dats m 0 c).arrAt 2 cfg0.N
    = (fun i => entry 2048 (lhs m c) (rhs m c) (i 0).val (i 1).val : FVec Ideal S2304x4096 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel21Ideal_Reference21Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference21Ideal.Value.run m' ρ')⟩

end Cert.Kernel21Ideal.Product

namespace Cert.Kernel22Ideal.Product

open Cert.Kernel22Ideal Cert.Kernel22Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2304x4096 .f32))
/-- The cotangent. -/
abbrev rhs : ℕ → ℕ → EReal := ent (m ((c : Thread nD τ).loc main_arg1) : FVec Ideal S2304x2048 .f32)

/-- Which tiles a point reads, and which block it works on. -/
theorem places : ∀ t : Fin cfg0.N, win0_0.index t (0 : Fin 2) = t.val % 2 ∧ win0_0.index t (1 : Fin 2) = t.val / (2 * 2)
    ∧ win0_1.index t (0 : Fin 2) = t.val % 2 ∧ win0_1.index t (1 : Fin 2) = t.val / 2 % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (2 * 2) * 1024 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S4096x2048 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel22Ideal_Reference22Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference22Ideal.Value.run m' ρ')⟩

end Cert.Kernel22Ideal.Product

end
-- ==== Proof.Products.SsdInX.lean ====
module

public import proofs.«01_k».proof.Proof.Products.Sums
public import proofs.«01_k».proof.Proof.Gen.Kernel23Ideal.Value
public import proofs.«01_k».proof.Proof.Gen.Kernel24Ideal.Value
public import proofs.«01_k».proof.Proof.Gen.Kernel25Ideal.Value
public import proofs.«01_k».proof.Proof.Gen.Reference23Ideal.Run
public import proofs.«01_k».proof.Proof.Gen.Reference24Ideal.Run
public import proofs.«01_k».proof.Proof.Gen.Reference25Ideal.Run
public import proofs.«01_k».proof.Defs

/-!
# `ssd_in_x`, from 2048 columns to 6144, on 2304 rows

The product reads its inner width in one tile, the input gradient in three, the weight gradient in two.
-/

@[expose] public section

noncomputable section

namespace Cert.Kernel23Ideal.Product

open Cert.Kernel23Ideal Cert.Kernel23Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2304x2048 .f32)
/-- The weight. -/
abbrev rhs : ℕ → ℕ → EReal := ent (m ((c : Thread nD τ).loc main_arg1) : FVec Ideal S2048x6144 .bf16)

/-- Which tiles a point reads, and which block it works on. -/
theorem places : ∀ t : Fin cfg0.N, win0_0.index t (0 : Fin 2) = t.val / (6 * 1) ∧ win0_0.index t (1 : Fin 2) = t.val % 1
    ∧ win0_1.index t (0 : Fin 2) = t.val % 1 ∧ win0_1.index t (1 : Fin 2) = t.val / 1 % 6
    ∧ win0_2.index t (0 : Fin 2) = t.val / (6 * 1) ∧ win0_2.index t (1 : Fin 2) = t.val / 1 % 6 :=
  (by decide +kernel : ∀ t : Fin grid0.N, _)

/-- One step, at an entry. -/
theorem step_at (o : Vec Ideal S768x1024 .f32) (x : Vec Ideal S768x2048 .f32) (w : Vec Ideal S2048x1024 .bf16) (a : Fin 768) (b : Fin 1024) :
    k0_pay2 (F := Ideal) o x w (ix2 a b) = o (ix2 a b) + ∑ k : Fin 2048, x (ix2 a k) * w (ix2 k b) := by pointwise [k0_pay2]

/-- **The call's result** is the product. -/
theorem result : (dats m 0 c).arrAt 2 cfg0.N
    = (fun i => entry 2048 (lhs m c) (rhs m c) (i 0).val (i 1).val : FVec Ideal S2304x6144 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel23Ideal_Reference23Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference23Ideal.Value.run m' ρ')⟩

end Cert.Kernel23Ideal.Product

namespace Cert.Kernel24Ideal.Product

open Cert.Kernel24Ideal Cert.Kernel24Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2304x6144 .f32)
/-- The weight's transpose. -/
abbrev rhs : ℕ → ℕ → EReal := flip (ent (m ((c : Thread nD τ).loc main_arg1) : FVec Ideal S2048x6144 .bf16))

/-- Which tiles a point reads, and which block it works on. -/
theorem places : ∀ t : Fin cfg0.N, win0_0.index t (0 : Fin 2) = t.val / (2 * 3) ∧ win0_0.index t (1 : Fin 2) = t.val % 3
    ∧ win0_1.index t (0 : Fin 2) = t.val / 3 % 2 ∧ win0_1.index t (1 : Fin 2) = t.val % 3
    ∧ win0_2.index t (0 : Fin 2) = t.val / (2 * 3) ∧ win0_2.index t (1 : Fin 2) = t.val / 3 % 2 :=
  (by decide +kernel : ∀ t : Fin grid0.N, _)

/-- One step, at an entry. -/
theorem step_at (o : Vec Ideal S768x1024 .f32) (g : Vec Ideal S768x2048 .f32) (w : Vec Ideal S1024x2048 .bf16) (a : Fin 768) (b : Fin 1024) :
    k0_pay2 (F := Ideal) o g w (ix2 a b) = o (ix2 a b) + ∑ k : Fin 2048, g (ix2 a k) * w (ix2 b k) := by pointwise [k0_pay2]

/-- What the accumulator holds after a block's last point. -/
theorem block (t : Fin cfg0.N) (ht : t.val % 3 = 2) (y : S768x1024.Idx) : (outsAt0 m c t.val t.isLt).2 y
    = entry 6144 (lhs m c) (rhs m c) (t.val / (2 * 3) * 768 + (y 0).val) (t.val / 3 % 2 * 1024 + (y 1).val) :=
  block_of_steps (acc := fun n h => (outsAt0 m c n h).2) (step := fun t o => k0_pay2 o (iblk m c 0 t) (iblk m c 1 t))
    (X := fun t a k => (iblk m c 0 t : Vec Ideal S768x2048 .f32) (ix2 a k)) (Y := fun t k b => (iblk m c 1 t : Vec Ideal S1024x2048 .bf16) (ix2 b k))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by
      by_cases h' : t.val % 3 = 2
      · rw [outsAt0_C m c t h h']; frame_out; rw [read_unread_whole]
      · rw [outsAt0_B m c t h h']; frame_out; rw [read_unread_whole]) t (by omega) y

/-- **The call's result** is the product. -/
theorem result : (dats m 0 c).arrAt 2 cfg0.N
    = (fun i => entry 6144 (lhs m c) (rhs m c) (i 0).val (i 1).val : FVec Ideal S2304x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_C m c t (by omega) ht]
  frame_out

/-- The run of the call and the run of the reference end with the same array. -/
theorem values : Cert.algebraic_Kernel24Ideal_Reference24Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference24Ideal.Value.run m' ρ')⟩

end Cert.Kernel24Ideal.Product

namespace Cert.Kernel25Ideal.Product

open Cert.Kernel25Ideal Cert.Kernel25Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2304x2048 .f32))
/-- The cotangent. -/
abbrev rhs : ℕ → ℕ → EReal := ent (m ((c : Thread nD τ).loc main_arg1) : FVec Ideal S2304x6144 .f32)

/-- Which tiles a point reads, and which block it works on. -/
theorem places : ∀ t : Fin cfg0.N, win0_0.index t (0 : Fin 2) = t.val % 2 ∧ win0_0.index t (1 : Fin 2) = t.val / (6 * 2)
    ∧ win0_1.index t (0 : Fin 2) = t.val % 2 ∧ win0_1.index t (1 : Fin 2) = t.val / 2 % 6
    ∧ win0_2.index t (0 : Fin 2) = t.val / (6 * 2) ∧ win0_2.index t (1 : Fin 2) = t.val / 2 % 6 :=
  (by decide +kernel : ∀ t : Fin grid0.N, _)

/-- One step, at an entry. -/
theorem step_at (o : Vec Ideal S1024x1024 .f32) (x g : Vec Ideal S1152x1024 .f32) (a b : Fin 1024) :
    k0_pay2 (F := Ideal) o x g (ix2 a b) = o (ix2 a b) + ∑ k : Fin 1152, x (ix2 k a) * g (ix2 k b) := by pointwise [k0_pay2]

/-- What the accumulator holds after a block's last point. -/
theorem block (t : Fin cfg0.N) (ht : t.val % 2 = 1) (y : S1024x1024.Idx) : (outsAt0 m c t.val t.isLt).2 y
    = entry 2304 (lhs m c) (rhs m c) (t.val / (6 * 2) * 1024 + (y 0).val) (t.val / 2 % 6 * 1024 + (y 1).val) :=
  block_of_steps (acc := fun n h => (outsAt0 m c n h).2) (step := fun t o => k0_pay2 o (iblk m c 0 t) (iblk m c 1 t))
    (X := fun t a k => (iblk m c 0 t : Vec Ideal S1152x1024 .f32) (ix2 k a)) (Y := fun t k b => (iblk m c 1 t : Vec Ideal S1152x1024 .f32) (ix2 k b))
    (L := lhs m c) (R := rhs m c) rfl
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 2304 (lhs m c) (rhs m c) (i 0).val (i 1).val : FVec Ideal S2048x6144 .bf16) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out
  rfl

/-- The run of the call and the run of the reference end with the same array. -/
theorem values : Cert.algebraic_Kernel25Ideal_Reference25Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference25Ideal.Value.run m' ρ')⟩

end Cert.Kernel25Ideal.Product

end
-- ==== Proof.Products.GdnOut.lean ====
module

public import proofs.«01_k».proof.Proof.Products.Sums
public import proofs.«01_k».proof.Proof.Gen.Kernel26Ideal.Value
public import proofs.«01_k».proof.Proof.Gen.Kernel27Ideal.Value
public import proofs.«01_k».proof.Proof.Gen.Kernel28Ideal.Value
public import proofs.«01_k».proof.Proof.Gen.Reference26Ideal.Run
public import proofs.«01_k».proof.Proof.Gen.Reference27Ideal.Run
public import proofs.«01_k».proof.Proof.Gen.Reference28Ideal.Run
public import proofs.«01_k».proof.Defs

/-!
# `gdn_out`, from 4096 columns to 2048, on 2048 rows

The product reads its inner width in two tiles, the two gradients in one.
-/

@[expose] public section

noncomputable section

namespace Cert.Kernel26Ideal.Product

open Cert.Kernel26Ideal Cert.Kernel26Ideal.Gen Idealize.ShloMosaic Idealize.ShloMosaic.TcCoe Cert.Products

variable (m : (ℓ : Loc nD τ sig) → Buf (Elt Ideal) ℓ) (c : Dev nD)

/-- The activations. -/
abbrev lhs : ℕ → ℕ → EReal := ent (m ((c : Thread nD τ).loc main_arg0) : FVec Ideal S2048x4096 .f32)
/-- The weight. -/
abbrev rhs : ℕ → ℕ → EReal := ent (m ((c : Thread nD τ).loc main_arg1) : FVec Ideal S4096x2048 .bf16)

/-- Which tiles a point reads, and which block it works on. -/
theorem places : ∀ t : Fin cfg0.N, win0_0.index t (0 : Fin 2) = t.val / (2 * 2) ∧ win0_0.index t (1 : Fin 2) = t.val % 2
    ∧ win0_1.index t (0 : Fin 2) = t.val % 2 ∧ win0_1.index t (1 : Fin 2) = t.val / 2 % 2
    ∧ win0_2.index t (0 : Fin 2) = t.val / (2 * 2) ∧ win0_2.index t (1 : Fin 2) = t.val / 2 % 2 :=
  (by decide +kernel : ∀ t : Fin grid0.N, _)

/-- One step, at an entry. -/
theorem step_at (o : Vec Ideal S1024x1024 .f32) (x : Vec Ideal S1024x2048 .f32) (w : Vec Ideal S2048x1024 .bf16) (a b : Fin 1024) :
    k0_pay2 (F := Ideal) o x w (ix2 a b) = o (ix2 a b) + ∑ k : Fin 2048, x (ix2 a k) * w (ix2 k b) := by pointwise [k0_pay2]

/-- What the accumulator holds after a block's last point. -/
theorem block (t : Fin cfg0.N) (ht : t.val % 2 = 1) (y : S1024x1024.Idx) : (outsAt0 m c t.val t.isLt).2 y
    = entry 4096 (lhs m c) (rhs m c) (t.val / (2 * 2) * 1024 + (y 0).val) (t.val / 2 % 2 * 1024 + (y 1).val) :=
  block_of_steps (acc := fun n h => (outsAt0 m c n h).2) (step := fun t o => k0_pay2 o (iblk m c 0 t) (iblk m c 1 t))
    (X := fun t a k => (iblk m c 0 t : Vec Ideal S1024x2048 .f32) (ix2 a k)) (Y := fun t k b => (iblk m c 1 t : Vec Ideal S2048x1024 .bf16) (ix2 k b))
    (L := lhs m c) (R := rhs m c) rfl
    (fun t a k => ent_block _ (((cfg0.win 0).blk t).view.emb (ix2 a k)) rfl rfl (places t).1 (places t).2.1)
    (fun t k b => ent_block _ (((cfg0.win 1).blk t).view.emb (ix2 k b)) rfl rfl (places t).2.2.1 (places t).2.2.2.1)
    (zero := k0_pay1 (F := Ideal)) (fun a b => by pointwise [k0_pay1]) (fun t o a b => step_at o _ _ a b)
    (fun t h => by rw [outsAt0_A m c t h (by omega)]; frame_out)
    (fun t h => by rw [outsAt0_B m c t h (by omega)]; frame_out; rw [read_unread_whole]) t (by omega) y

/-- **The call's result** is the product. -/
theorem result : (dats m 0 c).arrAt 2 cfg0.N
    = (fun i => entry 4096 (lhs m c) (rhs m c) (i 0).val (i 1).val : FVec Ideal S2048x2048 .f32) := by
  refine (dats m 0 c).arrAt_eq_of_covers 2 _ (by decide +kernel) fun t hf y => ?_
  have ht := (flush0_2 t).mp hf
  blk_simp
  rw [after0_2, (places t).2.2.2.2.1, (places t).2.2.2.2.2, ← block m c t ht y, outsAt0_B m c t (by omega) ht]
  frame_out

/-- The run of the call and the run of the reference end with the same array. -/
theorem values : Cert.algebraic_Kernel26Ideal_Reference26Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nn _ _ r s)), (h c).2⟩) (Cert.Reference26Ideal.Value.run m' ρ')⟩

end Cert.Kernel26Ideal.Product

namespace Cert.Kernel27Ideal.Product

open Cert.Kernel27Ideal Cert.Kernel27Ideal.Gen Idealize.ShloMosaic Idealize.ShloMosaic.TcCoe Cert.Products

variable (m : (ℓ : Loc nD τ sig) → Buf (Elt Ideal) ℓ) (c : Dev nD)

/-- The cotangent. -/
abbrev lhs : ℕ → ℕ → EReal := ent (m ((c : Thread nD τ).loc main_arg0) : FVec Ideal S2048x2048 .f32)
/-- The weight's transpose. -/
abbrev rhs : ℕ → ℕ → EReal := flip (ent (m ((c : Thread nD τ).loc main_arg1) : FVec Ideal S4096x2048 .bf16))

/-- Which tiles a point reads, and which block it works on. -/
theorem places : ∀ t : Fin cfg0.N, win0_0.index t (0 : Fin 2) = t.val / (4 * 1) ∧ win0_0.index t (1 : Fin 2) = t.val % 1
    ∧ win0_1.index t (0 : Fin 2) = t.val / 1 % 4 ∧ win0_1.index t (1 : Fin 2) = t.val % 1
    ∧ win0_2.index t (0 : Fin 2) = t.val / (4 * 1) ∧ win0_2.index t (1 : Fin 2) = t.val / 1 % 4 :=
  (by decide +kernel : ∀ t : Fin grid0.N, _)

/-- One step, at an entry. -/
theorem step_at (o : Vec Ideal S1024x1024 .f32) (g : Vec Ideal S1024x2048 .f32) (w : Vec Ideal S1024x2048 .bf16) (a b : Fin 1024) :
    k0_pay2 (F := Ideal) o g w (ix2 a b) = o (ix2 a b) + ∑ k : Fin 2048, g (ix2 a k) * w (ix2 b k) := by pointwise [k0_pay2]

/-- **The call's result** is the product. -/
theorem result : (dats m 0 c).arrAt 2 cfg0.N
    = (fun i => entry 2048 (lhs m c) (rhs m c) (i 0).val (i 1).val : FVec Ideal S2048x4096 .f32) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 a k)) rfl rfl (places t).1 (places t).2.1)
    (fun t k b => ent_block _ (((cfg0.win 1).blk t).view.emb (ix2 b k)) rfl rfl (places t).2.2.1 (places t).2.2.2.1)
    (fun a b => by pointwise [k0_pay1]) (fun t o a b => step_at o _ _ a b) t y]
  unfold outsAt0
  frame_out

/-- The run of the call and the run of the reference end with the same array. -/
theorem values : Cert.algebraic_Kernel27Ideal_Reference27Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_nt _ _ r s)), (h c).2⟩) (Cert.Reference27Ideal.Value.run m' ρ')⟩

end Cert.Kernel27Ideal.Product

namespace Cert.Kernel28Ideal.Product

open Cert.Kernel28Ideal Cert.Kernel28Ideal.Gen Idealize.ShloMosaic Idealize.ShloMosaic.TcCoe Cert.Products

variable (m : (ℓ : Loc nD τ sig) → Buf (Elt Ideal) ℓ) (c : Dev nD)

/-- The activations' transpose. -/
abbrev lhs : ℕ → ℕ → EReal := flip (ent (m ((c : Thread nD τ).loc main_arg0) : FVec Ideal S2048x4096 .f32))
/-- The cotangent. -/
abbrev rhs : ℕ → ℕ → EReal := ent (m ((c : Thread nD τ).loc main_arg1) : FVec Ideal S2048x2048 .f32)

/-- Which tiles a point reads, and which block it works on. -/
theorem places : ∀ t : Fin cfg0.N, win0_0.index t (0 : Fin 2) = t.val % 1 ∧ win0_0.index t (1 : Fin 2) = t.val / (2 * 1)
    ∧ win0_1.index t (0 : Fin 2) = t.val % 1 ∧ win0_1.index t (1 : Fin 2) = t.val / 1 % 2
    ∧ win0_2.index t (0 : Fin 2) = t.val / (2 * 1) ∧ win0_2.index t (1 : Fin 2) = t.val / 1 % 2 :=
  (by decide +kernel : ∀ t : Fin grid0.N, _)

/-- One step, at an entry. -/
theorem step_at (o : Vec Ideal S1024x1024 .f32) (x g : Vec Ideal S2048x1024 .f32) (a b : Fin 1024) :
    k0_pay2 (F := Ideal) o x g (ix2 a b) = o (ix2 a b) + ∑ k : Fin 2048, x (ix2 k a) * g (ix2 k b) := by pointwise [k0_pay2]

/-- **The call's result** is the product. -/
theorem result : (dats m 0 c).arrAt 2 cfg0.N
    = (fun i => entry 2048 (lhs m c) (rhs m c) (i 0).val (i 1).val : FVec Ideal S4096x2048 .bf16) := by
  refine (dats m 0 c).arrAt_eq_of_covers 2 _ (by decide +kernel) fun t hf y => ?_
  blk_simp
  rw [after0_2, (places t).2.2.2.2.1, (places t).2.2.2.2.2, ← block_of_step (L := lhs m c) (R := rhs m c)
    (step := fun t o => k0_pay2 o (iblk m c 0 t) (iblk m c 1 t)) (zero := k0_pay1 (F := Ideal))
    (fun t a k => ent_block _ (((cfg0.win 0).blk t).view.emb (ix2 k a)) rfl rfl (places t).1 (places t).2.1)
    (fun t k b => ent_block _ (((cfg0.win 1).blk t).view.emb (ix2 k b)) rfl rfl (places t).2.2.1 (places t).2.2.2.1)
    (fun a b => by pointwise [k0_pay1]) (fun t o a b => step_at o _ _ a b) t y]
  unfold outsAt0
  frame_out
  rfl

/-- The run of the call and the run of the reference end with the same array. -/
theorem values : Cert.algebraic_Kernel28Ideal_Reference28Ideal := fun m ρ m' ρ' _ hag =>
  ⟨_, Value.run_blocks m ρ, (θ_run _ _ _).mono (fun r h c => ⟨(h c).1.trans (by
    rw [(hag c).1, (hag c).2]
    exact agree (result m c) fun r s => Eq.trans (by pointwise []) (entry_tn _ _ r s)), (h c).2⟩) (Cert.Reference28Ideal.Value.run m' ρ')⟩

end Cert.Kernel28Ideal.Product

end
-- ==== Proof.Rows.Relu2.lean ====
module

public import proofs.«01_k».proof.Proof.Gen.Kernel29Ideal.Value
public import proofs.«01_k».proof.Proof.Gen.Kernel30Ideal.Value
public import proofs.«01_k».proof.Proof.Gen.Kernel31Ideal.Value
public import proofs.«01_k».proof.Proof.Gen.Kernel32Ideal.Value
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Defs
public import Idealize.ShloMosaic.Lib.Pointwise

/-!
# The MLP's activation, `max(h, 0)²`, and its derivative

The kernel takes the derivative of `max(h, 0)` at `0` to be one half, the reference takes it to be `0`: the other factor,
`2 * max(h, 0)`, is `0` there, so the two derivatives of the square are the same.
-/

@[expose] public section

noncomputable section

namespace Cert.Rows

open Idealize.ShloMosaic Idealize.SL.Sem

/-- The kernel's derivative at an entry is the reference's, whatever the kernel takes the derivative of `max(h, 0)` to be
    where `h` is not positive, as long as it is a number. -/
theorem relu2_slope (h g z : Ideal .f32) :
    FloatOps.mulf (FloatOps.mulf g (FloatOps.mulf (FloatOps.ofBits .f32 0x40000000#32) (FloatOps.maximumf h (FloatOps.ofBits .f32 0x00000000#32))))
        (Scalar.select (FloatOps.cmpf .ogt h (FloatOps.ofBits .f32 0x00000000#32)) (FloatOps.ofBits .f32 0x3F800000#32) z)
      = Scalar.select (FloatOps.cmpf .ogt h (FloatOps.ofBits .f32 0x00000000#32))
        (FloatOps.mulf g (FloatOps.mulf (FloatOps.ofBits .f32 0x40000000#32) (FloatOps.maximumf h (FloatOps.ofBits .f32 0x00000000#32))))
        (FloatOps.ofBits .f32 0x00000000#32) := by
  have h0 : (FloatOps.ofBits .f32 0x00000000#32 : Ideal .f32) = (0 : EReal) := by pointwise []
  have h1 : (FloatOps.ofBits .f32 0x3F800000#32 : Ideal .f32) = (1 : EReal) := by pointwise []
  rw [h0, h1]
  by_cases hp : (0 : EReal) < h
  · have c : FloatOps.cmpf (F := Ideal) (φ := .f32) .ogt h (0 : EReal) = 1#1 := by
      show Ideal.cmp .ogt h 0 = _
      simp [Ideal.cmp, hp]
    rw [c]
    exact mul_one (M := EReal) _
  · have c : FloatOps.cmpf (F := Ideal) (φ := .f32) .ogt h (0 : EReal) = 0#1 := by
      show Ideal.cmp .ogt h 0 = _
      simp [Ideal.cmp, hp]
    have e : FloatOps.maximumf (F := Ideal) (φ := .f32) h (0 : EReal) = (0 : EReal) := max_eq_right (not_lt.mp hp)
    rw [c, e]
    show ((g : EReal) * ((FloatOps.ofBits .f32 0x40000000#32 : Ideal .f32) * (0 : EReal) : EReal)) * z = (0 : EReal)
    rw [mul_zero (M₀ := EReal), mul_zero, zero_mul]

end Cert.Rows

open Idealize.ShloMosaic Idealize.SL.Sem

/-- `relu2_0`: the two runs end with the same activations. -/
theorem Cert.Kernel29Ideal.Row.values : Cert.algebraic_Kernel29Ideal_Reference29Ideal := fun m ρ m' ρ' _ hag =>
  ⟨_, Kernel29Ideal.Value.run m ρ, (θ_run _ _ _).mono (fun _ h c => ⟨(h c).1.trans (by rw [hag c]; rfl), (h c).2⟩)
    (Reference29Ideal.Value.run m' ρ')⟩

/-- `relu2_0`, backward: the two runs end with the same gradients. -/
theorem Cert.Kernel30Ideal.Row.values : Cert.algebraic_Kernel30Ideal_Reference30Ideal := fun m ρ m' ρ' _ hag =>
  ⟨_, Kernel30Ideal.Value.run m ρ, (θ_run _ _ _).mono (fun _ h c => ⟨(h c).1.trans (by
    rw [(hag c).1, (hag c).2]; exact funext fun i => (Rows.relu2_slope _ _ _).symm), (h c).2⟩) (Reference30Ideal.Value.run m' ρ')⟩

/-- `relu2_3`: the two runs end with the same activations. -/
theorem Cert.Kernel31Ideal.Row.values : Cert.algebraic_Kernel31Ideal_Reference31Ideal := fun m ρ m' ρ' _ hag =>
  ⟨_, Kernel31Ideal.Value.run m ρ, (θ_run _ _ _).mono (fun _ h c => ⟨(h c).1.trans (by rw [hag c]; rfl), (h c).2⟩)
    (Reference31Ideal.Value.run m' ρ')⟩

/-- `relu2_3`, backward: the two runs end with the same gradients. -/
theorem Cert.Kernel32Ideal.Row.values : Cert.algebraic_Kernel32Ideal_Reference32Ideal := fun m ρ m' ρ' _ hag =>
  ⟨_, Kernel32Ideal.Value.run m ρ, (θ_run _ _ _).mono (fun _ h c => ⟨(h c).1.trans (by
    rw [(hag c).1, (hag c).2]; exact funext fun i => (Rows.relu2_slope _ _ _).symm), (h c).2⟩) (Reference32Ideal.Value.run m' ρ')⟩

end
-- ==== Proof.Rows.Adam.lean ====
module

public import proofs.«01_k».proof.Proof.Products.Sums

/-!
# One step of AdamW at an entry

Both programs are elementwise after the parts of the gradient are added: the kernel adds the four parts one after the other,
the reference sums over the parts' axis.
-/

@[expose] public section

noncomputable section

namespace Cert.Rows

open Idealize.ShloMosaic Cert.Products

variable {F : FTy → Type} [FloatOps F]

/-- The first moment after the step. -/
abbrev moment (m g : F .f32) : F .f32 :=
  FloatOps.addf (FloatOps.mulf (FloatOps.ofBits .f32 0x3F666666#32) m) (FloatOps.mulf (FloatOps.ofBits .f32 0x3DCCCCCD#32) g)

/-- The second moment after the step. -/
abbrev square (v g : F .f32) : F .f32 :=
  FloatOps.addf (FloatOps.mulf (FloatOps.ofBits .f32 0x3F7FBE77#32) v)
    (FloatOps.mulf (FloatOps.ofBits .f32 0x3A83126F#32) (FloatOps.mulf g g))

/-- What the step adds to the weight `w`. -/
abbrev change (w m v g : F .f32) : F .f32 :=
  FloatOps.mulf (FloatOps.ofBits .f32 0xBA83126F#32) (FloatOps.addf
    (FloatOps.divf (FloatOps.divf (moment m g) (FloatOps.ofBits .f32 0x3F26BD02#32))
      (FloatOps.addf (FloatOps.sqrt (FloatOps.divf (square v g) (FloatOps.ofBits .f32 0x3C231ACC#32))) (FloatOps.ofBits .f32 0x322BCC77#32)))
    (FloatOps.mulf (FloatOps.ofBits .f32 0x3C23D70A#32) w))

/-- The gradient from its four parts, added one after the other. -/
abbrev parts4 (p : Fin 4 → F .bf16) : F .f32 :=
  FloatOps.addf (FloatOps.addf (FloatOps.addf (FloatOps.extf .f32 (by decide) (p 0)) (FloatOps.extf .f32 (by decide) (p 1)))
    (FloatOps.extf .f32 (by decide) (p 2))) (FloatOps.extf .f32 (by decide) (p 3))

/-- The first moment from equal values. -/
theorem moment_eq {m m' g g' : F .f32} (hm : m = m') (hg : g = g') : moment m g = moment m' g' := by rw [hm, hg]

/-- The second moment from equal values. -/
theorem square_eq {v v' g g' : F .f32} (hv : v = v') (hg : g = g') : square v g = square v' g' := by rw [hv, hg]

/-- The weight's change from equal values. -/
theorem change_eq {w w' m m' v v' g g' : F .f32} (hw : w = w') (hm : m = m') (hv : v = v') (hg : g = g') :
    change w m v g = change w' m' v' g' := by rw [hw, hm, hv, hg]

variable {R C : ℕ}

/-- The gradient of a whole weight. -/
abbrev grads (P : FVec F ⟨3, ![4, R, C]⟩ .bf16) : FVec F ⟨2, ![R, C]⟩ .f32 := fun i => parts4 fun k => P (ix3 k (i 0) (i 1))

/-- The gradient of a whole weight whose gradient has one part. -/
abbrev whole (P : FVec F ⟨3, ![1, R, C]⟩ .f32) : FVec F ⟨2, ![R, C]⟩ .f32 := fun i => P (ix3 0 (i 0) (i 1))

/-- The first moments of a whole weight with the gradient `G`. -/
abbrev moments (M G : FVec F ⟨2, ![R, C]⟩ .f32) : FVec F ⟨2, ![R, C]⟩ .f32 := fun i => moment (M i) (G i)

/-- The second moments of a whole weight with the gradient `G`. -/
abbrev squares (V G : FVec F ⟨2, ![R, C]⟩ .f32) : FVec F ⟨2, ![R, C]⟩ .f32 := fun i => square (V i) (G i)

/-- The changes of a whole weight with the gradient `G`. -/
abbrev changes (W M V G : FVec F ⟨2, ![R, C]⟩ .f32) : FVec F ⟨2, ![R, C]⟩ .f32 := fun i => change (W i) (M i) (V i) (G i)

/-- The reference's sum over the parts' axis is the gradient. -/
theorem sum_parts {u : Shape} (P : FVec Ideal ⟨3, ![4, R, C]⟩ .bf16) (hb : FTy.bf16.bits < FTy.f32.bits)
    (hr : (⟨3, ![4, R, C]⟩ : Shape).ReducesTo [0] ⟨2, ![R, C]⟩) (hu : 0 < u.numel) :
    Host.reduceAdd (extf .f32 P hb) (constant u .f32 0x00000000#32) hr hu = grads P := by
  funext i
  rw [Host.reduceAdd_apply]
  pointwise []
  exact Fin.sum_univ_four _

/-- The reference's sum over a single part is the part. -/
theorem sum_whole {u : Shape} (P : FVec Ideal ⟨3, ![1, R, C]⟩ .f32) (hr : (⟨3, ![1, R, C]⟩ : Shape).ReducesTo [0] ⟨2, ![R, C]⟩)
    (hu : 0 < u.numel) : Host.reduceAdd P (constant u .f32 0x00000000#32) hr hu = whole P := by
  funext i
  rw [Host.reduceAdd_apply]
  pointwise []
  exact Fin.sum_univ_one _

/-- The entry of the parts at an index `i` with part `k` and the coordinates of `j`. -/
theorem part_entry {α : Type} {n q : ℕ} (P : (⟨3, ![n, R, C]⟩ : Shape).Idx → α) (i : (⟨3, ![n, R, C]⟩ : Shape).Idx)
    (j : (⟨2, ![R, C]⟩ : Shape).Idx) (k : Fin n) (hk : (i 0).val = q * n + 1 * k.val) (hq : q = 0) (h1 : (i 1).val = (j 0).val)
    (h2 : (i 2).val = (j 1).val) : P i = P (ix3 k (j 0) (j 1)) := by
  subst hq
  refine congrArg P (funext fun a => Fin.ext ?_)
  match a with
  | 0 => exact hk.trans (show 0 * n + 1 * k.val = k.val by omega)
  | 1 => exact h1
  | 2 => exact h2

/-- A read of a whole block at an index with the coordinates of `y`. -/
theorem ld_whole {Val : EltTy → Type} {e : EltTy} (X : (⟨2, ![R, C]⟩ : Shape).Idx → Val e)
    (inb : ∀ a, (![0, 0] : Fin 2 → ℕ) a + (⟨2, ![R, C]⟩ : Shape).size a ≤ (⟨2, ![R, C]⟩ : Shape).size a)
    (y z : (⟨2, ![R, C]⟩ : Shape).Idx) (h0 : (z 0).val = (y 0).val) (h1 : (z 1).val = (y 1).val) :
    View.ld X (Rect.unit (s := ⟨2, ![R, C]⟩) ![0, 0] (⟨2, ![R, C]⟩ : Shape).size inb) z = X y := by
  refine congrArg X (funext fun a => Fin.ext ?_)
  match a with
  | 0 => show 0 + 1 * (z 0).val = (y 0).val; omega
  | 1 => show 0 + 1 * (z 1).val = (y 1).val; omega

/-- A read of part `k` of a block of `n` parts, at an index with the coordinates of `y`, where the block has the value `b`. -/
theorem ld_part {Val : EltTy → Type} {e : EltTy} {n : ℕ} {k : Fin n} {X : (⟨3, ![n, R, C]⟩ : Shape).Idx → Val e} {b : Val e}
    {inb : ∀ a, (![k.val, 0, 0] : Fin 3 → ℕ) a + (⟨3, ![1, R, C]⟩ : Shape).size a ≤ (⟨3, ![n, R, C]⟩ : Shape).size a}
    {y : (⟨2, ![R, C]⟩ : Shape).Idx} {z : (⟨3, ![1, R, C]⟩ : Shape).Idx} (h : X (ix3 k (y 0) (y 1)) = b)
    (h1 : (z 1).val = (y 0).val) (h2 : (z 2).val = (y 1).val) :
    View.ld X (Rect.unit (s := ⟨3, ![n, R, C]⟩) ![k.val, 0, 0] (⟨3, ![1, R, C]⟩ : Shape).size inb) z = b := by
  refine (congrArg X (funext fun a => Fin.ext ?_)).trans h
  have h0 : (z 0).val < 1 := (z 0).isLt
  match a with
  | 0 => show k.val + 1 * (z 0).val = k.val; omega
  | 1 => show 0 + 1 * (z 1).val = (y 0).val; omega
  | 2 => show 0 + 1 * (z 2).val = (y 1).val; omega

/-- Four parts added one after the other, each known by its value. -/
theorem parts_eq {p : Fin 4 → F .bf16} {a₀ a₁ a₂ a₃ : F .bf16} (h₀ : a₀ = p 0) (h₁ : a₁ = p 1) (h₂ : a₂ = p 2) (h₃ : a₃ = p 3) :
    FloatOps.addf (FloatOps.addf (FloatOps.addf (FloatOps.extf .f32 (by decide) a₀) (FloatOps.extf .f32 (by decide) a₁))
      (FloatOps.extf .f32 (by decide) a₂)) (FloatOps.extf .f32 (by decide) a₃) = parts4 p := by
  rw [h₀, h₁, h₂, h₃]

end Cert.Rows

end
-- ==== Proof.Rows.AdamMlp1.lean ====
module

public import proofs.«01_k».proof.Proof.Rows.Adam
public import proofs.«01_k».proof.Proof.Gen.Kernel33Ideal.Value
public import proofs.«01_k».proof.Proof.Gen.Reference33Ideal.Run
public import proofs.«01_k».proof.Defs

/-! # The step of `mlp_w1` -/

@[expose] public section

noncomputable section

namespace Cert.Kernel33Ideal.Row

open Cert.Kernel33Ideal Cert.Kernel33Ideal.Gen Idealize.ShloMosaic Idealize.ShloMosaic.TcCoe Cert.Rows

variable (m : (ℓ : Loc nD τ sig) → Buf (Elt Ideal) ℓ) (c : Dev nD)

/-- The weight. -/
abbrev W : FVec Ideal ⟨2, ![8192, 1024]⟩ .f32 := m ((c : Thread nD τ).loc main_arg0)
/-- The parts of its gradient. -/
abbrev P : FVec Ideal ⟨3, ![4, 8192, 1024]⟩ .bf16 := m ((c : Thread nD τ).loc main_arg1)
/-- The first moments. -/
abbrev M : FVec Ideal ⟨2, ![8192, 1024]⟩ .f32 := m ((c : Thread nD τ).loc main_arg2)
/-- The second moments. -/
abbrev V : FVec Ideal ⟨2, ![8192, 1024]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S256x1024.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel33Ideal_Reference33Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference33Ideal.Value.run m' ρ')⟩

end Cert.Kernel33Ideal.Row

end
-- ==== Proof.Rows.AdamMlp2.lean ====
module

public import proofs.«01_k».proof.Proof.Rows.Adam
public import proofs.«01_k».proof.Proof.Gen.Kernel34Ideal.Value
public import proofs.«01_k».proof.Proof.Gen.Reference34Ideal.Run
public import proofs.«01_k».proof.Defs

/-! # The step of `mlp_w2` -/

@[expose] public section

noncomputable section

namespace Cert.Kernel34Ideal.Row

open Cert.Kernel34Ideal Cert.Kernel34Ideal.Gen Idealize.ShloMosaic Idealize.ShloMosaic.TcCoe Cert.Rows

variable (m : (ℓ : Loc nD τ sig) → Buf (Elt Ideal) ℓ) (c : Dev nD)

/-- The weight. -/
abbrev W : FVec Ideal ⟨2, ![4096, 2048]⟩ .f32 := m ((c : Thread nD τ).loc main_arg0)
/-- The parts of its gradient. -/
abbrev P : FVec Ideal ⟨3, ![4, 4096, 2048]⟩ .bf16 := m ((c : Thread nD τ).loc main_arg1)
/-- The first moments. -/
abbrev M : FVec Ideal ⟨2, ![4096, 2048]⟩ .f32 := m ((c : Thread nD τ).loc main_arg2)
/-- The second moments. -/
abbrev V : FVec Ideal ⟨2, ![4096, 2048]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x2048.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel34Ideal_Reference34Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference34Ideal.Value.run m' ρ')⟩

end Cert.Kernel34Ideal.Row

end
-- ==== Proof.Rows.AdamIn.lean ====
module

public import proofs.«01_k».proof.Proof.Rows.Adam
public import proofs.«01_k».proof.Proof.Gen.Kernel35Ideal.Value
public import proofs.«01_k».proof.Proof.Gen.Kernel36Ideal.Value
public import proofs.«01_k».proof.Proof.Gen.Kernel37Ideal.Value
public import proofs.«01_k».proof.Proof.Gen.Kernel38Ideal.Value
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Defs

/-! # The steps of the mixers' weights at their entry: `ssd_w_in`, `ret_w_in`, `hgrn_w_in` and `gdn_w_in` -/

@[expose] public section

noncomputable section

open Idealize.ShloMosaic Idealize.ShloMosaic.TcCoe Cert.Rows

namespace Cert.Kernel35Ideal.Row

open Cert.Kernel35Ideal Cert.Kernel35Ideal.Gen

variable (m : (ℓ : Loc nD τ sig) → Buf (Elt Ideal) ℓ) (c : Dev nD)

/-- The weight `ssd_w_in`. -/
abbrev W : FVec Ideal ⟨2, ![2048, 1296]⟩ .f32 := m ((c : Thread nD τ).loc main_arg0)
/-- The parts of its gradient. -/
abbrev P : FVec Ideal ⟨3, ![4, 2048, 1296]⟩ .bf16 := m ((c : Thread nD τ).loc main_arg1)
/-- The first moments. -/
abbrev M : FVec Ideal ⟨2, ![2048, 1296]⟩ .f32 := m ((c : Thread nD τ).loc main_arg2)
/-- The second moments. -/
abbrev V : FVec Ideal ⟨2, ![2048, 1296]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x1296.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel35Ideal_Reference35Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference35Ideal.Value.run m' ρ')⟩

end Cert.Kernel35Ideal.Row

namespace Cert.Kernel36Ideal.Row

open Cert.Kernel36Ideal Cert.Kernel36Ideal.Gen

variable (m : (ℓ : Loc nD τ sig) → Buf (Elt Ideal) ℓ) (c : Dev nD)

/-- The weight `ret_w_in`. -/
abbrev W : FVec Ideal ⟨2, ![2048, 1536]⟩ .f32 := m ((c : Thread nD τ).loc main_arg0)
/-- The parts of its gradient. -/
abbrev P : FVec Ideal ⟨3, ![4, 2048, 1536]⟩ .bf16 := m ((c : Thread nD τ).loc main_arg1)
/-- The first moments. -/
abbrev M : FVec Ideal ⟨2, ![2048, 1536]⟩ .f32 := m ((c : Thread nD τ).loc main_arg2)
/-- The second moments. -/
abbrev V : FVec Ideal ⟨2, ![2048, 1536]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x1536.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel36Ideal_Reference36Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference36Ideal.Value.run m' ρ')⟩

end Cert.Kernel36Ideal.Row

namespace Cert.Kernel37Ideal.Row

open Cert.Kernel37Ideal Cert.Kernel37Ideal.Gen

variable (m : (ℓ : Loc nD τ sig) → Buf (Elt Ideal) ℓ) (c : Dev nD)

/-- The weight `hgrn_w_in`. -/
abbrev W : FVec Ideal ⟨2, ![2048, 1280]⟩ .f32 := m ((c : Thread nD τ).loc main_arg0)
/-- The parts of its gradient. -/
abbrev P : FVec Ideal ⟨3, ![4, 2048, 1280]⟩ .bf16 := m ((c : Thread nD τ).loc main_arg1)
/-- The first moments. -/
abbrev M : FVec Ideal ⟨2, ![2048, 1280]⟩ .f32 := m ((c : Thread nD τ).loc main_arg2)
/-- The second moments. -/
abbrev V : FVec Ideal ⟨2, ![2048, 1280]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x1280.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel37Ideal_Reference37Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference37Ideal.Value.run m' ρ')⟩

end Cert.Kernel37Ideal.Row

namespace Cert.Kernel38Ideal.Row

open Cert.Kernel38Ideal Cert.Kernel38Ideal.Gen

variable (m : (ℓ : Loc nD τ sig) → Buf (Elt Ideal) ℓ) (c : Dev nD)

/-- The weight `gdn_w_in`. -/
abbrev W : FVec Ideal ⟨2, ![2048, 1552]⟩ .f32 := m ((c : Thread nD τ).loc main_arg0)
/-- The parts of its gradient. -/
abbrev P : FVec Ideal ⟨3, ![4, 2048, 1552]⟩ .bf16 := m ((c : Thread nD τ).loc main_arg1)
/-- The first moments. -/
abbrev M : FVec Ideal ⟨2, ![2048, 1552]⟩ .f32 := m ((c : Thread nD τ).loc main_arg2)
/-- The second moments. -/
abbrev V : FVec Ideal ⟨2, ![2048, 1552]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x1552.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel38Ideal_Reference38Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference38Ideal.Value.run m' ρ')⟩

end Cert.Kernel38Ideal.Row

end
-- ==== Proof.Rows.AdamOut.lean ====
module

public import proofs.«01_k».proof.Proof.Rows.Adam
public import proofs.«01_k».proof.Proof.Gen.Kernel39Ideal.Value
public import proofs.«01_k».proof.Proof.Gen.Kernel40Ideal.Value
public import proofs.«01_k».proof.Proof.Gen.Reference39Ideal.Run
public import proofs.«01_k».proof.Proof.Gen.Reference40Ideal.Run
public import proofs.«01_k».proof.Defs

/-! # The steps of the mixers' weights at their end: `ssd_w_out` (and `ret_w_out`, `gdn_w_out`) and `hgrn_w_out` -/

@[expose] public section

noncomputable section

open Idealize.ShloMosaic Idealize.ShloMosaic.TcCoe Cert.Rows

namespace Cert.Kernel39Ideal.Row

open Cert.Kernel39Ideal Cert.Kernel39Ideal.Gen

variable (m : (ℓ : Loc nD τ sig) → Buf (Elt Ideal) ℓ) (c : Dev nD)

/-- The weight `ssd_w_out`. -/
abbrev W : FVec Ideal ⟨2, ![512, 2048]⟩ .f32 := m ((c : Thread nD τ).loc main_arg0)
/-- The parts of its gradient. -/
abbrev P : FVec Ideal ⟨3, ![4, 512, 2048]⟩ .bf16 := m ((c : Thread nD τ).loc main_arg1)
/-- The first moments. -/
abbrev M : FVec Ideal ⟨2, ![512, 2048]⟩ .f32 := m ((c : Thread nD τ).loc main_arg2)
/-- The second moments. -/
abbrev V : FVec Ideal ⟨2, ![512, 2048]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x2048.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel39Ideal_Reference39Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference39Ideal.Value.run m' ρ')⟩

end Cert.Kernel39Ideal.Row

namespace Cert.Kernel40Ideal.Row

open Cert.Kernel40Ideal Cert.Kernel40Ideal.Gen

variable (m : (ℓ : Loc nD τ sig) → Buf (Elt Ideal) ℓ) (c : Dev nD)

/-- The weight `hgrn_w_out`. -/
abbrev W : FVec Ideal ⟨2, ![256, 2048]⟩ .f32 := m ((c : Thread nD τ).loc main_arg0)
/-- The parts of its gradient. -/
abbrev P : FVec Ideal ⟨3, ![4, 256, 2048]⟩ .bf16 := m ((c : Thread nD τ).loc main_arg1)
/-- The first moments. -/
abbrev M : FVec Ideal ⟨2, ![256, 2048]⟩ .f32 := m ((c : Thread nD τ).loc main_arg2)
/-- The second moments. -/
abbrev V : FVec Ideal ⟨2, ![256, 2048]⟩ .f32 := m ((c : Thread nD τ).loc main_arg3)

/-- A point has all the parts. -/
theorem all_parts : ∀ t : Fin cfg0.N, win0_1.index t (0 : Fin 3) = 0 := (by decide +kernel : ∀ t : Fin grid0.N, _)

/-- The gradient at an entry of a point's block. -/
theorem grad_at (t : Fin cfg0.N) (y : S128x2048.Idx) :
    Value.E4 (View.ld (iblk m c 1 t) r0_0) (View.ld (iblk m c 1 t) r0_1) (View.ld (iblk m c 1 t) r0_2) (View.ld (iblk m c 1 t) r0_3) y
      = grads (P m c) ((win0_4.blk t).view.emb y) := by
  have h (k : Fin 4) : iblk m c 1 t (ix3 k (y 0) (y 1)) = _ := part_entry (P m c) (((cfg0.win 1).blk t).view.emb (ix3 k (y 0) (y 1)))
    ((win0_4.blk t).view.emb y) k rfl (all_parts t) rfl rfl
  exact parts_eq (ld_part (h 0) rfl rfl) (ld_part (h 1) rfl rfl) (ld_part (h 2) rfl rfl) (ld_part (h 3) rfl rfl)

/-- The four results. -/
theorem results : (dats m 0 c).arrAt 4 cfg0.N = grads (P m c) ∧ (dats m 0 c).arrAt 5 cfg0.N = changes (W m c) (M m c) (V m c) (grads (P m c))
    ∧ (dats m 0 c).arrAt 6 cfg0.N = moments (M m c) (grads (P m c)) ∧ (dats m 0 c).arrAt 7 cfg0.N = squares (V m c) (grads (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ _ _ _ y).trans (grad_at m c t y))
  · exact (congrFun (after0_5 m c t) y).trans ((Value.canon5_eq _ _ _ _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ _ _ _ y).trans (moment_eq (ld_whole _ _ y _ rfl rfl) (grad_at m c t y)))
  · exact (congrFun (after0_7 m c t) y).trans ((Value.canon7_eq _ _ _ _ _ y).trans (square_eq (ld_whole _ _ y _ rfl rfl) (grad_at m c t y)))

/-- The run of the call and the run of the reference end with the same four arrays. -/
theorem values : Cert.algebraic_Kernel40Ideal_Reference40Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_parts] at h0 h1 h2 h3
    exact ⟨h0.trans e0.symm, h1.trans e1.symm, h2.trans e2.symm, h3.trans e3.symm, hk⟩)
    (Cert.Reference40Ideal.Value.run m' ρ')⟩

end Cert.Kernel40Ideal.Row

end
-- ==== Proof.Rows.AdamAda.lean ====
module

public import proofs.«01_k».proof.Proof.Rows.Adam
public import proofs.«01_k».proof.Proof.Gen.Kernel41Ideal.Value
public import proofs.«01_k».proof.Proof.Gen.Reference41Ideal.Run
public import proofs.«01_k».proof.Defs

/-! # The step of `ada_w`, whose gradient has one part -/

@[expose] public section

noncomputable section

namespace Cert.Kernel41Ideal.Row

open Cert.Kernel41Ideal Cert.Kernel41Ideal.Gen Idealize.ShloMosaic Idealize.ShloMosaic.TcCoe Cert.Rows

variable (m : (ℓ : Loc nD τ sig) → Buf (Elt Ideal) ℓ) (c : Dev nD)

/-- The weight. -/
abbrev W : FVec Ideal ⟨2, ![8192, 1536]⟩ .f32 := m ((c : Thread nD τ).loc main_arg0)
/-- Its gradient, as a single part. -/
abbrev P : FVec Ideal ⟨3, ![1, 8192, 1536]⟩ .f32 := m ((c : Thread nD τ).loc main_arg1)
/-- The first moments. -/
abbrev M : FVec Ideal ⟨2, ![8192, 1536]⟩ .f32 := m ((c : Thread nD τ).loc main_arg2)
/-- The second moments. -/
abbrev V : FVec Ideal ⟨2, ![8192, 1536]⟩ .f32 := m ((c : Thread nD τ).loc main_arg3)

/-- A point has the only part. -/
theorem all_parts : ∀ t : Fin cfg0.N, win0_1.index t (0 : Fin 3) = 0 := (by decide +kernel : ∀ t : Fin grid0.N, _)

/-- The gradient at an entry of a point's block. -/
theorem grad_at (t : Fin cfg0.N) (y : S128x1536.Idx) :
    Value.E4 (View.ld (iblk m c 1 t) r0_0) y = whole (P m c) ((win0_4.blk t).view.emb y) :=
  ld_part (k := (0 : Fin 1)) (part_entry (P m c) (((cfg0.win 1).blk t).view.emb (ix3 0 (y 0) (y 1)))
    ((win0_4.blk t).view.emb y) 0 rfl (all_parts t) rfl rfl) rfl rfl

/-- The four results. -/
theorem results : (dats m 0 c).arrAt 4 cfg0.N = whole (P m c) ∧ (dats m 0 c).arrAt 5 cfg0.N = changes (W m c) (M m c) (V m c) (whole (P m c))
    ∧ (dats m 0 c).arrAt 6 cfg0.N = moments (M m c) (whole (P m c)) ∧ (dats m 0 c).arrAt 7 cfg0.N = squares (V m c) (whole (P m c)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · exact (congrFun (after0_4 m c t) y).trans ((Value.canon4_eq _ y).trans (grad_at m c t y))
  · exact (congrFun (after0_5 m c t) y).trans ((Value.canon5_eq _ _ _ _ y).trans
      (change_eq (ld_whole _ _ y _ rfl rfl) (ld_whole _ _ y _ rfl rfl) (ld_whole _ _ y _ rfl rfl) (grad_at m c t y)))
  · exact (congrFun (after0_6 m c t) y).trans ((Value.canon6_eq _ _ y).trans (moment_eq (ld_whole _ _ y _ rfl rfl) (grad_at m c t y)))
  · exact (congrFun (after0_7 m c t) y).trans ((Value.canon7_eq _ _ y).trans (square_eq (ld_whole _ _ y _ rfl rfl) (grad_at m c t y)))

/-- The run of the call and the run of the reference end with the same four arrays. -/
theorem values : Cert.algebraic_Kernel41Ideal_Reference41Ideal := fun m ρ m' ρ' _ hag =>
  ⟨_, _, _, _, Value.run_blocks m ρ, (θ_run _ _ _).mono (fun r h c => by
    obtain ⟨h0, h1, h2, h3, hk⟩ := h c
    obtain ⟨e0, e1, e2, e3⟩ := results m c
    simp only [(hag c).1, (hag c).2.1, (hag c).2.2.1, (hag c).2.2.2, sum_whole] at h0 h1 h2 h3
    exact ⟨h0.trans e0.symm, h1.trans e1.symm, h2.trans e2.symm, h3.trans e3.symm, hk⟩)
    (Cert.Reference41Ideal.Value.run m' ρ')⟩

end Cert.Kernel41Ideal.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Ker.Ends
public import proofs.«01_k».proof.Proof.Ker.Same
public import proofs.«01_k».proof.Proof.Ref.Loops
public import Idealize.ShloMosaic.Adequacy
public import Idealize.ShloMosaic.Init
public import Idealize.ShloMosaic.Lib.Quiescent
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Products.Kept
public import proofs.«01_k».proof.Proof.Products.Call2
public import proofs.«01_k».proof.Proof.Products.Call3
public import proofs.«01_k».proof.Proof.Products.Call4
public import proofs.«01_k».proof.Proof.Products.Mlp2
public import proofs.«01_k».proof.Proof.Products.Mlp1Last
public import proofs.«01_k».proof.Proof.Products.Mlp2Last
public import proofs.«01_k».proof.Proof.Products.RetInV
public import proofs.«01_k».proof.Proof.Products.RetInQ
public import proofs.«01_k».proof.Proof.Products.RetOut
public import proofs.«01_k».proof.Proof.Products.SsdInX
public import proofs.«01_k».proof.Proof.Products.GdnOut
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Rows.Relu2
public import proofs.«01_k».proof.Proof.Rows.AdamMlp1
public import proofs.«01_k».proof.Proof.Rows.AdamMlp2
public import proofs.«01_k».proof.Proof.Rows.AdamIn
public import proofs.«01_k».proof.Proof.Rows.AdamOut
public import proofs.«01_k».proof.Proof.Rows.AdamAda

@[expose] public section

noncomputable section

namespace Cert.Proof

open Cert.Products Idealize.ShloMosaic Idealize.SL.Sem

/-- The kernel as printed ends, faults nowhere, leaves its arguments as they were and every semaphore at zero: its text is
the ideal program's, and the run below is about either. -/
theorem frame_kernel : Cert.quiescent_Kernel := fun m ρ _ => by
  have h := (θ_run (Cert.KernelIdeal.defs (F := Bits)) _ _).mono (fun r h => And.intro (fun c => (h.1 c).2.2.2.2) h.2)
    (Cert.KernelIdeal.Ret.run_main (F := Bits) m ρ)
  rw [Cert.Same.defs_eq]
  exact h

/-- The same over the extended reals. -/
theorem frame_kernelIdeal : Cert.quiescent_KernelIdeal := fun m ρ _ =>
  (θ_run Cert.KernelIdeal.defs _ _).mono (fun _ h => ⟨fun c => (h.1 c).2.2.2.2, h.2⟩) (Cert.KernelIdeal.Ret.run_main (F := Ideal) m ρ)

section
open Cert.ReferenceIdeal Cert.ReferenceIdeal.Ret

variable (m : (ℓ : Loc nD τ sig) → Buf (Elt Ideal) ℓ) (ρ : Dev nD → PrngReg)

/-- Every run of the reference ends with the recursion's four gradients in its results and its arguments as they were. -/
theorem run_reference : θ_run (defs (F := Ideal)) (onTc (τ := τ) (main (F := Ideal))) ⟨m, fun _ => 0, ρ⟩ (fun r => ∀ c : Dev nD,
    r.2.mem ((c.tc : Thread nD τ).loc main_v38) = resQ (StableHlo.launchContents m c)
    ∧ r.2.mem ((c.tc : Thread nD τ).loc main_v36) = resK (StableHlo.launchContents m c)
    ∧ r.2.mem ((c.tc : Thread nD τ).loc main_v34) = resV (StableHlo.launchContents m c)
    ∧ r.2.mem ((c.tc : Thread nD τ).loc main_v32) = resL (StableHlo.launchContents m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨(h c main_v38 rfl).trans (WE_Q m c), (h c main_v36 rfl).trans (WE_K m c),
    (h c main_v34 rfl).trans (WE_V m c), (h c main_v32 rfl).trans (WE_L m c),
    (h c main_arg0 rfl).trans (WE_kept m c (by decide +kernel) (by decide +kernel) (by decide +kernel) (by decide +kernel) (by decide +kernel) (by decide +kernel) (by decide +kernel)),
    (h c main_arg1 rfl).trans (WE_kept m c (by decide +kernel) (by decide +kernel) (by decide +kernel) (by decide +kernel) (by decide +kernel) (by decide +kernel) (by decide +kernel)),
    (h c main_arg2 rfl).trans (WE_kept m c (by decide +kernel) (by decide +kernel) (by decide +kernel) (by decide +kernel) (by decide +kernel) (by decide +kernel) (by decide +kernel)),
    (h c main_arg3 rfl).trans (WE_kept m c (by decide +kernel) (by decide +kernel) (by decide +kernel) (by decide +kernel) (by decide +kernel) (by decide +kernel) (by decide +kernel)),
    (h c main_arg4 rfl).trans (WE_kept m c (by decide +kernel) (by decide +kernel) (by decide +kernel) (by decide +kernel) (by decide +kernel) (by decide +kernel) (by decide +kernel))⟩)
    (run_fold (F := Ideal) m ρ)
end

/-- The reference ends, faults nowhere, and leaves its arguments as they were; it has no semaphore. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩) (run_reference m ρ)

/-- No operation was rewritten. -/
theorem rewrites : Cert.preserves_Kernel_KernelIdeal := trivial

/-- From equal arguments the kernel and the reference end with equal gradients: both are the recursion's. -/
theorem values : Cert.algebraic_KernelIdeal_ReferenceIdeal := by
  intro m ρ m' ρ' _ hag
  have e : ∀ c, Cert.ReferenceIdeal.Ret.resQ (StableHlo.launchContents m' c) = Cert.KernelIdeal.Ret.resQ (Cert.KernelIdeal.Gen.V0 m c)
      ∧ Cert.ReferenceIdeal.Ret.resK (StableHlo.launchContents m' c) = Cert.KernelIdeal.Ret.resK (Cert.KernelIdeal.Gen.V0 m c)
      ∧ Cert.ReferenceIdeal.Ret.resV (StableHlo.launchContents m' c) = Cert.KernelIdeal.Ret.resV (Cert.KernelIdeal.Gen.V0 m c)
      ∧ Cert.ReferenceIdeal.Ret.resL (StableHlo.launchContents m' c) = Cert.KernelIdeal.Ret.resL (Cert.KernelIdeal.Gen.V0 m c) := fun c => by
    obtain ⟨h0, h1, h2, h3, h4⟩ := hag c
    have q : Cert.ReferenceIdeal.Ret.aQ (StableHlo.launchContents m' c) = Cert.KernelIdeal.Ret.aQ (Cert.KernelIdeal.Gen.V0 m c) := h0
    have k : Cert.ReferenceIdeal.Ret.aK (StableHlo.launchContents m' c) = Cert.KernelIdeal.Ret.aK (Cert.KernelIdeal.Gen.V0 m c) := h1
    have v : Cert.ReferenceIdeal.Ret.aV (StableHlo.launchContents m' c) = Cert.KernelIdeal.Ret.aV (Cert.KernelIdeal.Gen.V0 m c) := h2
    have l : Cert.ReferenceIdeal.Ret.aL (StableHlo.launchContents m' c) = Cert.KernelIdeal.Ret.aL (Cert.KernelIdeal.Gen.V0 m c) := h3
    have g : Cert.ReferenceIdeal.Ret.aG (StableHlo.launchContents m' c) = Cert.KernelIdeal.Ret.aG (Cert.KernelIdeal.Gen.V0 m c) := h4
    unfold Cert.ReferenceIdeal.Ret.resQ Cert.ReferenceIdeal.Ret.resK Cert.ReferenceIdeal.Ret.resV Cert.ReferenceIdeal.Ret.resL
    rw [q, k, v, l, g]
    exact ⟨rfl, rfl, rfl, rfl⟩
  refine ⟨fun c => Cert.KernelIdeal.Ret.resQ (Cert.KernelIdeal.Gen.V0 m c), fun c => Cert.KernelIdeal.Ret.resK (Cert.KernelIdeal.Gen.V0 m c),
    fun c => Cert.KernelIdeal.Ret.resV (Cert.KernelIdeal.Gen.V0 m c), fun c => Cert.KernelIdeal.Ret.resL (Cert.KernelIdeal.Gen.V0 m c), ?_, ?_⟩
  · refine (θ_run Cert.KernelIdeal.defs _ _).mono (fun r h c => ?_) (Cert.KernelIdeal.Ret.run_main (F := Ideal) m ρ)
    obtain ⟨h0, h1, h2, h3, ha⟩ := h.1 c
    exact ⟨h0.trans (Cert.KernelIdeal.Ret.resQ_eq m c), h1.trans (Cert.KernelIdeal.Ret.resK_eq m c),
      h2.trans (Cert.KernelIdeal.Ret.resV_eq m c), h3.trans (Cert.KernelIdeal.Ret.resL_eq m c), ha⟩
  · refine (θ_run Cert.ReferenceIdeal.defs _ _).mono (fun r h c => ?_) (run_reference m' ρ')
    obtain ⟨h0, h1, h2, h3, ha⟩ := h c
    obtain ⟨e0, e1, e2, e3⟩ := e c
    exact ⟨h0.trans e0, h1.trans e1, h2.trans e2, h3.trans e3, ha⟩

/-- Every claim of the certificate. -/
theorem claim : Cert.Claim := ⟨
  Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Kernel33.Gen.facts, Kernel33Ideal.Gen.facts, Reference33Ideal.Gen.facts,
  Kernel34.Gen.facts, Kernel34Ideal.Gen.facts, Reference34Ideal.Gen.facts,
  Kernel35.Gen.facts, Kernel35Ideal.Gen.facts, Reference35Ideal.Gen.facts,
  Kernel36.Gen.facts, Kernel36Ideal.Gen.facts, Reference36Ideal.Gen.facts,
  Kernel37.Gen.facts, Kernel37Ideal.Gen.facts, Reference37Ideal.Gen.facts,
  Kernel38.Gen.facts, Kernel38Ideal.Gen.facts, Reference38Ideal.Gen.facts,
  Kernel39.Gen.facts, Kernel39Ideal.Gen.facts, Reference39Ideal.Gen.facts,
  Kernel40.Gen.facts, Kernel40Ideal.Gen.facts, Reference40Ideal.Gen.facts,
  Kernel41.Gen.facts, Kernel41Ideal.Gen.facts, Reference41Ideal.Gen.facts,
  frame_kernel, frame_kernelIdeal, frame_referenceIdeal,
  fun m ρ _ => Kernel2.Gen.frame m ρ, fun m ρ _ => Kernel2Ideal.Gen.frame m ρ, fun m ρ _ => kept (by decide) (Reference2Ideal.Value.run m ρ),
  fun m ρ _ => Kernel3.Gen.frame m ρ, fun m ρ _ => Kernel3Ideal.Gen.frame m ρ, fun m ρ _ => kept (by decide) (Reference3Ideal.Value.run m ρ),
  fun m ρ _ => Kernel4.Gen.frame m ρ, fun m ρ _ => Kernel4Ideal.Gen.frame m ρ, fun m ρ _ => kept (by decide) (Reference4Ideal.Value.run m ρ),
  fun m ρ _ => Kernel5.Gen.frame m ρ, fun m ρ _ => Kernel5Ideal.Gen.frame m ρ, fun m ρ _ => kept (by decide) (Reference5Ideal.Value.run m ρ),
  fun m ρ _ => Kernel6.Gen.frame m ρ, fun m ρ _ => Kernel6Ideal.Gen.frame m ρ, fun m ρ _ => kept (by decide) (Reference6Ideal.Value.run m ρ),
  fun m ρ _ => Kernel7.Gen.frame m ρ, fun m ρ _ => Kernel7Ideal.Gen.frame m ρ, fun m ρ _ => kept (by decide) (Reference7Ideal.Value.run m ρ),
  fun m ρ _ => Kernel8.Gen.frame m ρ, fun m ρ _ => Kernel8Ideal.Gen.frame m ρ, fun m ρ _ => kept (by decide) (Reference8Ideal.Value.run m ρ),
  fun m ρ _ => Kernel9.Gen.frame m ρ, fun m ρ _ => Kernel9Ideal.Gen.frame m ρ, fun m ρ _ => kept (by decide) (Reference9Ideal.Value.run m ρ),
  fun m ρ _ => Kernel10.Gen.frame m ρ, fun m ρ _ => Kernel10Ideal.Gen.frame m ρ, fun m ρ _ => kept (by decide) (Reference10Ideal.Value.run m ρ),
  fun m ρ _ => Kernel11.Gen.frame m ρ, fun m ρ _ => Kernel11Ideal.Gen.frame m ρ, fun m ρ _ => kept (by decide) (Reference11Ideal.Value.run m ρ),
  fun m ρ _ => Kernel12.Gen.frame m ρ, fun m ρ _ => Kernel12Ideal.Gen.frame m ρ, fun m ρ _ => kept (by decide) (Reference12Ideal.Value.run m ρ),
  fun m ρ _ => Kernel13.Gen.frame m ρ, fun m ρ _ => Kernel13Ideal.Gen.frame m ρ, fun m ρ _ => kept (by decide) (Reference13Ideal.Value.run m ρ),
  fun m ρ _ => Kernel14.Gen.frame m ρ, fun m ρ _ => Kernel14Ideal.Gen.frame m ρ, fun m ρ _ => kept (by decide) (Reference14Ideal.Value.run m ρ),
  fun m ρ _ => Kernel15.Gen.frame m ρ, fun m ρ _ => Kernel15Ideal.Gen.frame m ρ, fun m ρ _ => kept (by decide) (Reference15Ideal.Value.run m ρ),
  fun m ρ _ => Kernel16.Gen.frame m ρ, fun m ρ _ => Kernel16Ideal.Gen.frame m ρ, fun m ρ _ => kept (by decide) (Reference16Ideal.Value.run m ρ),
  fun m ρ _ => Kernel17.Gen.frame m ρ, fun m ρ _ => Kernel17Ideal.Gen.frame m ρ, fun m ρ _ => kept (by decide) (Reference17Ideal.Value.run m ρ),
  fun m ρ _ => Kernel18.Gen.frame m ρ, fun m ρ _ => Kernel18Ideal.Gen.frame m ρ, fun m ρ _ => kept (by decide) (Reference18Ideal.Value.run m ρ),
  fun m ρ _ => Kernel19.Gen.frame m ρ, fun m ρ _ => Kernel19Ideal.Gen.frame m ρ, fun m ρ _ => kept (by decide) (Reference19Ideal.Value.run m ρ),
  fun m ρ _ => Kernel20.Gen.frame m ρ, fun m ρ _ => Kernel20Ideal.Gen.frame m ρ, fun m ρ _ => kept (by decide) (Reference20Ideal.Value.run m ρ),
  fun m ρ _ => Kernel21.Gen.frame m ρ, fun m ρ _ => Kernel21Ideal.Gen.frame m ρ, fun m ρ _ => kept (by decide) (Reference21Ideal.Value.run m ρ),
  fun m ρ _ => Kernel22.Gen.frame m ρ, fun m ρ _ => Kernel22Ideal.Gen.frame m ρ, fun m ρ _ => kept (by decide) (Reference22Ideal.Value.run m ρ),
  fun m ρ _ => Kernel23.Gen.frame m ρ, fun m ρ _ => Kernel23Ideal.Gen.frame m ρ, fun m ρ _ => kept (by decide) (Reference23Ideal.Value.run m ρ),
  fun m ρ _ => Kernel24.Gen.frame m ρ, fun m ρ _ => Kernel24Ideal.Gen.frame m ρ, fun m ρ _ => kept (by decide) (Reference24Ideal.Value.run m ρ),
  fun m ρ _ => Kernel25.Gen.frame m ρ, fun m ρ _ => Kernel25Ideal.Gen.frame m ρ, fun m ρ _ => kept (by decide) (Reference25Ideal.Value.run m ρ),
  fun m ρ _ => Kernel26.Gen.frame m ρ, fun m ρ _ => Kernel26Ideal.Gen.frame m ρ, fun m ρ _ => kept (by decide) (Reference26Ideal.Value.run m ρ),
  fun m ρ _ => Kernel27.Gen.frame m ρ, fun m ρ _ => Kernel27Ideal.Gen.frame m ρ, fun m ρ _ => kept (by decide) (Reference27Ideal.Value.run m ρ),
  fun m ρ _ => Kernel28.Gen.frame m ρ, fun m ρ _ => Kernel28Ideal.Gen.frame m ρ, fun m ρ _ => kept (by decide) (Reference28Ideal.Value.run m ρ),
  fun m ρ _ => Kernel29.Gen.frame m ρ, fun m ρ _ => Kernel29Ideal.Gen.frame m ρ, fun m ρ _ => kept (by decide) (Reference29Ideal.Value.run m ρ),
  fun m ρ _ => Kernel30.Gen.frame m ρ, fun m ρ _ => Kernel30Ideal.Gen.frame m ρ, fun m ρ _ => kept (by decide) (Reference30Ideal.Value.run m ρ),
  fun m ρ _ => Kernel31.Gen.frame m ρ, fun m ρ _ => Kernel31Ideal.Gen.frame m ρ, fun m ρ _ => kept (by decide) (Reference31Ideal.Value.run m ρ),
  fun m ρ _ => Kernel32.Gen.frame m ρ, fun m ρ _ => Kernel32Ideal.Gen.frame m ρ, fun m ρ _ => kept (by decide) (Reference32Ideal.Value.run m ρ),
  fun m ρ _ => Kernel33.Gen.frame m ρ, fun m ρ _ => Kernel33Ideal.Gen.frame m ρ, fun m ρ _ => kept4 (by decide) (Reference33Ideal.Value.run m ρ),
  fun m ρ _ => Kernel34.Gen.frame m ρ, fun m ρ _ => Kernel34Ideal.Gen.frame m ρ, fun m ρ _ => kept4 (by decide) (Reference34Ideal.Value.run m ρ),
  fun m ρ _ => Kernel35.Gen.frame m ρ, fun m ρ _ => Kernel35Ideal.Gen.frame m ρ, fun m ρ _ => kept4 (by decide) (Reference35Ideal.Value.run m ρ),
  fun m ρ _ => Kernel36.Gen.frame m ρ, fun m ρ _ => Kernel36Ideal.Gen.frame m ρ, fun m ρ _ => kept4 (by decide) (Reference36Ideal.Value.run m ρ),
  fun m ρ _ => Kernel37.Gen.frame m ρ, fun m ρ _ => Kernel37Ideal.Gen.frame m ρ, fun m ρ _ => kept4 (by decide) (Reference37Ideal.Value.run m ρ),
  fun m ρ _ => Kernel38.Gen.frame m ρ, fun m ρ _ => Kernel38Ideal.Gen.frame m ρ, fun m ρ _ => kept4 (by decide) (Reference38Ideal.Value.run m ρ),
  fun m ρ _ => Kernel39.Gen.frame m ρ, fun m ρ _ => Kernel39Ideal.Gen.frame m ρ, fun m ρ _ => kept4 (by decide) (Reference39Ideal.Value.run m ρ),
  fun m ρ _ => Kernel40.Gen.frame m ρ, fun m ρ _ => Kernel40Ideal.Gen.frame m ρ, fun m ρ _ => kept4 (by decide) (Reference40Ideal.Value.run m ρ),
  fun m ρ _ => Kernel41.Gen.frame m ρ, fun m ρ _ => Kernel41Ideal.Gen.frame m ρ, fun m ρ _ => kept4 (by decide) (Reference41Ideal.Value.run m ρ),
  rewrites, values,
  trivial, Kernel2Ideal.Product.values, trivial, Kernel3Ideal.Product.values, trivial, Kernel4Ideal.Product.values,
  trivial, Kernel5Ideal.Product.values, trivial, Kernel6Ideal.Product.values, trivial, Kernel7Ideal.Product.values,
  trivial, Kernel8Ideal.Product.values, trivial, Kernel9Ideal.Product.values, trivial, Kernel10Ideal.Product.values,
  trivial, Kernel11Ideal.Product.values, trivial, Kernel12Ideal.Product.values, trivial, Kernel13Ideal.Product.values,
  trivial, Kernel14Ideal.Product.values, trivial, Kernel15Ideal.Product.values, trivial, Kernel16Ideal.Product.values,
  trivial, Kernel17Ideal.Product.values, trivial, Kernel18Ideal.Product.values, trivial, Kernel19Ideal.Product.values,
  trivial, Kernel20Ideal.Product.values, trivial, Kernel21Ideal.Product.values, trivial, Kernel22Ideal.Product.values,
  trivial, Kernel23Ideal.Product.values, trivial, Kernel24Ideal.Product.values, trivial, Kernel25Ideal.Product.values,
  trivial, Kernel26Ideal.Product.values, trivial, Kernel27Ideal.Product.values, trivial, Kernel28Ideal.Product.values,
  trivial, Kernel29Ideal.Row.values, trivial, Kernel30Ideal.Row.values, trivial, Kernel31Ideal.Row.values,
  trivial, Kernel32Ideal.Row.values, trivial, Kernel33Ideal.Row.values, trivial, Kernel34Ideal.Row.values,
  trivial, Kernel35Ideal.Row.values, trivial, Kernel36Ideal.Row.values, trivial, Kernel37Ideal.Row.values,
  trivial, Kernel38Ideal.Row.values, trivial, Kernel39Ideal.Row.values, trivial, Kernel40Ideal.Row.values,
  trivial, Kernel41Ideal.Row.values⟩

end Cert.Proof

end
